-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))) = (fun _ => 1#1)

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedIdeal_embed_finite [hPre_embed_finite : Cert.Pre_embed_finite.Facts] (m : (ℓ : Loc Cert.EmbedIdeal.nD Cert.EmbedIdeal.τ Cert.EmbedIdeal.sig) → Buf (Elt Ideal) ℓ) : Prop :=
  ∀ c : Dev Cert.EmbedIdeal.nD,
    (Cert.Pre_embed_finite.fn (F := Ideal) (m ((c.tc : Thread Cert.EmbedIdeal.nD Cert.EmbedIdeal.τ).loc Cert.EmbedIdeal.main_arg0)) (m ((c.tc : Thread Cert.EmbedIdeal.nD Cert.EmbedIdeal.τ).loc Cert.EmbedIdeal.main_arg1)) (m ((c.tc : Thread Cert.EmbedIdeal.nD Cert.EmbedIdeal.τ).loc Cert.EmbedIdeal.main_arg2)) (m ((c.tc : Thread Cert.EmbedIdeal.nD Cert.EmbedIdeal.τ).loc Cert.EmbedIdeal.main_arg3)) (m ((c.tc : Thread Cert.EmbedIdeal.nD Cert.EmbedIdeal.τ).loc Cert.EmbedIdeal.main_arg4)) (m ((c.tc : Thread Cert.EmbedIdeal.nD Cert.EmbedIdeal.τ).loc Cert.EmbedIdeal.main_arg5))) = (fun _ => 1#1)

def Pre_EmbedRefIdeal (m : (ℓ : Loc Cert.EmbedRefIdeal.nD Cert.EmbedRefIdeal.τ Cert.EmbedRefIdeal.sig) → Buf (Elt Ideal) ℓ) : Prop :=
  True

def Pre_EmbedRefIdeal_embed_finite [hPre_embed_finite : Cert.Pre_embed_finite.Facts] (m : (ℓ : Loc Cert.EmbedRefIdeal.nD Cert.EmbedRefIdeal.τ Cert.EmbedRefIdeal.sig) → Buf (Elt Ideal) ℓ) : Prop :=
  ∀ c : Dev Cert.EmbedRefIdeal.nD,
    (Cert.Pre_embed_finite.fn (F := Ideal) (m ((c.tc : Thread Cert.EmbedRefIdeal.nD Cert.EmbedRefIdeal.τ).loc Cert.EmbedRefIdeal.main_arg0)) (m ((c.tc : Thread Cert.EmbedRefIdeal.nD Cert.EmbedRefIdeal.τ).loc Cert.EmbedRefIdeal.main_arg1)) (m ((c.tc : Thread Cert.EmbedRefIdeal.nD Cert.EmbedRefIdeal.τ).loc Cert.EmbedRefIdeal.main_arg2)) (m ((c.tc : Thread Cert.EmbedRefIdeal.nD Cert.EmbedRefIdeal.τ).loc Cert.EmbedRefIdeal.main_arg3)) (m ((c.tc : Thread Cert.EmbedRefIdeal.nD Cert.EmbedRefIdeal.τ).loc Cert.EmbedRefIdeal.main_arg4)) (m ((c.tc : Thread Cert.EmbedRefIdeal.nD Cert.EmbedRefIdeal.τ).loc Cert.EmbedRefIdeal.main_arg5))) = (fun _ => 1#1)

def Pre_EmbedFwd (m : (ℓ : Loc Cert.EmbedFwd.nD Cert.EmbedFwd.τ Cert.EmbedFwd.sig) → Buf (Elt Bits) ℓ) : Prop :=
  True

def Pre_EmbedFwdIdeal (m : (ℓ : Loc Cert.EmbedFwdIdeal.nD Cert.EmbedFwdIdeal.τ Cert.EmbedFwdIdeal.sig) → Buf (Elt Ideal) ℓ) : Prop :=
  True

def Pre_EmbedFwdRefIdeal (m : (ℓ : Loc Cert.EmbedFwdRefIdeal.nD Cert.EmbedFwdRefIdeal.τ Cert.EmbedFwdRefIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputIdeal_input_finite [hPre_input_finite : Cert.Pre_input_finite.Facts] (m : (ℓ : Loc Cert.InputIdeal.nD Cert.InputIdeal.τ Cert.InputIdeal.sig) → Buf (Elt Ideal) ℓ) : Prop :=
  ∀ c : Dev Cert.InputIdeal.nD,
    (Cert.Pre_input_finite.fn (F := Ideal) (m ((c.tc : Thread Cert.InputIdeal.nD Cert.InputIdeal.τ).loc Cert.InputIdeal.main_arg0)) (m ((c.tc : Thread Cert.InputIdeal.nD Cert.InputIdeal.τ).loc Cert.InputIdeal.main_arg1)) (m ((c.tc : Thread Cert.InputIdeal.nD Cert.InputIdeal.τ).loc Cert.InputIdeal.main_arg2)) (m ((c.tc : Thread Cert.InputIdeal.nD Cert.InputIdeal.τ).loc Cert.InputIdeal.main_arg3)) (m ((c.tc : Thread Cert.InputIdeal.nD Cert.InputIdeal.τ).loc Cert.InputIdeal.main_arg4))) = (fun _ => 1#1)

def Pre_InputRefIdeal (m : (ℓ : Loc Cert.InputRefIdeal.nD Cert.InputRefIdeal.τ Cert.InputRefIdeal.sig) → Buf (Elt Ideal) ℓ) : Prop :=
  True

def Pre_InputRefIdeal_input_finite [hPre_input_finite : Cert.Pre_input_finite.Facts] (m : (ℓ : Loc Cert.InputRefIdeal.nD Cert.InputRefIdeal.τ Cert.InputRefIdeal.sig) → Buf (Elt Ideal) ℓ) : Prop :=
  ∀ c : Dev Cert.InputRefIdeal.nD,
    (Cert.Pre_input_finite.fn (F := Ideal) (m ((c.tc : Thread Cert.InputRefIdeal.nD Cert.InputRefIdeal.τ).loc Cert.InputRefIdeal.main_arg0)) (m ((c.tc : Thread Cert.InputRefIdeal.nD Cert.InputRefIdeal.τ).loc Cert.InputRefIdeal.main_arg1)) (m ((c.tc : Thread Cert.InputRefIdeal.nD Cert.InputRefIdeal.τ).loc Cert.InputRefIdeal.main_arg2)) (m ((c.tc : Thread Cert.InputRefIdeal.nD Cert.InputRefIdeal.τ).loc Cert.InputRefIdeal.main_arg3)) (m ((c.tc : Thread Cert.InputRefIdeal.nD Cert.InputRefIdeal.τ).loc Cert.InputRefIdeal.main_arg4))) = (fun _ => 1#1)

def Pre_InputFwd (m : (ℓ : Loc Cert.InputFwd.nD Cert.InputFwd.τ Cert.InputFwd.sig) → Buf (Elt Bits) ℓ) : Prop :=
  True

def Pre_InputFwdIdeal (m : (ℓ : Loc Cert.InputFwdIdeal.nD Cert.InputFwdIdeal.τ Cert.InputFwdIdeal.sig) → Buf (Elt Ideal) ℓ) : Prop :=
  True

def Pre_InputFwdRefIdeal (m : (ℓ : Loc Cert.InputFwdRefIdeal.nD Cert.InputFwdRefIdeal.τ Cert.InputFwdRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4)
      ∧ r.2.mem ((c.tc : Thread Cert.Embed.nD Cert.Embed.τ).loc Cert.Embed.main_arg5) = m ((c.tc : Thread Cert.Embed.nD Cert.Embed.τ).loc Cert.Embed.main_arg5))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
      ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5))
      ∧ r.2.sem = fun _ => 0)

def quiescent_EmbedIdeal_pre_embed_finite [hEmbedIdeal : Cert.EmbedIdeal.Facts] [hPre_embed_finite : Cert.Pre_embed_finite.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal_embed_finite m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
      ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3)
      ∧ r.2.mem ((c.tc : Thread Cert.EmbedRefIdeal.nD Cert.EmbedRefIdeal.τ).loc Cert.EmbedRefIdeal.main_arg4) = m ((c.tc : Thread Cert.EmbedRefIdeal.nD Cert.EmbedRefIdeal.τ).loc Cert.EmbedRefIdeal.main_arg4)
      ∧ r.2.mem ((c.tc : Thread Cert.EmbedRefIdeal.nD Cert.EmbedRefIdeal.τ).loc Cert.EmbedRefIdeal.main_arg5) = m ((c.tc : Thread Cert.EmbedRefIdeal.nD Cert.EmbedRefIdeal.τ).loc Cert.EmbedRefIdeal.main_arg5))
      ∧ r.2.sem = fun _ => 0)

def quiescent_EmbedRefIdeal_pre_embed_finite [hEmbedRefIdeal : Cert.EmbedRefIdeal.Facts] [hPre_embed_finite : Cert.Pre_embed_finite.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal_embed_finite m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3)
      ∧ r.2.mem ((c.tc : Thread Cert.EmbedRefIdeal.nD Cert.EmbedRefIdeal.τ).loc Cert.EmbedRefIdeal.main_arg4) = m ((c.tc : Thread Cert.EmbedRefIdeal.nD Cert.EmbedRefIdeal.τ).loc Cert.EmbedRefIdeal.main_arg4)
      ∧ r.2.mem ((c.tc : Thread Cert.EmbedRefIdeal.nD Cert.EmbedRefIdeal.τ).loc Cert.EmbedRefIdeal.main_arg5) = m ((c.tc : Thread Cert.EmbedRefIdeal.nD Cert.EmbedRefIdeal.τ).loc Cert.EmbedRefIdeal.main_arg5))
      ∧ r.2.sem = fun _ => 0)

def quiescent_EmbedFwd [hEmbedFwd : Cert.EmbedFwd.Facts] : Prop :=
  ∀ (m : (ℓ : Loc Cert.EmbedFwd.nD Cert.EmbedFwd.τ Cert.EmbedFwd.sig) → Buf (Elt Bits) ℓ) (g : Dev Cert.EmbedFwd.nD → PrngReg), Pre_EmbedFwd m →
    θ_run (Cert.EmbedFwd.defs (F := Bits)) (onTc (τ := Cert.EmbedFwd.τ) (Cert.EmbedFwd.main (F := Bits))) ⟨m, fun _ => 0, g⟩ (fun r => (∀ c : Dev Cert.EmbedFwd.nD,
      r.2.mem ((c.tc : Thread Cert.EmbedFwd.nD Cert.EmbedFwd.τ).loc Cert.EmbedFwd.main_arg0) = m ((c.tc : Thread Cert.EmbedFwd.nD Cert.EmbedFwd.τ).loc Cert.EmbedFwd.main_arg0)
      ∧ r.2.mem ((c.tc : Thread Cert.EmbedFwd.nD Cert.EmbedFwd.τ).loc Cert.EmbedFwd.main_arg1) = m ((c.tc : Thread Cert.EmbedFwd.nD Cert.EmbedFwd.τ).loc Cert.EmbedFwd.main_arg1)
      ∧ r.2.mem ((c.tc : Thread Cert.EmbedFwd.nD Cert.EmbedFwd.τ).loc Cert.EmbedFwd.main_arg2) = m ((c.tc : Thread Cert.EmbedFwd.nD Cert.EmbedFwd.τ).loc Cert.EmbedFwd.main_arg2)
      ∧ r.2.mem ((c.tc : Thread Cert.EmbedFwd.nD Cert.EmbedFwd.τ).loc Cert.EmbedFwd.main_arg3) = m ((c.tc : Thread Cert.EmbedFwd.nD Cert.EmbedFwd.τ).loc Cert.EmbedFwd.main_arg3)
      ∧ r.2.mem ((c.tc : Thread Cert.EmbedFwd.nD Cert.EmbedFwd.τ).loc Cert.EmbedFwd.main_arg4) = m ((c.tc : Thread Cert.EmbedFwd.nD Cert.EmbedFwd.τ).loc Cert.EmbedFwd.main_arg4))
      ∧ r.2.sem = fun _ => 0)

def quiescent_EmbedFwdIdeal [hEmbedFwdIdeal : Cert.EmbedFwdIdeal.Facts] : Prop :=
  ∀ (m : (ℓ : Loc Cert.EmbedFwdIdeal.nD Cert.EmbedFwdIdeal.τ Cert.EmbedFwdIdeal.sig) → Buf (Elt Ideal) ℓ) (g : Dev Cert.EmbedFwdIdeal.nD → PrngReg), Pre_EmbedFwdIdeal m →
    θ_run (Cert.EmbedFwdIdeal.defs (F := Ideal)) (onTc (τ := Cert.EmbedFwdIdeal.τ) (Cert.EmbedFwdIdeal.main (F := Ideal))) ⟨m, fun _ => 0, g⟩ (fun r => (∀ c : Dev Cert.EmbedFwdIdeal.nD,
      r.2.mem ((c.tc : Thread Cert.EmbedFwdIdeal.nD Cert.EmbedFwdIdeal.τ).loc Cert.EmbedFwdIdeal.main_arg0) = m ((c.tc : Thread Cert.EmbedFwdIdeal.nD Cert.EmbedFwdIdeal.τ).loc Cert.EmbedFwdIdeal.main_arg0)
      ∧ r.2.mem ((c.tc : Thread Cert.EmbedFwdIdeal.nD Cert.EmbedFwdIdeal.τ).loc Cert.EmbedFwdIdeal.main_arg1) = m ((c.tc : Thread Cert.EmbedFwdIdeal.nD Cert.EmbedFwdIdeal.τ).loc Cert.EmbedFwdIdeal.main_arg1)
      ∧ r.2.mem ((c.tc : Thread Cert.EmbedFwdIdeal.nD Cert.EmbedFwdIdeal.τ).loc Cert.EmbedFwdIdeal.main_arg2) = m ((c.tc : Thread Cert.EmbedFwdIdeal.nD Cert.EmbedFwdIdeal.τ).loc Cert.EmbedFwdIdeal.main_arg2)
      ∧ r.2.mem ((c.tc : Thread Cert.EmbedFwdIdeal.nD Cert.EmbedFwdIdeal.τ).loc Cert.EmbedFwdIdeal.main_arg3) = m ((c.tc : Thread Cert.EmbedFwdIdeal.nD Cert.EmbedFwdIdeal.τ).loc Cert.EmbedFwdIdeal.main_arg3)
      ∧ r.2.mem ((c.tc : Thread Cert.EmbedFwdIdeal.nD Cert.EmbedFwdIdeal.τ).loc Cert.EmbedFwdIdeal.main_arg4) = m ((c.tc : Thread Cert.EmbedFwdIdeal.nD Cert.EmbedFwdIdeal.τ).loc Cert.EmbedFwdIdeal.main_arg4))
      ∧ r.2.sem = fun _ => 0)

def quiescent_EmbedFwdRefIdeal [hEmbedFwdRefIdeal : Cert.EmbedFwdRefIdeal.Facts] : Prop :=
  ∀ (m : (ℓ : Loc Cert.EmbedFwdRefIdeal.nD Cert.EmbedFwdRefIdeal.τ Cert.EmbedFwdRefIdeal.sig) → Buf (Elt Ideal) ℓ) (g : Dev Cert.EmbedFwdRefIdeal.nD → PrngReg), Pre_EmbedFwdRefIdeal m →
    θ_run (Cert.EmbedFwdRefIdeal.defs (F := Ideal)) (onTc (τ := Cert.EmbedFwdRefIdeal.τ) (Cert.EmbedFwdRefIdeal.main (F := Ideal))) ⟨m, fun _ => 0, g⟩ (fun r => (∀ c : Dev Cert.EmbedFwdRefIdeal.nD,
      r.2.mem ((c.tc : Thread Cert.EmbedFwdRefIdeal.nD Cert.EmbedFwdRefIdeal.τ).loc Cert.EmbedFwdRefIdeal.main_arg0) = m ((c.tc : Thread Cert.EmbedFwdRefIdeal.nD Cert.EmbedFwdRefIdeal.τ).loc Cert.EmbedFwdRefIdeal.main_arg0)
      ∧ r.2.mem ((c.tc : Thread Cert.EmbedFwdRefIdeal.nD Cert.EmbedFwdRefIdeal.τ).loc Cert.EmbedFwdRefIdeal.main_arg1) = m ((c.tc : Thread Cert.EmbedFwdRefIdeal.nD Cert.EmbedFwdRefIdeal.τ).loc Cert.EmbedFwdRefIdeal.main_arg1)
      ∧ r.2.mem ((c.tc : Thread Cert.EmbedFwdRefIdeal.nD Cert.EmbedFwdRefIdeal.τ).loc Cert.EmbedFwdRefIdeal.main_arg2) = m ((c.tc : Thread Cert.EmbedFwdRefIdeal.nD Cert.EmbedFwdRefIdeal.τ).loc Cert.EmbedFwdRefIdeal.main_arg2)
      ∧ r.2.mem ((c.tc : Thread Cert.EmbedFwdRefIdeal.nD Cert.EmbedFwdRefIdeal.τ).loc Cert.EmbedFwdRefIdeal.main_arg3) = m ((c.tc : Thread Cert.EmbedFwdRefIdeal.nD Cert.EmbedFwdRefIdeal.τ).loc Cert.EmbedFwdRefIdeal.main_arg3)
      ∧ r.2.mem ((c.tc : Thread Cert.EmbedFwdRefIdeal.nD Cert.EmbedFwdRefIdeal.τ).loc Cert.EmbedFwdRefIdeal.main_arg4) = m ((c.tc : Thread Cert.EmbedFwdRefIdeal.nD Cert.EmbedFwdRefIdeal.τ).loc Cert.EmbedFwdRefIdeal.main_arg4))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputIdeal_pre_input_finite [hInputIdeal : Cert.InputIdeal.Facts] [hPre_input_finite : Cert.Pre_input_finite.Facts] : Prop :=
  ∀ (m : (ℓ : Loc Cert.InputIdeal.nD Cert.InputIdeal.τ Cert.InputIdeal.sig) → Buf (Elt Ideal) ℓ) (g : Dev Cert.InputIdeal.nD → PrngReg), Pre_InputIdeal_input_finite m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4))
      ∧ r.2.sem = fun _ => 0)

def quiescent_InputRefIdeal_pre_input_finite [hInputRefIdeal : Cert.InputRefIdeal.Facts] [hPre_input_finite : Cert.Pre_input_finite.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal_input_finite m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4))
      ∧ r.2.sem = fun _ => 0)

def quiescent_InputFwd [hInputFwd : Cert.InputFwd.Facts] : Prop :=
  ∀ (m : (ℓ : Loc Cert.InputFwd.nD Cert.InputFwd.τ Cert.InputFwd.sig) → Buf (Elt Bits) ℓ) (g : Dev Cert.InputFwd.nD → PrngReg), Pre_InputFwd m →
    θ_run (Cert.InputFwd.defs (F := Bits)) (onTc (τ := Cert.InputFwd.τ) (Cert.InputFwd.main (F := Bits))) ⟨m, fun _ => 0, g⟩ (fun r => (∀ c : Dev Cert.InputFwd.nD,
      r.2.mem ((c.tc : Thread Cert.InputFwd.nD Cert.InputFwd.τ).loc Cert.InputFwd.main_arg0) = m ((c.tc : Thread Cert.InputFwd.nD Cert.InputFwd.τ).loc Cert.InputFwd.main_arg0)
      ∧ r.2.mem ((c.tc : Thread Cert.InputFwd.nD Cert.InputFwd.τ).loc Cert.InputFwd.main_arg1) = m ((c.tc : Thread Cert.InputFwd.nD Cert.InputFwd.τ).loc Cert.InputFwd.main_arg1)
      ∧ r.2.mem ((c.tc : Thread Cert.InputFwd.nD Cert.InputFwd.τ).loc Cert.InputFwd.main_arg2) = m ((c.tc : Thread Cert.InputFwd.nD Cert.InputFwd.τ).loc Cert.InputFwd.main_arg2))
      ∧ r.2.sem = fun _ => 0)

def quiescent_InputFwdIdeal [hInputFwdIdeal : Cert.InputFwdIdeal.Facts] : Prop :=
  ∀ (m : (ℓ : Loc Cert.InputFwdIdeal.nD Cert.InputFwdIdeal.τ Cert.InputFwdIdeal.sig) → Buf (Elt Ideal) ℓ) (g : Dev Cert.InputFwdIdeal.nD → PrngReg), Pre_InputFwdIdeal m →
    θ_run (Cert.InputFwdIdeal.defs (F := Ideal)) (onTc (τ := Cert.InputFwdIdeal.τ) (Cert.InputFwdIdeal.main (F := Ideal))) ⟨m, fun _ => 0, g⟩ (fun r => (∀ c : Dev Cert.InputFwdIdeal.nD,
      r.2.mem ((c.tc : Thread Cert.InputFwdIdeal.nD Cert.InputFwdIdeal.τ).loc Cert.InputFwdIdeal.main_arg0) = m ((c.tc : Thread Cert.InputFwdIdeal.nD Cert.InputFwdIdeal.τ).loc Cert.InputFwdIdeal.main_arg0)
      ∧ r.2.mem ((c.tc : Thread Cert.InputFwdIdeal.nD Cert.InputFwdIdeal.τ).loc Cert.InputFwdIdeal.main_arg1) = m ((c.tc : Thread Cert.InputFwdIdeal.nD Cert.InputFwdIdeal.τ).loc Cert.InputFwdIdeal.main_arg1)
      ∧ r.2.mem ((c.tc : Thread Cert.InputFwdIdeal.nD Cert.InputFwdIdeal.τ).loc Cert.InputFwdIdeal.main_arg2) = m ((c.tc : Thread Cert.InputFwdIdeal.nD Cert.InputFwdIdeal.τ).loc Cert.InputFwdIdeal.main_arg2))
      ∧ r.2.sem = fun _ => 0)

def quiescent_InputFwdRefIdeal [hInputFwdRefIdeal : Cert.InputFwdRefIdeal.Facts] : Prop :=
  ∀ (m : (ℓ : Loc Cert.InputFwdRefIdeal.nD Cert.InputFwdRefIdeal.τ Cert.InputFwdRefIdeal.sig) → Buf (Elt Ideal) ℓ) (g : Dev Cert.InputFwdRefIdeal.nD → PrngReg), Pre_InputFwdRefIdeal m →
    θ_run (Cert.InputFwdRefIdeal.defs (F := Ideal)) (onTc (τ := Cert.InputFwdRefIdeal.τ) (Cert.InputFwdRefIdeal.main (F := Ideal))) ⟨m, fun _ => 0, g⟩ (fun r => (∀ c : Dev Cert.InputFwdRefIdeal.nD,
      r.2.mem ((c.tc : Thread Cert.InputFwdRefIdeal.nD Cert.InputFwdRefIdeal.τ).loc Cert.InputFwdRefIdeal.main_arg0) = m ((c.tc : Thread Cert.InputFwdRefIdeal.nD Cert.InputFwdRefIdeal.τ).loc Cert.InputFwdRefIdeal.main_arg0)
      ∧ r.2.mem ((c.tc : Thread Cert.InputFwdRefIdeal.nD Cert.InputFwdRefIdeal.τ).loc Cert.InputFwdRefIdeal.main_arg1) = m ((c.tc : Thread Cert.InputFwdRefIdeal.nD Cert.InputFwdRefIdeal.τ).loc Cert.InputFwdRefIdeal.main_arg1)
      ∧ r.2.mem ((c.tc : Thread Cert.InputFwdRefIdeal.nD Cert.InputFwdRefIdeal.τ).loc Cert.InputFwdRefIdeal.main_arg2) = m ((c.tc : Thread Cert.InputFwdRefIdeal.nD Cert.InputFwdRefIdeal.τ).loc Cert.InputFwdRefIdeal.main_arg2))
      ∧ r.2.sem = fun _ => 0)

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v19_0)) (v1 : (c : Dev Cert.MergeIdeal.nD) → Buf (Elt Ideal) ((c.tc : Thread Cert.MergeIdeal.nD Cert.MergeIdeal.τ).loc Cert.MergeIdeal.main_v19_1)) (v2 : (c : Dev Cert.MergeIdeal.nD) → Buf (Elt Ideal) ((c.tc : Thread Cert.MergeIdeal.nD Cert.MergeIdeal.τ).loc Cert.MergeIdeal.main_v19_2)) (v3 : (c : Dev Cert.MergeIdeal.nD) → Buf (Elt Ideal) ((c.tc : Thread Cert.MergeIdeal.nD Cert.MergeIdeal.τ).loc Cert.MergeIdeal.main_v19_3)) (v4 : (c : Dev Cert.MergeIdeal.nD) → Buf (Elt Ideal) ((c.tc : Thread Cert.MergeIdeal.nD Cert.MergeIdeal.τ).loc Cert.MergeIdeal.main_v19_4)) (v5 : (c : Dev Cert.MergeIdeal.nD) → Buf (Elt Ideal) ((c.tc : Thread Cert.MergeIdeal.nD Cert.MergeIdeal.τ).loc Cert.MergeIdeal.main_v19_5)) (v6 : (c : Dev Cert.MergeIdeal.nD) → Buf (Elt Ideal) ((c.tc : Thread Cert.MergeIdeal.nD Cert.MergeIdeal.τ).loc Cert.MergeIdeal.main_v19_6)) (v7 : (c : Dev Cert.MergeIdeal.nD) → Buf (Elt Ideal) ((c.tc : Thread Cert.MergeIdeal.nD Cert.MergeIdeal.τ).loc Cert.MergeIdeal.main_v19_7)) (v8 : (c : Dev Cert.MergeIdeal.nD) → Buf (Elt Ideal) ((c.tc : Thread Cert.MergeIdeal.nD Cert.MergeIdeal.τ).loc Cert.MergeIdeal.main_v19_8)) (v9 : (c : Dev Cert.MergeIdeal.nD) → Buf (Elt Ideal) ((c.tc : Thread Cert.MergeIdeal.nD Cert.MergeIdeal.τ).loc Cert.MergeIdeal.main_v19_9)) (v10 : (c : Dev Cert.MergeIdeal.nD) → Buf (Elt Ideal) ((c.tc : Thread Cert.MergeIdeal.nD Cert.MergeIdeal.τ).loc Cert.MergeIdeal.main_v19_10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v19_0) = v0 c
          ∧ r.2.mem ((c.tc : Thread Cert.MergeIdeal.nD Cert.MergeIdeal.τ).loc Cert.MergeIdeal.main_v19_1) = v1 c
          ∧ r.2.mem ((c.tc : Thread Cert.MergeIdeal.nD Cert.MergeIdeal.τ).loc Cert.MergeIdeal.main_v19_2) = v2 c
          ∧ r.2.mem ((c.tc : Thread Cert.MergeIdeal.nD Cert.MergeIdeal.τ).loc Cert.MergeIdeal.main_v19_3) = v3 c
          ∧ r.2.mem ((c.tc : Thread Cert.MergeIdeal.nD Cert.MergeIdeal.τ).loc Cert.MergeIdeal.main_v19_4) = v4 c
          ∧ r.2.mem ((c.tc : Thread Cert.MergeIdeal.nD Cert.MergeIdeal.τ).loc Cert.MergeIdeal.main_v19_5) = v5 c
          ∧ r.2.mem ((c.tc : Thread Cert.MergeIdeal.nD Cert.MergeIdeal.τ).loc Cert.MergeIdeal.main_v19_6) = v6 c
          ∧ r.2.mem ((c.tc : Thread Cert.MergeIdeal.nD Cert.MergeIdeal.τ).loc Cert.MergeIdeal.main_v19_7) = v7 c
          ∧ r.2.mem ((c.tc : Thread Cert.MergeIdeal.nD Cert.MergeIdeal.τ).loc Cert.MergeIdeal.main_v19_8) = v8 c
          ∧ r.2.mem ((c.tc : Thread Cert.MergeIdeal.nD Cert.MergeIdeal.τ).loc Cert.MergeIdeal.main_v19_9) = v9 c
          ∧ r.2.mem ((c.tc : Thread Cert.MergeIdeal.nD Cert.MergeIdeal.τ).loc Cert.MergeIdeal.main_v19_10) = v10 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v59) = v0 c
          ∧ r.2.mem ((c.tc : Thread Cert.MergeRefIdeal.nD Cert.MergeRefIdeal.τ).loc Cert.MergeRefIdeal.main_v60) = v1 c
          ∧ r.2.mem ((c.tc : Thread Cert.MergeRefIdeal.nD Cert.MergeRefIdeal.τ).loc Cert.MergeRefIdeal.main_v61) = v2 c
          ∧ r.2.mem ((c.tc : Thread Cert.MergeRefIdeal.nD Cert.MergeRefIdeal.τ).loc Cert.MergeRefIdeal.main_v62) = v3 c
          ∧ r.2.mem ((c.tc : Thread Cert.MergeRefIdeal.nD Cert.MergeRefIdeal.τ).loc Cert.MergeRefIdeal.main_v63) = v4 c
          ∧ r.2.mem ((c.tc : Thread Cert.MergeRefIdeal.nD Cert.MergeRefIdeal.τ).loc Cert.MergeRefIdeal.main_v64) = v5 c
          ∧ r.2.mem ((c.tc : Thread Cert.MergeRefIdeal.nD Cert.MergeRefIdeal.τ).loc Cert.MergeRefIdeal.main_v68) = v6 c
          ∧ r.2.mem ((c.tc : Thread Cert.MergeRefIdeal.nD Cert.MergeRefIdeal.τ).loc Cert.MergeRefIdeal.main_v72) = v7 c
          ∧ r.2.mem ((c.tc : Thread Cert.MergeRefIdeal.nD Cert.MergeRefIdeal.τ).loc Cert.MergeRefIdeal.main_v50) = v8 c
          ∧ r.2.mem ((c.tc : Thread Cert.MergeRefIdeal.nD Cert.MergeRefIdeal.τ).loc Cert.MergeRefIdeal.main_v44) = v9 c
          ∧ r.2.mem ((c.tc : Thread Cert.MergeRefIdeal.nD Cert.MergeRefIdeal.τ).loc Cert.MergeRefIdeal.main_v39) = v10 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Mla_MlaIdeal : Prop :=
  IdealRules.named_const.Statement Cert.MlaIdeal.κ "scale_log2e" .f32 0x3E16C740#32 (((Real.sqrt 96)⁻¹ * (Real.log 2)⁻¹ : ℝ) : EReal)
  ∧ IdealRules.named_const.Statement Cert.MlaIdeal.κ "scale" .f32 0x3DD105EC#32 (((Real.sqrt 96)⁻¹ : ℝ) : EReal)
  ∧ IdealRules.named_const.Statement Cert.MlaIdeal.κ "mask" .f32 0xF149F2CA#32 ⊥

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v45_0)) (v1 : (c : Dev Cert.MlaIdeal.nD) → Buf (Elt Ideal) ((c.tc : Thread Cert.MlaIdeal.nD Cert.MlaIdeal.τ).loc Cert.MlaIdeal.main_v45_1)) (v2 : (c : Dev Cert.MlaIdeal.nD) → Buf (Elt Ideal) ((c.tc : Thread Cert.MlaIdeal.nD Cert.MlaIdeal.τ).loc Cert.MlaIdeal.main_v45_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v45_0) = v0 c
          ∧ r.2.mem ((c.tc : Thread Cert.MlaIdeal.nD Cert.MlaIdeal.τ).loc Cert.MlaIdeal.main_v45_1) = v1 c
          ∧ r.2.mem ((c.tc : Thread Cert.MlaIdeal.nD Cert.MlaIdeal.τ).loc Cert.MlaIdeal.main_v45_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v67) = v0 c
          ∧ r.2.mem ((c.tc : Thread Cert.MlaRefIdeal.nD Cert.MlaRefIdeal.τ).loc Cert.MlaRefIdeal.main_v69) = v1 c
          ∧ r.2.mem ((c.tc : Thread Cert.MlaRefIdeal.nD Cert.MlaRefIdeal.τ).loc Cert.MlaRefIdeal.main_v70) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v7_0)) (v1 : (c : Dev Cert.PleIdeal.nD) → Buf (Elt Ideal) ((c.tc : Thread Cert.PleIdeal.nD Cert.PleIdeal.τ).loc Cert.PleIdeal.main_v7_1)) (v2 : (c : Dev Cert.PleIdeal.nD) → Buf (Elt Ideal) ((c.tc : Thread Cert.PleIdeal.nD Cert.PleIdeal.τ).loc Cert.PleIdeal.main_v7_2)) (v3 : (c : Dev Cert.PleIdeal.nD) → Buf (Elt Ideal) ((c.tc : Thread Cert.PleIdeal.nD Cert.PleIdeal.τ).loc Cert.PleIdeal.main_v7_3)) (v4 : (c : Dev Cert.PleIdeal.nD) → Buf (Elt Ideal) ((c.tc : Thread Cert.PleIdeal.nD Cert.PleIdeal.τ).loc Cert.PleIdeal.main_v7_4)) (v5 : (c : Dev Cert.PleIdeal.nD) → Buf (Elt Ideal) ((c.tc : Thread Cert.PleIdeal.nD Cert.PleIdeal.τ).loc Cert.PleIdeal.main_v7_5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v7_0) = v0 c
          ∧ r.2.mem ((c.tc : Thread Cert.PleIdeal.nD Cert.PleIdeal.τ).loc Cert.PleIdeal.main_v7_1) = v1 c
          ∧ r.2.mem ((c.tc : Thread Cert.PleIdeal.nD Cert.PleIdeal.τ).loc Cert.PleIdeal.main_v7_2) = v2 c
          ∧ r.2.mem ((c.tc : Thread Cert.PleIdeal.nD Cert.PleIdeal.τ).loc Cert.PleIdeal.main_v7_3) = v3 c
          ∧ r.2.mem ((c.tc : Thread Cert.PleIdeal.nD Cert.PleIdeal.τ).loc Cert.PleIdeal.main_v7_4) = v4 c
          ∧ r.2.mem ((c.tc : Thread Cert.PleIdeal.nD Cert.PleIdeal.τ).loc Cert.PleIdeal.main_v7_5) = v5 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v108) = v0 c
          ∧ r.2.mem ((c.tc : Thread Cert.PleRefIdeal.nD Cert.PleRefIdeal.τ).loc Cert.PleRefIdeal.main_v86) = v1 c
          ∧ r.2.mem ((c.tc : Thread Cert.PleRefIdeal.nD Cert.PleRefIdeal.τ).loc Cert.PleRefIdeal.main_v83) = v2 c
          ∧ r.2.mem ((c.tc : Thread Cert.PleRefIdeal.nD Cert.PleRefIdeal.τ).loc Cert.PleRefIdeal.main_v109) = v3 c
          ∧ r.2.mem ((c.tc : Thread Cert.PleRefIdeal.nD Cert.PleRefIdeal.τ).loc Cert.PleRefIdeal.main_v110) = v4 c
          ∧ r.2.mem ((c.tc : Thread Cert.PleRefIdeal.nD Cert.PleRefIdeal.τ).loc Cert.PleRefIdeal.main_v111) = v5 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Embed_EmbedIdeal : Prop :=
  True

def algebraic_EmbedIdeal_EmbedRefIdeal_pre_embed_finite [hEmbedIdeal : Cert.EmbedIdeal.Facts] [hEmbedRefIdeal : Cert.EmbedRefIdeal.Facts] [hPre_embed_finite : Cert.Pre_embed_finite.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal_embed_finite m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)
      ∧ m' ((c.tc : Thread Cert.EmbedRefIdeal.nD Cert.EmbedRefIdeal.τ).loc Cert.EmbedRefIdeal.main_arg3) = m ((c.tc : Thread Cert.EmbedIdeal.nD Cert.EmbedIdeal.τ).loc Cert.EmbedIdeal.main_arg3)
      ∧ m' ((c.tc : Thread Cert.EmbedRefIdeal.nD Cert.EmbedRefIdeal.τ).loc Cert.EmbedRefIdeal.main_arg4) = m ((c.tc : Thread Cert.EmbedIdeal.nD Cert.EmbedIdeal.τ).loc Cert.EmbedIdeal.main_arg4)
      ∧ m' ((c.tc : Thread Cert.EmbedRefIdeal.nD Cert.EmbedRefIdeal.τ).loc Cert.EmbedRefIdeal.main_arg5) = m ((c.tc : Thread Cert.EmbedIdeal.nD Cert.EmbedIdeal.τ).loc Cert.EmbedIdeal.main_arg5)) →
    ∃ (v0 : (c : Dev Cert.EmbedIdeal.nD) → Buf (Elt Ideal) ((c.tc : Thread Cert.EmbedIdeal.nD Cert.EmbedIdeal.τ).loc Cert.EmbedIdeal.main_v27_0)) (v1 : (c : Dev Cert.EmbedIdeal.nD) → Buf (Elt Ideal) ((c.tc : Thread Cert.EmbedIdeal.nD Cert.EmbedIdeal.τ).loc Cert.EmbedIdeal.main_v27_1)) (v2 : (c : Dev Cert.EmbedIdeal.nD) → Buf (Elt Ideal) ((c.tc : Thread Cert.EmbedIdeal.nD Cert.EmbedIdeal.τ).loc Cert.EmbedIdeal.main_v27_2)) (v3 : (c : Dev Cert.EmbedIdeal.nD) → Buf (Elt Ideal) ((c.tc : Thread Cert.EmbedIdeal.nD Cert.EmbedIdeal.τ).loc Cert.EmbedIdeal.main_v27_3)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v27_0) = v0 c
          ∧ r.2.mem ((c.tc : Thread Cert.EmbedIdeal.nD Cert.EmbedIdeal.τ).loc Cert.EmbedIdeal.main_v27_1) = v1 c
          ∧ r.2.mem ((c.tc : Thread Cert.EmbedIdeal.nD Cert.EmbedIdeal.τ).loc Cert.EmbedIdeal.main_v27_2) = v2 c
          ∧ r.2.mem ((c.tc : Thread Cert.EmbedIdeal.nD Cert.EmbedIdeal.τ).loc Cert.EmbedIdeal.main_v27_3) = v3 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
          ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v58) = v0 c
          ∧ r.2.mem ((c.tc : Thread Cert.EmbedRefIdeal.nD Cert.EmbedRefIdeal.τ).loc Cert.EmbedRefIdeal.main_v36) = v1 c
          ∧ r.2.mem ((c.tc : Thread Cert.EmbedRefIdeal.nD Cert.EmbedRefIdeal.τ).loc Cert.EmbedRefIdeal.main_v33) = v2 c
          ∧ r.2.mem ((c.tc : Thread Cert.EmbedRefIdeal.nD Cert.EmbedRefIdeal.τ).loc Cert.EmbedRefIdeal.main_v59) = v3 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2)
          ∧ r.2.mem ((c.tc : Thread Cert.EmbedRefIdeal.nD Cert.EmbedRefIdeal.τ).loc Cert.EmbedRefIdeal.main_arg3) = m' ((c.tc : Thread Cert.EmbedRefIdeal.nD Cert.EmbedRefIdeal.τ).loc Cert.EmbedRefIdeal.main_arg3)
          ∧ r.2.mem ((c.tc : Thread Cert.EmbedRefIdeal.nD Cert.EmbedRefIdeal.τ).loc Cert.EmbedRefIdeal.main_arg4) = m' ((c.tc : Thread Cert.EmbedRefIdeal.nD Cert.EmbedRefIdeal.τ).loc Cert.EmbedRefIdeal.main_arg4)
          ∧ r.2.mem ((c.tc : Thread Cert.EmbedRefIdeal.nD Cert.EmbedRefIdeal.τ).loc Cert.EmbedRefIdeal.main_arg5) = m' ((c.tc : Thread Cert.EmbedRefIdeal.nD Cert.EmbedRefIdeal.τ).loc Cert.EmbedRefIdeal.main_arg5))

def preserves_EmbedFwd_EmbedFwdIdeal : Prop :=
  True

def algebraic_EmbedFwdIdeal_EmbedFwdRefIdeal [hEmbedFwdIdeal : Cert.EmbedFwdIdeal.Facts] [hEmbedFwdRefIdeal : Cert.EmbedFwdRefIdeal.Facts] : Prop :=
  ∀ (m : (ℓ : Loc Cert.EmbedFwdIdeal.nD Cert.EmbedFwdIdeal.τ Cert.EmbedFwdIdeal.sig) → Buf (Elt Ideal) ℓ) (g : Dev Cert.EmbedFwdIdeal.nD → PrngReg)
    (m' : (ℓ : Loc Cert.EmbedFwdRefIdeal.nD Cert.EmbedFwdRefIdeal.τ Cert.EmbedFwdRefIdeal.sig) → Buf (Elt Ideal) ℓ) (g' : Dev Cert.EmbedFwdRefIdeal.nD → PrngReg), Pre_EmbedFwdIdeal m →
    (∀ c : Dev Cert.EmbedFwdIdeal.nD,
      m' ((c.tc : Thread Cert.EmbedFwdRefIdeal.nD Cert.EmbedFwdRefIdeal.τ).loc Cert.EmbedFwdRefIdeal.main_arg0) = m ((c.tc : Thread Cert.EmbedFwdIdeal.nD Cert.EmbedFwdIdeal.τ).loc Cert.EmbedFwdIdeal.main_arg0)
      ∧ m' ((c.tc : Thread Cert.EmbedFwdRefIdeal.nD Cert.EmbedFwdRefIdeal.τ).loc Cert.EmbedFwdRefIdeal.main_arg1) = m ((c.tc : Thread Cert.EmbedFwdIdeal.nD Cert.EmbedFwdIdeal.τ).loc Cert.EmbedFwdIdeal.main_arg1)
      ∧ m' ((c.tc : Thread Cert.EmbedFwdRefIdeal.nD Cert.EmbedFwdRefIdeal.τ).loc Cert.EmbedFwdRefIdeal.main_arg2) = m ((c.tc : Thread Cert.EmbedFwdIdeal.nD Cert.EmbedFwdIdeal.τ).loc Cert.EmbedFwdIdeal.main_arg2)
      ∧ m' ((c.tc : Thread Cert.EmbedFwdRefIdeal.nD Cert.EmbedFwdRefIdeal.τ).loc Cert.EmbedFwdRefIdeal.main_arg3) = m ((c.tc : Thread Cert.EmbedFwdIdeal.nD Cert.EmbedFwdIdeal.τ).loc Cert.EmbedFwdIdeal.main_arg3)
      ∧ m' ((c.tc : Thread Cert.EmbedFwdRefIdeal.nD Cert.EmbedFwdRefIdeal.τ).loc Cert.EmbedFwdRefIdeal.main_arg4) = m ((c.tc : Thread Cert.EmbedFwdIdeal.nD Cert.EmbedFwdIdeal.τ).loc Cert.EmbedFwdIdeal.main_arg4)) →
    ∃ (v0 : (c : Dev Cert.EmbedFwdIdeal.nD) → Buf (Elt Ideal) ((c.tc : Thread Cert.EmbedFwdIdeal.nD Cert.EmbedFwdIdeal.τ).loc Cert.EmbedFwdIdeal.main_v6_0)) (v1 : (c : Dev Cert.EmbedFwdIdeal.nD) → Buf (Elt Ideal) ((c.tc : Thread Cert.EmbedFwdIdeal.nD Cert.EmbedFwdIdeal.τ).loc Cert.EmbedFwdIdeal.main_v6_1)) (v2 : (c : Dev Cert.EmbedFwdIdeal.nD) → Buf (Elt Ideal) ((c.tc : Thread Cert.EmbedFwdIdeal.nD Cert.EmbedFwdIdeal.τ).loc Cert.EmbedFwdIdeal.main_v6_2)),
      θ_run (Cert.EmbedFwdIdeal.defs (F := Ideal)) (onTc (τ := Cert.EmbedFwdIdeal.τ) (Cert.EmbedFwdIdeal.main (F := Ideal))) ⟨m, fun _ => 0, g⟩ (fun r => ∀ c : Dev Cert.EmbedFwdIdeal.nD,
          r.2.mem ((c.tc : Thread Cert.EmbedFwdIdeal.nD Cert.EmbedFwdIdeal.τ).loc Cert.EmbedFwdIdeal.main_v6_0) = v0 c
          ∧ r.2.mem ((c.tc : Thread Cert.EmbedFwdIdeal.nD Cert.EmbedFwdIdeal.τ).loc Cert.EmbedFwdIdeal.main_v6_1) = v1 c
          ∧ r.2.mem ((c.tc : Thread Cert.EmbedFwdIdeal.nD Cert.EmbedFwdIdeal.τ).loc Cert.EmbedFwdIdeal.main_v6_2) = v2 c
          ∧ r.2.mem ((c.tc : Thread Cert.EmbedFwdIdeal.nD Cert.EmbedFwdIdeal.τ).loc Cert.EmbedFwdIdeal.main_arg0) = m ((c.tc : Thread Cert.EmbedFwdIdeal.nD Cert.EmbedFwdIdeal.τ).loc Cert.EmbedFwdIdeal.main_arg0)
          ∧ r.2.mem ((c.tc : Thread Cert.EmbedFwdIdeal.nD Cert.EmbedFwdIdeal.τ).loc Cert.EmbedFwdIdeal.main_arg1) = m ((c.tc : Thread Cert.EmbedFwdIdeal.nD Cert.EmbedFwdIdeal.τ).loc Cert.EmbedFwdIdeal.main_arg1)
          ∧ r.2.mem ((c.tc : Thread Cert.EmbedFwdIdeal.nD Cert.EmbedFwdIdeal.τ).loc Cert.EmbedFwdIdeal.main_arg2) = m ((c.tc : Thread Cert.EmbedFwdIdeal.nD Cert.EmbedFwdIdeal.τ).loc Cert.EmbedFwdIdeal.main_arg2)
          ∧ r.2.mem ((c.tc : Thread Cert.EmbedFwdIdeal.nD Cert.EmbedFwdIdeal.τ).loc Cert.EmbedFwdIdeal.main_arg3) = m ((c.tc : Thread Cert.EmbedFwdIdeal.nD Cert.EmbedFwdIdeal.τ).loc Cert.EmbedFwdIdeal.main_arg3)
          ∧ r.2.mem ((c.tc : Thread Cert.EmbedFwdIdeal.nD Cert.EmbedFwdIdeal.τ).loc Cert.EmbedFwdIdeal.main_arg4) = m ((c.tc : Thread Cert.EmbedFwdIdeal.nD Cert.EmbedFwdIdeal.τ).loc Cert.EmbedFwdIdeal.main_arg4))
      ∧ θ_run (Cert.EmbedFwdRefIdeal.defs (F := Ideal)) (onTc (τ := Cert.EmbedFwdRefIdeal.τ) (Cert.EmbedFwdRefIdeal.main (F := Ideal))) ⟨m', fun _ => 0, g'⟩ (fun r => ∀ c : Dev Cert.EmbedFwdRefIdeal.nD,
          r.2.mem ((c.tc : Thread Cert.EmbedFwdRefIdeal.nD Cert.EmbedFwdRefIdeal.τ).loc Cert.EmbedFwdRefIdeal.main_v22) = v0 c
          ∧ r.2.mem ((c.tc : Thread Cert.EmbedFwdRefIdeal.nD Cert.EmbedFwdRefIdeal.τ).loc Cert.EmbedFwdRefIdeal.main_v43) = v1 c
          ∧ r.2.mem ((c.tc : Thread Cert.EmbedFwdRefIdeal.nD Cert.EmbedFwdRefIdeal.τ).loc Cert.EmbedFwdRefIdeal.main_v45) = v2 c
          ∧ r.2.mem ((c.tc : Thread Cert.EmbedFwdRefIdeal.nD Cert.EmbedFwdRefIdeal.τ).loc Cert.EmbedFwdRefIdeal.main_arg0) = m' ((c.tc : Thread Cert.EmbedFwdRefIdeal.nD Cert.EmbedFwdRefIdeal.τ).loc Cert.EmbedFwdRefIdeal.main_arg0)
          ∧ r.2.mem ((c.tc : Thread Cert.EmbedFwdRefIdeal.nD Cert.EmbedFwdRefIdeal.τ).loc Cert.EmbedFwdRefIdeal.main_arg1) = m' ((c.tc : Thread Cert.EmbedFwdRefIdeal.nD Cert.EmbedFwdRefIdeal.τ).loc Cert.EmbedFwdRefIdeal.main_arg1)
          ∧ r.2.mem ((c.tc : Thread Cert.EmbedFwdRefIdeal.nD Cert.EmbedFwdRefIdeal.τ).loc Cert.EmbedFwdRefIdeal.main_arg2) = m' ((c.tc : Thread Cert.EmbedFwdRefIdeal.nD Cert.EmbedFwdRefIdeal.τ).loc Cert.EmbedFwdRefIdeal.main_arg2)
          ∧ r.2.mem ((c.tc : Thread Cert.EmbedFwdRefIdeal.nD Cert.EmbedFwdRefIdeal.τ).loc Cert.EmbedFwdRefIdeal.main_arg3) = m' ((c.tc : Thread Cert.EmbedFwdRefIdeal.nD Cert.EmbedFwdRefIdeal.τ).loc Cert.EmbedFwdRefIdeal.main_arg3)
          ∧ r.2.mem ((c.tc : Thread Cert.EmbedFwdRefIdeal.nD Cert.EmbedFwdRefIdeal.τ).loc Cert.EmbedFwdRefIdeal.main_arg4) = m' ((c.tc : Thread Cert.EmbedFwdRefIdeal.nD Cert.EmbedFwdRefIdeal.τ).loc Cert.EmbedFwdRefIdeal.main_arg4))

def preserves_Input_InputIdeal : Prop :=
  True

def algebraic_InputIdeal_InputRefIdeal_pre_input_finite [hInputIdeal : Cert.InputIdeal.Facts] [hInputRefIdeal : Cert.InputRefIdeal.Facts] [hPre_input_finite : Cert.Pre_input_finite.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal_input_finite m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)
      ∧ m' ((c.tc : Thread Cert.InputRefIdeal.nD Cert.InputRefIdeal.τ).loc Cert.InputRefIdeal.main_arg4) = m ((c.tc : Thread Cert.InputIdeal.nD Cert.InputIdeal.τ).loc Cert.InputIdeal.main_arg4)) →
    ∃ (v0 : (c : Dev Cert.InputIdeal.nD) → Buf (Elt Ideal) ((c.tc : Thread Cert.InputIdeal.nD Cert.InputIdeal.τ).loc Cert.InputIdeal.main_v20_0)) (v1 : (c : Dev Cert.InputIdeal.nD) → Buf (Elt Ideal) ((c.tc : Thread Cert.InputIdeal.nD Cert.InputIdeal.τ).loc Cert.InputIdeal.main_v20_1)) (v2 : (c : Dev Cert.InputIdeal.nD) → Buf (Elt Ideal) ((c.tc : Thread Cert.InputIdeal.nD Cert.InputIdeal.τ).loc Cert.InputIdeal.main_v20_2)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v20_0) = v0 c
          ∧ r.2.mem ((c.tc : Thread Cert.InputIdeal.nD Cert.InputIdeal.τ).loc Cert.InputIdeal.main_v20_1) = v1 c
          ∧ r.2.mem ((c.tc : Thread Cert.InputIdeal.nD Cert.InputIdeal.τ).loc Cert.InputIdeal.main_v20_2) = v2 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v38) = v0 c
          ∧ r.2.mem ((c.tc : Thread Cert.InputRefIdeal.nD Cert.InputRefIdeal.τ).loc Cert.InputRefIdeal.main_v39) = v1 c
          ∧ r.2.mem ((c.tc : Thread Cert.InputRefIdeal.nD Cert.InputRefIdeal.τ).loc Cert.InputRefIdeal.main_v40) = v2 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3)
          ∧ r.2.mem ((c.tc : Thread Cert.InputRefIdeal.nD Cert.InputRefIdeal.τ).loc Cert.InputRefIdeal.main_arg4) = m' ((c.tc : Thread Cert.InputRefIdeal.nD Cert.InputRefIdeal.τ).loc Cert.InputRefIdeal.main_arg4))

def preserves_InputFwd_InputFwdIdeal : Prop :=
  True

def algebraic_InputFwdIdeal_InputFwdRefIdeal [hInputFwdIdeal : Cert.InputFwdIdeal.Facts] [hInputFwdRefIdeal : Cert.InputFwdRefIdeal.Facts] : Prop :=
  ∀ (m : (ℓ : Loc Cert.InputFwdIdeal.nD Cert.InputFwdIdeal.τ Cert.InputFwdIdeal.sig) → Buf (Elt Ideal) ℓ) (g : Dev Cert.InputFwdIdeal.nD → PrngReg)
    (m' : (ℓ : Loc Cert.InputFwdRefIdeal.nD Cert.InputFwdRefIdeal.τ Cert.InputFwdRefIdeal.sig) → Buf (Elt Ideal) ℓ) (g' : Dev Cert.InputFwdRefIdeal.nD → PrngReg), Pre_InputFwdIdeal m →
    (∀ c : Dev Cert.InputFwdIdeal.nD,
      m' ((c.tc : Thread Cert.InputFwdRefIdeal.nD Cert.InputFwdRefIdeal.τ).loc Cert.InputFwdRefIdeal.main_arg0) = m ((c.tc : Thread Cert.InputFwdIdeal.nD Cert.InputFwdIdeal.τ).loc Cert.InputFwdIdeal.main_arg0)
      ∧ m' ((c.tc : Thread Cert.InputFwdRefIdeal.nD Cert.InputFwdRefIdeal.τ).loc Cert.InputFwdRefIdeal.main_arg1) = m ((c.tc : Thread Cert.InputFwdIdeal.nD Cert.InputFwdIdeal.τ).loc Cert.InputFwdIdeal.main_arg1)
      ∧ m' ((c.tc : Thread Cert.InputFwdRefIdeal.nD Cert.InputFwdRefIdeal.τ).loc Cert.InputFwdRefIdeal.main_arg2) = m ((c.tc : Thread Cert.InputFwdIdeal.nD Cert.InputFwdIdeal.τ).loc Cert.InputFwdIdeal.main_arg2)) →
    ∃ (v0 : (c : Dev Cert.InputFwdIdeal.nD) → Buf (Elt Ideal) ((c.tc : Thread Cert.InputFwdIdeal.nD Cert.InputFwdIdeal.τ).loc Cert.InputFwdIdeal.main_v3_0)) (v1 : (c : Dev Cert.InputFwdIdeal.nD) → Buf (Elt Ideal) ((c.tc : Thread Cert.InputFwdIdeal.nD Cert.InputFwdIdeal.τ).loc Cert.InputFwdIdeal.main_v3_1)),
      θ_run (Cert.InputFwdIdeal.defs (F := Ideal)) (onTc (τ := Cert.InputFwdIdeal.τ) (Cert.InputFwdIdeal.main (F := Ideal))) ⟨m, fun _ => 0, g⟩ (fun r => ∀ c : Dev Cert.InputFwdIdeal.nD,
          r.2.mem ((c.tc : Thread Cert.InputFwdIdeal.nD Cert.InputFwdIdeal.τ).loc Cert.InputFwdIdeal.main_v3_0) = v0 c
          ∧ r.2.mem ((c.tc : Thread Cert.InputFwdIdeal.nD Cert.InputFwdIdeal.τ).loc Cert.InputFwdIdeal.main_v3_1) = v1 c
          ∧ r.2.mem ((c.tc : Thread Cert.InputFwdIdeal.nD Cert.InputFwdIdeal.τ).loc Cert.InputFwdIdeal.main_arg0) = m ((c.tc : Thread Cert.InputFwdIdeal.nD Cert.InputFwdIdeal.τ).loc Cert.InputFwdIdeal.main_arg0)
          ∧ r.2.mem ((c.tc : Thread Cert.InputFwdIdeal.nD Cert.InputFwdIdeal.τ).loc Cert.InputFwdIdeal.main_arg1) = m ((c.tc : Thread Cert.InputFwdIdeal.nD Cert.InputFwdIdeal.τ).loc Cert.InputFwdIdeal.main_arg1)
          ∧ r.2.mem ((c.tc : Thread Cert.InputFwdIdeal.nD Cert.InputFwdIdeal.τ).loc Cert.InputFwdIdeal.main_arg2) = m ((c.tc : Thread Cert.InputFwdIdeal.nD Cert.InputFwdIdeal.τ).loc Cert.InputFwdIdeal.main_arg2))
      ∧ θ_run (Cert.InputFwdRefIdeal.defs (F := Ideal)) (onTc (τ := Cert.InputFwdRefIdeal.τ) (Cert.InputFwdRefIdeal.main (F := Ideal))) ⟨m', fun _ => 0, g'⟩ (fun r => ∀ c : Dev Cert.InputFwdRefIdeal.nD,
          r.2.mem ((c.tc : Thread Cert.InputFwdRefIdeal.nD Cert.InputFwdRefIdeal.τ).loc Cert.InputFwdRefIdeal.main_v14) = v0 c
          ∧ r.2.mem ((c.tc : Thread Cert.InputFwdRefIdeal.nD Cert.InputFwdRefIdeal.τ).loc Cert.InputFwdRefIdeal.main_v28) = v1 c
          ∧ r.2.mem ((c.tc : Thread Cert.InputFwdRefIdeal.nD Cert.InputFwdRefIdeal.τ).loc Cert.InputFwdRefIdeal.main_arg0) = m' ((c.tc : Thread Cert.InputFwdRefIdeal.nD Cert.InputFwdRefIdeal.τ).loc Cert.InputFwdRefIdeal.main_arg0)
          ∧ r.2.mem ((c.tc : Thread Cert.InputFwdRefIdeal.nD Cert.InputFwdRefIdeal.τ).loc Cert.InputFwdRefIdeal.main_arg1) = m' ((c.tc : Thread Cert.InputFwdRefIdeal.nD Cert.InputFwdRefIdeal.τ).loc Cert.InputFwdRefIdeal.main_arg1)
          ∧ r.2.mem ((c.tc : Thread Cert.InputFwdRefIdeal.nD Cert.InputFwdRefIdeal.τ).loc Cert.InputFwdRefIdeal.main_arg2) = m' ((c.tc : Thread Cert.InputFwdRefIdeal.nD Cert.InputFwdRefIdeal.τ).loc Cert.InputFwdRefIdeal.main_arg2))

def Claim : Prop :=
  ∃ (hMerge : Cert.Merge.Facts) (hMergeIdeal : Cert.MergeIdeal.Facts) (hMergeRefIdeal : Cert.MergeRefIdeal.Facts) (hMla : Cert.Mla.Facts) (hMlaIdeal : Cert.MlaIdeal.Facts) (hMlaRefIdeal : Cert.MlaRefIdeal.Facts) (hPle : Cert.Ple.Facts) (hPleIdeal : Cert.PleIdeal.Facts) (hPleRefIdeal : Cert.PleRefIdeal.Facts) (hEmbed : Cert.Embed.Facts) (hEmbedIdeal : Cert.EmbedIdeal.Facts) (hEmbedRefIdeal : Cert.EmbedRefIdeal.Facts) (hEmbedFwd : Cert.EmbedFwd.Facts) (hEmbedFwdIdeal : Cert.EmbedFwdIdeal.Facts) (hEmbedFwdRefIdeal : Cert.EmbedFwdRefIdeal.Facts) (hInput : Cert.Input.Facts) (hInputIdeal : Cert.InputIdeal.Facts) (hInputRefIdeal : Cert.InputRefIdeal.Facts) (hInputFwd : Cert.InputFwd.Facts) (hInputFwdIdeal : Cert.InputFwdIdeal.Facts) (hInputFwdRefIdeal : Cert.InputFwdRefIdeal.Facts) (hPre_merge_finite : Cert.Pre_merge_finite.Facts) (hPre_mla_finite : Cert.Pre_mla_finite.Facts) (hPre_ple_finite : Cert.Pre_ple_finite.Facts) (hPre_embed_finite : Cert.Pre_embed_finite.Facts) (hPre_input_finite : Cert.Pre_input_finite.Facts),
    quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_Embed (hEmbed := hEmbed)
    ∧ quiescent_EmbedIdeal (hEmbedIdeal := hEmbedIdeal)
    ∧ quiescent_EmbedIdeal_pre_embed_finite (hEmbedIdeal := hEmbedIdeal) (hPre_embed_finite := hPre_embed_finite)
    ∧ quiescent_EmbedRefIdeal (hEmbedRefIdeal := hEmbedRefIdeal)
    ∧ quiescent_EmbedRefIdeal_pre_embed_finite (hEmbedRefIdeal := hEmbedRefIdeal) (hPre_embed_finite := hPre_embed_finite)
    ∧ quiescent_EmbedFwd (hEmbedFwd := hEmbedFwd)
    ∧ quiescent_EmbedFwdIdeal (hEmbedFwdIdeal := hEmbedFwdIdeal)
    ∧ quiescent_EmbedFwdRefIdeal (hEmbedFwdRefIdeal := hEmbedFwdRefIdeal)
    ∧ quiescent_Input (hInput := hInput)
    ∧ quiescent_InputIdeal (hInputIdeal := hInputIdeal)
    ∧ quiescent_InputIdeal_pre_input_finite (hInputIdeal := hInputIdeal) (hPre_input_finite := hPre_input_finite)
    ∧ quiescent_InputRefIdeal (hInputRefIdeal := hInputRefIdeal)
    ∧ quiescent_InputRefIdeal_pre_input_finite (hInputRefIdeal := hInputRefIdeal) (hPre_input_finite := hPre_input_finite)
    ∧ quiescent_InputFwd (hInputFwd := hInputFwd)
    ∧ quiescent_InputFwdIdeal (hInputFwdIdeal := hInputFwdIdeal)
    ∧ quiescent_InputFwdRefIdeal (hInputFwdRefIdeal := hInputFwdRefIdeal)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_Embed_EmbedIdeal
    ∧ algebraic_EmbedIdeal_EmbedRefIdeal_pre_embed_finite (hEmbedIdeal := hEmbedIdeal) (hEmbedRefIdeal := hEmbedRefIdeal) (hPre_embed_finite := hPre_embed_finite)
    ∧ preserves_EmbedFwd_EmbedFwdIdeal
    ∧ algebraic_EmbedFwdIdeal_EmbedFwdRefIdeal (hEmbedFwdIdeal := hEmbedFwdIdeal) (hEmbedFwdRefIdeal := hEmbedFwdRefIdeal)
    ∧ preserves_Input_InputIdeal
    ∧ algebraic_InputIdeal_InputRefIdeal_pre_input_finite (hInputIdeal := hInputIdeal) (hInputRefIdeal := hInputRefIdeal) (hPre_input_finite := hPre_input_finite)
    ∧ preserves_InputFwd_InputFwdIdeal
    ∧ algebraic_InputFwdIdeal_InputFwdRefIdeal (hInputFwdIdeal := hInputFwdIdeal) (hInputFwdRefIdeal := hInputFwdRefIdeal)
-- ==== Pre_embed_finite.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S1024x1024 .f32) (main_arg5 : FVec F S256x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x256 .f32) (main_arg3 : FVec F S1024 .f32) (main_arg4 : FVec F S1024x1024 .f32) (main_arg5 : FVec F S256x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_input_finite.lean ====
abbrev S8192x4352 : Shape := ⟨2, ![8192, 4352]⟩
abbrev S8192x1024 : Shape := ⟨2, ![8192, 1024]⟩
abbrev S1024 : Shape := ⟨1, ![1024]⟩
abbrev S1024x4352 : Shape := ⟨2, ![1024, 4352]⟩
abbrev S_ : Shape := ⟨0, ![]⟩

class Facts : Prop where
  bcast_S_S8192x4352 : S_.BroadcastsInDim S8192x4352 (![] : Fin 0 → Fin S8192x4352.rank)
  reducesTo_S8192x4352_S_d0_1 : S8192x4352.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x4352 : S_.BroadcastsInDim S1024x4352 (![] : Fin 0 → Fin S1024x4352.rank)
  reducesTo_S1024x4352_S_d0_1 : S1024x4352.ReducesTo [0, 1] S_

variable [Facts]

def fn_part1 {F : FTy → Type} [FloatOps F] (main_arg4 : FVec F S1024x4352 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1024x4352 .f32 := Host.absf main_arg4
  let main_cst_6 : FVec F S_ .f32 := constant S_ .f32 0x7F800000#32
  let main_v20 : FVec F S1024x4352 .f32 := broadcastInDim S1024x4352 ![] bcast_S_S1024x4352 main_cst_6
  let main_v21 : IVec S1024x4352 1 := cmpf .olt main_v19 main_v20
  let main_c_7 : IVec S_ 1 := constantI S_ 1 1#1
  let main_v22 : IVec S_ 1 := (fun x v => Host.reduce IntOp.andi x v reducesTo_S1024x4352_S_d0_1 h_S_) main_v21 main_c_7
  let main_v23 : IVec S_ 1 := andi main_v18 main_v22
  main_v23

def fn {F : FTy → Type} [FloatOps F] (main_arg0 : FVec F S8192x4352 .f32) (main_arg1 : FVec F S8192x1024 .f32) (main_arg2 : FVec F S1024 .f32) (main_arg3 : FVec F S8192x1024 .f32) (main_arg4 : FVec F S1024x4352 .f32) : IVec S_ 1 :=
  let main_v0 : FVec F S8192x4352 .f32 := Host.absf main_arg0
  let main_cst : FVec F S_ .f32 := constant S_ .f32 0x7F800000#32
  let main_v1 : FVec F S8192x4352 .f32 := broadcastInDim S8192x4352 ![] bcast_S_S8192x4352 main_cst
  let main_v2 : IVec S8192x4352 1 := cmpf .olt main_v0 main_v1
  let main_c : IVec S_ 1 := constantI S_ 1 1#1
  let main_v3 : IVec S_ 1 := (fun x v => Host.reduce IntOp.andi x v reducesTo_S8192x4352_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_merge_finite.lean ====
abbrev S8192x1024 : Shape := ⟨2, ![8192, 1024]⟩
abbrev S8192x512 : Shape := ⟨2, ![8192, 512]⟩
abbrev S8192x4256 : Shape := ⟨2, ![8192, 4256]⟩
abbrev S512x1024 : Shape := ⟨2, ![512, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S512x1024 .f32) (main_arg6 : FVec F S1024x1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x1024 .f32 := Host.absf main_arg5
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S8192x1024 .f32) (main_arg1 : FVec F S8192x512 .f32) (main_arg2 : FVec F S8192x512 .f32) (main_arg3 : FVec F S8192x4256 .f32) (main_arg4 : FVec F S512x1024 .f32) (main_arg5 : FVec F S512x1024 .f32) (main_arg6 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_v13 main_v16
-- ==== Pre_mla_finite.lean ====
abbrev S4x2048x8x96 : Shape := ⟨4, ![4, 2048, 8, 96]⟩
abbrev S4x2048x8x64 : Shape := ⟨4, ![4, 2048, 8, 64]⟩
abbrev S4x2048x512 : Shape := ⟨3, ![4, 2048, 512]⟩
abbrev S_ : Shape := ⟨0, ![]⟩

class Facts : Prop where
  bcast_S_S4x2048x8x96 : S_.BroadcastsInDim S4x2048x8x96 (![] : Fin 0 → Fin S4x2048x8x96.rank)
  reducesTo_S4x2048x8x96_S_d0_1_2_3 : S4x2048x8x96.ReducesTo [0, 1, 2, 3] S_
  h_S_ : 0 < S_.numel
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn_part1 {F : FTy → Type} [FloatOps F] (main_v13 : IVec S_ 1) (main_v16 : IVec S4x2048x512 1) : IVec S_ 1 :=
  let main_c_5 : IVec S_ 1 := constantI S_ 1 1#1
  let main_v17 : IVec S_ 1 := (fun x v => Host.reduce IntOp.andi x v reducesTo_S4x2048x512_S_d0_1_2 h_S_) main_v16 main_c_5
  let main_v18 : IVec S_ 1 := andi main_v13 main_v17
  main_v18

def fn {F : FTy → Type} [FloatOps F] (main_arg0 : FVec F S4x2048x8x96 .f32) (main_arg1 : FVec F S4x2048x8x96 .f32) (main_arg2 : FVec F S4x2048x8x64 .f32) (main_arg3 : FVec F S4x2048x512 .f32) : IVec S_ 1 :=
  let main_v0 : FVec F S4x2048x8x96 .f32 := Host.absf main_arg0
  let main_cst : FVec F S_ .f32 := constant S_ .f32 0x7F800000#32
  let main_v1 : FVec F S4x2048x8x96 .f32 := broadcastInDim S4x2048x8x96 ![] bcast_S_S4x2048x8x96 main_cst
  let main_v2 : IVec S4x2048x8x96 1 := cmpf .olt main_v0 main_v1
  let main_c : IVec S_ 1 := constantI S_ 1 1#1
  let main_v3 : IVec S_ 1 := (fun x v => Host.reduce IntOp.andi x v reducesTo_S4x2048x8x96_S_d0_1_2_3 h_S_) main_v2 main_c
  let main_v4 : FVec F S4x2048x8x96 .f32 := Host.absf main_arg1
  let main_cst_0 : FVec F S_ .f32 := constant S_ .f32 0x7F800000#32
  let main_v5 : FVec F S4x2048x8x96 .f32 := broadcastInDim S4x2048x8x96 ![] bcast_S_S4x2048x8x96 main_cst_0
  let main_v6 : IVec S4x2048x8x96 1 := cmpf .olt main_v4 main_v5
  let main_c_1 : IVec S_ 1 := constantI S_ 1 1#1
  let main_v7 : IVec S_ 1 := (fun x v => Host.reduce IntOp.andi x v reducesTo_S4x2048x8x96_S_d0_1_2_3 h_S_) main_v6 main_c_1
  let main_v8 : IVec S_ 1 := andi main_v3 main_v7
  let main_v9 : FVec F S4x2048x8x64 .f32 := Host.absf main_arg2
  let main_cst_2 : FVec F S_ .f32 := constant S_ .f32 0x7F800000#32
  let main_v10 : FVec F S4x2048x8x64 .f32 := broadcastInDim S4x2048x8x64 ![] bcast_S_S4x2048x8x64 main_cst_2
  let main_v11 : IVec S4x2048x8x64 1 := cmpf .olt main_v9 main_v10
  let main_c_3 : IVec S_ 1 := constantI S_ 1 1#1
  let main_v12 : IVec S_ 1 := (fun x v => Host.reduce IntOp.andi x v reducesTo_S4x2048x8x64_S_d0_1_2_3 h_S_) main_v11 main_c_3
  let main_v13 : IVec S_ 1 := andi main_v8 main_v12
  let main_v14 : FVec F S4x2048x512 .f32 := Host.absf main_arg3
  let main_cst_4 : FVec F S_ .f32 := constant S_ .f32 0x7F800000#32
  let main_v15 : FVec F S4x2048x512 .f32 := broadcastInDim S4x2048x512 ![] bcast_S_S4x2048x512 main_cst_4
  let main_v16 : IVec S4x2048x512 1 := cmpf .olt main_v14 main_v15
  fn_part1 (F := F) main_v13 main_v16
-- ==== Pre_ple_finite.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_arg5 : FVec F S1024 .f32) (main_arg6 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S8192x256 .f32) (main_arg2 : FVec F S1024 .f32) (main_arg3 : FVec F S1024x1024 .f32) (main_arg4 : FVec F S256x1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Merge.lean ====
abbrev S8192x1024 : Shape := ⟨2, ![8192, 1024]⟩
abbrev S8192x512 : Shape := ⟨2, ![8192, 512]⟩
abbrev S8192x4256 : Shape := ⟨2, ![8192, 4256]⟩
abbrev S512x1024 : Shape := ⟨2, ![512, 1024]⟩
abbrev S1024x1024 : Shape := ⟨2, ![1024, 1024]⟩
abbrev S8192x128 : Shape := ⟨2, ![8192, 128]⟩
abbrev S8192x256 : Shape := ⟨2, ![8192, 256]⟩
abbrev S8192x32 : Shape := ⟨2, ![8192, 32]⟩
abbrev S_ : Shape := ⟨0, ![]⟩
abbrev S8192x4352 : Shape := ⟨2, ![8192, 4352]⟩
abbrev S1x512x1024 : Shape := ⟨3, ![1, 512, 1024]⟩
abbrev S1x1024x1024 : Shape := ⟨3, ![1, 1024, 1024]⟩
abbrev S8x8192 : Shape := ⟨2, ![8, 8192]⟩
abbrev S512x512 : Shape := ⟨2, ![512, 512]⟩
abbrev S8x512 : Shape := ⟨2, ![8, 512]⟩
abbrev S8x64x512 : Shape := ⟨3, ![8, 64, 512]⟩

abbrev nBuf : Space → Nat
  | .hbm => 39
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x4256, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x512, .f32⟩
  | .hbm, ⟨8, _⟩ => ⟨S8192x128, .f32⟩
  | .hbm, ⟨9, _⟩ => ⟨S8192x128, .f32⟩
  | .hbm, ⟨10, _⟩ => ⟨S8192x512, .f32⟩
  | .hbm, ⟨11, _⟩ => ⟨S8192x256, .f32⟩
  | .hbm, ⟨12, _⟩ => ⟨S8192x128, .f32⟩
  | .hbm, ⟨13, _⟩ => ⟨S8192x32, .f32⟩
  | .hbm, ⟨14, _⟩ => ⟨S8192x512, .f32⟩
  | .hbm, ⟨15, _⟩ => ⟨S8192x1024, .f32⟩
  | .hbm, ⟨16, _⟩ => ⟨S8192x1024, .f32⟩
  | .hbm, ⟨17, _⟩ => ⟨S_, .i32⟩
  | .hbm, ⟨18, _⟩ => ⟨S_, .f32⟩
  | .hbm, ⟨19, _⟩ => ⟨S8192x128, .f32⟩
  | .hbm, ⟨20, _⟩ => ⟨S8192x4352, .f32⟩
  | .hbm, ⟨21, _⟩ => ⟨S8192x4352, .bf16⟩
  | .hbm, ⟨22, _⟩ => ⟨S512x1024, .bf16⟩
  | .hbm, ⟨23, _⟩ => ⟨S1x512x1024, .bf16⟩
  | .hbm, ⟨24, _⟩ => ⟨S512x1024, .bf16⟩
  | .hbm, ⟨25, _⟩ => ⟨S1x512x1024, .bf16⟩
  | .hbm, ⟨26, _⟩ => ⟨S1024x1024, .bf16⟩
  | .hbm, ⟨27, _⟩ => ⟨S1x1024x1024, .bf16⟩
  | .hbm, ⟨28, _⟩ => ⟨S8192x512, .bf16⟩
  | .hbm, ⟨29, _⟩ => ⟨S8192x512, .bf16⟩
  | .hbm, ⟨30, _⟩ => ⟨S8192x512, .bf16⟩
  | .hbm, ⟨31, _⟩ => ⟨S8192x512, .bf16⟩
  | .hbm, ⟨32, _⟩ => ⟨S8192x1024, .bf16⟩
  | .hbm, ⟨33, _⟩ => ⟨S8192x1024, .bf16⟩
  | .hbm, ⟨34, _⟩ => ⟨S8x8192, .f32⟩
  | .hbm, ⟨35, _⟩ => ⟨S8x8192, .f32⟩
  | .hbm, ⟨36, _⟩ => ⟨S512x1024, .f32⟩
  | .hbm, ⟨37, _⟩ => ⟨S512x1024, .f32⟩
  | .hbm, ⟨38, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S8x512, .f32⟩
  | .local _ .vmem, ⟨30, _⟩ => ⟨S8x512, .f32⟩
  | .local _ .vmem, ⟨31, _⟩ => ⟨S8x512, .f32⟩
  | .local _ .vmem, ⟨32, _⟩ => ⟨S8x512, .f32⟩
  | .local _ .vmem, ⟨33, _⟩ => ⟨S512x1024, .f32⟩
  | .local _ .vmem, ⟨34, _⟩ => ⟨S512x1024, .f32⟩
  | .local _ .vmem, ⟨35, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev main_v19_5 : Ref sig .tc := ⟨.hbm, 33, rfl⟩
abbrev main_v19_6 : Ref sig .tc := ⟨.hbm, 34, rfl⟩
abbrev main_v19_7 : Ref sig .tc := ⟨.hbm, 35, rfl⟩
abbrev main_v19_8 : Ref sig .tc := ⟨.hbm, 36, rfl⟩
abbrev main_v19_9 : Ref sig .tc := ⟨.hbm, 37, rfl⟩
abbrev main_v19_10 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem19_0 : DmaSem sig := 34
abbrev cc0_sem20_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MergeRefIdeal.lean ====
abbrev S8192x1024 : Shape := ⟨2, ![8192, 1024]⟩
abbrev S8192x512 : Shape := ⟨2, ![8192, 512]⟩
abbrev S8192x4256 : Shape := ⟨2, ![8192, 4256]⟩
abbrev S512x1024 : Shape := ⟨2, ![512, 1024]⟩
abbrev S1024x1024 : Shape := ⟨2, ![1024, 1024]⟩
abbrev S8192x128 : Shape := ⟨2, ![8192, 128]⟩
abbrev S8192x256 : Shape := ⟨2, ![8192, 256]⟩
abbrev S8192x32 : Shape := ⟨2, ![8192, 32]⟩
abbrev S_ : Shape := ⟨0, ![]⟩
abbrev S1024x512 : Shape := ⟨2, ![1024, 512]⟩
abbrev S8192x8x64 : Shape := ⟨3, ![8192, 8, 64]⟩
abbrev S8192x8 : Shape := ⟨2, ![8192, 8]⟩
abbrev S8x8192 : Shape := ⟨2, ![8, 8192]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x4256, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x512, .f32⟩
  | .hbm, ⟨8, _⟩ => ⟨S8192x128, .f32⟩
  | .hbm, ⟨9, _⟩ => ⟨S8192x128, .f32⟩
  | .hbm, ⟨10, _⟩ => ⟨S8192x512, .f32⟩
  | .hbm, ⟨11, _⟩ => ⟨S8192x256, .f32⟩
  | .hbm, ⟨12, _⟩ => ⟨S8192x128, .f32⟩
  | .hbm, ⟨13, _⟩ => ⟨S8192x32, .f32⟩
  | .hbm, ⟨14, _⟩ => ⟨S8192x512, .f32⟩
  | .hbm, ⟨15, _⟩ => ⟨S8192x1024, .f32⟩
  | .hbm, ⟨16, _⟩ => ⟨S8192x1024, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1024x1024, .f32⟩
  | .hbm, ⟨76, _⟩ => ⟨S1024x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1024x512, .f32⟩
  | .hbm, ⟨81, _⟩ => ⟨S512x1024, .f32⟩
  | .hbm, ⟨82, _⟩ => ⟨S8192x512, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S1024x512, .f32⟩
  | .hbm, ⟨87, _⟩ => ⟨S512x1024, .f32⟩
  | .hbm, ⟨88, _⟩ => ⟨S8192x512, .f32⟩
  | .hbm, ⟨89, _⟩ => ⟨S8192x1024, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S8192x512, .bf16⟩
  | .hbm, ⟨103, _⟩ => ⟨S8192x512, .bf16⟩
  | .hbm, ⟨104, _⟩ => ⟨S8192x512, .bf16⟩
  | .hbm, ⟨105, _⟩ => ⟨S8192x512, .bf16⟩
  | .hbm, ⟨106, _⟩ => ⟨S8192x1024, .bf16⟩
  | .hbm, ⟨107, _⟩ => ⟨S8192x1024, .bf16⟩
  | .hbm, ⟨108, _⟩ => ⟨S8192x512, .f32⟩
  | .hbm, ⟨109, _⟩ => ⟨S8192x8x64, .f32⟩
  | .hbm, ⟨110, _⟩ => ⟨S_, .f32⟩
  | .hbm, ⟨111, _⟩ => ⟨S8192x8, .f32⟩
  | .hbm, ⟨112, _⟩ => ⟨S8x8192, .f32⟩
  | .hbm, ⟨113, _⟩ => ⟨S8192x512, .f32⟩
  | .hbm, ⟨114, _⟩ => ⟨S8192x8x64, .f32⟩
  | .hbm, ⟨115, _⟩ => ⟨S_, .f32⟩
  | .hbm, ⟨116, _⟩ => ⟨S8192x8, .f32⟩
  | .hbm, ⟨117, _⟩ => ⟨S8x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v10_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v10_1 : Ref sig .tc := ⟨.hbm, 28, rfl⟩
abbrev main_v10_0 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_v12_2 : Ref sig .tc := ⟨.hbm, 38, rfl⟩
abbrev main_call1_cst_1 : Ref sig .tc := ⟨.hbm, 39, rfl⟩
abbrev main_call1_v6 : Ref sig .tc := ⟨.hbm, 40, rfl⟩
abbrev main_call1_v7 : Ref sig .tc := ⟨.hbm, 41, rfl⟩
abbrev main_v12_1 : Ref sig .tc := ⟨.hbm, 42, rfl⟩
abbrev main_v12_0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst : Ref sig .tc := ⟨.hbm, 47, rfl⟩
abbrev main_v16 : Ref sig .tc := ⟨.hbm, 48, rfl⟩
abbrev main_v17 : Ref sig .tc := ⟨.hbm, 49, rfl⟩
abbrev main_cst_0 : Ref sig .tc := ⟨.hbm, 50, rfl⟩
abbrev main_v18 : Ref sig .tc := ⟨.hbm, 51, rfl⟩
abbrev main_v19 : Ref sig .tc := ⟨.hbm, 52, rfl⟩
abbrev main_cst_1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_cst_4 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_5 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_6 : Ref sig .tc := ⟨.hbm, 115, rfl⟩
abbrev main_v71 : Ref sig .tc := ⟨.hbm, 116, rfl⟩
abbrev main_v72 : Ref sig .tc := ⟨.hbm, 117, rfl⟩

abbrev nD : Nat := 1
abbrev τ : Topo := Topo.v7x

variable {F : FTy → Type} [FloatOps F]
-- ==== Mla.lean ====
abbrev S4x2048x8x96 : Shape := ⟨4, ![4, 2048, 8, 96]⟩
abbrev S4x2048x8x64 : Shape := ⟨4, ![4, 2048, 8, 64]⟩
abbrev S4x2048x512 : Shape := ⟨3, ![4, 2048, 512]⟩
abbrev S10 : Shape := ⟨1, ![10]⟩
abbrev S_ : Shape := ⟨0, ![]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8 : Shape := ⟨3, ![4, 2048, 8]⟩
abbrev S4x2048x8x128 : Shape := ⟨4, ![4, 2048, 8, 128]⟩
abbrev S8192x1024 : Shape := ⟨2, ![8192, 1024]⟩
abbrev S8192x512 : Shape := ⟨2, ![8192, 512]⟩
abbrev S8x4x2048 : Shape := ⟨3, ![8, 4, 2048]⟩
abbrev S1x8x8192 : Shape := ⟨3, ![1, 8, 8192]⟩
abbrev S512x1024 : Shape := ⟨2, ![512, 1024]⟩
abbrev S1 : Shape := ⟨1, ![1]⟩
abbrev S512x512 : Shape := ⟨2, ![512, 512]⟩
abbrev S1x8x512 : Shape := ⟨3, ![1, 8, 512]⟩
abbrev S2048x1024 : Shape := ⟨2, ![2048, 1024]⟩
abbrev S4x1024x512 : Shape := ⟨3, ![4, 1024, 512]⟩
abbrev S512x128 : Shape := ⟨2, ![512, 128]⟩
abbrev S512x64 : Shape := ⟨2, ![512, 64]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩
abbrev S1x1024x512 : Shape := ⟨3, ![1, 1024, 512]⟩
abbrev S1024x512 : Shape := ⟨2, ![1024, 512]⟩

abbrev nBuf : Space → Nat
  | .hbm => 65
  | .vmem => 21
  | .smem => 2
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S4x2048x512, .f32⟩
  | .hbm, ⟨4, _⟩ => ⟨S_, .f32⟩
  | .hbm, ⟨5, _⟩ => ⟨S_, .f32⟩
  | .hbm, ⟨6, _⟩ => ⟨S4x8x2048x2048, .f32⟩
  | .hbm, ⟨7, _⟩ => ⟨S4x8x2048x2048, .f32⟩
  | .hbm, ⟨8, _⟩ => ⟨S4x8x2048x2048, .f32⟩
  | .hbm, ⟨9, _⟩ => ⟨S2048, .i32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S4x8x2048x2048, .i1⟩
  | .hbm, ⟨18, _⟩ => ⟨S4x8x2048x2048, .f32⟩
  | .hbm, ⟨19, _⟩ => ⟨S4x8x2048x2048, .f32⟩
  | .hbm, ⟨20, _⟩ => ⟨S_, .f32⟩
  | .hbm, ⟨21, _⟩ => ⟨S4x8x2048, .f32⟩
  | .hbm, ⟨22, _⟩ => ⟨S4x8x2048x1, .f32⟩
  | .hbm, ⟨23, _⟩ => ⟨S4x8x2048x2048, .f32⟩
  | .hbm, ⟨24, _⟩ => ⟨S4x8x2048x2048, .f32⟩
  | .hbm, ⟨25, _⟩ => ⟨S4x8x2048x2048, .f32⟩
  | .hbm, ⟨26, _⟩ => ⟨S_, .f32⟩
  | .hbm, ⟨27, _⟩ => ⟨S4x8x2048, .f32⟩
  | .hbm, ⟨28, _⟩ => ⟨S4x8x2048x1, .f32⟩
  | .hbm, ⟨29, _⟩ => ⟨S4x8x2048x2048, .f32⟩
  | .hbm, ⟨30, _⟩ => ⟨S4x8x2048x2048, .f32⟩
  | .hbm, ⟨31, _⟩ => ⟨S4x8x64x2048, .f32⟩
  | .hbm, ⟨32, _⟩ => ⟨S4x2048x8x64, .f32⟩
  | .hbm, ⟨33, _⟩ => ⟨S4x8x2048x1, .f32⟩
  | .hbm, ⟨34, _⟩ => ⟨S4x8x2048x1, .f32⟩
  | .hbm, ⟨35, _⟩ => ⟨S_, .f32⟩
  | .hbm, ⟨36, _⟩ => ⟨S_, .f32⟩
  | .hbm, ⟨37, _⟩ => ⟨S4x8x2048x1, .f32⟩
  | .hbm, ⟨38, _⟩ => ⟨S4x8x2048x1, .f32⟩
  | .hbm, ⟨39, _⟩ => ⟨S4x2048x8x64, .f32⟩
  | .hbm, ⟨40, _⟩ => ⟨S4x2048x8x64, .f32⟩
  | .hbm, ⟨41, _⟩ => ⟨S_, .f32⟩
  | .hbm, ⟨42, _⟩ => ⟨S4x2048x8, .f32⟩
  | .hbm, ⟨43, _⟩ => ⟨S_, .i32⟩
  | .hbm, ⟨44, _⟩ => ⟨S_, .f32⟩
  | .hbm, ⟨45, _⟩ => ⟨S4x2048x8x128, .f32⟩
  | .hbm, ⟨46, _⟩ => ⟨S8192x1024, .f32⟩
  | .hbm, ⟨47, _⟩ => ⟨S8192x1024, .bf16⟩
  | .hbm, ⟨48, _⟩ => ⟨S_, .i32⟩
  | .hbm, ⟨49, _⟩ => ⟨S_, .f32⟩
  | .hbm, ⟨50, _⟩ => ⟨S4x2048x8x128, .f32⟩
  | .hbm, ⟨51, _⟩ => ⟨S8192x1024, .f32⟩
  | .hbm, ⟨52, _⟩ => ⟨S8192x1024, .bf16⟩
  | .hbm, ⟨53, _⟩ => ⟨S8192x512, .f32⟩
  | .hbm, ⟨54, _⟩ => ⟨S8192x512, .bf16⟩
  | .hbm, ⟨55, _⟩ => ⟨S8192x512, .f32⟩
  | .hbm, ⟨56, _⟩ => ⟨S8192x512, .bf16⟩
  | .hbm, ⟨57, _⟩ => ⟨S4x8x2048, .f32⟩
  | .hbm, ⟨58, _⟩ => ⟨S8x4x2048, .f32⟩
  | .hbm, ⟨59, _⟩ => ⟨S1x8x8192, .f32⟩
  | .hbm, ⟨60, _⟩ => ⟨S8x4x2048, .f32⟩
  | .hbm, ⟨61, _⟩ => ⟨S1x8x8192, .f32⟩
  | .hbm, ⟨62, _⟩ => ⟨S8192x1024, .f32⟩
  | .hbm, ⟨63, _⟩ => ⟨S8192x1024, .f32⟩
  | .hbm, ⟨64, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S2048x1024, .f32⟩
  | .local _ .vmem, ⟨13, _⟩ => ⟨S2048x1024, .f32⟩
  | .local _ .vmem, ⟨14, _⟩ => ⟨S512x1024, .f32⟩
  | .local _ .vmem, ⟨15, _⟩ => ⟨S512x1024, .f32⟩
  | .local _ .vmem, ⟨16, _⟩ => ⟨S512x512, .f32⟩
  | .local _ .vmem, ⟨17, _⟩ => ⟨S512x512, .f32⟩
  | .local _ .vmem, ⟨18, _⟩ => ⟨S512x1024, .f32⟩
  | .local _ .vmem, ⟨19, _⟩ => ⟨S512x512, .f32⟩
  | .local _ .vmem, ⟨20, _⟩ => ⟨S4x1024x512, .f32⟩
  | .local _ .smem, ⟨0, _⟩ => ⟨S10, .i32⟩
  | .local _ .smem, ⟨1, _⟩ => ⟨S10, .i32⟩
  | _, _ => ⟨S4x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_c_6 : Ref sig .tc := ⟨.hbm, 43, rfl⟩
abbrev main_call1_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_call2_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45_0 : Ref sig .tc := ⟨.hbm, 62, rfl⟩
abbrev main_v45_1 : Ref sig .tc := ⟨.hbm, 63, rfl⟩
abbrev main_v45_2 : Ref sig .tc := ⟨.hbm, 64, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 1, 10], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (v1 : BitVec 32) : Fin 3 → Nat :=
  let v60 : Index := Scalar.indexCast v1
  let c0_32 : Index := 0#32
  let c0_33 : Index := 0#32
  ![v60.toNat, 0, 0]
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off3 (v1 : BitVec 32) : Fin 3 → Nat :=
  let v107 : Index := Scalar.indexCast v1
  let c128_62 : Index := 128#32
  let c0_63 : Index := 0#32
  ![v107.toNat, 128, 0]
def k0_off4 (v1 : BitVec 32) : Fin 3 → Nat :=
  let v154 : Index := Scalar.indexCast v1
  let c256_93 : Index := 256#32
  let c0_94 : Index := 0#32
  ![v154.toNat, 256, 0]
def k0_off5 (v1 : BitVec 32) : Fin 3 → Nat :=
  let v201 : Index := Scalar.indexCast v1
  let c384_123 : Index := 384#32
  let c0_124 : Index := 0#32
  ![v201.toNat, 384, 0]
def k0_off6 (v1 : BitVec 32) : Fin 3 → Nat :=
  let v248 : Index := Scalar.indexCast v1
  let c512_154 : Index := 512#32
  let c0_155 : Index := 0#32
  ![v248.toNat, 512, 0]
def k0_off7 (v1 : BitVec 32) : Fin 3 → Nat :=
  let v295 : Index := Scalar.indexCast v1
  let c640_184 : Index := 640#32
  let c0_185 : Index := 0#32
  ![v295.toNat, 640, 0]
def k0_off8 (v1 : BitVec 32) : Fin 3 → Nat :=
  let v342 : Index := Scalar.indexCast v1
  let c768_215 : Index := 768#32
  let c0_216 : Index := 0#32
  ![v342.toNat, 768, 0]
def k0_off9 (v1 : BitVec 32) : Fin 3 → Nat :=
  let v389 : Index := Scalar.indexCast v1
  let c896_245 : Index := 896#32
  let c0_246 : Index := 0#32
  ![v389.toNat, 896, 0]
def k0_off10 (v1 : BitVec 32) : Fin 3 → Nat :=
  let v65 : Index := Scalar.indexCast v1
  let c0_33 : Index := 0#32
  let c0_34 : Index := 0#32
  ![v65.toNat, 0, 0]
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off11 (v1 : BitVec 32) : Fin 3 → Nat :=
  let v114 : Index := Scalar.indexCast v1
  let c128_64 : Index := 128#32
  let c0_65 : Index := 0#32
  ![v114.toNat, 128, 0]
def k0_off12 (v1 : BitVec 32) : Fin 3 → Nat :=
  let v163 : Index := Scalar.indexCast v1
  let c256_96 : Index := 256#32
  let c0_97 : Index := 0#32
  ![v163.toNat, 256, 0]
def k0_off13 (v1 : BitVec 32) : Fin 3 → Nat :=
  let v212 : Index := Scalar.indexCast v1
  let c384_127 : Index := 384#32
  let c0_128 : Index := 0#32
  ![v212.toNat, 384, 0]
def k0_off14 (v1 : BitVec 32) : Fin 3 → Nat :=
  let v261 : Index := Scalar.indexCast v1
  let c512_159 : Index := 512#32
  let c0_160 : Index := 0#32
  ![v261.toNat, 512, 0]
def k0_off15 (v1 : BitVec 32) : Fin 3 → Nat :=
  let v310 : Index := Scalar.indexCast v1
  let c640_190 : Index := 640#32
  let c0_191 : Index := 0#32
  ![v310.toNat, 640, 0]
def k0_off16 (v1 : BitVec 32) : Fin 3 → Nat :=
  let v359 : Index := Scalar.indexCast v1
  let c768_222 : Index := 768#32
  let c0_223 : Index := 0#32
  ![v359.toNat, 768, 0]
def k0_off17 (v1 : BitVec 32) : Fin 3 → Nat :=
  let v408 : Index := Scalar.indexCast v1
  let c896_253 : Index := 896#32
  let c0_254 : Index := 0#32
  ![v408.toNat, 896, 0]

def k0_chk1 (v1 : BitVec 32) (v3 : BitVec 32) : Prop :=
  (∀ (k0_h3 : k0_cond3 v1 v3 = 1#1), ∀ a, (k0_off2 v1) a + S1x128x512.size a ≤ S4x1024x512.size a) ∧
  (∀ (k0_h3 : k0_cond3 v1 v3 = 1#1), ∀ a, (k0_off3 v1) a + S1x128x512.size a ≤ S4x1024x512.size a) ∧
  (∀ (k0_h3 : k0_cond3 v1 v3 = 1#1), ∀ a, (k0_off4 v1) a + S1x128x512.size a ≤ S4x1024x512.size a) ∧
  (∀ (k0_h3 : k0_cond3 v1 v3 = 1#1), ∀ a, (k0_off5 v1) a + S1x128x512.size a ≤ S4x1024x512.size a) ∧
  (∀ (k0_h3 : k0_cond3 v1 v3 = 1#1), ∀ a, (k0_off6 v1) a + S1x128x512.size a ≤ S4x1024x512.size a) ∧
  (∀ (k0_h3 : k0_cond3 v1 v3 = 1#1), ∀ a, (k0_off7 v1) a + S1x128x512.size a ≤ S4x1024x512.size a) ∧
  (∀ (k0_h3 : k0_cond3 v1 v3 = 1#1), ∀ a, (k0_off8 v1) a + S1x128x512.size a ≤ S4x1024x512.size a) ∧
  (∀ (k0_h3 : k0_cond3 v1 v3 = 1#1), ∀ a, (k0_off9 v1) a + S1x128x512.size a ≤ S4x1024x512.size a) ∧
  (∀ (k0_h4 : k0_cond4 v1 v3 = 1#1), ∀ a, (k0_off10 v1) a + S1x128x512.size a ≤ S4x1024x512.size a) ∧
  (∀ (k0_h4 : k0_cond4 v1 v3 = 1#1), ∀ a, (k0_off11 v1) a + S1x128x512.size a ≤ S4x1024x512.size a) ∧
  (∀ (k0_h4 : k0_cond4 v1 v3 = 1#1), ∀ a, (k0_off12 v1) a + S1x128x512.size a ≤ S4x1024x512.size a) ∧
  (∀ (k0_h4 : k0_cond4 v1 v3 = 1#1), ∀ a, (k0_off13 v1) a + S1x128x512.size a ≤ S4x1024x512.size a) ∧
  (∀ (k0_h4 : k0_cond4 v1 v3 = 1#1), ∀ a, (k0_off14 v1) a + S1x128x512.size a ≤ S4x1024x512.size a) ∧
  (∀ (k0_h4 : k0_cond4 v1 v3 = 1#1), ∀ a, (k0_off15 v1) a + S1x128x512.size a ≤ S4x1024x512.size a) ∧
  (∀ (k0_h4 : k0_cond4 v1 v3 = 1#1), ∀ a, (k0_off16 v1) a + S1x128x512.size a ≤ S4x1024x512.size a) ∧
  (∀ (k0_h4 : k0_cond4 v1 v3 = 1#1), ∀ a, (k0_off17 v1) a + S1x128x512.size a ≤ S4x1024x512.size a)
theorem k0_off2_inb : ∀ (v1 : BitVec 32) (v3 : BitVec 32) (k0_hw1 : k0_chk1 v1 v3), ∀ (k0_h3 : k0_cond3 v1 v3 = 1#1), ∀ a, (k0_off2 v1) a + S1x128x512.size a ≤ S4x1024x512.size a := fun v1 v3 k0_hw1 k0_h3 => k0_hw1.1 k0_h3
theorem k0_off3_inb : ∀ (v1 : BitVec 32) (v3 : BitVec 32) (k0_hw1 : k0_chk1 v1 v3), ∀ (k0_h3 : k0_cond3 v1 v3 = 1#1), ∀ a, (k0_off3 v1) a + S1x128x512.size a ≤ S4x1024x512.size a := fun v1 v3 k0_hw1 k0_h3 => k0_hw1.2.1 k0_h3
theorem k0_off4_inb : ∀ (v1 : BitVec 32) (v3 : BitVec 32) (k0_hw1 : k0_chk1 v1 v3), ∀ (k0_h3 : k0_cond3 v1 v3 = 1#1), ∀ a, (k0_off4 v1) a + S1x128x512.size a ≤ S4x1024x512.size a := fun v1 v3 k0_hw1 k0_h3 => k0_hw1.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S1x128x512.size a ≤ S4x1024x512.size a := fun v1 v3 k0_hw1 k0_h3 => k0_hw1.2.2.2.1 k0_h3
theorem k0_off6_inb : ∀ (v1 : BitVec 32) (v3 : BitVec 32) (k0_hw1 : k0_chk1 v1 v3), ∀ (k0_h3 : k0_cond3 v1 v3 = 1#1), ∀ a, (k0_off6 v1) a + S1x128x512.size a ≤ S4x1024x512.size a := fun v1 v3 k0_hw1 k0_h3 => k0_hw1.2.2.2.2.1 k0_h3
theorem k0_off7_inb : ∀ (v1 : BitVec 32) (v3 : BitVec 32) (k0_hw1 : k0_chk1 v1 v3), ∀ (k0_h3 : k0_cond3 v1 v3 = 1#1), ∀ a, (k0_off7 v1) a + S1x128x512.size a ≤ S4x1024x512.size a := fun v1 v3 k0_hw1 k0_h3 => k0_hw1.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v1) a + S1x128x512.size a ≤ S4x1024x512.size a := fun v1 v3 k0_hw1 k0_h3 => k0_hw1.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v1) a + S1x128x512.size a ≤ S4x1024x512.size a := fun v1 v3 k0_hw1 k0_h3 => k0_hw1.2.2.2.2.2.2.2.1 k0_h3
theorem k0_off10_inb : ∀ (v1 : BitVec 32) (v3 : BitVec 32) (k0_hw1 : k0_chk1 v1 v3), ∀ (k0_h4 : k0_cond4 v1 v3 = 1#1), ∀ a, (k0_off10 v1) a + S1x128x512.size a ≤ S4x1024x512.size a := fun v1 v3 k0_hw1 k0_h4 => k0_hw1.2.2.2.2.2.2.2.2.1 k0_h4
theorem k0_off11_inb : ∀ (v1 : BitVec 32) (v3 : BitVec 32) (k0_hw1 : k0_chk1 v1 v3), ∀ (k0_h4 : k0_cond4 v1 v3 = 1#1), ∀ a, (k0_off11 v1) a + S1x128x512.size a ≤ S4x1024x512.size a := fun v1 v3 k0_hw1 k0_h4 => k0_hw1.2.2.2.2.2.2.2.2.2.1 k0_h4
theorem k0_off12_inb : ∀ (v1 : BitVec 32) (v3 : BitVec 32) (k0_hw1 : k0_chk1 v1 v3), ∀ (k0_h4 : k0_cond4 v1 v3 = 1#1), ∀ a, (k0_off12 v1) a + S1x128x512.size a ≤ S4x1024x512.size a := fun v1 v3 k0_hw1 k0_h4 => k0_hw1.2.2.2.2.2.2.2.2.2.2.1 k0_h4
theorem k0_off13_inb : ∀ (v1 : BitVec 32) (v3 : BitVec 32) (k0_hw1 : k0_chk1 v1 v3), ∀ (k0_h4 : k0_cond4 v1 v3 = 1#1), ∀ a, (k0_off13 v1) a + S1x128x512.size a ≤ S4x1024x512.size a := fun v1 v3 k0_hw1 k0_h4 => k0_hw1.2.2.2.2.2.2.2.2.2.2.2.1 k0_h4
theorem k0_off14_inb : ∀ (v1 : BitVec 32) (v3 : BitVec 32) (k0_hw1 : k0_chk1 v1 v3), ∀ (k0_h4 : k0_cond4 v1 v3 = 1#1), ∀ a, (k0_off14 v1) a + S1x128x512.size a ≤ S4x1024x512.size a := fun v1 v3 k0_hw1 k0_h4 => k0_hw1.2.2.2.2.2.2.2.2.2.2.2.2.1 k0_h4
theorem k0_off15_inb : ∀ (v1 : BitVec 32) (v3 : BitVec 32) (k0_hw1 : k0_chk1 v1 v3), ∀ (k0_h4 : k0_cond4 v1 v3 = 1#1), ∀ a, (k0_off15 v1) a + S1x128x512.size a ≤ S4x1024x512.size a := fun v1 v3 k0_hw1 k0_h4 => k0_hw1.2.2.2.2.2.2.2.2.2.2.2.2.2.1 k0_h4
theorem k0_off16_inb : ∀ (v1 : BitVec 32) (v3 : BitVec 32) (k0_hw1 : k0_chk1 v1 v3), ∀ (k0_h4 : k0_cond4 v1 v3 = 1#1), ∀ a, (k0_off16 v1) a + S1x128x512.size a ≤ S4x1024x512.size a := fun v1 v3 k0_hw1 k0_h4 => k0_hw1.2.2.2.2.2.2.2.2.2.2.2.2.2.2.1 k0_h4
theorem k0_off17_inb : ∀ (v1 : BitVec 32) (v3 : BitVec 32) (k0_hw1 : k0_chk1 v1 v3), ∀ (k0_h4 : k0_cond4 v1 v3 = 1#1), ∀ a, (k0_off17 v1) a + S1x128x512.size a ≤ S4x1024x512.size a := fun v1 v3 k0_hw1 k0_h4 => k0_hw1.2.2.2.2.2.2.2.2.2.2.2.2.2.2.2 k0_h4

def k0_cond6 (i : grid0.Coords) : BitVec 1 :=
  let arg2 : BitVec 32 := BitVec.ofNat 32 (i 2).val
  let c9_i32 : BitVec 32 := 9#32
  let v19 : BitVec 1 := Scalar.cmpi .eq arg2 c9_i32
  let v20 : BitVec 32 := Scalar.extui v19
  let c0_i32_5 : BitVec 32 := 0#32
  let v21 : BitVec 1 := Scalar.cmpi .ne v20 c0_i32_5
  v21

def k0_cond5 (v1 : BitVec 32) : BitVec 1 :=
  let c3_i32 : BitVec 32 := 3#32
  let v16 : BitVec 1 := Scalar.cmpi .eq v1 c3_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let c0_i32_0 : BitVec 32 := 0#32
  ![arg1.toNat, c0_i32.toNat, v3.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let c0_i32_0 : BitVec 32 := 0#32
  ![arg1.toNat, c0_i32.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  ![v3.toNat, arg1.toNat]

def cc0_transform_8 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== MlaIdeal.lean ====
variable {F : FTy → Type} [FloatOps F] [Named F]
def κ : String → Option EReal := fun
  | "mask" => some ⊥
  | "scale" => some (((Real.sqrt 96)⁻¹ : ℝ) : EReal)
  | "scale_log2e" => some (((Real.sqrt 96)⁻¹ * (Real.log 2)⁻¹ : ℝ) : EReal)
  | _ => none
-- ==== MlaRefIdeal.lean ====
abbrev S4x2048x8x96 : Shape := ⟨4, ![4, 2048, 8, 96]⟩
abbrev S4x2048x8x64 : Shape := ⟨4, ![4, 2048, 8, 64]⟩
abbrev S4x2048x512 : Shape := ⟨3, ![4, 2048, 512]⟩
abbrev S_ : Shape := ⟨0, ![]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x8x2048x96 : Shape := ⟨4, ![4, 8, 2048, 96]⟩
abbrev S4x2048x8x128 : Shape := ⟨4, ![4, 2048, 8, 128]⟩
abbrev S8192x1024 : Shape := ⟨2, ![8192, 1024]⟩
abbrev S8192x512 : Shape := ⟨2, ![8192, 512]⟩

abbrev nBuf : Space → Nat
  | .hbm => 100
  | .vmem => 0
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S4x2048x512, .f32⟩
  | .hbm, ⟨4, _⟩ => ⟨S_, .f32⟩
  | .hbm, ⟨5, _⟩ => ⟨S_, .f32⟩
  | .hbm, ⟨6, _⟩ => ⟨S4x8x2048x2048, .f32⟩
  | .hbm, ⟨7, _⟩ => ⟨S4x8x2048x2048, .f32⟩
  | .hbm, ⟨8, _⟩ => ⟨S4x8x2048x2048, .f32⟩
  | .hbm, ⟨9, _⟩ => ⟨S2048, .i32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S4x8x2048x2048, .i1⟩
  | .hbm, ⟨18, _⟩ => ⟨S4x8x2048x2048, .f32⟩
  | .hbm, ⟨19, _⟩ => ⟨S4x8x2048x2048, .f32⟩
  | .hbm, ⟨20, _⟩ => ⟨S_, .f32⟩
  | .hbm, ⟨21, _⟩ => ⟨S4x8x2048x2048, .f32⟩
  | .hbm, ⟨22, _⟩ => ⟨S_, .f32⟩
  | .hbm, ⟨23, _⟩ => ⟨S4x8x2048, .f32⟩
  | .hbm, ⟨24, _⟩ => ⟨S4x8x2048x1, .f32⟩
  | .hbm, ⟨25, _⟩ => ⟨S4x8x2048x2048, .f32⟩
  | .hbm, ⟨26, _⟩ => ⟨S4x8x2048x2048, .i1⟩
  | .hbm, ⟨27, _⟩ => ⟨S4x8x2048x2048, .f32⟩
  | .hbm, ⟨28, _⟩ => ⟨S_, .f32⟩
  | .hbm, ⟨29, _⟩ => ⟨S4x8x2048, .f32⟩
  | .hbm, ⟨30, _⟩ => ⟨S_, .f32⟩
  | .hbm, ⟨31, _⟩ => ⟨S4x8x2048, .f32⟩
  | .hbm, ⟨32, _⟩ => ⟨S4x8x2048, .f32⟩
  | .hbm, ⟨33, _⟩ => ⟨S_, .f32⟩
  | .hbm, ⟨34, _⟩ => ⟨S4x8x2048, .f32⟩
  | .hbm, ⟨35, _⟩ => ⟨S4x8x2048, .i1⟩
  | .hbm, ⟨36, _⟩ => ⟨S_, .f32⟩
  | .hbm, ⟨37, _⟩ => ⟨S4x8x2048, .f32⟩
  | .hbm, ⟨38, _⟩ => ⟨S4x8x2048, .i1⟩
  | .hbm, ⟨39, _⟩ => ⟨S_, .f32⟩
  | .hbm, ⟨40, _⟩ => ⟨S4x8x2048, .f32⟩
  | .hbm, ⟨41, _⟩ => ⟨S_, .f32⟩
  | .hbm, ⟨42, _⟩ => ⟨S4x8x2048, .f32⟩
  | .hbm, ⟨43, _⟩ => ⟨S_, .f32⟩
  | .hbm, ⟨44, _⟩ => ⟨S4x8x2048, .f32⟩
  | .hbm, ⟨45, _⟩ => ⟨S4x8x2048, .f32⟩
  | .hbm, ⟨46, _⟩ => ⟨S4x8x2048, .f32⟩
  | .hbm, ⟨47, _⟩ => ⟨S4x8x2048x1, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .f32⟩
  | .hbm, ⟨51, _⟩ => ⟨S_, .f32⟩
  | .hbm, ⟨52, _⟩ => ⟨S4x8x2048, .f32⟩
  | .hbm, ⟨53, _⟩ => ⟨S4x8x2048x1, .f32⟩
  | .hbm, ⟨54, _⟩ => ⟨S4x8x2048x2048, .f32⟩
  | .hbm, ⟨55, _⟩ => ⟨S4x8x2048x2048, .f32⟩
  | .hbm, ⟨56, _⟩ => ⟨S4x8x2048x1, .f32⟩
  | .hbm, ⟨57, _⟩ => ⟨S_, .f32⟩
  | .hbm, ⟨58, _⟩ => ⟨S4x8x2048x1, .f32⟩
  | .hbm, ⟨59, _⟩ => ⟨S4x8x2048x1, .f32⟩
  | .hbm, ⟨60, _⟩ => ⟨S4x8x64x2048, .f32⟩
  | .hbm, ⟨61, _⟩ => ⟨S4x2048x8x64, .f32⟩
  | .hbm, ⟨62, _⟩ => ⟨S4x2048x512, .f32⟩
  | .hbm, ⟨63, _⟩ => ⟨S4x2048x8x64, .f32⟩
  | .hbm, ⟨64, _⟩ => ⟨S4x8x64x2048, .f32⟩
  | .hbm, ⟨65, _⟩ => ⟨S4x8x2048x2048, .f32⟩
  | .hbm, ⟨66, _⟩ => ⟨S4x8x64x2048, .f32⟩
  | .hbm, ⟨67, _⟩ => ⟨S4x2048x8x64, .f32⟩
  | .hbm, ⟨68, _⟩ => ⟨S4x8x2048x2048, .f32⟩
  | .hbm, ⟨69, _⟩ => ⟨S4x8x2048x2048, .f32⟩
  | .hbm, ⟨70, _⟩ => ⟨S4x8x2048x2048, .f32⟩
  | .hbm, ⟨71, _⟩ => ⟨S_, .f32⟩
  | .hbm, ⟨72, _⟩ => ⟨S4x8x2048, .f32⟩
  | .hbm, ⟨73, _⟩ => ⟨S4x8x2048x1, .f32⟩
  | .hbm, ⟨74, _⟩ => ⟨S4x8x2048x1, .f32⟩
  | .hbm, ⟨75, _⟩ => ⟨S4x8x2048x2048, .f32⟩
  | .hbm, ⟨76, _⟩ => ⟨S4x8x2048x2048, .f32⟩
  | .hbm, ⟨77, _⟩ => ⟨S_, .f32⟩
  | .hbm, ⟨78, _⟩ => ⟨S4x8x2048, .f32⟩
  | .hbm, ⟨79, _⟩ => ⟨S4x8x2048x2048, .f32⟩
  | .hbm, ⟨80, _⟩ => ⟨S4x8x2048x2048, .f32⟩
  | .hbm, ⟨81, _⟩ => ⟨S4x8x2048x2048, .f32⟩
  | .hbm, ⟨82, _⟩ => ⟨S_, .f32⟩
  | .hbm, ⟨83, _⟩ => ⟨S4x8x2048x2048, .f32⟩
  | .hbm, ⟨84, _⟩ => ⟨S4x8x2048x2048, .f32⟩
  | .hbm, ⟨85, _⟩ => ⟨S4x8x2048x2048, .f32⟩
  | .hbm, ⟨86, _⟩ => ⟨S4x8x2048x2048, .f32⟩
  | .hbm, ⟨87, _⟩ => ⟨S4x8x2048x96, .f32⟩
  | .hbm, ⟨88, _⟩ => ⟨S4x2048x8x96, .f32⟩
  | .hbm, ⟨89, _⟩ => ⟨S4x8x2048x96, .f32⟩
  | .hbm, ⟨90, _⟩ => ⟨S4x2048x8x96, .f32⟩
  | .hbm, ⟨91, _⟩ => ⟨S_, .i32⟩
  | .hbm, ⟨92, _⟩ => ⟨S_, .f32⟩
  | .hbm, ⟨93, _⟩ => ⟨S4x2048x8x128, .f32⟩
  | .hbm, ⟨94, _⟩ => ⟨S8192x1024, .f32⟩
  | .hbm, ⟨95, _⟩ => ⟨S_, .i32⟩
  | .hbm, ⟨96, _⟩ => ⟨S_, .f32⟩
  | .hbm, ⟨97, _⟩ => ⟨S4x2048x8x128, .f32⟩
  | .hbm, ⟨98, _⟩ => ⟨S8192x1024, .f32⟩
  | .hbm, ⟨99, _⟩ => ⟨S8192x512, .f32⟩
  | _, _ => ⟨S4x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c : Ref sig .tc := ⟨.hbm, 91, rfl⟩
abbrev main_call2_v0 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_call3_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== Ple.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x8192x256 : Shape := ⟨3, ![1, 8192, 256]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S1x128 : Shape := ⟨2, ![1, 128]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩
abbrev S1 : Shape := ⟨1, ![1]⟩
abbrev S1x1 : Shape := ⟨2, ![1, 1]⟩

abbrev nBuf : Space → Nat
  | .hbm => 20
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8192x1024, .f32⟩
  | .hbm, ⟨7, _⟩ => ⟨S1x8192x256, .f32⟩
  | .hbm, ⟨8, _⟩ => ⟨S1x1x1024, .f32⟩
  | .hbm, ⟨9, _⟩ => ⟨S1024x1024, .bf16⟩
  | .hbm, ⟨10, _⟩ => ⟨S1x1024x1024, .bf16⟩
  | .hbm, ⟨11, _⟩ => ⟨S256x1024, .bf16⟩
  | .hbm, ⟨12, _⟩ => ⟨S1x256x1024, .bf16⟩
  | .hbm, ⟨13, _⟩ => ⟨S1x1024, .f32⟩
  | .hbm, ⟨14, _⟩ => ⟨S8192x1024, .f32⟩
  | .hbm, ⟨15, _⟩ => ⟨S1024x1024, .f32⟩
  | .hbm, ⟨16, _⟩ => ⟨S256x1024, .f32⟩
  | .hbm, ⟨17, _⟩ => ⟨S1x1024, .f32⟩
  | .hbm, ⟨18, _⟩ => ⟨S1x1024, .f32⟩
  | .hbm, ⟨19, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1x1024, .f32⟩
  | .local _ .vmem, ⟨5, _⟩ => ⟨S1x1024x1024, .bf16⟩
  | .local _ .vmem, ⟨6, _⟩ => ⟨S1x256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PleRefIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩
abbrev S1x128 : Shape := ⟨2, ![1, 128]⟩

abbrev nBuf : Space → Nat
  | .hbm => 148
  | .vmem => 0
  | .smem => 0
  | _ => 0

abbrev hbmTy0_0 (i : Nat) : BufTy := match i % 128 with
  | 0 => ⟨S8192x1024, .f32⟩
  | 1 => ⟨S8192x256, .f32⟩
  | 2 => ⟨S1024, .f32⟩
  | 3 => ⟨S1024x1024, .f32⟩
  | 4 => ⟨S256x1024, .f32⟩
  | 5 => ⟨S1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192, .f32⟩
  | 70 => ⟨S_, .f32⟩
  | 71 => ⟨S8192, .f32⟩
  | 72 => ⟨S8192, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S8192, .f32⟩
  | 81 => ⟨S_, .f32⟩
  | 82 => ⟨S8192, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S_, .f32⟩
  | 93 => ⟨S1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S1024x256, .f32⟩
  | 114 => ⟨S256x1024, .f32⟩
  | 115 => ⟨S8192x1024, .f32⟩
  | 116 => ⟨S1024x1024, .f32⟩
  | 117 => ⟨S1024x1024, .f32⟩
  | 118 => ⟨S8192x1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S8192x1024, .f32⟩
  | 125 => ⟨S_, .f32⟩
  | 126 => ⟨S1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1024, .f32⟩
  | 6 => ⟨S8192x1, .f32⟩
  | 7 => ⟨S_, .f32⟩
  | 8 => ⟨S8192x1, .f32⟩
  | 9 => ⟨S8192x1, .f32⟩
  | 10 => ⟨S_, .f32⟩
  | 11 => ⟨S8192, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S1x1024, .f32⟩
  | 18 => ⟨S1x1024, .f32⟩
  | 19 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_cst_15 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_21 : Ref sig .tc := ⟨.hbm, 101, rfl⟩
abbrev main_v72 : Ref sig .tc := ⟨.hbm, 102, rfl⟩
abbrev main_v73 : Ref sig .tc := ⟨.hbm, 103, rfl⟩
abbrev main_cst_22 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_23 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_24 : Ref sig .tc := ⟨.hbm, 125, rfl⟩
abbrev main_v93 : Ref sig .tc := ⟨.hbm, 126, rfl⟩
abbrev main_v94 : Ref sig .tc := ⟨.hbm, 127, rfl⟩
abbrev main_cst_25 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_26 : Ref sig .tc := ⟨.hbm, 135, rfl⟩
abbrev main_v101 : Ref sig .tc := ⟨.hbm, 136, rfl⟩
abbrev main_v102 : Ref sig .tc := ⟨.hbm, 137, rfl⟩
abbrev main_cst_27 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]
-- ==== Embed.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x256 : Shape := ⟨3, ![1, 8192, 256]⟩
abbrev S1x1x1024 : Shape := ⟨3, ![1, 1, 1024]⟩
abbrev S1x1024x1024 : Shape := ⟨3, ![1, 1024, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 42
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S8192x1024, .f32⟩
  | .hbm, ⟨33, _⟩ => ⟨S8192x1024, .bf16⟩
  | .hbm, ⟨34, _⟩ => ⟨S1x8192x256, .f32⟩
  | .hbm, ⟨35, _⟩ => ⟨S1x1x1024, .f32⟩
  | .hbm, ⟨36, _⟩ => ⟨S1024x1024, .bf16⟩
  | .hbm, ⟨37, _⟩ => ⟨S1x1024x1024, .bf16⟩
  | .hbm, ⟨38, _⟩ => ⟨S8192x1024, .f32⟩
  | .hbm, ⟨39, _⟩ => ⟨S1024x1024, .f32⟩
  | .hbm, ⟨40, _⟩ => ⟨S256x1024, .f32⟩
  | .hbm, ⟨41, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x512x256, .f32⟩
  | .local _ .vmem, ⟨9, _⟩ => ⟨S1x512x256, .f32⟩
  | .local _ .vmem, ⟨10, _⟩ => ⟨S1x1x1024, .f32⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S256x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== EmbedRefIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x256, .f32⟩
  | .hbm, ⟨46, _⟩ => ⟨S256x1024, .f32⟩
  | .hbm, ⟨47, _⟩ => ⟨S8192x1024, .f32⟩
  | .hbm, ⟨48, _⟩ => ⟨S1024x1024, .f32⟩
  | .hbm, ⟨49, _⟩ => ⟨S1024x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== EmbedFwd.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x8192x256 : Shape := ⟨3, ![1, 8192, 256]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S1x1024x256 : Shape := ⟨3, ![1, 1024, 256]⟩
abbrev S1024x1 : Shape := ⟨2, ![1024, 1]⟩
abbrev S1x1024 : Shape := ⟨2, ![1, 1024]⟩
abbrev S1024x256 : Shape := ⟨2, ![1024, 256]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1x8192x256, .f32⟩
  | .hbm, ⟨6, _⟩ => ⟨S1x1x1024, .f32⟩
  | .hbm, ⟨7, _⟩ => ⟨S1024x1024, .bf16⟩
  | .hbm, ⟨8, _⟩ => ⟨S1x1024x1024, .bf16⟩
  | .hbm, ⟨9, _⟩ => ⟨S256x1024, .bf16⟩
  | .hbm, ⟨10, _⟩ => ⟨S1x256x1024, .bf16⟩
  | .hbm, ⟨11, _⟩ => ⟨S8192x1024, .f32⟩
  | .hbm, ⟨12, _⟩ => ⟨S8192x1024, .bf16⟩
  | .hbm, ⟨13, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1x1024, .f32⟩
  | .local _ .vmem, ⟨5, _⟩ => ⟨S1x1024x1024, .bf16⟩
  | .local _ .vmem, ⟨6, _⟩ => ⟨S1x256x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EmbedFwdRefIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S8192x1024, .f32⟩
  | .hbm, ⟨60, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Input.lean ====
abbrev S8192x4352 : Shape := ⟨2, ![8192, 4352]⟩
abbrev S8192x1024 : Shape := ⟨2, ![8192, 1024]⟩
abbrev S1024 : Shape := ⟨1, ![1024]⟩
abbrev S1024x4352 : Shape := ⟨2, ![1024, 4352]⟩
abbrev S8192x512 : Shape := ⟨2, ![8192, 512]⟩
abbrev S8192x256 : Shape := ⟨2, ![8192, 256]⟩
abbrev S8192x128 : Shape := ⟨2, ![8192, 128]⟩
abbrev S1x1x1024 : Shape := ⟨3, ![1, 1, 1024]⟩
abbrev S1x1024x4352 : Shape := ⟨3, ![1, 1024, 4352]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512x4352 : Shape := ⟨2, ![512, 4352]⟩
abbrev S512 : Shape := ⟨1, ![512]⟩
abbrev S512x1 : Shape := ⟨2, ![512, 1]⟩

abbrev nBuf : Space → Nat
  | .hbm => 28
  | .vmem => 29
  | .smem => 0
  | _ => 0

abbrev bufTy : (tb : Table) → Fin (tcTables nBuf tb) → BufTy
  | .hbm, ⟨0, _⟩ => ⟨S8192x4352, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1024x4352, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x256, .f32⟩
  | .hbm, ⟨11, _⟩ => ⟨S8192x256, .f32⟩
  | .hbm, ⟨12, _⟩ => ⟨S8192x128, .f32⟩
  | .hbm, ⟨13, _⟩ => ⟨S8192x128, .f32⟩
  | .hbm, ⟨14, _⟩ => ⟨S8192x1024, .bf16⟩
  | .hbm, ⟨15, _⟩ => ⟨S8192x1024, .bf16⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8192x256, .bf16⟩
  | .hbm, ⟨20, _⟩ => ⟨S8192x128, .bf16⟩
  | .hbm, ⟨21, _⟩ => ⟨S8192x128, .bf16⟩
  | .hbm, ⟨22, _⟩ => ⟨S1x1x1024, .f32⟩
  | .hbm, ⟨23, _⟩ => ⟨S1024x4352, .bf16⟩
  | .hbm, ⟨24, _⟩ => ⟨S1x1024x4352, .bf16⟩
  | .hbm, ⟨25, _⟩ => ⟨S8192x1024, .f32⟩
  | .hbm, ⟨26, _⟩ => ⟨S8192x4352, .bf16⟩
  | .hbm, ⟨27, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x1024, .f32⟩
  | .local _ .vmem, ⟨19, _⟩ => ⟨S512x1024, .f32⟩
  | .local _ .vmem, ⟨20, _⟩ => ⟨S1x1x1024, .f32⟩
  | .local _ .vmem, ⟨21, _⟩ => ⟨S512x1024, .f32⟩
  | .local _ .vmem, ⟨22, _⟩ => ⟨S512x1024, .f32⟩
  | .local _ .vmem, ⟨23, _⟩ => ⟨S1x1024x4352, .bf16⟩
  | .local _ .vmem, ⟨24, _⟩ => ⟨S512x1024, .f32⟩
  | .local _ .vmem, ⟨25, _⟩ => ⟨S512x1024, .f32⟩
  | .local _ .vmem, ⟨26, _⟩ => ⟨S512x4352, .bf16⟩
  | .local _ .vmem, ⟨27, _⟩ => ⟨S512x4352, .bf16⟩
  | .local _ .vmem, ⟨28, _⟩ => ⟨S1x1024, .f32⟩
  | _, _ => ⟨S8192x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024x4352 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4352 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== InputRefIdeal.lean ====
abbrev S8192x4352 : Shape := ⟨2, ![8192, 4352]⟩
abbrev S8192x1024 : Shape := ⟨2, ![8192, 1024]⟩
abbrev S1024 : Shape := ⟨1, ![1024]⟩
abbrev S1024x4352 : Shape := ⟨2, ![1024, 4352]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4352, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1024x4352, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4352, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x4352, .bf16⟩
  | .hbm, ⟨54, _⟩ => ⟨S1x1024, .f32⟩
  | _, _ => ⟨S8192x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InputFwd.lean ====
abbrev S8192x1024 : Shape := ⟨2, ![8192, 1024]⟩
abbrev S1024 : Shape := ⟨1, ![1024]⟩
abbrev S1024x4352 : Shape := ⟨2, ![1024, 4352]⟩
abbrev S1x1x1024 : Shape := ⟨3, ![1, 1, 1024]⟩
abbrev S1x1024x4352 : Shape := ⟨3, ![1, 1024, 4352]⟩
abbrev S8192x4352 : Shape := ⟨2, ![8192, 4352]⟩
abbrev S512x1024 : Shape := ⟨2, ![512, 1024]⟩
abbrev S512x4352 : Shape := ⟨2, ![512, 4352]⟩
abbrev S512 : Shape := ⟨1, ![512]⟩
abbrev S512x1 : Shape := ⟨2, ![512, 1]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4352, .f32⟩
  | .hbm, ⟨3, _⟩ => ⟨S1x1x1024, .f32⟩
  | .hbm, ⟨4, _⟩ => ⟨S1024x4352, .bf16⟩
  | .hbm, ⟨5, _⟩ => ⟨S1x1024x4352, .bf16⟩
  | .hbm, ⟨6, _⟩ => ⟨S8192x4352, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x4352, .bf16⟩
  | .local _ .vmem, ⟨4, _⟩ => ⟨S512x4352, .bf16⟩
  | .local _ .vmem, ⟨5, _⟩ => ⟨S512x4352, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InputFwdRefIdeal.lean ====
abbrev S8192x1024 : Shape := ⟨2, ![8192, 1024]⟩
abbrev S1024 : Shape := ⟨1, ![1024]⟩
abbrev S1024x4352 : Shape := ⟨2, ![1024, 4352]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4352 : Shape := ⟨2, ![8192, 4352]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4352, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4352, .f32⟩
  | .hbm, ⟨20, _⟩ => ⟨S8192x4352, .bf16⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.MergeSpec.lean ====
/- The gated merge's backward pass as plain functions of rows and columns, and the kernel's stored blocks read as those
   functions of the blocks it loads. -/
module

public import proofs.«01_k».proof.Proof.Gen.MergeIdeal.Skeleton
public import Idealize.ShloMosaic.Lib.Pointwise

@[expose] public section

set_option maxRecDepth 16384

noncomputable section

open Idealize.ShloMosaic Idealize.ShloMosaic.TcCoe Idealize.SL.Sem

namespace MergeSpec

/-- A matrix of extended reals by row and column. -/
abbrev Mat (n k : Nat) := Fin n → Fin k → EReal

variable {n : Nat}

/-- The gated branch output: the attention output times the SiLU of its gate. -/
def gated (raw gate : Mat n 512) : Mat n 512 := fun r k => raw r k * (gate r k * Ideal.logistic (gate r k))
/-- The branch projected to the model width. -/
def proj (raw gate : Mat n 512) (w : Mat 512 1024) : Mat n 1024 := fun r j => ∑ k, gated raw gate r k * w k j
/-- The cotangent of the merged branches. -/
def dmerged (dx : Mat n 1024) (wo : Mat 1024 1024) : Mat n 1024 := fun r j => ∑ k, dx r k * wo j k
/-- The cotangent of one projected branch. -/
def dproj (dx : Mat n 1024) (wo : Mat 1024 1024) (mix : Mat n 1024) : Mat n 1024 :=
  fun r j => dmerged dx wo r j * Ideal.logistic (mix r j)
/-- The cotangent of one gated branch output. -/
def dgated (dx : Mat n 1024) (wo : Mat 1024 1024) (mix : Mat n 1024) (w : Mat 512 1024) : Mat n 512 :=
  fun r k => ∑ j, dproj dx wo mix r j * w k j
/-- The gradient of the attention output. -/
def draw (dx : Mat n 1024) (wo : Mat 1024 1024) (mix : Mat n 1024) (w : Mat 512 1024) (gate : Mat n 512) : Mat n 512 :=
  fun r k => dgated dx wo mix w r k * (gate r k * Ideal.logistic (gate r k))
/-- The gradient of the gate. -/
def dgate (dx : Mat n 1024) (wo : Mat 1024 1024) (mix : Mat n 1024) (w : Mat 512 1024) (raw gate : Mat n 512) : Mat n 512 :=
  fun r k => dgated dx wo mix w r k * raw r k
    * (Ideal.logistic (gate r k) * (1 + gate r k * (1 - Ideal.logistic (gate r k))))
/-- The gradient of the mixing logit of one branch. -/
def dmix (dx : Mat n 1024) (wo : Mat 1024 1024) (mix : Mat n 1024) (w : Mat 512 1024) (raw gate : Mat n 512) : Mat n 1024 :=
  fun r j => dmerged dx wo r j * proj raw gate w r j * Ideal.logistic (mix r j) * (1 - Ideal.logistic (mix r j))
/-- Per head, the row sum of the attention output times its gradient. -/
def dsum (dx : Mat n 1024) (wo : Mat 1024 1024) (mix : Mat n 1024) (w : Mat 512 1024) (raw gate : Mat n 512) : Mat 8 n :=
  fun h r => ∑ e : Fin 64, draw dx wo mix w gate r ⟨h.val * 64 + e.val, by omega⟩ * raw r ⟨h.val * 64 + e.val, by omega⟩
/-- The gradient of one branch's projection. -/
def dw (dx : Mat n 1024) (wo : Mat 1024 1024) (mix : Mat n 1024) (raw gate : Mat n 512) : Mat 512 1024 :=
  fun k j => ∑ r, gated raw gate r k * dproj dx wo mix r j
/-- The gradient of the output projection. -/
def dwo (dx : Mat n 1024) (mixa mixb : Mat n 1024) (wa wb : Mat 512 1024) (rawa gatea rawb gateb : Mat n 512) : Mat 1024 1024 :=
  fun i j => ∑ r, (Ideal.logistic (mixa r i) * proj rawa gatea wa r i + Ideal.logistic (mixb r i) * proj rawb gateb wb r i) * dx r j

/-- A finite product and a finite sum of finite products. -/
theorem fin_mul {x y : EReal} (hx : x ≠ ⊤ ∧ x ≠ ⊥) (hy : y ≠ ⊤ ∧ y ≠ ⊥) : x * y ≠ ⊤ ∧ x * y ≠ ⊥ := by
  lift x to ℝ using hx
  lift y to ℝ using hy
  exact ⟨EReal.coe_ne_top _, EReal.coe_ne_bot _⟩

theorem fin_sum {ι : Type} [Fintype ι] (f : ι → EReal) (h : ∀ i, f i ≠ ⊤ ∧ f i ≠ ⊥) : ∑ i, f i ≠ ⊤ ∧ ∑ i, f i ≠ ⊥ := by
  classical
  choose! g hg using fun i => (⟨(f i).toReal, EReal.coe_toReal (h i).1 (h i).2⟩ : ∃ r : ℝ, (r : EReal) = f i)
  rw [show (∑ i, f i) = ((∑ i, g i : ℝ) : EReal) by
    rw [Finset.sum_congr rfl fun i _ => (hg i).symm]
    exact (map_sum (⟨⟨Real.toEReal, EReal.coe_zero⟩, EReal.coe_add⟩ : ℝ →+ EReal) g Finset.univ).symm]
  exact ⟨EReal.coe_ne_top _, EReal.coe_ne_bot _⟩

/-- The logistic of any extended real is finite. -/
theorem fin_logistic (x : EReal) : Ideal.logistic x ≠ ⊤ ∧ Ideal.logistic x ≠ ⊥ := by
  induction x with
  | bot => simp
  | top => rw [Ideal.logistic_top]; exact ⟨EReal.coe_ne_top 1, EReal.coe_ne_bot 1⟩
  | coe g => rw [Ideal.logistic_coe]; exact ⟨EReal.coe_ne_top _, EReal.coe_ne_bot _⟩

/-- The derivative of the SiLU gate at a finite cotangent: the kernel's factored form and the sum of the two products. -/
theorem silu_bwd {o d g : EReal} (ho : o ≠ ⊤ ∧ o ≠ ⊥) (hd : d ≠ ⊤ ∧ d ≠ ⊥) :
    o * d * Ideal.logistic g + g * (o * d) * (Ideal.logistic g * (1 - Ideal.logistic g))
      = d * o * (Ideal.logistic g * (1 + g * (1 - Ideal.logistic g))) := by
  lift o to ℝ using ho
  lift d to ℝ using hd
  induction g with
  | bot => simp
  | top =>
    have h1 : (1 : EReal) - 1 = 0 := by rw [← EReal.coe_one, ← EReal.coe_sub, sub_self, EReal.coe_zero]
    simp [h1, mul_comm]
  | coe g =>
    rw [Ideal.logistic_coe]
    norm_cast
    ring

theorem dgated_fin (dx : Mat n 1024) (wo : Mat 1024 1024) (mix : Mat n 1024) (w : Mat 512 1024)
    (hx : ∀ r k, dx r k ≠ ⊤ ∧ dx r k ≠ ⊥) (ho : ∀ r k, wo r k ≠ ⊤ ∧ wo r k ≠ ⊥) (hw : ∀ r k, w r k ≠ ⊤ ∧ w r k ≠ ⊥)
    (r : Fin n) (k : Fin 512) : dgated dx wo mix w r k ≠ ⊤ ∧ dgated dx wo mix w r k ≠ ⊥ :=
  fin_sum _ fun j => fin_mul (fin_mul (fin_sum _ fun i => fin_mul (hx r i) (ho j i)) (fin_logistic _)) (hw k j)

end MergeSpec

namespace Cert.MergeIdeal.MergeValue

open Cert.MergeIdeal Cert.MergeIdeal.Gen MergeSpec

/-- A stored block as a matrix. -/
abbrev mat {n k : Nat} (v : (⟨2, ![n, k]⟩ : Shape).Idx → EReal) : Mat n k := fun a b => v (ix2 a b)
/-- A stored weight block (one leading axis of size one) as a matrix. -/
abbrev mat1 {n k : Nat} (v : (⟨3, ![1, n, k]⟩ : Shape).Idx → EReal) : Mat n k := fun a b => v (ix3 0 a b)

variable (x0 : FVec Ideal S512x1024 .f32) (o : FVec Ideal S512x512 .f32) (g : FVec Ideal S512x512 .bf16)
  (mx : FVec Ideal S512x1024 .bf16) (w : FVec Ideal S1x512x1024 .bf16) (wo : FVec Ideal S1x1024x1024 .bf16)
  (o' : FVec Ideal S512x512 .f32) (g' : FVec Ideal S512x512 .bf16)
  (mx' : FVec Ideal S512x1024 .bf16) (w' : FVec Ideal S1x512x1024 .bf16)

/-- The first branch's stored blocks. -/
theorem pay_draw_a (a b : Fin 512) :
    k0_pay28 (F := Ideal) (k0_pay9 g) (k0_pay24 (k0_pay6 x0) (k0_pay17 mx) wo) w (ix2 a b)
      = draw (mat x0) (mat1 wo) (mat mx) (mat1 w) (mat g) a b := by
  pointwise [k0_pay28, k0_pay27, k0_pay26, k0_pay24, k0_pay21, k0_pay17, k0_pay6, k0_pay9, k0_pay8, k0_pay7]
  rfl

theorem pay_dgate_a (a b : Fin 512) :
    k0_pay29 (F := Ideal) o (k0_pay7 g) (k0_pay8 g) (k0_pay24 (k0_pay6 x0) (k0_pay17 mx) wo) w (ix2 a b)
      = dgate (mat x0) (mat1 wo) (mat mx) (mat1 w) (mat o) (mat g) a b := by
  pointwise [k0_pay29, k0_pay26, k0_pay24, k0_pay21, k0_pay17, k0_pay6, k0_pay8, k0_pay7]
  rfl

theorem pay_dmix_a (a : Fin 512) (b : Fin 1024) :
    k0_pay22 (F := Ideal) (k0_pay6 x0) (k0_pay11 o g w) (k0_pay17 mx) wo (ix2 a b)
      = dmix (mat x0) (mat1 wo) (mat mx) (mat1 w) (mat o) (mat g) a b := by
  pointwise [k0_pay22, k0_pay21, k0_pay17, k0_pay11, k0_pay10, k0_pay6, k0_pay9, k0_pay8, k0_pay7]
  rfl

theorem pay_dsum_a (h : Fin 8) (a : Fin 512) :
    k0_pay30 (F := Ideal) o (k0_pay9 g) (k0_pay24 (k0_pay6 x0) (k0_pay17 mx) wo) w (ix2 h a)
      = dsum (mat x0) (mat1 wo) (mat mx) (mat1 w) (mat o) (mat g) h a := by
  pointwise [k0_pay30, k0_pay27, k0_pay26, k0_pay24, k0_pay21, k0_pay17, k0_pay6, k0_pay9, k0_pay8, k0_pay7]
  rfl

theorem pay_dw_a (z : FVec Ideal S512x1024 .f32) (k : Fin 512) (j : Fin 1024) :
    k0_pay25 (F := Ideal) (k0_pay6 x0) (k0_pay10 o g) (k0_pay17 mx) wo z (ix2 k j)
      = z (ix2 k j) + dw (mat x0) (mat1 wo) (mat mx) (mat o) (mat g) k j := by
  pointwise [k0_pay25, k0_pay24, k0_pay21, k0_pay17, k0_pay10, k0_pay6, k0_pay9, k0_pay8, k0_pay7]
  rfl

/-- The second branch's stored blocks. -/
theorem pay_draw_b (a b : Fin 512) :
    k0_pay35 (F := Ideal) (k0_pay14 g) (k0_pay19 (k0_pay18 mx)) (k0_pay21 (k0_pay6 x0) wo) w (ix2 a b)
      = draw (mat x0) (mat1 wo) (mat mx) (mat1 w) (mat g) a b := by
  pointwise [k0_pay35, k0_pay34, k0_pay33, k0_pay31, k0_pay21, k0_pay19, k0_pay18, k0_pay6, k0_pay14, k0_pay13, k0_pay12]
  rfl

theorem pay_dgate_b (a b : Fin 512) :
    k0_pay1 (F := Ideal) o (k0_pay12 g) (k0_pay13 g) (k0_pay33 (k0_pay19 (k0_pay18 mx)) (k0_pay21 (k0_pay6 x0) wo) w) (ix2 a b)
      = dgate (mat x0) (mat1 wo) (mat mx) (mat1 w) (mat o) (mat g) a b := by
  pointwise [k0_pay1, k0_pay33, k0_pay31, k0_pay21, k0_pay19, k0_pay18, k0_pay6, k0_pay13, k0_pay12]
  rfl

theorem pay_dmix_b (a : Fin 512) (b : Fin 1024) :
    k0_pay23 (F := Ideal) (k0_pay6 x0) (k0_pay16 o g w) (k0_pay18 mx) wo (ix2 a b)
      = dmix (mat x0) (mat1 wo) (mat mx) (mat1 w) (mat o) (mat g) a b := by
  pointwise [k0_pay23, k0_pay21, k0_pay19, k0_pay18, k0_pay16, k0_pay15, k0_pay6, k0_pay14, k0_pay13, k0_pay12]
  rfl

theorem pay_dsum_b (h : Fin 8) (a : Fin 512) :
    k0_pay2 (F := Ideal) o (k0_pay34 (k0_pay14 g) (k0_pay19 (k0_pay18 mx)) (k0_pay21 (k0_pay6 x0) wo) w) (ix2 h a)
      = dsum (mat x0) (mat1 wo) (mat mx) (mat1 w) (mat o) (mat g) h a := by
  pointwise [k0_pay2, k0_pay34, k0_pay33, k0_pay31, k0_pay21, k0_pay19, k0_pay18, k0_pay6, k0_pay14, k0_pay13, k0_pay12]
  rfl

theorem pay_dw_b (z : FVec Ideal S512x1024 .f32) (k : Fin 512) (j : Fin 1024) :
    k0_pay32 (F := Ideal) (k0_pay15 o g) (k0_pay19 (k0_pay18 mx)) (k0_pay21 (k0_pay6 x0) wo) z (ix2 k j)
      = z (ix2 k j) + dw (mat x0) (mat1 wo) (mat mx) (mat o) (mat g) k j := by
  pointwise [k0_pay32, k0_pay31, k0_pay21, k0_pay19, k0_pay18, k0_pay15, k0_pay6, k0_pay14, k0_pay13, k0_pay12]
  rfl

/-- The output projection's gradient block, added to what is there. -/
theorem pay_dwo (z : FVec Ideal S1024x1024 .f32) (k j : Fin 1024) :
    k0_pay20 (F := Ideal) (k0_pay6 x0) (k0_pay11 o g w) (k0_pay16 o' g' w') (k0_pay17 mx) (k0_pay18 mx') z (ix2 k j)
      = z (ix2 k j) + dwo (mat x0) (mat mx) (mat mx') (mat1 w) (mat1 w') (mat o) (mat g) (mat o') (mat g') k j := by
  pointwise [k0_pay20, k0_pay19, k0_pay18, k0_pay17, k0_pay16, k0_pay15, k0_pay14, k0_pay13, k0_pay12, k0_pay11, k0_pay10,
    k0_pay9, k0_pay8, k0_pay7, k0_pay6]
  rfl

/-- The three accumulators start from zero. -/
theorem pay_zero_a (i : S512x1024.Idx) : k0_pay3 (F := Ideal) i = 0 := by pointwise [k0_pay3]
theorem pay_zero_b (i : S512x1024.Idx) : k0_pay4 (F := Ideal) i = 0 := by pointwise [k0_pay4]
theorem pay_zero_o (i : S1024x1024.Idx) : k0_pay5 (F := Ideal) i = 0 := by pointwise [k0_pay5]

end Cert.MergeIdeal.MergeValue

end
-- ==== Proof.MergeRef.lean ====
/- The reference's results read as the merge's plain functions of the arguments. -/
module

public import proofs.«01_k».proof.Proof.MergeSpec
public import proofs.«01_k».proof.Proof.Gen.MergeRefIdeal.Read
public import Idealize.ShloMosaic.Lib.Pointwise

@[expose] public section

set_option maxRecDepth 16384

noncomputable section

open Idealize.ShloMosaic Idealize.ShloMosaic.TcCoe Idealize.SL.Sem

namespace Cert.MergeRefIdeal.MergeRef

open Cert.MergeRefIdeal Cert.MergeRefIdeal.Read MergeSpec

/-- Columns `off …` of the projected tokens. -/
abbrev cols (k off : Nat) (h : off + k ≤ 4256) (x3 : FVec Ideal S8192x4256 .f32) : Mat 8192 k :=
  fun r j => x3 (ix2 r ⟨off + j.val, by omega⟩)
abbrev mat {n k : Nat} (v : (⟨2, ![n, k]⟩ : Shape).Idx → EReal) : Mat n k := fun a b => v (ix2 a b)

variable (x0 : FVec Ideal S8192x1024 .f32) (x1 x2 : FVec Ideal S8192x512 .f32) (x3 : FVec Ideal S8192x4256 .f32)
  (x4 x5 : FVec Ideal S512x1024 .f32) (x6 : FVec Ideal S1024x1024 .f32)

/-- The gates' and the mixing logits' columns. -/
abbrev gate_a (x3 : FVec Ideal S8192x4256 .f32) : Mat 8192 512 := cols 512 768 (by omega) x3
abbrev gate_b (x3 : FVec Ideal S8192x4256 .f32) : Mat 8192 512 := cols 512 1696 (by omega) x3
abbrev mix_a (x3 : FVec Ideal S8192x4256 .f32) : Mat 8192 1024 := cols 1024 2208 (by omega) x3
abbrev mix_b (x3 : FVec Ideal S8192x4256 .f32) : Mat 8192 1024 := cols 1024 3232 (by omega) x3

theorem dmerged_at (r : Fin 8192) (j : Fin 1024) :
    val_main_v40 (F := Ideal) x0 x6 (ix2 r j) = dmerged (mat x0) (mat x6) r j := by
  pointwise [val_main_v40]
  rfl

/-! The first branch. -/

theorem gated_a (r : Fin 8192) (k : Fin 512) :
    val_main_v11 (F := Ideal) x1 x3 (ix2 r k) = gated (mat x1) (gate_a x3) r k := by
  pointwise [val_main_v11, val_main_v10_0, val_main_v10_2, val_main_call0_v4, val_main_call0_v3, val_main_call0_v2, val_main_call0_v1, val_main_call0_v0, val_main_call0_cst, val_main_call0_cst_0, val_main_v3]
  rfl

theorem proj_a (r : Fin 8192) (j : Fin 1024) :
    val_main_v23 (F := Ideal) x1 x3 x4 (ix2 r j) = proj (mat x1) (gate_a x3) (mat x4) r j := by
  pointwise [val_main_v23, gated_a]
  rfl

theorem mixed_a (r : Fin 8192) (j : Fin 1024) :
    val_main_v19 (F := Ideal) x3 (ix2 r j) = Ideal.logistic (mix_a x3 r j) := by
  pointwise [val_main_v19, val_main_v18, val_main_v17, val_main_v16, val_main_v15, val_main_v14, val_main_cst, val_main_cst_0, val_main_v8]
  rfl

theorem dproj_a (r : Fin 8192) (j : Fin 1024) :
    val_main_v47 (F := Ideal) x0 x3 x6 (ix2 r j) = dproj (mat x0) (mat x6) (mix_a x3) r j := by
  pointwise [val_main_v47, mixed_a, dmerged_at]
  exact mul_comm _ _

theorem dgated_a (r : Fin 8192) (k : Fin 512) :
    val_main_v51 (F := Ideal) x0 x3 x4 x6 (ix2 r k) = dgated (mat x0) (mat x6) (mix_a x3) (mat x4) r k := by
  pointwise [val_main_v51, dproj_a]
  rfl

theorem draw_a (r : Fin 8192) (k : Fin 512) :
    val_main_v57 (F := Ideal) x0 x3 x4 x6 (ix2 r k) = draw (mat x0) (mat x6) (mix_a x3) (mat x4) (gate_a x3) r k := by
  pointwise [val_main_v57, dgated_a, val_main_v10_0, val_main_v10_2, val_main_call0_v4, val_main_call0_v3, val_main_call0_v2, val_main_call0_v1, val_main_call0_v0, val_main_call0_cst, val_main_call0_cst_0, val_main_v3]
  rfl

theorem res_draw_a (r : Fin 8192) (k : Fin 512) :
    val_main_v59 (F := Ideal) x0 x3 x4 x6 (ix2 r k) = draw (mat x0) (mat x6) (mix_a x3) (mat x4) (gate_a x3) r k := by
  pointwise [val_main_v59, draw_a]

theorem res_dmix_a (r : Fin 8192) (j : Fin 1024) :
    val_main_v63 (F := Ideal) x0 x1 x3 x4 x6 (ix2 r j)
      = dmix (mat x0) (mat x6) (mix_a x3) (mat x4) (mat x1) (gate_a x3) r j := by
  pointwise [val_main_v63, val_main_v52, val_main_v48, val_main_v22, val_main_v21, val_main_v20, val_main_cst_1, proj_a, mixed_a, dmerged_at]
  exact (mul_assoc _ _ _).symm

theorem res_dsum_a (h : Fin 8) (r : Fin 8192) :
    val_main_v68 (F := Ideal) x0 x1 x3 x4 x6 (ix2 h r)
      = dsum (mat x0) (mat x6) (mix_a x3) (mat x4) (mat x1) (gate_a x3) h r := by
  pointwise [val_main_v68, val_main_v67, val_main_v66, val_main_v65, val_main_cst_5, draw_a]
  rfl

theorem res_dw_a (k : Fin 512) (j : Fin 1024) :
    val_main_v50 (F := Ideal) x0 x1 x3 x6 (ix2 k j) = dw (mat x0) (mat x6) (mix_a x3) (mat x1) (gate_a x3) k j := by
  pointwise [val_main_v50, val_main_v49, gated_a, dproj_a]
  exact Finset.sum_congr rfl fun r _ => mul_comm _ _

theorem res_dgate_a (h0 : ∀ i, x0 i ≠ ⊤ ∧ x0 i ≠ ⊥) (h : ∀ i, x1 i ≠ ⊤ ∧ x1 i ≠ ⊥)
    (hw : ∀ i, x4 i ≠ ⊤ ∧ x4 i ≠ ⊥) (h6 : ∀ i, x6 i ≠ ⊤ ∧ x6 i ≠ ⊥) (r : Fin 8192) (k : Fin 512) :
    val_main_v61 (F := Ideal) x0 x1 x3 x4 x6 (ix2 r k)
      = dgate (mat x0) (mat x6) (mix_a x3) (mat x4) (mat x1) (gate_a x3) r k := by
  pointwise [val_main_v61, val_main_v58, val_main_call3_v2, val_main_call3_v1, val_main_call3_v0, val_main_v56, val_main_v10_1, val_main_call0_v7, val_main_call0_v6, val_main_call0_cst_1, dgated_a, val_main_v10_2, val_main_call0_v4, val_main_call0_v3, val_main_call0_v2, val_main_call0_v1, val_main_call0_v0, val_main_call0_cst, val_main_call0_cst_0, val_main_v3]
  exact silu_bwd (h _) (dgated_fin _ _ _ _ (fun _ _ => h0 _) (fun _ _ => h6 _) (fun _ _ => hw _) r k)

/-! The second branch. -/

theorem gated_b (r : Fin 8192) (k : Fin 512) :
    val_main_v13 (F := Ideal) x2 x3 (ix2 r k) = gated (mat x2) (gate_b x3) r k := by
  pointwise [val_main_v13, val_main_v12_0, val_main_v12_2, val_main_call1_v4, val_main_call1_v3, val_main_call1_v2, val_main_call1_v1, val_main_call1_v0, val_main_call1_cst, val_main_call1_cst_0, val_main_v7]
  rfl

theorem proj_b (r : Fin 8192) (j : Fin 1024) :
    val_main_v34 (F := Ideal) x2 x3 x5 (ix2 r j) = proj (mat x2) (gate_b x3) (mat x5) r j := by
  pointwise [val_main_v34, gated_b]
  rfl

theorem mixed_b (r : Fin 8192) (j : Fin 1024) :
    val_main_v30 (F := Ideal) x3 (ix2 r j) = Ideal.logistic (mix_b x3 r j) := by
  pointwise [val_main_v30, val_main_v29, val_main_v28, val_main_v27, val_main_v26, val_main_v25, val_main_cst_2, val_main_cst_3, val_main_v9]
  rfl

theorem dproj_b (r : Fin 8192) (j : Fin 1024) :
    val_main_v41 (F := Ideal) x0 x3 x6 (ix2 r j) = dproj (mat x0) (mat x6) (mix_b x3) r j := by
  pointwise [val_main_v41, mixed_b, dmerged_at]
  exact mul_comm _ _

theorem dgated_b (r : Fin 8192) (k : Fin 512) :
    val_main_v45 (F := Ideal) x0 x3 x5 x6 (ix2 r k) = dgated (mat x0) (mat x6) (mix_b x3) (mat x5) r k := by
  pointwise [val_main_v45, dproj_b]
  rfl

theorem draw_b (r : Fin 8192) (k : Fin 512) :
    val_main_v54 (F := Ideal) x0 x3 x5 x6 (ix2 r k) = draw (mat x0) (mat x6) (mix_b x3) (mat x5) (gate_b x3) r k := by
  pointwise [val_main_v54, dgated_b, val_main_v12_0, val_main_v12_2, val_main_call1_v4, val_main_call1_v3, val_main_call1_v2, val_main_call1_v1, val_main_call1_v0, val_main_call1_cst, val_main_call1_cst_0, val_main_v7]
  rfl

theorem res_draw_b (r : Fin 8192) (k : Fin 512) :
    val_main_v60 (F := Ideal) x0 x3 x5 x6 (ix2 r k) = draw (mat x0) (mat x6) (mix_b x3) (mat x5) (gate_b x3) r k := by
  pointwise [val_main_v60, draw_b]

theorem res_dmix_b (r : Fin 8192) (j : Fin 1024) :
    val_main_v64 (F := Ideal) x0 x2 x3 x5 x6 (ix2 r j)
      = dmix (mat x0) (mat x6) (mix_b x3) (mat x5) (mat x2) (gate_b x3) r j := by
  pointwise [val_main_v64, val_main_v46, val_main_v42, val_main_v33, val_main_v32, val_main_v31, val_main_cst_4, proj_b, mixed_b, dmerged_at]
  exact (mul_assoc _ _ _).symm

theorem res_dsum_b (h : Fin 8) (r : Fin 8192) :
    val_main_v72 (F := Ideal) x0 x2 x3 x5 x6 (ix2 h r)
      = dsum (mat x0) (mat x6) (mix_b x3) (mat x5) (mat x2) (gate_b x3) h r := by
  pointwise [val_main_v72, val_main_v71, val_main_v70, val_main_v69, val_main_cst_6, draw_b]
  rfl

theorem res_dw_b (k : Fin 512) (j : Fin 1024) :
    val_main_v44 (F := Ideal) x0 x2 x3 x6 (ix2 k j) = dw (mat x0) (mat x6) (mix_b x3) (mat x2) (gate_b x3) k j := by
  pointwise [val_main_v44, val_main_v43, gated_b, dproj_b]
  exact Finset.sum_congr rfl fun r _ => mul_comm _ _

theorem res_dgate_b (h0 : ∀ i, x0 i ≠ ⊤ ∧ x0 i ≠ ⊥) (h : ∀ i, x2 i ≠ ⊤ ∧ x2 i ≠ ⊥)
    (hw : ∀ i, x5 i ≠ ⊤ ∧ x5 i ≠ ⊥) (h6 : ∀ i, x6 i ≠ ⊤ ∧ x6 i ≠ ⊥) (r : Fin 8192) (k : Fin 512) :
    val_main_v62 (F := Ideal) x0 x2 x3 x5 x6 (ix2 r k)
      = dgate (mat x0) (mat x6) (mix_b x3) (mat x5) (mat x2) (gate_b x3) r k := by
  pointwise [val_main_v62, val_main_v55, val_main_call2_v2, val_main_call2_v1, val_main_call2_v0, val_main_v53, val_main_v12_1, val_main_call1_v7, val_main_call1_v6, val_main_call1_cst_1, dgated_b, val_main_v12_2, val_main_call1_v4, val_main_call1_v3, val_main_call1_v2, val_main_call1_v1, val_main_call1_v0, val_main_call1_cst, val_main_call1_cst_0, val_main_v7]
  exact silu_bwd (h _) (dgated_fin _ _ _ _ (fun _ _ => h0 _) (fun _ _ => h6 _) (fun _ _ => hw _) r k)

theorem res_dwo (i j : Fin 1024) :
    val_main_v39 (F := Ideal) x0 x1 x2 x3 x4 x5 (ix2 i j)
      = dwo (mat x0) (mix_a x3) (mix_b x3) (mat x4) (mat x5) (mat x1) (gate_a x3) (mat x2) (gate_b x3) i j := by
  pointwise [val_main_v39, val_main_v38, val_main_v36, val_main_v35, val_main_v24, mixed_a, mixed_b, proj_a, proj_b]
  exact Finset.sum_congr rfl fun r _ => mul_comm _ _

end Cert.MergeRefIdeal.MergeRef

end
-- ==== Proof.MergeValue.lean ====
/- The merge's backward kernel at extended reals: every result array as the merge's plain functions of the arguments. -/
module

public import proofs.«01_k».proof.Proof.MergeRef
public import proofs.«01_k».proof.Proof.Gen.MergeIdeal.Value
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeIdeal.MergeValue

open Cert.MergeIdeal Cert.MergeIdeal.Gen MergeSpec

variable (m : (ℓ : Loc nD τ sig) → Buf (Elt Ideal) ℓ) (c : Dev nD)

/-- Every window's block index at every grid point. -/
theorem idx : ∀ t : Fin cfg0.N, win0_0.index t = ![t.val, 0] ∧ win0_1.index t = ![t.val, 0] ∧ win0_2.index t = ![t.val, 0]
    ∧ win0_3.index t = ![t.val, 5] ∧ win0_4.index t = ![t.val, 6] ∧ win0_5.index t = ![t.val, 0] ∧ win0_6.index t = ![t.val, 1]
    ∧ win0_7.index t = ![0, 0, 0] ∧ win0_8.index t = ![0, 0, 0] ∧ win0_9.index t = ![0, 0, 0]
    ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0]
    ∧ win0_16.index t = ![0, t.val] ∧ win0_17.index t = ![0, t.val]
    ∧ win0_18.index t = ![0, 0] ∧ win0_19.index t = ![0, 0] ∧ win0_20.index t = ![0, 0] :=
  (by decide +kernel : ∀ t : Fin grid0.N, _)

/-- Row `a` of the block of tokens point `t` works on. -/
abbrev row (t : Fin cfg0.N) (a : Fin 512) : Fin 8192 := ⟨t.val * 512 + a.val, by have := lt_of_lt_of_eq t.isLt N_0; omega⟩

abbrev A0 : FVec Ideal S8192x1024 .f32 := m ((c : Thread nD τ).loc main_arg0)
abbrev A1 : FVec Ideal S8192x512 .f32 := m ((c : Thread nD τ).loc main_arg1)
abbrev A2 : FVec Ideal S8192x512 .f32 := m ((c : Thread nD τ).loc main_arg2)
abbrev A3 : FVec Ideal S8192x4256 .f32 := m ((c : Thread nD τ).loc main_arg3)
abbrev A4 : FVec Ideal S512x1024 .f32 := m ((c : Thread nD τ).loc main_arg4)
abbrev A5 : FVec Ideal S512x1024 .f32 := m ((c : Thread nD τ).loc main_arg5)
abbrev A6 : FVec Ideal S1024x1024 .f32 := m ((c : Thread nD τ).loc main_arg6)

theorem read_0 (t : Fin cfg0.N) (a : Fin 512) (b : Fin 1024) : iblk m c 0 t (ix2 a b) = A0 m c (ix2 (row t a) b) := by
  blk_point [iblk, V, idx t]

/-- A concatenation of column groups read in one of them. -/
theorem cat_cols {α : Type} {n w k' : Nat} (xs : List ((s : Shape) × (s.Idx → α)))
    (h : Shape.Concatenates (xs.map (·.1)) (⟨2, ![n, w]⟩ : Shape) 1) (k : Nat) (hk : k < xs.length)
    (x₁ : (⟨2, ![n, k']⟩ : Shape).Idx → α) (hxk : xs[k] = ⟨⟨2, ![n, k']⟩, x₁⟩) (pre : Nat)
    (hpre : (((xs.take k).map (·.1)).map fun s => if h : s.rank = (⟨2, ![n, w]⟩ : Shape).rank then s.size ((1 : Fin 2).cast h.symm) else 0).sum = pre)
    (r : Fin n) (b : Fin k') (hb : pre + b.val < w) :
    concatenate (⟨2, ![n, w]⟩ : Shape) 1 xs h (ix2 r ⟨pre + b.val, hb⟩) = x₁ (ix2 r b) :=
  concatenate_apply_piece 1 xs h _ k hk _ x₁ hxk rfl pre hpre (ix2 r b)
    (fun d hd => match d, hd with | ⟨0, _⟩, _ => rfl | ⟨1, _⟩, hd => absurd rfl hd) rfl

/-! The weights as the kernel loads them, and its column order read at the four column groups its pipeline loads. -/

theorem entry_w0 (a : Fin 512) (b : Fin 1024) : V m c main_v14 (ix3 0 a b) = A4 m c (ix2 a b) := by
  unfold V
  simp only [hostOps0, hostOps0_1, hostOps0_2, List.flatten_cons, List.flatten_nil, List.cons_append, List.nil_append, List.append_nil]
  entry_read
  pointwise

theorem entry_w1 (a : Fin 512) (b : Fin 1024) : V m c main_v16 (ix3 0 a b) = A5 m c (ix2 a b) := by
  unfold V
  simp only [hostOps0, hostOps0_1, hostOps0_2, List.flatten_cons, List.flatten_nil, List.cons_append, List.nil_append, List.append_nil]
  entry_read
  pointwise

theorem entry_w2 (a : Fin 1024) (b : Fin 1024) : V m c main_v18 (ix3 0 a b) = A6 m c (ix2 a b) := by
  unfold V
  simp only [hostOps0, hostOps0_1, hostOps0_2, List.flatten_cons, List.flatten_nil, List.cons_append, List.nil_append, List.append_nil]
  entry_read
  pointwise

theorem entry_z3 (r : Fin 8192) (b : Fin 512) :
    V m c main_v12 (ix2 r ⟨2560 + b.val, by omega⟩) = A3 m c (ix2 r ⟨768 + b.val, by omega⟩) := by
  unfold V
  simp only [hostOps0, hostOps0_1, hostOps0_2, List.flatten_cons, List.flatten_nil, List.cons_append, List.nil_append, List.append_nil]
  after_reads_simp
  rw [truncf_apply]
  refine (cat_cols _ _ 3 (show _ < 10 by decide) _ rfl 2560 rfl r b _).trans ?_
  dsimp only [Matrix.cons_val]
  after_reads_at

theorem entry_z4 (r : Fin 8192) (b : Fin 512) :
    V m c main_v12 (ix2 r ⟨3072 + b.val, by omega⟩) = A3 m c (ix2 r ⟨1696 + b.val, by omega⟩) := by
  unfold V
  simp only [hostOps0, hostOps0_1, hostOps0_2, List.flatten_cons, List.flatten_nil, List.cons_append, List.nil_append, List.append_nil]
  after_reads_simp
  rw [truncf_apply]
  refine (cat_cols _ _ 4 (show _ < 10 by decide) _ rfl 3072 rfl r b _).trans ?_
  dsimp only [Matrix.cons_val]
  after_reads_at

theorem entry_z5 (r : Fin 8192) (b : Fin 1024) :
    V m c main_v12 (ix2 r ⟨0 + b.val, by omega⟩) = A3 m c (ix2 r ⟨2208 + b.val, by omega⟩) := by
  unfold V
  simp only [hostOps0, hostOps0_1, hostOps0_2, List.flatten_cons, List.flatten_nil, List.cons_append, List.nil_append, List.append_nil]
  after_reads_simp
  rw [truncf_apply]
  refine (cat_cols _ _ 0 (show _ < 10 by decide) _ rfl 0 rfl r b _).trans ?_
  dsimp only [Matrix.cons_val]
  after_reads_at

theorem entry_z6 (r : Fin 8192) (b : Fin 1024) :
    V m c main_v12 (ix2 r ⟨1024 + b.val, by omega⟩) = A3 m c (ix2 r ⟨3232 + b.val, by omega⟩) := by
  unfold V
  simp only [hostOps0, hostOps0_1, hostOps0_2, List.flatten_cons, List.flatten_nil, List.cons_append, List.nil_append, List.append_nil]
  after_reads_simp
  rw [truncf_apply]
  refine (cat_cols _ _ 1 (show _ < 10 by decide) _ rfl 1024 rfl r b _).trans ?_
  dsimp only [Matrix.cons_val]
  after_reads_at

/-! The blocks a grid point loads, as matrices of the arguments' rows. -/

theorem mat_0 (t : Fin cfg0.N) : mat (n := 512) (k := 1024) (iblk m c 0 t) = fun a b => A0 m c (ix2 (row t a) b) := by
  funext a b
  dsimp only [mat]
  blk_point [iblk, V, idx t]

theorem mat_1 (t : Fin cfg0.N) : mat (n := 512) (k := 512) (iblk m c 1 t) = fun a b => A1 m c (ix2 (row t a) b) := by
  funext a b
  dsimp only [mat]
  blk_point [iblk, V, idx t]

theorem mat_2 (t : Fin cfg0.N) : mat (n := 512) (k := 512) (iblk m c 2 t) = fun a b => A2 m c (ix2 (row t a) b) := by
  funext a b
  dsimp only [mat]
  blk_point [iblk, V, idx t]

theorem mat_3 (t : Fin cfg0.N) :
    mat (n := 512) (k := 512) (X0_3 m c t) = fun a b => A3 m c (ix2 (row t a) ⟨768 + b.val, by omega⟩) := by
  funext a b
  unfold mat X0_3 Pipeline.Window.fill
  rw [dif_pos (moved0_3 t _)]
  refine Eq.trans (congrArg (V m c main_v12) ?_) (entry_z3 m c (row t a) b)
  blk_ext [idx t]

theorem mat_4 (t : Fin cfg0.N) :
    mat (n := 512) (k := 512) (X0_4 m c t) = fun a b => A3 m c (ix2 (row t a) ⟨1696 + b.val, by omega⟩) := by
  funext a b
  unfold mat X0_4 Pipeline.Window.fill
  rw [dif_pos (moved0_4 t _)]
  refine Eq.trans (congrArg (V m c main_v12) ?_) (entry_z4 m c (row t a) b)
  blk_ext [idx t]

theorem mat_5 (t : Fin cfg0.N) :
    mat (n := 512) (k := 1024) (X0_5 m c t) = fun a b => A3 m c (ix2 (row t a) ⟨2208 + b.val, by omega⟩) := by
  funext a b
  unfold mat X0_5 Pipeline.Window.fill
  rw [dif_pos (moved0_5 t _)]
  refine Eq.trans (congrArg (V m c main_v12) ?_) (entry_z5 m c (row t a) b)
  blk_ext [idx t]

theorem mat_6 (t : Fin cfg0.N) :
    mat (n := 512) (k := 1024) (X0_6 m c t) = fun a b => A3 m c (ix2 (row t a) ⟨3232 + b.val, by omega⟩) := by
  funext a b
  unfold mat X0_6 Pipeline.Window.fill
  rw [dif_pos (moved0_6 t _)]
  refine Eq.trans (congrArg (V m c main_v12) ?_) (entry_z6 m c (row t a) b)
  blk_ext [idx t]

theorem mat_7 (t : Fin cfg0.N) : mat1 (n := 512) (k := 1024) (iblk m c 7 t) = mat (A4 m c) := by
  funext a b
  refine Eq.trans (congrArg (V m c main_v14) ?_) (entry_w0 m c a b)
  blk_ext [idx t]

theorem mat_8 (t : Fin cfg0.N) : mat1 (n := 512) (k := 1024) (iblk m c 8 t) = mat (A5 m c) := by
  funext a b
  refine Eq.trans (congrArg (V m c main_v16) ?_) (entry_w1 m c a b)
  blk_ext [idx t]

theorem mat_9 (t : Fin cfg0.N) : mat1 (n := 1024) (k := 1024) (iblk m c 9 t) = mat (A6 m c) := by
  funext a b
  refine Eq.trans (congrArg (V m c main_v18) ?_) (entry_w2 m c a b)
  blk_ext [idx t]

end Cert.MergeIdeal.MergeValue

end
-- ==== Proof.MergeTiles.lean ====
/- The merge's backward kernel at extended reals: the result arrays whose blocks follow the tokens. -/
module

public import proofs.«01_k».proof.Proof.MergeValue

@[expose] public section

set_option maxRecDepth 16384

noncomputable section

open Idealize.ShloMosaic Idealize.ShloMosaic.TcCoe Idealize.SL.Sem
open Idealize.ShloMosaic.Pipeline (Dat)

namespace Cert.MergeIdeal.MergeValue

open Cert.MergeIdeal Cert.MergeIdeal.Gen MergeSpec

variable (m : (ℓ : Loc nD τ sig) → Buf (Elt Ideal) ℓ) (c : Dev nD)

/-! The result arrays whose blocks follow the tokens. -/

open Cert.MergeRefIdeal.MergeRef (gate_a gate_b mix_a mix_b)

theorem emb_10 (t : Fin cfg0.N) (a : Fin 512) (b : Fin 512) :
    (win0_10.blk t).view.emb (ix2 a b) = (ix2 (row t a) b : S8192x512.Idx) := by
  blk_ext [idx t]

theorem final_10 : (dats m 0 c).arrAt 10 (cfgs 0).N = fun i : S8192x512.Idx => draw (mat (A0 m c)) (mat (A6 m c)) (mix_a (A3 m c)) (mat (A4 m c)) (gate_a (A3 m c)) (i 0) (i 1) := by
  refine (dats m 0 c).arrAt_eq_of_covers 10 _ (by decide +kernel) fun t hf y => ?_
  blk_simp
  rw [after0_10]
  obtain ⟨a, b, rfl⟩ : ∃ (a : Fin 512) (b : Fin 512), y = ix2 a b := ⟨y 0, y 1, eq_ix2 y⟩
  rw [emb_10]
  by_cases h : t.val % 16 = 0
  · rw [outsAt0_A m c t h]
    dsimp only
    frame_out
    rw [pay_draw_a, mat_0, mat_5, mat_7, mat_3, mat_9]
    rfl
  · rw [outsAt0_B m c t h]
    dsimp only
    frame_out
    rw [pay_draw_a, mat_0, mat_5, mat_7, mat_3, mat_9]
    rfl

theorem emb_11 (t : Fin cfg0.N) (a : Fin 512) (b : Fin 512) :
    (win0_11.blk t).view.emb (ix2 a b) = (ix2 (row t a) b : S8192x512.Idx) := by
  blk_ext [idx t]

theorem final_11 : (dats m 0 c).arrAt 11 (cfgs 0).N = fun i : S8192x512.Idx => draw (mat (A0 m c)) (mat (A6 m c)) (mix_b (A3 m c)) (mat (A5 m c)) (gate_b (A3 m c)) (i 0) (i 1) := by
  refine (dats m 0 c).arrAt_eq_of_covers 11 _ (by decide +kernel) fun t hf y => ?_
  blk_simp
  rw [after0_11]
  obtain ⟨a, b, rfl⟩ : ∃ (a : Fin 512) (b : Fin 512), y = ix2 a b := ⟨y 0, y 1, eq_ix2 y⟩
  rw [emb_11]
  by_cases h : t.val % 16 = 0
  · rw [outsAt0_A m c t h]
    dsimp only
    frame_out
    rw [pay_draw_b, mat_0, mat_6, mat_8, mat_4, mat_9]
    rfl
  · rw [outsAt0_B m c t h]
    dsimp only
    frame_out
    rw [pay_draw_b, mat_0, mat_6, mat_8, mat_4, mat_9]
    rfl

theorem emb_12 (t : Fin cfg0.N) (a : Fin 512) (b : Fin 512) :
    (win0_12.blk t).view.emb (ix2 a b) = (ix2 (row t a) b : S8192x512.Idx) := by
  blk_ext [idx t]

theorem final_12 : (dats m 0 c).arrAt 12 (cfgs 0).N = fun i : S8192x512.Idx => dgate (mat (A0 m c)) (mat (A6 m c)) (mix_a (A3 m c)) (mat (A4 m c)) (mat (A1 m c)) (gate_a (A3 m c)) (i 0) (i 1) := by
  refine (dats m 0 c).arrAt_eq_of_covers 12 _ (by decide +kernel) fun t hf y => ?_
  blk_simp
  rw [after0_12]
  obtain ⟨a, b, rfl⟩ : ∃ (a : Fin 512) (b : Fin 512), y = ix2 a b := ⟨y 0, y 1, eq_ix2 y⟩
  rw [emb_12]
  by_cases h : t.val % 16 = 0
  · rw [outsAt0_A m c t h]
    dsimp only
    frame_out
    rw [pay_dgate_a, mat_0, mat_5, mat_7, mat_3, mat_9, mat_1]
    rfl
  · rw [outsAt0_B m c t h]
    dsimp only
    frame_out
    rw [pay_dgate_a, mat_0, mat_5, mat_7, mat_3, mat_9, mat_1]
    rfl

theorem emb_13 (t : Fin cfg0.N) (a : Fin 512) (b : Fin 512) :
    (win0_13.blk t).view.emb (ix2 a b) = (ix2 (row t a) b : S8192x512.Idx) := by
  blk_ext [idx t]

theorem final_13 : (dats m 0 c).arrAt 13 (cfgs 0).N = fun i : S8192x512.Idx => dgate (mat (A0 m c)) (mat (A6 m c)) (mix_b (A3 m c)) (mat (A5 m c)) (mat (A2 m c)) (gate_b (A3 m c)) (i 0) (i 1) := by
  refine (dats m 0 c).arrAt_eq_of_covers 13 _ (by decide +kernel) fun t hf y => ?_
  blk_simp
  rw [after0_13]
  obtain ⟨a, b, rfl⟩ : ∃ (a : Fin 512) (b : Fin 512), y = ix2 a b := ⟨y 0, y 1, eq_ix2 y⟩
  rw [emb_13]
  by_cases h : t.val % 16 = 0
  · rw [outsAt0_A m c t h]
    dsimp only
    frame_out
    rw [pay_dgate_b, mat_0, mat_6, mat_8, mat_4, mat_9, mat_2]
    rfl
  · rw [outsAt0_B m c t h]
    dsimp only
    frame_out
    rw [pay_dgate_b, mat_0, mat_6, mat_8, mat_4, mat_9, mat_2]
    rfl

theorem emb_14 (t : Fin cfg0.N) (a : Fin 512) (b : Fin 1024) :
    (win0_14.blk t).view.emb (ix2 a b) = (ix2 (row t a) b : S8192x1024.Idx) := by
  blk_ext [idx t]

theorem final_14 : (dats m 0 c).arrAt 14 (cfgs 0).N = fun i : S8192x1024.Idx => dmix (mat (A0 m c)) (mat (A6 m c)) (mix_a (A3 m c)) (mat (A4 m c)) (mat (A1 m c)) (gate_a (A3 m c)) (i 0) (i 1) := by
  refine (dats m 0 c).arrAt_eq_of_covers 14 _ (by decide +kernel) fun t hf y => ?_
  blk_simp
  rw [after0_14]
  obtain ⟨a, b, rfl⟩ : ∃ (a : Fin 512) (b : Fin 1024), y = ix2 a b := ⟨y 0, y 1, eq_ix2 y⟩
  rw [emb_14]
  by_cases h : t.val % 16 = 0
  · rw [outsAt0_A m c t h]
    dsimp only
    frame_out
    rw [pay_dmix_a, mat_0, mat_5, mat_7, mat_3, mat_9, mat_1]
    rfl
  · rw [outsAt0_B m c t h]
    dsimp only
    frame_out
    rw [pay_dmix_a, mat_0, mat_5, mat_7, mat_3, mat_9, mat_1]
    rfl

theorem emb_15 (t : Fin cfg0.N) (a : Fin 512) (b : Fin 1024) :
    (win0_15.blk t).view.emb (ix2 a b) = (ix2 (row t a) b : S8192x1024.Idx) := by
  blk_ext [idx t]

theorem final_15 : (dats m 0 c).arrAt 15 (cfgs 0).N = fun i : S8192x1024.Idx => dmix (mat (A0 m c)) (mat (A6 m c)) (mix_b (A3 m c)) (mat (A5 m c)) (mat (A2 m c)) (gate_b (A3 m c)) (i 0) (i 1) := by
  refine (dats m 0 c).arrAt_eq_of_covers 15 _ (by decide +kernel) fun t hf y => ?_
  blk_simp
  rw [after0_15]
  obtain ⟨a, b, rfl⟩ : ∃ (a : Fin 512) (b : Fin 1024), y = ix2 a b := ⟨y 0, y 1, eq_ix2 y⟩
  rw [emb_15]
  by_cases h : t.val % 16 = 0
  · rw [outsAt0_A m c t h]
    dsimp only
    frame_out
    rw [pay_dmix_b, mat_0, mat_6, mat_8, mat_4, mat_9, mat_2]
    rfl
  · rw [outsAt0_B m c t h]
    dsimp only
    frame_out
    rw [pay_dmix_b, mat_0, mat_6, mat_8, mat_4, mat_9, mat_2]
    rfl

theorem emb_16 (t : Fin cfg0.N) (a : Fin 8) (b : Fin 512) :
    (win0_16.blk t).view.emb (ix2 a b) = (ix2 a (row t b) : S8x8192.Idx) := by
  blk_ext [idx t]

theorem final_16 : (dats m 0 c).arrAt 16 (cfgs 0).N = fun i : S8x8192.Idx => dsum (mat (A0 m c)) (mat (A6 m c)) (mix_a (A3 m c)) (mat (A4 m c)) (mat (A1 m c)) (gate_a (A3 m c)) (i 0) (i 1) := by
  refine (dats m 0 c).arrAt_eq_of_covers 16 _ (by decide +kernel) fun t hf y => ?_
  blk_simp
  rw [after0_16]
  obtain ⟨a, b, rfl⟩ : ∃ (a : Fin 8) (b : Fin 512), y = ix2 a b := ⟨y 0, y 1, eq_ix2 y⟩
  rw [emb_16]
  by_cases h : t.val % 16 = 0
  · rw [outsAt0_A m c t h]
    dsimp only
    frame_out
    rw [pay_dsum_a, mat_0, mat_5, mat_7, mat_3, mat_9, mat_1]
    rfl
  · rw [outsAt0_B m c t h]
    dsimp only
    frame_out
    rw [pay_dsum_a, mat_0, mat_5, mat_7, mat_3, mat_9, mat_1]
    rfl

theorem emb_17 (t : Fin cfg0.N) (a : Fin 8) (b : Fin 512) :
    (win0_17.blk t).view.emb (ix2 a b) = (ix2 a (row t b) : S8x8192.Idx) := by
  blk_ext [idx t]

theorem final_17 : (dats m 0 c).arrAt 17 (cfgs 0).N = fun i : S8x8192.Idx => dsum (mat (A0 m c)) (mat (A6 m c)) (mix_b (A3 m c)) (mat (A5 m c)) (mat (A2 m c)) (gate_b (A3 m c)) (i 0) (i 1) := by
  refine (dats m 0 c).arrAt_eq_of_covers 17 _ (by decide +kernel) fun t hf y => ?_
  blk_simp
  rw [after0_17]
  obtain ⟨a, b, rfl⟩ : ∃ (a : Fin 8) (b : Fin 512), y = ix2 a b := ⟨y 0, y 1, eq_ix2 y⟩
  rw [emb_17]
  by_cases h : t.val % 16 = 0
  · rw [outsAt0_A m c t h]
    dsimp only
    frame_out
    rw [pay_dsum_b, mat_0, mat_6, mat_8, mat_4, mat_9, mat_2]
    rfl
  · rw [outsAt0_B m c t h]
    dsimp only
    frame_out
    rw [pay_dsum_b, mat_0, mat_6, mat_8, mat_4, mat_9, mat_2]
    rfl

end Cert.MergeIdeal.MergeValue

end
-- ==== Proof.MergeAcc.lean ====
/- The merge's backward kernel at extended reals: the weight gradients, added up over the grid. -/
module

public import proofs.«01_k».proof.Proof.MergeValue

@[expose] public section

set_option maxRecDepth 16384

noncomputable section

open Idealize.ShloMosaic Idealize.ShloMosaic.TcCoe Idealize.SL.Sem
open Idealize.ShloMosaic.Pipeline (Dat)

namespace Cert.MergeIdeal.MergeValue

open Cert.MergeIdeal Cert.MergeIdeal.Gen MergeSpec

variable (m : (ℓ : Loc nD τ sig) → Buf (Elt Ideal) ℓ) (c : Dev nD)

open Cert.MergeRefIdeal.MergeRef (gate_a gate_b mix_a mix_b)

/-! The weight gradients, added up over the grid. -/

/-- A sum over the grid points and the rows of each point's block is the sum over all tokens. -/
theorem points_sum (f : Fin 8192 → EReal) : ∑ t : Fin cfg0.N, ∑ a : Fin 512, f (row t a) = ∑ r, f r :=
  (Fin.sum_univ_tiles cfg0.N 512 (congrArg (· * 512) N_0) f).symm

theorem final_18 : (dats m 0 c).arrAt 18 (cfgs 0).N = fun i : S512x1024.Idx => dw (mat (A0 m c)) (mat (A6 m c)) (mix_a (A3 m c)) (mat (A1 m c)) (gate_a (A3 m c)) (i 0) (i 1) := by
  refine (dats m 0 c).arrAt_eq_of_after_last 18 t0_15 (by decide +kernel) _ fun y => ?_
  blk_simp
  rw [after0_18, Pipeline.eq_sum_fin_of_reset_step_apply_last (fun n h => (outsAt0 m c n h).2.2.2.2.2.2.2.2.1) 16 (fun _ => 0)
    (fun t (i : S512x1024.Idx) => dw (fun a b => A0 m c (ix2 (row t a) b)) (mat (A6 m c)) (fun a b => mix_a (A3 m c) (row t a) b) (fun a b => A1 m c (ix2 (row t a) b)) (fun a b => gate_a (A3 m c) (row t a) b) (i 0) (i 1))
    (fun t h i => by
      obtain ⟨a, b, rfl⟩ : ∃ (a : Fin 512) (b : Fin 1024), i = ix2 a b := ⟨i 0, i 1, eq_ix2 i⟩
      rw [outsAt0_A m c t h]
      frame_out
      rw [pay_dw_a, pay_zero_a, mat_0, mat_9, mat_5, mat_1, mat_3]
      rfl)
    (fun t h i => by
      obtain ⟨a, b, rfl⟩ : ∃ (a : Fin 512) (b : Fin 1024), i = ix2 a b := ⟨i 0, i 1, eq_ix2 i⟩
      rw [outsAt0_B m c t h]
      frame_out
      rw [pay_dw_a, mat_0, mat_9, mat_5, mat_1, mat_3]
      rfl)
    (le_of_eq N_0) t0_15 rfl y, zero_add]
  exact points_sum fun r => gated (mat (A1 m c)) (gate_a (A3 m c)) r (y 0) * dproj (mat (A0 m c)) (mat (A6 m c)) (mix_a (A3 m c)) r (y 1)

theorem final_19 : (dats m 0 c).arrAt 19 (cfgs 0).N = fun i : S512x1024.Idx => dw (mat (A0 m c)) (mat (A6 m c)) (mix_b (A3 m c)) (mat (A2 m c)) (gate_b (A3 m c)) (i 0) (i 1) := by
  refine (dats m 0 c).arrAt_eq_of_after_last 19 t0_15 (by decide +kernel) _ fun y => ?_
  blk_simp
  rw [after0_19, Pipeline.eq_sum_fin_of_reset_step_apply_last (fun n h => (outsAt0 m c n h).2.2.2.2.2.2.2.2.2.1) 16 (fun _ => 0)
    (fun t (i : S512x1024.Idx) => dw (fun a b => A0 m c (ix2 (row t a) b)) (mat (A6 m c)) (fun a b => mix_b (A3 m c) (row t a) b) (fun a b => A2 m c (ix2 (row t a) b)) (fun a b => gate_b (A3 m c) (row t a) b) (i 0) (i 1))
    (fun t h i => by
      obtain ⟨a, b, rfl⟩ : ∃ (a : Fin 512) (b : Fin 1024), i = ix2 a b := ⟨i 0, i 1, eq_ix2 i⟩
      rw [outsAt0_A m c t h]
      frame_out
      rw [pay_dw_b, pay_zero_b, mat_0, mat_9, mat_6, mat_2, mat_4]
      rfl)
    (fun t h i => by
      obtain ⟨a, b, rfl⟩ : ∃ (a : Fin 512) (b : Fin 1024), i = ix2 a b := ⟨i 0, i 1, eq_ix2 i⟩
      rw [outsAt0_B m c t h]
      frame_out
      rw [pay_dw_b, mat_0, mat_9, mat_6, mat_2, mat_4]
      rfl)
    (le_of_eq N_0) t0_15 rfl y, zero_add]
  exact points_sum fun r => gated (mat (A2 m c)) (gate_b (A3 m c)) r (y 0) * dproj (mat (A0 m c)) (mat (A6 m c)) (mix_b (A3 m c)) r (y 1)

theorem final_20 : (dats m 0 c).arrAt 20 (cfgs 0).N = fun i : S1024x1024.Idx => dwo (mat (A0 m c)) (mix_a (A3 m c)) (mix_b (A3 m c)) (mat (A4 m c)) (mat (A5 m c)) (mat (A1 m c)) (gate_a (A3 m c)) (mat (A2 m c)) (gate_b (A3 m c)) (i 0) (i 1) := by
  refine (dats m 0 c).arrAt_eq_of_after_last 20 t0_15 (by decide +kernel) _ fun y => ?_
  blk_simp
  rw [after0_20, Pipeline.eq_sum_fin_of_reset_step_apply_last (fun n h => (outsAt0 m c n h).2.2.2.2.2.2.2.2.2.2) 16 (fun _ => 0)
    (fun t (i : S1024x1024.Idx) => dwo (fun a b => A0 m c (ix2 (row t a) b)) (fun a b => mix_a (A3 m c) (row t a) b) (fun a b => mix_b (A3 m c) (row t a) b) (mat (A4 m c)) (mat (A5 m c)) (fun a b => A1 m c (ix2 (row t a) b)) (fun a b => gate_a (A3 m c) (row t a) b) (fun a b => A2 m c (ix2 (row t a) b)) (fun a b => gate_b (A3 m c) (row t a) b) (i 0) (i 1))
    (fun t h i => by
      obtain ⟨a, b, rfl⟩ : ∃ (a : Fin 1024) (b : Fin 1024), i = ix2 a b := ⟨i 0, i 1, eq_ix2 i⟩
      rw [outsAt0_A m c t h]
      frame_out
      rw [pay_dwo, pay_zero_o, mat_0, mat_5, mat_6, mat_7, mat_8, mat_1, mat_3, mat_2, mat_4]
      rfl)
    (fun t h i => by
      obtain ⟨a, b, rfl⟩ : ∃ (a : Fin 1024) (b : Fin 1024), i = ix2 a b := ⟨i 0, i 1, eq_ix2 i⟩
      rw [outsAt0_B m c t h]
      frame_out
      rw [pay_dwo, mat_0, mat_5, mat_6, mat_7, mat_8, mat_1, mat_3, mat_2, mat_4]
      rfl)
    (le_of_eq N_0) t0_15 rfl y, zero_add]
  exact points_sum fun r => (Ideal.logistic (mix_a (A3 m c) r (y 0)) * proj (mat (A1 m c)) (gate_a (A3 m c)) (mat (A4 m c)) r (y 0)
    + Ideal.logistic (mix_b (A3 m c) r (y 0)) * proj (mat (A2 m c)) (gate_b (A3 m c)) (mat (A5 m c)) r (y 0)) * A0 m c (ix2 r (y 1))

end Cert.MergeIdeal.MergeValue

end
-- ==== Proof.Finite.lean ====
/- Reading a precondition "every entry of this argument is finite" as a fact about each entry. -/
module

public import Idealize.ShloMosaic.Lib.Pointwise
public import Idealize.ShloMosaic.Lib.ReduceAll
public import Idealize.ShloMosaic.Lib.WordArith

@[expose] public section

set_option maxRecDepth 16384

noncomputable section

open Idealize.ShloMosaic Idealize.ShloMosaic.TcCoe

namespace Finite

/-- A conjunction of two one-bit words is one exactly when both are. -/
theorem and_one {s : Shape} (p q : IVec s 1) (i : s.Idx) (h : andi p q i = 1#1) : p i = 1#1 ∧ q i = 1#1 := by
  have key : ∀ a b : BitVec 1, IntOp.andi a b = 1#1 → a = 1#1 ∧ b = 1#1 := by decide
  exact key _ _ h

/-- The test "the absolute value is below infinity", as an extended real's finiteness. -/
theorem of_lt {s : Shape} (x b : FVec Ideal s .f32) (i : s.Idx) (hb : b i = (⊤ : EReal))
    (h : cmpf .olt (Host.absf x) b i = 1#1) : x i ≠ (⊤ : EReal) ∧ x i ≠ (⊥ : EReal) := by
  have h' : (BitVec.ofBool (decide ((Host.absf x : FVec Ideal s .f32) i < b i))) = 1#1 := h
  rw [hb] at h'
  have hx : (Host.absf x : FVec Ideal s .f32) i < (⊤ : EReal) := by
    by_contra hn
    rw [decide_eq_false hn] at h'
    exact absurd h' (by decide)
  have ha : (Host.absf x : FVec Ideal s .f32) i = max (x i) (-(x i)) := rfl
  rw [ha, max_lt_iff] at hx
  exact ⟨hx.1.ne, fun e => by rw [e] at hx; exact absurd hx.2 (by simp)⟩

/-- One argument's whole test: every entry is finite. -/
theorem of_all {s t u : Shape} {axes : List (Fin s.rank)} [Subsingleton t.Idx] (x b : FVec Ideal s .f32) (init : IVec u 1)
    (h : s.ReducesTo axes t) (hu : 0 < u.numel) (j : t.Idx)
    (hb : ∀ i, b i = (⊤ : EReal)) (e : Host.reduce IntOp.andi (cmpf .olt (Host.absf x) b) init h hu j = 1#1) (i : s.Idx) :
    x i ≠ (⊤ : EReal) ∧ x i ≠ (⊥ : EReal) :=
  of_lt x b i (hb i) (Host.reduce_andi_all _ init h hu j e i)

/-- The bound of the test, at any index. -/
theorem inf_at {s : Shape} (h : (⟨0, ![]⟩ : Shape).BroadcastsInDim s ![]) (i : s.Idx) :
    broadcastInDim s ![] h (constant (F := Ideal) (⟨0, ![]⟩ : Shape) .f32 0x7F800000#32) i = (⊤ : EReal) := by
  pointwise
  show Ideal.ofBits .f32 0x7F800000#32 = ⊤
  simp [Ideal.ofBits, Ideal.ieee]

/-! A function of equal arguments. -/

theorem same1 {T0 R : Type} (f : T0 → R) {x0 y0 : T0}
    (h0 : x0 = y0) :
    f x0 = f y0 := by
  subst h0; rfl

theorem same2 {T0 T1 R : Type} (f : T0 → T1 → R) {x0 y0 : T0} {x1 y1 : T1}
    (h0 : x0 = y0) (h1 : x1 = y1) :
    f x0 x1 = f y0 y1 := by
  subst h0 h1; rfl

theorem same3 {T0 T1 T2 R : Type} (f : T0 → T1 → T2 → R) {x0 y0 : T0} {x1 y1 : T1} {x2 y2 : T2}
    (h0 : x0 = y0) (h1 : x1 = y1) (h2 : x2 = y2) :
    f x0 x1 x2 = f y0 y1 y2 := by
  subst h0 h1 h2; rfl

theorem same4 {T0 T1 T2 T3 R : Type} (f : T0 → T1 → T2 → T3 → R) {x0 y0 : T0} {x1 y1 : T1} {x2 y2 : T2} {x3 y3 : T3}
    (h0 : x0 = y0) (h1 : x1 = y1) (h2 : x2 = y2) (h3 : x3 = y3) :
    f x0 x1 x2 x3 = f y0 y1 y2 y3 := by
  subst h0 h1 h2 h3; rfl

theorem same5 {T0 T1 T2 T3 T4 R : Type} (f : T0 → T1 → T2 → T3 → T4 → R) {x0 y0 : T0} {x1 y1 : T1} {x2 y2 : T2} {x3 y3 : T3} {x4 y4 : T4}
    (h0 : x0 = y0) (h1 : x1 = y1) (h2 : x2 = y2) (h3 : x3 = y3) (h4 : x4 = y4) :
    f x0 x1 x2 x3 x4 = f y0 y1 y2 y3 y4 := by
  subst h0 h1 h2 h3 h4; rfl

theorem same6 {T0 T1 T2 T3 T4 T5 R : Type} (f : T0 → T1 → T2 → T3 → T4 → T5 → R) {x0 y0 : T0} {x1 y1 : T1} {x2 y2 : T2} {x3 y3 : T3} {x4 y4 : T4} {x5 y5 : T5}
    (h0 : x0 = y0) (h1 : x1 = y1) (h2 : x2 = y2) (h3 : x3 = y3) (h4 : x4 = y4) (h5 : x5 = y5) :
    f x0 x1 x2 x3 x4 x5 = f y0 y1 y2 y3 y4 y5 := by
  subst h0 h1 h2 h3 h4 h5; rfl

theorem same7 {T0 T1 T2 T3 T4 T5 T6 R : Type} (f : T0 → T1 → T2 → T3 → T4 → T5 → T6 → R) {x0 y0 : T0} {x1 y1 : T1} {x2 y2 : T2} {x3 y3 : T3} {x4 y4 : T4} {x5 y5 : T5} {x6 y6 : T6}
    (h0 : x0 = y0) (h1 : x1 = y1) (h2 : x2 = y2) (h3 : x3 = y3) (h4 : x4 = y4) (h5 : x5 = y5) (h6 : x6 = y6) :
    f x0 x1 x2 x3 x4 x5 x6 = f y0 y1 y2 y3 y4 y5 y6 := by
  subst h0 h1 h2 h3 h4 h5 h6; rfl

theorem same8 {T0 T1 T2 T3 T4 T5 T6 T7 R : Type} (f : T0 → T1 → T2 → T3 → T4 → T5 → T6 → T7 → R) {x0 y0 : T0} {x1 y1 : T1} {x2 y2 : T2} {x3 y3 : T3} {x4 y4 : T4} {x5 y5 : T5} {x6 y6 : T6} {x7 y7 : T7}
    (h0 : x0 = y0) (h1 : x1 = y1) (h2 : x2 = y2) (h3 : x3 = y3) (h4 : x4 = y4) (h5 : x5 = y5) (h6 : x6 = y6) (h7 : x7 = y7) :
    f x0 x1 x2 x3 x4 x5 x6 x7 = f y0 y1 y2 y3 y4 y5 y6 y7 := by
  subst h0 h1 h2 h3 h4 h5 h6 h7; rfl

end Finite

end
-- ==== Proof.MergeClaim.lean ====
/- The gated merge's backward pass: the kernel's results are the reference's. -/
module

public import proofs.«01_k».proof.Defs
public import proofs.«01_k».proof.Proof.MergeTiles
public import proofs.«01_k».proof.Proof.MergeAcc
public import proofs.«01_k».proof.Proof.Finite
public import proofs.«01_k».proof.Proof.Gen.MergeRefIdeal.Run
public import Idealize.ShloMosaic.Lib.StableHlo.RunHlo
public import proofs.«01_k».proof.Proof.Gen.Pre_merge_finite

@[expose] public section

set_option maxRecDepth 16384

noncomputable section

open Idealize.ShloMosaic Idealize.ShloMosaic.TcCoe Idealize.SL.Sem

namespace Cert.MergeIdeal.MergeValue

open Cert.MergeIdeal Cert.MergeIdeal.Gen MergeSpec
open Cert.MergeRefIdeal.Read
open Cert.MergeRefIdeal.MergeRef hiding mat

/-- The precondition: every argument but the projected tokens is finite. -/
theorem finite_of_pre (x0 : FVec Ideal S8192x1024 .f32) (x1 x2 : FVec Ideal S8192x512 .f32) (x3 : FVec Ideal S8192x4256 .f32)
    (x4 x5 : FVec Ideal S512x1024 .f32) (x6 : FVec Ideal S1024x1024 .f32)
    (h : Cert.Pre_merge_finite.fn (F := Ideal) x0 x1 x2 x3 x4 x5 x6 = fun _ => 1#1) :
    (∀ i, x0 i ≠ (⊤ : EReal) ∧ x0 i ≠ (⊥ : EReal)) ∧ (∀ i, x1 i ≠ (⊤ : EReal) ∧ x1 i ≠ (⊥ : EReal))
      ∧ (∀ i, x2 i ≠ (⊤ : EReal) ∧ x2 i ≠ (⊥ : EReal)) ∧ (∀ i, x4 i ≠ (⊤ : EReal) ∧ x4 i ≠ (⊥ : EReal))
      ∧ (∀ i, x5 i ≠ (⊤ : EReal) ∧ x5 i ≠ (⊥ : EReal)) ∧ (∀ i, x6 i ≠ (⊤ : EReal) ∧ x6 i ≠ (⊥ : EReal)) := by
  have h := congrFun h ix0
  dsimp only [Cert.Pre_merge_finite.fn, Cert.Pre_merge_finite.fn_part1] at h
  obtain ⟨h, h6⟩ := Finite.and_one _ _ _ h
  obtain ⟨h, h5⟩ := Finite.and_one _ _ _ h
  obtain ⟨h, h4⟩ := Finite.and_one _ _ _ h
  obtain ⟨h, h2⟩ := Finite.and_one _ _ _ h
  obtain ⟨h0, h1⟩ := Finite.and_one _ _ _ h
  exact ⟨Finite.of_all _ _ _ _ _ _ (fun i => Finite.inf_at _ i) h0, Finite.of_all _ _ _ _ _ _ (fun i => Finite.inf_at _ i) h1,
    Finite.of_all _ _ _ _ _ _ (fun i => Finite.inf_at _ i) h2, Finite.of_all _ _ _ _ _ _ (fun i => Finite.inf_at _ i) h4,
    Finite.of_all _ _ _ _ _ _ (fun i => Finite.inf_at _ i) h5, Finite.of_all _ _ _ _ _ _ (fun i => Finite.inf_at _ i) h6⟩

/-! Each result array of the kernel is the reference's stage. -/

variable (m : (ℓ : Loc nD τ sig) → Buf (Elt Ideal) ℓ) (c : Dev nD)

theorem tie_10 :
    (dats m 0 c).arrAt 10 cfg0.N = val_main_v59 (F := Ideal) (A0 m c) (A3 m c) (A4 m c) (A6 m c) := by
  refine (final_10 m c).trans (funext fun i => ?_)
  obtain ⟨a, b, rfl⟩ : ∃ a b, i = ix2 a b := ⟨i 0, i 1, eq_ix2 i⟩
  exact (res_draw_a _ _ _ _ a b).symm

theorem tie_11 :
    (dats m 0 c).arrAt 11 cfg0.N = val_main_v60 (F := Ideal) (A0 m c) (A3 m c) (A5 m c) (A6 m c) := by
  refine (final_11 m c).trans (funext fun i => ?_)
  obtain ⟨a, b, rfl⟩ : ∃ a b, i = ix2 a b := ⟨i 0, i 1, eq_ix2 i⟩
  exact (res_draw_b _ _ _ _ a b).symm

theorem tie_12 (h0 : ∀ i, A0 m c i ≠ (⊤ : EReal) ∧ A0 m c i ≠ (⊥ : EReal)) (h : ∀ i, A1 m c i ≠ (⊤ : EReal) ∧ A1 m c i ≠ (⊥ : EReal))
    (hw : ∀ i, A4 m c i ≠ (⊤ : EReal) ∧ A4 m c i ≠ (⊥ : EReal)) (h6 : ∀ i, A6 m c i ≠ (⊤ : EReal) ∧ A6 m c i ≠ (⊥ : EReal)) :
    (dats m 0 c).arrAt 12 cfg0.N = val_main_v61 (F := Ideal) (A0 m c) (A1 m c) (A3 m c) (A4 m c) (A6 m c) := by
  refine (final_12 m c).trans (funext fun i => ?_)
  obtain ⟨a, b, rfl⟩ : ∃ a b, i = ix2 a b := ⟨i 0, i 1, eq_ix2 i⟩
  exact (res_dgate_a _ _ _ _ _ h0 h hw h6 a b).symm

theorem tie_13 (h0 : ∀ i, A0 m c i ≠ (⊤ : EReal) ∧ A0 m c i ≠ (⊥ : EReal)) (h : ∀ i, A2 m c i ≠ (⊤ : EReal) ∧ A2 m c i ≠ (⊥ : EReal))
    (hw : ∀ i, A5 m c i ≠ (⊤ : EReal) ∧ A5 m c i ≠ (⊥ : EReal)) (h6 : ∀ i, A6 m c i ≠ (⊤ : EReal) ∧ A6 m c i ≠ (⊥ : EReal)) :
    (dats m 0 c).arrAt 13 cfg0.N = val_main_v62 (F := Ideal) (A0 m c) (A2 m c) (A3 m c) (A5 m c) (A6 m c) := by
  refine (final_13 m c).trans (funext fun i => ?_)
  obtain ⟨a, b, rfl⟩ : ∃ a b, i = ix2 a b := ⟨i 0, i 1, eq_ix2 i⟩
  exact (res_dgate_b _ _ _ _ _ h0 h hw h6 a b).symm

theorem tie_14 :
    (dats m 0 c).arrAt 14 cfg0.N = val_main_v63 (F := Ideal) (A0 m c) (A1 m c) (A3 m c) (A4 m c) (A6 m c) := by
  refine (final_14 m c).trans (funext fun i => ?_)
  obtain ⟨a, b, rfl⟩ : ∃ a b, i = ix2 a b := ⟨i 0, i 1, eq_ix2 i⟩
  exact (res_dmix_a _ _ _ _ _ a b).symm

theorem tie_15 :
    (dats m 0 c).arrAt 15 cfg0.N = val_main_v64 (F := Ideal) (A0 m c) (A2 m c) (A3 m c) (A5 m c) (A6 m c) := by
  refine (final_15 m c).trans (funext fun i => ?_)
  obtain ⟨a, b, rfl⟩ : ∃ a b, i = ix2 a b := ⟨i 0, i 1, eq_ix2 i⟩
  exact (res_dmix_b _ _ _ _ _ a b).symm

theorem tie_16 :
    (dats m 0 c).arrAt 16 cfg0.N = val_main_v68 (F := Ideal) (A0 m c) (A1 m c) (A3 m c) (A4 m c) (A6 m c) := by
  refine (final_16 m c).trans (funext fun i => ?_)
  obtain ⟨a, b, rfl⟩ : ∃ a b, i = ix2 a b := ⟨i 0, i 1, eq_ix2 i⟩
  exact (res_dsum_a _ _ _ _ _ a b).symm

theorem tie_17 :
    (dats m 0 c).arrAt 17 cfg0.N = val_main_v72 (F := Ideal) (A0 m c) (A2 m c) (A3 m c) (A5 m c) (A6 m c) := by
  refine (final_17 m c).trans (funext fun i => ?_)
  obtain ⟨a, b, rfl⟩ : ∃ a b, i = ix2 a b := ⟨i 0, i 1, eq_ix2 i⟩
  exact (res_dsum_b _ _ _ _ _ a b).symm

theorem tie_18 :
    (dats m 0 c).arrAt 18 cfg0.N = val_main_v50 (F := Ideal) (A0 m c) (A1 m c) (A3 m c) (A6 m c) := by
  refine (final_18 m c).trans (funext fun i => ?_)
  obtain ⟨a, b, rfl⟩ : ∃ a b, i = ix2 a b := ⟨i 0, i 1, eq_ix2 i⟩
  exact (res_dw_a _ _ _ _ a b).symm

theorem tie_19 :
    (dats m 0 c).arrAt 19 cfg0.N = val_main_v44 (F := Ideal) (A0 m c) (A2 m c) (A3 m c) (A6 m c) := by
  refine (final_19 m c).trans (funext fun i => ?_)
  obtain ⟨a, b, rfl⟩ : ∃ a b, i = ix2 a b := ⟨i 0, i 1, eq_ix2 i⟩
  exact (res_dw_b _ _ _ _ a b).symm

theorem tie_20 :
    (dats m 0 c).arrAt 20 cfg0.N = val_main_v39 (F := Ideal) (A0 m c) (A1 m c) (A2 m c) (A3 m c) (A4 m c) (A5 m c) := by
  refine (final_20 m c).trans (funext fun i => ?_)
  obtain ⟨a, b, rfl⟩ : ∃ a b, i = ix2 a b := ⟨i 0, i 1, eq_ix2 i⟩
  exact (res_dwo _ _ _ _ _ _ a b).symm

end Cert.MergeIdeal.MergeValue

namespace Cert.Proof

open Cert.MergeIdeal.MergeValue Cert.MergeRefIdeal.Read

theorem merge_ref_frame : Cert.quiescent_MergeRefIdeal (hMergeRefIdeal := Cert.MergeRefIdeal.Gen.facts) :=
  fun m ρ _ => (θ_run Cert.MergeRefIdeal.defs _ _).mono
    (fun r h => ⟨fun c => (h c).2.2.2.2.2.2.2.2.2.2.2, sem_eq_zero_of_no_sems (by decide) r.2⟩)
    (Cert.MergeRefIdeal.Value.run (F := Ideal) m ρ)

set_option maxHeartbeats 4000000 in
theorem merge_algebraic : Cert.algebraic_MergeIdeal_MergeRefIdeal_pre_merge_finite (hMergeIdeal := Cert.MergeIdeal.Gen.facts)
    (hMergeRefIdeal := Cert.MergeRefIdeal.Gen.facts) (hPre_merge_finite := Cert.Pre_merge_finite.Gen.facts) := by
  intro m g m' g' hpre hagree
  refine ⟨fun c => val_main_v59 (F := Ideal) (A0 m c) (A3 m c) (A4 m c) (A6 m c),
    fun c => val_main_v60 (F := Ideal) (A0 m c) (A3 m c) (A5 m c) (A6 m c),
    fun c => val_main_v61 (F := Ideal) (A0 m c) (A1 m c) (A3 m c) (A4 m c) (A6 m c),
    fun c => val_main_v62 (F := Ideal) (A0 m c) (A2 m c) (A3 m c) (A5 m c) (A6 m c),
    fun c => val_main_v63 (F := Ideal) (A0 m c) (A1 m c) (A3 m c) (A4 m c) (A6 m c),
    fun c => val_main_v64 (F := Ideal) (A0 m c) (A2 m c) (A3 m c) (A5 m c) (A6 m c),
    fun c => val_main_v68 (F := Ideal) (A0 m c) (A1 m c) (A3 m c) (A4 m c) (A6 m c),
    fun c => val_main_v72 (F := Ideal) (A0 m c) (A2 m c) (A3 m c) (A5 m c) (A6 m c),
    fun c => val_main_v50 (F := Ideal) (A0 m c) (A1 m c) (A3 m c) (A6 m c),
    fun c => val_main_v44 (F := Ideal) (A0 m c) (A2 m c) (A3 m c) (A6 m c),
    fun c => val_main_v39 (F := Ideal) (A0 m c) (A1 m c) (A2 m c) (A3 m c) (A4 m c) (A5 m c),
    (θ_run Cert.MergeIdeal.defs _ _).mono (fun r h c => ?_) (Cert.MergeIdeal.Value.run_blocks m g),
    (θ_run Cert.MergeRefIdeal.defs _ _).mono (fun r h c => ?_) (Cert.MergeRefIdeal.Value.run m' g')⟩
  · obtain ⟨h0, h1, h2, h4, h5, h6⟩ := finite_of_pre _ _ _ _ _ _ _ (hpre c)
    obtain ⟨e10, e11, e12, e13, e14, e15, e16, e17, e18, e19, e20, hargs⟩ := h c
    exact ⟨e10.trans (tie_10 m c), e11.trans (tie_11 m c), e12.trans (tie_12 m c h0 h1 h4 h6), e13.trans (tie_13 m c h0 h2 h5 h6), e14.trans (tie_14 m c), e15.trans (tie_15 m c), e16.trans (tie_16 m c), e17.trans (tie_17 m c), e18.trans (tie_18 m c), e19.trans (tie_19 m c), e20.trans (tie_20 m c), hargs⟩
  · obtain ⟨a0, a1, a2, a3, a4, a5, a6⟩ := hagree c
    obtain ⟨e10, e11, e12, e13, e14, e15, e16, e17, e18, e19, e20, hargs⟩ := h c
    exact ⟨e10.trans ((val_main_v59_eq _ _ _ _).trans (Finite.same4 (val_main_v59 (F := Ideal)) a0 a3 a4 a6)),
      e11.trans ((val_main_v60_eq _ _ _ _).trans (Finite.same4 (val_main_v60 (F := Ideal)) a0 a3 a5 a6)),
      e12.trans ((val_main_v61_eq _ _ _ _ _).trans (Finite.same5 (val_main_v61 (F := Ideal)) a0 a1 a3 a4 a6)),
      e13.trans ((val_main_v62_eq _ _ _ _ _).trans (Finite.same5 (val_main_v62 (F := Ideal)) a0 a2 a3 a5 a6)),
      e14.trans ((val_main_v63_eq _ _ _ _ _).trans (Finite.same5 (val_main_v63 (F := Ideal)) a0 a1 a3 a4 a6)),
      e15.trans ((val_main_v64_eq _ _ _ _ _).trans (Finite.same5 (val_main_v64 (F := Ideal)) a0 a2 a3 a5 a6)),
      e16.trans ((val_main_v68_eq _ _ _ _ _).trans (Finite.same5 (val_main_v68 (F := Ideal)) a0 a1 a3 a4 a6)),
      e17.trans ((val_main_v72_eq _ _ _ _ _).trans (Finite.same5 (val_main_v72 (F := Ideal)) a0 a2 a3 a5 a6)),
      e18.trans ((val_main_v50_eq _ _ _ _).trans (Finite.same4 (val_main_v50 (F := Ideal)) a0 a1 a3 a6)),
      e19.trans ((val_main_v44_eq _ _ _ _).trans (Finite.same4 (val_main_v44 (F := Ideal)) a0 a2 a3 a6)),
      e20.trans ((val_main_v39_eq _ _ _ _ _ _).trans (Finite.same6 (val_main_v39 (F := Ideal)) a0 a1 a2 a3 a4 a5)), hargs⟩

end Cert.Proof

end
-- ==== Proof.MlaBody.lean ====
/- The body of the attention backward kernel at one grid point, run once per control path: on whole staging buffers, from the inputs at
   their blocks, the two tables, the output windows and the three scratch buffers, to the contents the run leaves in them. -/
module

public import proofs.«01_k».proof.Proof.Gen.MlaIdeal.Skeleton
public import proofs.«01_k».proof.Proof.Gen.MlaIdeal.Launch
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The tables of the block pairs, and the scratch buffers: key gradients, value gradients, query gradients (transposed). -/
abbrev tb0 : Memref sig .tc .smem S10 .i32 := Memref.whole main_c
abbrev tb1 : Memref sig .tc .smem S10 .i32 := Memref.whole main_c_0
abbrev sc0 : Memref sig .tc .vmem S512x1024 .f32 := Memref.whole cc0_scratch0
abbrev sc1 : Memref sig .tc .vmem S512x512 .f32 := Memref.whole cc0_scratch1
abbrev sc2 : Memref sig .tc .vmem S4x1024x512 .f32 := Memref.whole cc0_scratch2

/-- The staging buffers the body is handed at a point, each whole. -/
structure Stages where
  arg5 : Memref sig .tc .vmem S512x1024 .bf16
  harg5 : arg5.IsWhole
  arg6 : Memref sig .tc .vmem S512x1024 .bf16
  harg6 : arg6.IsWhole
  arg7 : Memref sig .tc .vmem S512x512 .bf16
  harg7 : arg7.IsWhole
  arg8 : Memref sig .tc .vmem S512x512 .bf16
  harg8 : arg8.IsWhole
  arg9 : Memref sig .tc .vmem S1x8x512 .f32
  harg9 : arg9.IsWhole
  arg10 : Memref sig .tc .vmem S1x8x512 .f32
  harg10 : arg10.IsWhole
  arg11 : Memref sig .tc .vmem S2048x1024 .f32
  harg11 : arg11.IsWhole
  arg12 : Memref sig .tc .vmem S512x1024 .f32
  harg12 : arg12.IsWhole
  arg13 : Memref sig .tc .vmem S512x512 .f32
  harg13 : arg13.IsWhole

/-- The query block and the key block of the pair that a point works on, as the body reads them. -/
abbrev wq (i : grid0.Coords) (T0 : S10.Idx → Elt F .i32) : BitVec 32 :=
  View.readAt (Elt F) (tb0).view (Rect.unit (s := S10) (k0_off1 i) S1.size (k0_off1_inb i)).toLoadRect T0 (Shape.Idx.first (numel1_S1.symm ▸ Nat.one_pos))
abbrev wk (i : grid0.Coords) (T1 : S10.Idx → Elt F .i32) : BitVec 32 :=
  View.readAt (Elt F) (tb1).view (Rect.unit (s := S10) (k0_off1 i) S1.size (k0_off1_inb i)).toLoadRect T1 (Shape.Idx.first (numel1_S1.symm ▸ Nat.one_pos))

/-- What the body finds and does not change: the input blocks and the tables. -/
structure Given (F : FTy → Type) where
  x0 : S512x1024.Idx → Elt F .bf16
  x1 : S512x1024.Idx → Elt F .bf16
  x2 : S512x512.Idx → Elt F .bf16
  x3 : S512x512.Idx → Elt F .bf16
  x4 : S1x8x512.Idx → Elt F .f32
  x5 : S1x8x512.Idx → Elt F .f32
  T0 : S10.Idx → Elt F .i32
  T1 : S10.Idx → Elt F .i32

/-- What the body changes: the three output windows and the three scratch buffers. -/
structure Held (F : FTy → Type) (c : Dev nD) (a : Stages) where
  g6 : Buf (Elt F) (a.arg11.view.loc (c : Thread nD τ))
  g7 : Buf (Elt F) (a.arg12.view.loc (c : Thread nD τ))
  g8 : Buf (Elt F) (a.arg13.view.loc (c : Thread nD τ))
  s0 : Buf (Elt F) ((c : Thread nD τ).loc cc0_scratch0)
  s1 : Buf (Elt F) ((c : Thread nD τ).loc cc0_scratch1)
  s2 : Buf (Elt F) ((c : Thread nD τ).loc cc0_scratch2)

/-- The body's memory at a point. -/
def own (c : Dev nD) (a : Stages) (x : Given F) (h : Held F c a) : sProp 𝕄 :=
  iprop((a.arg5.view.loc (c : Thread nD τ) ↦[a.arg5.view.set]{fullShare} a.arg5.view.rep x.x0)
    ∗ (a.arg6.view.loc (c : Thread nD τ) ↦[a.arg6.view.set]{fullShare} a.arg6.view.rep x.x1)
    ∗ (a.arg7.view.loc (c : Thread nD τ) ↦[a.arg7.view.set]{fullShare} a.arg7.view.rep x.x2)
    ∗ (a.arg8.view.loc (c : Thread nD τ) ↦[a.arg8.view.set]{fullShare} a.arg8.view.rep x.x3)
    ∗ (a.arg9.view.loc (c : Thread nD τ) ↦[a.arg9.view.set]{fullShare} a.arg9.view.rep x.x4)
    ∗ (a.arg10.view.loc (c : Thread nD τ) ↦[a.arg10.view.set]{fullShare} a.arg10.view.rep x.x5)
    ∗ (tb0.view.loc (c : Thread nD τ) ↦{fullShare.right} x.T0)
    ∗ (tb1.view.loc (c : Thread nD τ) ↦{fullShare.right} x.T1)
    ∗ (a.arg11.view.loc (c : Thread nD τ) ↦[a.arg11.view.set]{fullShare} h.g6)
    ∗ (a.arg12.view.loc (c : Thread nD τ) ↦[a.arg12.view.set]{fullShare} h.g7)
    ∗ (a.arg13.view.loc (c : Thread nD τ) ↦[a.arg13.view.set]{fullShare} h.g8)
    ∗ (sc0.view.loc (c : Thread nD τ) ↦{fullShare} h.s0)
    ∗ (sc1.view.loc (c : Thread nD τ) ↦{fullShare} h.s1)
    ∗ (sc2.view.loc (c : Thread nD τ) ↦{fullShare} h.s2))

/-- The body at a point. -/
abbrev body (i : grid0.Coords) (a : Stages) : Prog (TpuEff nD τ sig (Elt F) Λ₀ .tc) PUnit :=
  cc0_mla_bwd i tb0 (Memref.isWhole_whole _) tb1 (Memref.isWhole_whole _) a.arg5 a.harg5 a.arg6 a.harg6 a.arg7 a.harg7 a.arg8 a.harg8 a.arg9 a.harg9 a.arg10 a.harg10 a.arg11 a.harg11 a.arg12 a.harg12 a.arg13 a.harg13 sc0 (Memref.isWhole_whole _) sc1 (Memref.isWhole_whole _) sc2 (Memref.isWhole_whole _)

/-- The body takes the memory `h` to the memory `h'`. -/
def Takes (c : Dev nD) (i : grid0.Coords) (a : Stages) (x : Given F) (h h' : Held F c a) : Prop :=
  ∀ K : PUnit → sProp 𝕄, iprop(own c a x h ∗ (own c a x h' -∗ K ⟨⟩)) ⊢ wp frame (wpE (defs₀ (F := F)) Variants.none c none) Set.univ (body i a) K

/-- `Takes` with the memory spelled out. -/
theorem takes_mk {c : Dev nD} {i : grid0.Coords} {a : Stages} {x : Given F} {h : Held F c a} {g6 g7 g8 s0 s1 s2}
    (H : ∀ K : PUnit → sProp 𝕄,
      iprop(((a.arg5.view.loc (c : Thread nD τ) ↦[a.arg5.view.set]{fullShare} a.arg5.view.rep x.x0)
    ∗ (a.arg6.view.loc (c : Thread nD τ) ↦[a.arg6.view.set]{fullShare} a.arg6.view.rep x.x1)
    ∗ (a.arg7.view.loc (c : Thread nD τ) ↦[a.arg7.view.set]{fullShare} a.arg7.view.rep x.x2)
    ∗ (a.arg8.view.loc (c : Thread nD τ) ↦[a.arg8.view.set]{fullShare} a.arg8.view.rep x.x3)
    ∗ (a.arg9.view.loc (c : Thread nD τ) ↦[a.arg9.view.set]{fullShare} a.arg9.view.rep x.x4)
    ∗ (a.arg10.view.loc (c : Thread nD τ) ↦[a.arg10.view.set]{fullShare} a.arg10.view.rep x.x5)
    ∗ (tb0.view.loc (c : Thread nD τ) ↦{fullShare.right} x.T0)
    ∗ (tb1.view.loc (c : Thread nD τ) ↦{fullShare.right} x.T1)
    ∗ (a.arg11.view.loc (c : Thread nD τ) ↦[a.arg11.view.set]{fullShare} h.g6)
    ∗ (a.arg12.view.loc (c : Thread nD τ) ↦[a.arg12.view.set]{fullShare} h.g7)
    ∗ (a.arg13.view.loc (c : Thread nD τ) ↦[a.arg13.view.set]{fullShare} h.g8)
    ∗ (sc0.view.loc (c : Thread nD τ) ↦{fullShare} h.s0)
    ∗ (sc1.view.loc (c : Thread nD τ) ↦{fullShare} h.s1)
    ∗ (sc2.view.loc (c : Thread nD τ) ↦{fullShare} h.s2))
        ∗ (((a.arg5.view.loc (c : Thread nD τ) ↦[a.arg5.view.set]{fullShare} a.arg5.view.rep x.x0)
    ∗ (a.arg6.view.loc (c : Thread nD τ) ↦[a.arg6.view.set]{fullShare} a.arg6.view.rep x.x1)
    ∗ (a.arg7.view.loc (c : Thread nD τ) ↦[a.arg7.view.set]{fullShare} a.arg7.view.rep x.x2)
    ∗ (a.arg8.view.loc (c : Thread nD τ) ↦[a.arg8.view.set]{fullShare} a.arg8.view.rep x.x3)
    ∗ (a.arg9.view.loc (c : Thread nD τ) ↦[a.arg9.view.set]{fullShare} a.arg9.view.rep x.x4)
    ∗ (a.arg10.view.loc (c : Thread nD τ) ↦[a.arg10.view.set]{fullShare} a.arg10.view.rep x.x5)
    ∗ (tb0.view.loc (c : Thread nD τ) ↦{fullShare.right} x.T0)
    ∗ (tb1.view.loc (c : Thread nD τ) ↦{fullShare.right} x.T1)
    ∗ (a.arg11.view.loc (c : Thread nD τ) ↦[a.arg11.view.set]{fullShare} g6)
    ∗ (a.arg12.view.loc (c : Thread nD τ) ↦[a.arg12.view.set]{fullShare} g7)
    ∗ (a.arg13.view.loc (c : Thread nD τ) ↦[a.arg13.view.set]{fullShare} g8)
    ∗ (sc0.view.loc (c : Thread nD τ) ↦{fullShare} s0)
    ∗ (sc1.view.loc (c : Thread nD τ) ↦{fullShare} s1)
    ∗ (sc2.view.loc (c : Thread nD τ) ↦{fullShare} s2)) -∗ K ⟨⟩)) ⊢ wp frame (wpE (defs₀ (F := F)) Variants.none c none) Set.univ (body i a) K) :
    Takes c i a x h ⟨g6, g7, g8, s0, s1, s2⟩ := H

/-- The tests the body makes: the first pair; the first pair of its key block; off the diagonal; on it; the last query block; the
    last pair. -/
abbrev tFirst (i : grid0.Coords) : Prop := Scalar.cmpi .ne (Scalar.extui (Scalar.cmpi .eq (BitVec.ofNat 32 (i 2).val) 0#32)) 0#32 = 1#1
abbrev tDiag (i : grid0.Coords) (x : Given F) : Prop := Scalar.cmpi .ne (Scalar.extui (Scalar.cmpi .eq (wq i x.T0) (wk i x.T1))) 0#32 = 1#1
abbrev tOff (i : grid0.Coords) (x : Given F) : Prop := k0_cond3 (wq i x.T0) (wk i x.T1) = 1#1
abbrev tOn (i : grid0.Coords) (x : Given F) : Prop := k0_cond4 (wq i x.T0) (wk i x.T1) = 1#1
abbrev tFlush (i : grid0.Coords) (x : Given F) : Prop := k0_cond5 (wq i x.T0) = 1#1
abbrev tLast (i : grid0.Coords) : Prop := k0_cond6 i = 1#1
abbrev tIn (i : grid0.Coords) (x : Given F) : Prop := k0_chk1 (wq i x.T0) (wk i x.T1)

end Cert.MlaIdeal.Body

end
-- ==== Proof.MlaRunA.lean ====
/- The body of the attention backward kernel at one grid point, run once per control path: on whole staging buffers, from the inputs at
   their blocks, the two tables, the output windows and the three scratch buffers, to the contents the run leaves in them. -/
module

public import proofs.«01_k».proof.Proof.MlaBody
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- The first pair of all. -/
def runA (c : Dev nD) (i : grid0.Coords) (a : Stages) (x : Given F) (h : Held F c a) (hin : tIn i x)
    (h0 : tFirst i) (h1 : tDiag i x) (h2 : ¬tOff i x) (h3 : tOn i x) (h4 : ¬tFlush i x) (h5 : ¬tLast i) :
    { h' : Held F c a // Takes c i a x h h' } :=
  ⟨⟨_, _, _, _, _, _⟩, takes_mk fun K => by
    unfold body
    have ha5 := a.harg5
    have ha6 := a.harg6
    have ha7 := a.harg7
    have ha8 := a.harg8
    have ha9 := a.harg9
    have ha10 := a.harg10
    have ha11 := a.harg11
    have ha12 := a.harg12
    have ha13 := a.harg13
    rw [cc0_mla_bwd_eq_skeleton]; unfold cc0_mla_bwd_skel
    iintro ⟨⟨H0, H1, H2, H3, H4, H5, HT0, HT1, HO6, HO7, HO8, HS0, HS1, HS2⟩, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := with_reducible assumption)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    isplitl [HO7]; · iexact HO7
    isplitl [HO8]; · iexact HO8
    isplitl [HS0]; · iexact HS0
    isplitl [HS1]; · iexact HS1
    iexact HS2⟩

end Cert.MlaIdeal.Body

end
-- ==== Proof.MlaRunB.lean ====
/- The body of the attention backward kernel at one grid point, run once per control path: on whole staging buffers, from the inputs at
   their blocks, the two tables, the output windows and the three scratch buffers, to the contents the run leaves in them. -/
module

public import proofs.«01_k».proof.Proof.MlaBody
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- A pair off the diagonal, with further pairs of its key block to come. -/
def runB (c : Dev nD) (i : grid0.Coords) (a : Stages) (x : Given F) (h : Held F c a) (hin : tIn i x)
    (h0 : ¬tFirst i) (h1 : ¬tDiag i x) (h2 : tOff i x) (h3 : ¬tOn i x) (h4 : ¬tFlush i x) (h5 : ¬tLast i) :
    { h' : Held F c a // Takes c i a x h h' } :=
  ⟨⟨_, _, _, _, _, _⟩, takes_mk fun K => by
    unfold body
    have ha5 := a.harg5
    have ha6 := a.harg6
    have ha7 := a.harg7
    have ha8 := a.harg8
    have ha9 := a.harg9
    have ha10 := a.harg10
    have ha11 := a.harg11
    have ha12 := a.harg12
    have ha13 := a.harg13
    rw [cc0_mla_bwd_eq_skeleton]; unfold cc0_mla_bwd_skel
    iintro ⟨⟨H0, H1, H2, H3, H4, H5, HT0, HT1, HO6, HO7, HO8, HS0, HS1, HS2⟩, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := with_reducible assumption)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    isplitl [HO7]; · iexact HO7
    isplitl [HO8]; · iexact HO8
    isplitl [HS0]; · iexact HS0
    isplitl [HS1]; · iexact HS1
    iexact HS2⟩

end Cert.MlaIdeal.Body

end
-- ==== Proof.MlaRunC.lean ====
/- The body of the attention backward kernel at one grid point, run once per control path: on whole staging buffers, from the inputs at
   their blocks, the two tables, the output windows and the three scratch buffers, to the contents the run leaves in them. -/
module

public import proofs.«01_k».proof.Proof.MlaBody
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- The last pair of a key block, off the diagonal. -/
def runC (c : Dev nD) (i : grid0.Coords) (a : Stages) (x : Given F) (h : Held F c a) (hin : tIn i x)
    (h0 : ¬tFirst i) (h1 : ¬tDiag i x) (h2 : tOff i x) (h3 : ¬tOn i x) (h4 : tFlush i x) (h5 : ¬tLast i) :
    { h' : Held F c a // Takes c i a x h h' } :=
  ⟨⟨_, _, _, _, _, _⟩, takes_mk fun K => by
    unfold body
    have ha5 := a.harg5
    have ha6 := a.harg6
    have ha7 := a.harg7
    have ha8 := a.harg8
    have ha9 := a.harg9
    have ha10 := a.harg10
    have ha11 := a.harg11
    have ha12 := a.harg12
    have ha13 := a.harg13
    rw [cc0_mla_bwd_eq_skeleton]; unfold cc0_mla_bwd_skel
    iintro ⟨⟨H0, H1, H2, H3, H4, H5, HT0, HT1, HO6, HO7, HO8, HS0, HS1, HS2⟩, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := with_reducible assumption)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    isplitl [HO7]; · iexact HO7
    isplitl [HO8]; · iexact HO8
    isplitl [HS0]; · iexact HS0
    isplitl [HS1]; · iexact HS1
    iexact HS2⟩

end Cert.MlaIdeal.Body

end
-- ==== Proof.MlaRunD.lean ====
/- The body of the attention backward kernel at one grid point, run once per control path: on whole staging buffers, from the inputs at
   their blocks, the two tables, the output windows and the three scratch buffers, to the contents the run leaves in them. -/
module

public import proofs.«01_k».proof.Proof.MlaBody
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- The first pair of a later key block but the last. -/
def runD (c : Dev nD) (i : grid0.Coords) (a : Stages) (x : Given F) (h : Held F c a) (hin : tIn i x)
    (h0 : ¬tFirst i) (h1 : tDiag i x) (h2 : ¬tOff i x) (h3 : tOn i x) (h4 : ¬tFlush i x) (h5 : ¬tLast i) :
    { h' : Held F c a // Takes c i a x h h' } :=
  ⟨⟨_, _, _, _, _, _⟩, takes_mk fun K => by
    unfold body
    have ha5 := a.harg5
    have ha6 := a.harg6
    have ha7 := a.harg7
    have ha8 := a.harg8
    have ha9 := a.harg9
    have ha10 := a.harg10
    have ha11 := a.harg11
    have ha12 := a.harg12
    have ha13 := a.harg13
    rw [cc0_mla_bwd_eq_skeleton]; unfold cc0_mla_bwd_skel
    iintro ⟨⟨H0, H1, H2, H3, H4, H5, HT0, HT1, HO6, HO7, HO8, HS0, HS1, HS2⟩, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := with_reducible assumption)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    isplitl [HO7]; · iexact HO7
    isplitl [HO8]; · iexact HO8
    isplitl [HS0]; · iexact HS0
    isplitl [HS1]; · iexact HS1
    iexact HS2⟩

end Cert.MlaIdeal.Body

end
-- ==== Proof.MlaRunE.lean ====
/- The body of the attention backward kernel at one grid point, run once per control path: on whole staging buffers, from the inputs at
   their blocks, the two tables, the output windows and the three scratch buffers, to the contents the run leaves in them. -/
module

public import proofs.«01_k».proof.Proof.MlaBody
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- The last pair of all, the only one of its key block. -/
def runE (c : Dev nD) (i : grid0.Coords) (a : Stages) (x : Given F) (h : Held F c a) (hin : tIn i x)
    (h0 : ¬tFirst i) (h1 : tDiag i x) (h2 : ¬tOff i x) (h3 : tOn i x) (h4 : tFlush i x) (h5 : tLast i) :
    { h' : Held F c a // Takes c i a x h h' } :=
  ⟨⟨_, _, _, _, _, _⟩, takes_mk fun K => by
    unfold body
    have ha5 := a.harg5
    have ha6 := a.harg6
    have ha7 := a.harg7
    have ha8 := a.harg8
    have ha9 := a.harg9
    have ha10 := a.harg10
    have ha11 := a.harg11
    have ha12 := a.harg12
    have ha13 := a.harg13
    rw [cc0_mla_bwd_eq_skeleton]; unfold cc0_mla_bwd_skel
    iintro ⟨⟨H0, H1, H2, H3, H4, H5, HT0, HT1, HO6, HO7, HO8, HS0, HS1, HS2⟩, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    sl_exec! (disch := with_reducible assumption)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    isplitl [HO7]; · iexact HO7
    isplitl [HO8]; · iexact HO8
    isplitl [HS0]; · iexact HS0
    isplitl [HS1]; · iexact HS1
    iexact HS2⟩

end Cert.MlaIdeal.Body

end
-- ==== Proof.MlaStep.lean ====
/- One grid point of the attention backward kernel, head by head: the payloads of a head as one function of its slices, and the lists
   of writes the runs leave in the three scratch buffers as one recursion over the heads. -/
module

public import proofs.«01_k».proof.Proof.MlaRunA
public import proofs.«01_k».proof.Proof.MlaRunB
public import proofs.«01_k».proof.Proof.MlaRunC
public import proofs.«01_k».proof.Proof.MlaRunD
public import proofs.«01_k».proof.Proof.MlaRunE

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.Sem

variable {F : FTy → Type} [FloatOps F] [Named F]

/-- The slices of a head: of the query and key buffers, of the value buffers, of the two row buffers. -/
theorem inbK (j : Fin 8) : ∀ a, (![0, 128 * j.val] : Fin 2 → ℕ) a + S512x128.size a ≤ S512x1024.size a := by
  revert j; decide
theorem inbV (j : Fin 8) : ∀ a, (![0, 64 * j.val] : Fin 2 → ℕ) a + S512x64.size a ≤ S512x512.size a := by
  revert j; decide
theorem inbL (j : Fin 8) : ∀ a, (![0, j.val, 0] : Fin 3 → ℕ) a + S1x1x512.size a ≤ S1x8x512.size a := by
  revert j; decide
abbrev rK (j : Fin 8) : Rect S512x1024 := Rect.unit (s := S512x1024) ![0, 128 * j.val] S512x128.size (inbK j)
abbrev rV (j : Fin 8) : Rect S512x512 := Rect.unit (s := S512x512) ![0, 64 * j.val] S512x64.size (inbV j)
abbrev rL (j : Fin 8) : Rect S1x8x512 := Rect.unit (s := S1x8x512) ![0, j.val, 0] S1x1x512.size (inbL j)

/-- The rows of a head in the scratch buffer of the query gradients, at a query block. -/
theorem inbQ {n : ℕ} (hn : n < 4) (j : Fin 8) : ∀ a, (![n, 128 * j.val, 0] : Fin 3 → ℕ) a + S1x128x512.size a ≤ S4x1024x512.size a := by
  intro a
  have := j.isLt
  fin_cases a <;> simp [S1x128x512, S4x1024x512] <;> omega
abbrev rQ {n : ℕ} (hn : n < 4) (j : Fin 8) : Rect S4x1024x512 := Rect.unit (s := S4x1024x512) ![n, 128 * j.val, 0] S1x128x512.size (inbQ hn j)

def qS (a : Stages) (x : Given F) (j : Fin 8) : Vec F S512x128 .bf16 := View.readAt (Elt F) a.arg5.view (rK j).toLoadRect (a.arg5.view.rep x.x0)
def kS (a : Stages) (x : Given F) (j : Fin 8) : Vec F S512x128 .bf16 := View.readAt (Elt F) a.arg6.view (rK j).toLoadRect (a.arg6.view.rep x.x1)
def vS (a : Stages) (x : Given F) (j : Fin 8) : Vec F S512x64 .bf16 := View.readAt (Elt F) a.arg7.view (rV j).toLoadRect (a.arg7.view.rep x.x2)
def oS (a : Stages) (x : Given F) (j : Fin 8) : Vec F S512x64 .bf16 := View.readAt (Elt F) a.arg8.view (rV j).toLoadRect (a.arg8.view.rep x.x3)
def lS (a : Stages) (x : Given F) (j : Fin 8) : Vec F S1x1x512 .f32 := View.readAt (Elt F) a.arg9.view (rL j).toLoadRect (a.arg9.view.rep x.x4)
def dS (a : Stages) (x : Given F) (j : Fin 8) : Vec F S1x1x512 .f32 := View.readAt (Elt F) a.arg10.view (rL j).toLoadRect (a.arg10.view.rep x.x5)

/-- A head's contribution added to the old values: to the key, the value and the query gradients. `m`: on the diagonal. -/
def headV (m : Bool) (a : Stages) (x : Given F) (j : Fin 8) (old : Vec F S512x64 .f32) : FVec F S512x64 .f32 :=
  cond m (k0_pay87 (qS a x j) (kS a x j) (oS a x j) (lS a x j) old) (k0_pay16 (qS a x j) (kS a x j) (oS a x j) (lS a x j) old)
def headK (m : Bool) (a : Stages) (x : Given F) (j : Fin 8) (old : Vec F S512x128 .f32) : FVec F S512x128 .f32 :=
  cond m (k0_pay91 (k0_pay83 (qS a x j)) (k0_pay88 (qS a x j) (kS a x j) (oS a x j) (lS a x j) (vS a x j) (dS a x j)) k0_pay89 old)
    (k0_pay18 (k0_pay12 (qS a x j)) (k0_pay17 (qS a x j) (kS a x j) (oS a x j) (lS a x j) (vS a x j) (dS a x j)) old (constant S512x128 .f32 0x00000000#32))
def headQ (m : Bool) (a : Stages) (x : Given F) (j : Fin 8) (old : Vec F S1x128x512 .f32) : FVec F S1x128x512 .f32 :=
  cond m (k0_pay92 (k0_pay84 (kS a x j)) (k0_pay88 (qS a x j) (kS a x j) (oS a x j) (lS a x j) (vS a x j) (dS a x j)) k0_pay89 old)
    (k0_pay19 (k0_pay13 (kS a x j)) (k0_pay17 (qS a x j) (kS a x j) (oS a x j) (lS a x j) (vS a x j) (dS a x j)) old)

/-- Writes over the heads of a list, last first, on top of a base: each head's value from the writes before it. -/
def chain {s : Shape} {e : EltTy} (R : Fin 8 → Rect s) (W : (j : Fin 8) → List (View.Piece (Elt F) s e) → ((R j).shape.Idx → Elt F e))
    (base : List (View.Piece (Elt F) s e)) : List (Fin 8) → List (View.Piece (Elt F) s e)
  | [] => base
  | j :: l => ⟨R j, W j (chain R W base l)⟩ :: chain R W base l

abbrev heads : List (Fin 8) := [7, 6, 5, 4, 3, 2, 1, 0]

/-- The zero stores. -/
abbrev z0 : List (View.Piece (Elt F) S512x1024 .f32) := [⟨Rect.unit (s := S512x1024) ![0, 0] S512x1024.size inb_S512x1024_S512x1024_0_0, k0_pay2⟩]
abbrev z1 : List (View.Piece (Elt F) S512x512 .f32) := [⟨Rect.unit (s := S512x512) ![0, 0] S512x512.size inb_S512x512_S512x512_0_0, k0_pay3⟩]
abbrev z2 : List (View.Piece (Elt F) S4x1024x512 .f32) := [⟨Rect.unit (s := S4x1024x512) ![0, 0, 0] S4x1024x512.size inb_S4x1024x512_S4x1024x512_0_0_0, k0_pay1⟩]

/-- The writes over the key, the value and the query gradients at a point: the old values are the scratch buffer's or, where the buffer was
    just cleared, the writes'. -/
def kOff (m : Bool) (a : Stages) (x : Given F) (s0 : S512x1024.Idx → Elt F .f32) : List (View.Piece (Elt F) S512x1024 .f32) :=
  chain rK (fun j _ => headK m a x j (View.readAt (Elt F) sc0.view (rK j).toLoadRect s0)) [] heads
def kOn (m : Bool) (a : Stages) (x : Given F) : List (View.Piece (Elt F) S512x1024 .f32) :=
  chain rK (fun j L => headK m a x j (sc0.view.readCov L (rK j).toLoadRect)) z0 heads
def vOff (m : Bool) (a : Stages) (x : Given F) (s1 : S512x512.Idx → Elt F .f32) : List (View.Piece (Elt F) S512x512 .f32) :=
  chain rV (fun j _ => headV m a x j (View.readAt (Elt F) sc1.view (rV j).toLoadRect s1)) [] heads
def vOn (m : Bool) (a : Stages) (x : Given F) : List (View.Piece (Elt F) S512x512 .f32) :=
  chain rV (fun j L => headV m a x j (sc1.view.readCov L (rV j).toLoadRect)) z1 heads
def qUp (m : Bool) (a : Stages) (x : Given F) {n : ℕ} (hn : n < 4) (s2 : S4x1024x512.Idx → Elt F .f32)
    (z : List (View.Piece (Elt F) S4x1024x512 .f32)) : List (View.Piece (Elt F) S4x1024x512 .f32) :=
  chain (rQ hn) (fun j L => headQ m a x j (View.readAt (Elt F) sc2.view (rQ hn j).toLoadRect (sc2.view.writes (Elt F) s2 L))) z heads

/-- The query gradients of the last pair, transposed into the rows of the window. -/
theorem inbR (n : Fin 4) : ∀ a, (![512 * n.val, 0] : Fin 2 → ℕ) a + S512x1024.size a ≤ S2048x1024.size a := by
  revert n; decide
theorem inbT (n : Fin 4) : ∀ a, (![n.val, 0, 0] : Fin 3 → ℕ) a + S1x1024x512.size a ≤ S4x1024x512.size a := by
  revert n; decide
def rowsPiece (s2 : S4x1024x512.Idx → Elt F .f32) (n : Fin 4) : View.Piece (Elt F) S2048x1024 .f32 :=
  ⟨Rect.unit (s := S2048x1024) ![512 * n.val, 0] S512x1024.size (inbR n),
    k0_pay8 (View.readAt (Elt F) sc2.view (Rect.unit (s := S4x1024x512) ![n.val, 0, 0] S1x1024x512.size (inbT n)).toLoadRect s2)⟩
def rowsOut (s2 : S4x1024x512.Idx → Elt F .f32) : List (View.Piece (Elt F) S2048x1024 .f32) :=
  ([3, 2, 1, 0] : List (Fin 4)).map (rowsPiece s2)

/-- The key and the value gradients of a finished key block, copied out whole. -/
def kOut (L : List (View.Piece (Elt F) S512x1024 .f32)) : List (View.Piece (Elt F) S512x1024 .f32) :=
  [⟨Rect.unit (s := S512x1024) ![0, 0] S512x1024.size inb_S512x1024_S512x1024_0_0,
    sc0.view.readCov L (Rect.unit (s := S512x1024) ![0, 0] S512x1024.size inb_S512x1024_S512x1024_0_0).toLoadRect⟩]
def vOut (L : List (View.Piece (Elt F) S512x512 .f32)) : List (View.Piece (Elt F) S512x512 .f32) :=
  [⟨Rect.unit (s := S512x512) ![0, 0] S512x512.size inb_S512x512_S512x512_0_0,
    sc1.view.readCov L (Rect.unit (s := S512x512) ![0, 0] S512x512.size inb_S512x512_S512x512_0_0).toLoadRect⟩]

section
variable {c : Dev nD} {i : grid0.Coords} {a : Stages} {x : Given F} {h : Held F c a}

theorem runA_eq (hin : tIn i x) (h0 : tFirst i) (h1 : tDiag i x) (h2 : ¬tOff i x) (h3 : tOn i x) (h4 : ¬tFlush i x) (h5 : ¬tLast i) (hn : (wq i x.T0).toNat < 4) :
    (runA c i a x h hin h0 h1 h2 h3 h4 h5).1
      = { g6 := h.g6
          g7 := h.g7
          g8 := h.g8
          s0 := sc0.view.writes (Elt F) sc0.view.junk (kOn true a x)
          s1 := sc1.view.writes (Elt F) sc1.view.junk (vOn true a x)
          s2 := sc2.view.writes (Elt F) sc2.view.junk (qUp true a x hn sc2.view.junk z2) } := rfl

theorem runB_eq (hin : tIn i x) (h0 : ¬tFirst i) (h1 : ¬tDiag i x) (h2 : tOff i x) (h3 : ¬tOn i x) (h4 : ¬tFlush i x) (h5 : ¬tLast i) (hn : (wq i x.T0).toNat < 4) :
    (runB c i a x h hin h0 h1 h2 h3 h4 h5).1
      = { g6 := h.g6
          g7 := h.g7
          g8 := h.g8
          s0 := sc0.view.writes (Elt F) sc0.view.junk (kOff false a x h.s0)
          s1 := sc1.view.writes (Elt F) sc1.view.junk (vOff false a x h.s1)
          s2 := sc2.view.writes (Elt F) h.s2 (qUp false a x hn h.s2 []) } := rfl

theorem runC_eq (hin : tIn i x) (h0 : ¬tFirst i) (h1 : ¬tDiag i x) (h2 : tOff i x) (h3 : ¬tOn i x) (h4 : tFlush i x) (h5 : ¬tLast i) (hn : (wq i x.T0).toNat < 4) :
    (runC c i a x h hin h0 h1 h2 h3 h4 h5).1
      = { g6 := h.g6
          g7 := a.arg12.view.writes (Elt F) a.arg12.view.junk (kOut (kOff false a x h.s0))
          g8 := a.arg13.view.writes (Elt F) a.arg13.view.junk (vOut (vOff false a x h.s1))
          s0 := sc0.view.writes (Elt F) sc0.view.junk (kOff false a x h.s0)
          s1 := sc1.view.writes (Elt F) sc1.view.junk (vOff false a x h.s1)
          s2 := sc2.view.writes (Elt F) h.s2 (qUp false a x hn h.s2 []) } := rfl

theorem runD_eq (hin : tIn i x) (h0 : ¬tFirst i) (h1 : tDiag i x) (h2 : ¬tOff i x) (h3 : tOn i x) (h4 : ¬tFlush i x) (h5 : ¬tLast i) (hn : (wq i x.T0).toNat < 4) :
    (runD c i a x h hin h0 h1 h2 h3 h4 h5).1
      = { g6 := h.g6
          g7 := h.g7
          g8 := h.g8
          s0 := sc0.view.writes (Elt F) sc0.view.junk (kOn true a x)
          s1 := sc1.view.writes (Elt F) sc1.view.junk (vOn true a x)
          s2 := sc2.view.writes (Elt F) h.s2 (qUp true a x hn h.s2 []) } := rfl

theorem runE_eq (hin : tIn i x) (h0 : ¬tFirst i) (h1 : tDiag i x) (h2 : ¬tOff i x) (h3 : tOn i x) (h4 : tFlush i x) (h5 : tLast i) (hn : (wq i x.T0).toNat < 4) :
    (runE c i a x h hin h0 h1 h2 h3 h4 h5).1
      = { g6 := a.arg11.view.writes (Elt F) a.arg11.view.junk (rowsOut (sc2.view.writes (Elt F) h.s2 (qUp true a x hn h.s2 [])))
          g7 := a.arg12.view.writes (Elt F) a.arg12.view.junk (kOut (kOn true a x))
          g8 := a.arg13.view.writes (Elt F) a.arg13.view.junk (vOut (vOn true a x))
          s0 := sc0.view.writes (Elt F) sc0.view.junk (kOn true a x)
          s1 := sc1.view.writes (Elt F) sc1.view.junk (vOn true a x)
          s2 := sc2.view.writes (Elt F) h.s2 (qUp true a x hn h.s2 []) } := rfl

end
end Cert.MlaIdeal.Body

end
-- ==== Proof.MlaPoint.lean ====
/- The tables of the block pairs, the pipeline at them, and what they decide at each of the 40 grid points. -/
module

public import proofs.«01_k».proof.Proof.MlaStep

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.Sem

/-- The values the program runs at. -/
abbrev FF : FTy → Type := Ideal

/-- The query block and the key block of each pair. -/
def tq : S10.Idx → BitVec 32 := fun i => lit0 (S10.rowMajor i)
def tk : S10.Idx → BitVec 32 := fun i => lit1 (S10.rowMajor i)

/-- The tables as the pipeline holds them. -/
def pf : pre0.Contents (Elt FF) := fun | ⟨0, _⟩ => tq | ⟨1, _⟩ => tk | ⟨_ + 2, h⟩ => absurd h (by simp)

theorem inb_0 : ∀ i : grid0.Coords, ∀ a, (cc0_transform_0 k0_off1_inb numel1_S1 pf i a + 1) * S512x1024.size a ≤ S8192x1024.size a := by decide +kernel
theorem inb_1 : ∀ i : grid0.Coords, ∀ a, (cc0_transform_1 k0_off1_inb numel1_S1 pf i a + 1) * S512x1024.size a ≤ S8192x1024.size a := by decide +kernel
theorem inb_2 : ∀ i : grid0.Coords, ∀ a, (cc0_transform_2 k0_off1_inb numel1_S1 pf i a + 1) * S512x512.size a ≤ S8192x512.size a := by decide +kernel
theorem inb_3 : ∀ i : grid0.Coords, ∀ a, (cc0_transform_3 k0_off1_inb numel1_S1 pf i a + 1) * S512x512.size a ≤ S8192x512.size a := by decide +kernel
theorem inb_4 : ∀ i : grid0.Coords, ∀ a, (cc0_transform_4 k0_off1_inb numel1_S1 pf i a + 1) * S1x8x512.size a ≤ S1x8x8192.size a := by decide +kernel
theorem inb_5 : ∀ i : grid0.Coords, ∀ a, (cc0_transform_5 k0_off1_inb numel1_S1 pf i a + 1) * S1x8x512.size a ≤ S1x8x8192.size a := by decide +kernel
theorem inb_7 : ∀ i : grid0.Coords, ∀ a, (cc0_transform_7 k0_off1_inb numel1_S1 pf i a + 1) * S512x1024.size a ≤ S8192x1024.size a := by decide +kernel
theorem inb_8 : ∀ i : grid0.Coords, ∀ a, (cc0_transform_8 k0_off1_inb numel1_S1 pf i a + 1) * S512x512.size a ≤ S8192x512.size a := by decide +kernel

/-- Every block lies inside its array, in whole words. -/
theorem ok_pf : ok0 (F := FF) pf :=
  ⟨fun i => ⟨inb_0 i, .inr (Affine.block_words_dvd (s := S8192x1024) (p := EltTy.packing .bf16) (by decide) (by decide))⟩, fun i => ⟨inb_1 i, .inr (Affine.block_words_dvd (s := S8192x1024) (p := EltTy.packing .bf16) (by decide) (by decide))⟩, fun i => ⟨inb_2 i, .inr (Affine.block_words_dvd (s := S8192x512) (p := EltTy.packing .bf16) (by decide) (by decide))⟩, fun i => ⟨inb_3 i, .inr (Affine.block_words_dvd (s := S8192x512) (p := EltTy.packing .bf16) (by decide) (by decide))⟩,
    fun i => ⟨inb_4 i, .inl rfl⟩, fun i => ⟨inb_5 i, .inl rfl⟩, fun i => ⟨inb_7 i, .inl rfl⟩, fun i => ⟨inb_8 i, .inl rfl⟩⟩

/-- The pipeline at the tables: 4 batches of 10 pairs. -/
def adm : (pcfg0 (F := FF)).Adm := ⟨pf, ok_pf⟩
abbrev cfgA : Pipeline.Cfg sig Λ₀ := cfg0 (F := FF) adm
abbrev crd (t : Fin cfgA.N) : grid0.Coords := grid0.coords t

/-- The pair of a point: its query block and its key block. -/
abbrev qOf (t : ℕ) : ℕ := ([0, 1, 2, 3, 1, 2, 3, 2, 3, 3] : List ℕ).getD (t % 10) 0
abbrev kOf (t : ℕ) : ℕ := ([0, 0, 0, 0, 1, 1, 1, 2, 2, 3] : List ℕ).getD (t % 10) 0

/-- What the body reads and tests at a point. -/
abbrev Words (q k : BitVec 32) (i : grid0.Coords) (t : ℕ) : Prop :=
  q.toNat = qOf t ∧ k.toNat = kOf t ∧ k0_chk1 q k
  ∧ (Scalar.cmpi .ne (Scalar.extui (Scalar.cmpi .eq (BitVec.ofNat 32 (i 2).val) 0#32)) 0#32 = 1#1 ↔ t % 10 = 0)
  ∧ (Scalar.cmpi .ne (Scalar.extui (Scalar.cmpi .eq q k)) 0#32 = 1#1 ↔ qOf t = kOf t)
  ∧ (k0_cond3 q k = 1#1 ↔ qOf t ≠ kOf t)
  ∧ (k0_cond4 q k = 1#1 ↔ qOf t = kOf t)
  ∧ (k0_cond5 q = 1#1 ↔ qOf t = 3)
  ∧ (k0_cond6 i = 1#1 ↔ t % 10 = 9)
instance Words.dec (q k : BitVec 32) (i : grid0.Coords) (t : ℕ) : Decidable (Words q k i t) := by unfold Words; infer_instance

theorem words : ∀ t : Fin cfgA.N, Words (wq (F := FF) (crd t) tq) (wk (F := FF) (crd t) tk) (crd t) t.val := by decide +kernel

/-- When the output blocks are written back. -/
theorem flush_6 : ∀ t : Fin cfgA.N, (cfgA.win (6 : Fin 9)).flush t = decide (t.val % 10 = 9) := by decide +kernel
theorem flush_7 : ∀ t : Fin cfgA.N, (cfgA.win (7 : Fin 9)).flush t = decide (qOf t.val = 3) := by decide +kernel
theorem flush_8 : ∀ t : Fin cfgA.N, (cfgA.win (8 : Fin 9)).flush t = decide (qOf t.val = 3) := by decide +kernel

end Cert.MlaIdeal.Body

end
-- ==== Proof.MlaLaunch.lean ====
/- The kernel's launch: what its buffers hold on entry, the memory it carries from one pair to the next, and its run, from a step of the
   carried contents at every grid point. -/
module

public import proofs.«01_k».proof.Proof.MlaPoint
public import Idealize.ShloMosaic.Lib.Pipeline.ArrRel

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt FF) ℕ (UR sig nD τ) ℕ

/-- The host operations before the kernel. -/
abbrev opss : List (List (HloOp τ sig (Elt FF))) := [hostOps0, hostOps0_1, hostOps0_2, hostOps0_3, hostOps0_4, hostOps0_5, hostOps0_6]

/-- What each buffer holds when the kernel starts. -/
def V (m : (ℓ : Loc nD τ sig) → Buf (Elt FF) ℓ) (c : Dev nD) (b : Ref sig .tc) : Buf (Elt FF) ((c.tc : Thread nD τ).loc b) :=
  StableHlo.after opss.flatten (fun b => m (c, b)) b

theorem opss_sub : opss.Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem opss_fresh : opss.Forall fun ops => ops.Forall fun op => op.fresh = ∅ := by
  refine ⟨?_, ?_, ?_, ?_, ?_, ?_, ?_⟩ <;>
    (simp only [hostOps0, hostOps0_1, hostOps0_2, hostOps0_3, hostOps0_4, hostOps0_5, hostOps0_6, List.Forall]; repeat' (first | rfl | constructor))

variable (m : (ℓ : Loc nD τ sig) → Buf (Elt FF) ℓ)

/-- The tables reach the kernel as they are written. -/
theorem V_c (c : Dev nD) : V m c main_c = tq := by
  unfold V; simp only [hostOps0, hostOps0_1, hostOps0_2, hostOps0_3, hostOps0_4, hostOps0_5, hostOps0_6, List.flatten_cons, List.flatten_nil, List.cons_append, List.nil_append, List.append_nil]
  simp only [StableHlo.after_cons, StableHlo.after_nil]
  rfl
theorem V_c_0 (c : Dev nD) : V m c main_c_0 = tk := by
  unfold V; simp only [hostOps0, hostOps0_1, hostOps0_2, hostOps0_3, hostOps0_4, hostOps0_5, hostOps0_6, List.flatten_cons, List.flatten_nil, List.cons_append, List.nil_append, List.append_nil]
  simp only [StableHlo.after_cons, StableHlo.after_nil]
  rfl

/-- A window's block at a point, read from its array as it stands on entry. -/
def iblk (c : Dev nD) (w : Fin cfgA.W) (t : Fin cfgA.N) : ((cfgA.win w).xblock (crd t)).Idx → Elt FF (cfgA.win w).elt :=
  ((cfgA.win w).blk t).view.read (Elt FF) (V m c (Pipeline.arrRef spec0 w))

/-- What the body finds at a point. -/
def given (c : Dev nD) (t : Fin cfgA.N) : Given FF :=
  ⟨iblk m c (0 : Fin 9) t, iblk m c (1 : Fin 9) t, iblk m c (2 : Fin 9) t, iblk m c (3 : Fin 9) t, iblk m c (4 : Fin 9) t, iblk m c (5 : Fin 9) t, tq, tk⟩

/-- The staging buffers of a point. -/
def stg (t : Fin cfgA.N) : Stages :=
  ⟨spec0_0.stage (cfgA.slots t (0 : Fin 9)), hstage0_0 ((cfgA.slots t (0 : Fin 9)).cast nbuf0_0),
    spec0_1.stage (cfgA.slots t (1 : Fin 9)), hstage0_1 ((cfgA.slots t (1 : Fin 9)).cast nbuf0_1),
    spec0_2.stage (cfgA.slots t (2 : Fin 9)), hstage0_2 ((cfgA.slots t (2 : Fin 9)).cast nbuf0_2),
    spec0_3.stage (cfgA.slots t (3 : Fin 9)), hstage0_3 ((cfgA.slots t (3 : Fin 9)).cast nbuf0_3),
    spec0_4.stage (cfgA.slots t (4 : Fin 9)), hstage0_4 ((cfgA.slots t (4 : Fin 9)).cast nbuf0_4),
    spec0_5.stage (cfgA.slots t (5 : Fin 9)), hstage0_5 ((cfgA.slots t (5 : Fin 9)).cast nbuf0_5),
    spec0_6.stage (cfgA.slots t (6 : Fin 9)), hstage0_6 ((cfgA.slots t (6 : Fin 9)).cast nbuf0_6),
    spec0_7.stage (cfgA.slots t (7 : Fin 9)), hstage0_7 ((cfgA.slots t (7 : Fin 9)).cast nbuf0_7),
    spec0_8.stage (cfgA.slots t (8 : Fin 9)), hstage0_8 ((cfgA.slots t (8 : Fin 9)).cast nbuf0_8)⟩

/-- What is claimed of the scratch buffers before a point, and of the output blocks written back at a point. -/
structure Track where
  inv : Dev nD → ℕ → (S512x1024.Idx → Elt FF .f32) → (S512x512.Idx → Elt FF .f32) → (S4x1024x512.Idx → Elt FF .f32) → Prop
  start : ∀ c s0 s1 s2, inv c 0 s0 s1 s2
  dq : Dev nD → Fin cfgA.N → (S2048x1024.Idx → Elt FF .f32) → Prop
  dk : Dev nD → Fin cfgA.N → (S512x1024.Idx → Elt FF .f32) → Prop
  dv : Dev nD → Fin cfgA.N → (S512x512.Idx → Elt FF .f32) → Prop

variable (T : Track)

/-- The claims at a point are kept by the body there. -/
def Track.Kept : Prop :=
  ∀ (c : Dev nD) (t : Fin cfgA.N) (h : Held FF c (stg t)),
    T.inv c t.val (sc0.view.read (Elt FF) h.s0) (sc1.view.read (Elt FF) h.s1) (sc2.view.read (Elt FF) h.s2) →
    ∃ h' : Held FF c (stg t), Takes c (crd t) (stg t) (given m c t) h h'
      ∧ T.inv c (t.val + 1) (sc0.view.read (Elt FF) h'.s0) (sc1.view.read (Elt FF) h'.s1) (sc2.view.read (Elt FF) h'.s2)
      ∧ (t.val % 10 = 9 → T.dq c t ((stg t).arg11.view.read (Elt FF) h'.g6))
      ∧ (qOf t.val = 3 → T.dk c t ((stg t).arg12.view.read (Elt FF) h'.g7))
      ∧ (qOf t.val = 3 → T.dv c t ((stg t).arg13.view.read (Elt FF) h'.g8))

/-- The memory carried between points: the scratch buffers under the claim, the tables, the generator register. -/
def Phi (c : Dev nD) (t : Fin (cfgA.N + 1)) : sProp 𝕄 :=
  iprop(∃ s0 : Buf (Elt FF) ((c : Thread nD τ).loc cc0_scratch0), ∃ s1 : Buf (Elt FF) ((c : Thread nD τ).loc cc0_scratch1), ∃ s2 : Buf (Elt FF) ((c : Thread nD τ).loc cc0_scratch2),
    ⌜T.inv c t.val (sc0.view.read (Elt FF) s0) (sc1.view.read (Elt FF) s1) (sc2.view.read (Elt FF) s2)⌝
      ∗ (sc0.view.loc (c : Thread nD τ) ↦{fullShare} s0) ∗ (sc1.view.loc (c : Thread nD τ) ↦{fullShare} s1) ∗ (sc2.view.loc (c : Thread nD τ) ↦{fullShare} s2)
      ∗ (tb0.view.loc (c : Thread nD τ) ↦{fullShare.right} tq) ∗ (tb1.view.loc (c : Thread nD τ) ↦{fullShare.right} tk) ∗ (∃ r, prngReg c r))

/-- What a window's buffer may hold after the body: the inputs as found, the outputs under the claim where they are written back. -/
def left (c : Dev nD) : (w : Fin cfgA.W) → Fin cfgA.N → (Y X : (cfgA.win w).block.Idx → Elt FF (cfgA.win w).elt) → Prop
  | ⟨0, _⟩ => fun _ Y X => X = Y
  | ⟨1, _⟩ => fun _ Y X => X = Y
  | ⟨2, _⟩ => fun _ Y X => X = Y
  | ⟨3, _⟩ => fun _ Y X => X = Y
  | ⟨4, _⟩ => fun _ Y X => X = Y
  | ⟨5, _⟩ => fun _ Y X => X = Y
  | ⟨6, _⟩ => fun t _ X => t.val % 10 = 9 → T.dq c t X
  | ⟨7, _⟩ => fun t _ X => qOf t.val = 3 → T.dk c t X
  | ⟨8, _⟩ => fun t _ X => qOf t.val = 3 → T.dv c t X
  | ⟨_ + 9, h⟩ => absurd h (by simp)

/-- The proof data of the launch. -/
def rdat (c : Dev nD) : Pipeline.RDat τ (Elt FF) Unit ℕ (UR sig nD τ) ℕ cfgA c where
  A := fun w => V m c (Pipeline.arrRef spec0 w)
  after := left T c
  Φ := Phi T c
  q := fun _ => fullShare
  owed := fun _ => 0

theorem prefHeld_eq (c : Dev nD) (q : Fin 2 → PosShare TreeShare) (v : pre0.Contents (Elt FF)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

theorem finds_0 (c : Dev nD) (t : Fin cfgA.N) (Y : (cfgA.win (0 : Fin 9)).block.Idx → Elt FF (cfgA.win (0 : Fin 9)).elt) (h : (rdat m T c).Finds (0 : Fin 9) t Y) : Y = iblk m c (0 : Fin 9) t := by
  obtain ⟨d, hd⟩ := (rdat m T c).finds_in_eq_fetched (0 : Fin 9) rfl (fun _ _ _ => rfl) (fun _ _ _ h => h) t Y h
  exact hd.trans (by unfold Pipeline.RDat.fetched Pipeline.RDat.blockOf iblk; rfl)
theorem finds_1 (c : Dev nD) (t : Fin cfgA.N) (Y : (cfgA.win (1 : Fin 9)).block.Idx → Elt FF (cfgA.win (1 : Fin 9)).elt) (h : (rdat m T c).Finds (1 : Fin 9) t Y) : Y = iblk m c (1 : Fin 9) t := by
  obtain ⟨d, hd⟩ := (rdat m T c).finds_in_eq_fetched (1 : Fin 9) rfl (fun _ _ _ => rfl) (fun _ _ _ h => h) t Y h
  exact hd.trans (by unfold Pipeline.RDat.fetched Pipeline.RDat.blockOf iblk; rfl)
theorem finds_2 (c : Dev nD) (t : Fin cfgA.N) (Y : (cfgA.win (2 : Fin 9)).block.Idx → Elt FF (cfgA.win (2 : Fin 9)).elt) (h : (rdat m T c).Finds (2 : Fin 9) t Y) : Y = iblk m c (2 : Fin 9) t := by
  obtain ⟨d, hd⟩ := (rdat m T c).finds_in_eq_fetched (2 : Fin 9) rfl (fun _ _ _ => rfl) (fun _ _ _ h => h) t Y h
  exact hd.trans (by unfold Pipeline.RDat.fetched Pipeline.RDat.blockOf iblk; rfl)
theorem finds_3 (c : Dev nD) (t : Fin cfgA.N) (Y : (cfgA.win (3 : Fin 9)).block.Idx → Elt FF (cfgA.win (3 : Fin 9)).elt) (h : (rdat m T c).Finds (3 : Fin 9) t Y) : Y = iblk m c (3 : Fin 9) t := by
  obtain ⟨d, hd⟩ := (rdat m T c).finds_in_eq_fetched (3 : Fin 9) rfl (fun _ _ _ => rfl) (fun _ _ _ h => h) t Y h
  exact hd.trans (by unfold Pipeline.RDat.fetched Pipeline.RDat.blockOf iblk; rfl)
theorem finds_4 (c : Dev nD) (t : Fin cfgA.N) (Y : (cfgA.win (4 : Fin 9)).block.Idx → Elt FF (cfgA.win (4 : Fin 9)).elt) (h : (rdat m T c).Finds (4 : Fin 9) t Y) : Y = iblk m c (4 : Fin 9) t := by
  obtain ⟨d, hd⟩ := (rdat m T c).finds_in_eq_fetched (4 : Fin 9) rfl (fun _ _ _ => rfl) (fun _ _ _ h => h) t Y h
  exact hd.trans (by unfold Pipeline.RDat.fetched Pipeline.RDat.blockOf iblk; rfl)
theorem finds_5 (c : Dev nD) (t : Fin cfgA.N) (Y : (cfgA.win (5 : Fin 9)).block.Idx → Elt FF (cfgA.win (5 : Fin 9)).elt) (h : (rdat m T c).Finds (5 : Fin 9) t Y) : Y = iblk m c (5 : Fin 9) t := by
  obtain ⟨d, hd⟩ := (rdat m T c).finds_in_eq_fetched (5 : Fin 9) rfl (fun _ _ _ => rfl) (fun _ _ _ h => h) t Y h
  exact hd.trans (by unfold Pipeline.RDat.fetched Pipeline.RDat.blockOf iblk; rfl)

set_option maxHeartbeats 4000000 in
/-- The body's obligation at every point. -/
theorem sound (hk : T.Kept m) (c : Dev nD) : (rdat m T c).BodyObligation (defs₀ (F := FF)) Variants.none () Set.univ := by
  intro t Y hY
  rw [bigSep_W0, bigSep_W0]
  have e0 := finds_0 m T c t _ (hY (0 : Fin 9))
  have e1 := finds_1 m T c t _ (hY (1 : Fin 9))
  have e2 := finds_2 m T c t _ (hY (2 : Fin 9))
  have e3 := finds_3 m T c t _ (hY (3 : Fin 9))
  have e4 := finds_4 m T c t _ (hY (4 : Fin 9))
  have e5 := finds_5 m T c t _ (hY (5 : Fin 9))
  rw [e0, e1, e2, e3, e4, e5]
  rw [show (rdat m T c).Φ t.castSucc = Phi T c t.castSucc from rfl, show (rdat m T c).Φ t.succ = Phi T c t.succ from rfl,
    show (rdat m T c).owesAt () t.succ = (rdat m T c).owesAt () t.castSucc from rfl]
  unfold Phi
  iintro ⟨⟨%s0, %s1, %s2, %hinv, HS0, HS1, HS2, HT0, HT1, HP⟩, Ho, H0, H1, H2, H3, H4, H5, H6, H7, H8⟩
  obtain ⟨h', htake, hinv', hq, hkk, hv⟩ := hk c t
    ⟨(stg t).arg11.view.rep (Y (6 : Fin 9)), (stg t).arg12.view.rep (Y (7 : Fin 9)), (stg t).arg13.view.rep (Y (8 : Fin 9)), s0, s1, s2⟩ hinv
  iapply (htake _)
  unfold own
  isplitl [H0 H1 H2 H3 H4 H5 H6 H7 H8 HS0 HS1 HS2 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iapply rep_of_owns; iexact H6
    isplitl [H7]; · iapply rep_of_owns; iexact H7
    isplitl [H8]; · iapply rep_of_owns; iexact H8
    isplitl [HS0]; · iexact HS0
    isplitl [HS1]; · iexact HS1
    iexact HS2
  iintro ⟨H0, H1, H2, H3, H4, H5, HT0, HT1, H6, H7, H8, HS0, HS1, HS2⟩
  isplitl [HS0 HS1 HS2 HT0 HT1 HP]
  · iexists h'.s0; iexists h'.s1; iexists h'.s2
    isplitr; · ipureintro; exact hinv'
    isplitl [HS0]; · iexact HS0
    isplitl [HS1]; · iexact HS1
    isplitl [HS2]; · iexact HS2
    isplitl [HT0]; · iexact HT0
    isplitl [HT1]; · iexact HT1
    iexact HP
  isplitl [Ho]; · iexact Ho
  isplitl [H0]
  · iexists iblk m c (0 : Fin 9) t; isplitr; · ipureintro; exact rfl
    iapply owns_of_rep; iexact H0
  isplitl [H1]
  · iexists iblk m c (1 : Fin 9) t; isplitr; · ipureintro; exact rfl
    iapply owns_of_rep; iexact H1
  isplitl [H2]
  · iexists iblk m c (2 : Fin 9) t; isplitr; · ipureintro; exact rfl
    iapply owns_of_rep; iexact H2
  isplitl [H3]
  · iexists iblk m c (3 : Fin 9) t; isplitr; · ipureintro; exact rfl
    iapply owns_of_rep; iexact H3
  isplitl [H4]
  · iexists iblk m c (4 : Fin 9) t; isplitr; · ipureintro; exact rfl
    iapply owns_of_rep; iexact H4
  isplitl [H5]
  · iexists iblk m c (5 : Fin 9) t; isplitr; · ipureintro; exact rfl
    iapply owns_of_rep; iexact H5
  isplitl [H6]
  · iexists (stg t).arg11.view.read (Elt FF) h'.g6; isplitr; · ipureintro; exact hq
    unfold owns; iexists h'.g6; isplitr; · ipureintro; rfl
    iexact H6
  isplitl [H7]
  · iexists (stg t).arg12.view.read (Elt FF) h'.g7; isplitr; · ipureintro; exact hkk
    unfold owns; iexists h'.g7; isplitr; · ipureintro; rfl
    iexact H7
  iexists (stg t).arg13.view.read (Elt FF) h'.g8; isplitr; · ipureintro; exact hv
  unfold owns; iexists h'.g8; isplitr; · ipureintro; rfl
  iexact H8

theorem phi_intro (c : Dev nD) : iprop(Pipeline.ΦA spec0 c ∗ Pipeline.ΦT pre0 pf c) ⊢ Phi T c 0 := by
  unfold Pipeline.ΦA Pipeline.ΦT
  rw [prefHeld_eq, scopedRest0_eq]; unfold Phi
  iintro ⟨⟨⟨⟨%s0, HS0⟩, ⟨%s1, HS1⟩, ⟨%s2, HS2⟩⟩, HP⟩, HT0, HT1⟩
  iexists s0; iexists s1; iexists s2
  isplitr; · ipureintro; exact T.start c _ _ _
  isplitl [HS0]; · iexact HS0
  isplitl [HS1]; · iexact HS1
  isplitl [HS2]; · iexact HS2
  isplitl [HT0]; · iexact HT0
  isplitl [HT1]; · iexact HT1
  iexact HP

theorem phi_exit (c : Dev nD) (t : Fin (cfgA.N + 1)) : Phi T c t ⊢ Pipeline.ΦA spec0 c := by
  unfold Pipeline.ΦA; rw [scopedRest0_eq]; unfold Phi
  iintro ⟨%s0, %s1, %s2, -, HS0, HS1, HS2, -, -, HP⟩
  isplitl [HS0 HS1 HS2]
  · isplitl [HS0]; · iexists s0; iexact HS0
    isplitl [HS1]; · iexists s1; iexact HS1
    iexists s2; iexact HS2
  iexact HP

theorem share_eq (c : Dev nD) (w : Fin cfgA.W) : (rdat m T c).share w = fullShare := by unfold Pipeline.RDat.share; split <;> rfl

/-- The run: every output array holds what its write-backs left, each under the claim. -/
theorem run (ρ : Dev nD → PrngReg) (hk : T.Kept m) :
    θ_run (defs (F := FF)) (onTc (main (F := FF))) (s₀ m ρ)
      (fun r => Pipeline.RDat.FramePost (Pipeline.pin pcfgs (fun _ => adm) 0) (rdat m T) (V m) r ∧ r.2.sem = fun _ => 0) :=
  Pipeline.RDat.θ_run_frameP_track pcfgs (fun _ => adm) 0 launch0 (defs₀ (F := FF)) Variants.none (rdat m T) m ρ main
    (sound m T hk) (share_eq m T) (fun _ _ => rfl) (V m)
    (Pipeline.hmainP_prefixes pcfgs 0 (defs₀ (F := FF)) Variants.none m main opss opss_sub opss_fresh main_chain)
    (fun _ _ => rfl)
    (fun c k => by rcases k with ⟨k, hk⟩; interval_cases k <;> first | exact V_c m c | exact V_c_0 m c)
    (phi_intro T) (fun c => phi_exit T c _) (fun r => Pipeline.RDat.FramePost (Pipeline.pin pcfgs (fun _ => adm) 0) (rdat m T) (V m) r ∧ r.2.sem = fun _ => 0) (fun _ h => h)

end Cert.MlaIdeal.Body

end
-- ==== Proof.MlaSpec.lean ====
/- Causal attention of one head and its gradients, over the reals: the reference's plain formulas. -/
module

public import Idealize.ShloMosaic.PureOps.Ideal.Laws
public import Idealize.ShloMosaic.Lib.ValueIdx

@[expose] public section

set_option maxRecDepth 16384

noncomputable section

open Idealize.ShloMosaic

namespace MlaSpec

/-- One head of one sequence: queries, keys, values, the output's cotangent, and a number per query taken from its scores. -/
structure Head where
  q : Fin 2048 → Fin 96 → ℝ
  k : Fin 2048 → Fin 96 → ℝ
  v : Fin 2048 → Fin 64 → ℝ
  o : Fin 2048 → Fin 64 → ℝ
  m : Fin 2048 → ℝ

variable (H : Head)

def Head.sc (i s : Fin 2048) : ℝ := (∑ d, H.q i d * H.k s d) * (Real.sqrt 96)⁻¹
def Head.masked (i s : Fin 2048) : EReal := if s ≤ i then (H.sc i s : EReal) else ⊥
def Head.e (i s : Fin 2048) : ℝ := if s ≤ i then Real.exp (H.sc i s - H.m i) else 0
def Head.z (i : Fin 2048) : ℝ := ∑ s, H.e i s
def Head.p (i s : Fin 2048) : ℝ := H.e i s / H.z i
def Head.dp (i s : Fin 2048) : ℝ := ∑ d, H.o i d * H.v s d
def Head.dsum (i : Fin 2048) : ℝ := ∑ s, H.p i s * H.dp i s
/-- The gradient of a score, times the scores' scale. -/
def Head.ds (i s : Fin 2048) : ℝ := H.p i s * (H.dp i s - H.dsum i) * (Real.sqrt 96)⁻¹
def Head.gq (i : Fin 2048) (d : Fin 96) : ℝ := ∑ s, H.ds i s * H.k s d
def Head.gk (s : Fin 2048) (d : Fin 96) : ℝ := ∑ i, H.ds i s * H.q i d
def Head.gv (s : Fin 2048) (d : Fin 64) : ℝ := ∑ i, H.p i s * H.o i d

theorem e_nonneg (i s : Fin 2048) : 0 ≤ H.e i s := by
  unfold Head.e; split
  · exact (Real.exp_pos _).le
  · exact le_refl _
theorem z_pos (i : Fin 2048) : 0 < H.z i := by
  refine Finset.sum_pos' (fun s _ => e_nonneg H i s) ⟨i, Finset.mem_univ _, ?_⟩
  unfold Head.e; rw [if_pos (le_refl i)]; exact Real.exp_pos _
theorem z_ne (i : Fin 2048) : H.z i ≠ 0 := (z_pos H i).ne'
theorem p_of_lt (i s : Fin 2048) (h : ¬ s ≤ i) : H.p i s = 0 := by unfold Head.p Head.e; rw [if_neg h, zero_div]
theorem ds_of_lt (i s : Fin 2048) (h : ¬ s ≤ i) : H.ds i s = 0 := by unfold Head.ds; rw [p_of_lt H i s h, zero_mul, zero_mul]

/-- The probability read back from the logarithm of the row's total, in base two. -/
theorem p_of_log (i s : Fin 2048) (h : s ≤ i) :
    Real.rpow 2 (H.sc i s * (Real.log 2)⁻¹ - (H.m i + Real.log (H.z i)) / Real.log 2) = H.p i s := by
  have h2 : Real.log 2 ≠ 0 := (Real.log_pos (by norm_num)).ne'
  have e1 : H.sc i s * (Real.log 2)⁻¹ - (H.m i + Real.log (H.z i)) / Real.log 2 = (H.sc i s - H.m i - Real.log (H.z i)) / Real.log 2 := by
    field_simp; ring
  rw [Real.rpow_eq_pow, e1, Real.rpow_def_of_pos (by norm_num), mul_div_cancel₀ _ h2, Real.exp_sub, Real.exp_log (z_pos H i)]
  unfold Head.p Head.e; rw [if_pos h]

/-- The row sums of cotangent and output are those of probabilities and their gradients. -/
theorem dsum_eq (i : Fin 2048) : ∑ d, H.o i d * (∑ s, H.v s d * H.p i s) = H.dsum i := by
  unfold Head.dsum Head.dp
  simp only [Finset.mul_sum]
  rw [Finset.sum_comm]
  exact Finset.sum_congr rfl fun s _ => Finset.sum_congr rfl fun d _ => by ring

/-- The softmax's derivative, as the reference's transposed division and sum give it. -/
theorem ds_eq (i s : Fin 2048) :
    (H.dp i s / H.z i + -∑ s', H.dp i s' * (1 / (H.z i * H.z i)) * H.e i s') * H.e i s * (Real.sqrt 96)⁻¹ = H.ds i s := by
  have hz := z_ne H i
  have e : ∑ s', H.dp i s' * (1 / (H.z i * H.z i)) * H.e i s' = H.dsum i / H.z i := by
    unfold Head.dsum Head.p
    rw [Finset.sum_div]
    exact Finset.sum_congr rfl fun s' _ => by field_simp
  rw [e]
  unfold Head.ds Head.p
  field_simp
  ring

/-- A finite sum of reals, among the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]
theorem div_coe {x y : ℝ} (h : y ≠ 0) : Ideal.div (x : EReal) (y : EReal) = ((x / y : ℝ) : EReal) := by
  rw [Ideal.div_coe h, ← EReal.coe_mul]; congr 1; ring
theorem exp_masked (i s : Fin 2048) : Ideal.exp (H.masked i s - (H.m i : EReal)) = (H.e i s : EReal) := by
  unfold Head.masked Head.e
  split
  · rw [← EReal.coe_sub, Ideal.exp_coe]
  · rw [EReal.bot_sub, Ideal.exp_bot]; rfl

end MlaSpec

end
-- ==== Proof.MlaRef.lean ====
/- The reference's gradients, read as the plain formulas of every head. -/
module

public import proofs.«01_k».proof.Proof.MlaSpec
public import proofs.«01_k».proof.Proof.Gen.MlaRefIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.MlaRefIdeal.MlaRef

open Cert.MlaRefIdeal Cert.MlaRefIdeal.Read MlaSpec

variable (x0 x1 : FVec Ideal S4x2048x8x96 .f32) (x2 : FVec Ideal S4x2048x8x64 .f32) (x3 : FVec Ideal S4x2048x512 .f32)

/-- The arguments are these heads. -/
structure Reads (W : Fin 4 → Fin 8 → Head) : Prop where
  q : ∀ b i h d, x0 (ix4 b i h d) = ((W b h).q i d : EReal)
  k : ∀ b i h d, x1 (ix4 b i h d) = ((W b h).k i d : EReal)
  v : ∀ b i h d, x2 (ix4 b i h d) = ((W b h).v i d : EReal)
  o : ∀ (b : Fin 4) (i : Fin 2048) (h : Fin 8) (d : Fin 64), x3 (ix3 b i ⟨64 * h.val + d.val, by omega⟩) = ((W b h).o i d : EReal)

variable {x0 x1 x2 x3} {W : Fin 4 → Fin 8 → Head} (R : Reads x0 x1 x2 x3 W)
variable (b : Fin 4) (h : Fin 8) (i s : Fin 2048)

theorem word_96 : Ideal.ofBits .f32 0x42C00000#32 = ((96 : ℝ) : EReal) := by
  simp [Ideal.ofBits, Ideal.ieee, -EReal.coe_mul]; norm_num
theorem word_bot : Ideal.ofBits .f32 0xFF800000#32 = (⊥ : EReal) := by
  simp [Ideal.ofBits, Ideal.ieee]
theorem word_one : Ideal.ofBits .f32 0x3F800000#32 = ((1 : ℝ) : EReal) := Ideal.ofBits_one_f32
theorem word_two : Ideal.ofBits .f32 0x40000000#32 = ((2 : ℝ) : EReal) := by
  simp [Ideal.ofBits, Ideal.ieee, -EReal.coe_mul]; norm_num

/-- The mask's comparison of two positions. -/
theorem select_pos {α : Type} (i s : Fin 2048) (u v : α) :
    Scalar.select (IntOp.cmpi CmpIPredicate.sle (BitVec.ofNat 32 s.val) (BitVec.ofNat 32 i.val)) u v = if s ≤ i then u else v := by
  have e : ∀ n : Fin 2048, (BitVec.ofNat 32 n.val).toInt = (n.val : Int) := fun n => by
    have hn : (BitVec.ofNat 32 n.val).toNat = n.val := by rw [BitVec.toNat_ofNat]; omega
    rw [BitVec.toInt_eq_toNat_of_lt (by omega), hn]
  have h : (BitVec.ofNat 32 s.val).sle (BitVec.ofNat 32 i.val) = decide (s ≤ i) := by
    rw [BitVec.sle, e, e]; exact decide_eq_decide.mpr (by rw [Fin.le_def]; omega)
  show (if BitVec.ofBool ((BitVec.ofNat 32 s.val).sle (BitVec.ofNat 32 i.val)) = 1#1 then u else v) = _
  rw [h]
  by_cases g : s ≤ i <;> simp [g]

theorem scale_at (j : S_.Idx) : val_main_v0 (F := Ideal) j = (((Real.sqrt 96)⁻¹ : ℝ) : EReal) := by
  pointwise [val_main_v0, val_main_cst]
  rw [word_96, Ideal.rsqrt_coe, if_neg (by norm_num), if_neg (by norm_num)]

include R

theorem sc_at : val_main_v3 (F := Ideal) x0 x1 (ix4 b h i s) = ((W b h).sc i s : EReal) := by
  pointwise [val_main_v3, val_main_v1, val_main_v2, scale_at]
  unfold Head.sc
  rw [EReal.coe_mul, coe_sum]
  simp only [EReal.coe_mul, R.q, R.k]

theorem masked_at : val_main_v10_0 (F := Ideal) x0 x1 (ix4 b h i s) = (W b h).masked i s := by
  pointwise [val_main_v10_0, sc_at R, val_main_v10_1, val_main_v9, val_main_v7, val_main_v8, val_main_v6, val_main_v5, val_main_v4, val_main_call0_v2, val_main_call0_v0, val_main_cst_0]
  refine (select_pos i s _ _).trans ?_
  unfold Head.masked
  rw [show (id (constant (F := Ideal) S_ FTy.f32 4286578688#32) ix0 : EReal) = ⊥ from word_bot]

theorem top_fold : val_main_v11 (F := Ideal) x0 x1 (ix3 b h i) = Finset.fold max (⊥ : EReal) (fun s => (W b h).masked i s) Finset.univ := by
  pointwise [val_main_v11, masked_at R]
  rw [show (val_main_cst_1 (F := Ideal) (Shape.Idx.first Gen.h_S_) : EReal) = ⊥ from word_bot]

omit R
theorem masked_ne_top (H : Head) : H.masked i s ≠ ⊤ := by
  unfold Head.masked; split
  · exact EReal.coe_ne_top _
  · exact bot_ne_top
theorem fold_ne (H : Head) : Finset.fold max (⊥ : EReal) (fun s => H.masked i s) Finset.univ ≠ ⊤
    ∧ Finset.fold max (⊥ : EReal) (fun s => H.masked i s) Finset.univ ≠ ⊥ := by
  refine ⟨((Finset.fold_max_lt _).mpr ⟨bot_lt_top, fun x _ => lt_top_iff_ne_top.mpr (masked_ne_top i x H)⟩).ne, fun e => ?_⟩
  have h : H.masked i i ≤ Finset.fold max (⊥ : EReal) (fun s => H.masked i s) Finset.univ :=
    (Finset.le_fold_max _).mpr (Or.inr ⟨i, Finset.mem_univ _, le_refl _⟩)
  rw [e] at h
  unfold Head.masked at h
  rw [if_pos (le_refl i)] at h
  exact absurd (le_bot_iff.mp h) (EReal.coe_ne_bot _)

/-- A head's number per query is its row's greatest score. -/
def Tops (x0 x1 : FVec Ideal S4x2048x8x96 .f32) (W : Fin 4 → Fin 8 → Head) : Prop :=
  ∀ b h i, val_main_v11 (F := Ideal) x0 x1 (ix3 b h i) = ((W b h).m i : EReal)

variable (T : Tops x0 x1 W)

end Cert.MlaRefIdeal.MlaRef

end
-- ==== Proof.MlaRefGrad.lean ====
/- The reference's gradients as the plain formulas of every head: the stages after the scores. -/
module

public import proofs.«01_k».proof.Proof.MlaRef

@[expose] public section

set_option maxRecDepth 16384

noncomputable section

open Idealize.ShloMosaic Idealize.ShloMosaic.TcCoe Idealize.SL.Sem

namespace Cert.MlaRefIdeal.MlaRef

open Cert.MlaRefIdeal Cert.MlaRefIdeal.Read MlaSpec

variable {x0 x1 : FVec Ideal S4x2048x8x96 .f32} {x2 : FVec Ideal S4x2048x8x64 .f32} {x3 : FVec Ideal S4x2048x512 .f32}
variable {W : Fin 4 → Fin 8 → Head} (R : Reads x0 x1 x2 x3 W) (T : Tops x0 x1 W)
variable (b : Fin 4) (h : Fin 8) (i s : Fin 2048)

include R T

omit R in
theorem top_at : val_main_v18 (F := Ideal) x0 x1 (ix3 b h i) = ((W b h).m i : EReal) := by
  rw [val_main_v18_apply, T b h i, val_main_v17_apply]
  show max (Ideal.ofBits .f32 0xFF800000#32) _ = _
  rw [word_bot]
  exact max_eq_right bot_le

theorem e_at : val_main_v31 (F := Ideal) x0 x1 (ix4 b h i s) = ((W b h).e i s : EReal) := by
  pointwise [val_main_v31, val_main_v30, masked_at R, val_main_v29, val_main_v28, top_at T]
  exact exp_masked _ i s

theorem z_at (a : Fin 1) : val_main_v33 (F := Ideal) x0 x1 (ix4 b h i a) = ((W b h).z i : EReal) := by
  pointwise [val_main_v33, val_main_v32, e_at R T]
  unfold Head.z
  rw [show (val_main_cst_9 (F := Ideal) (Shape.Idx.first Gen.h_S_) : EReal) = 0 from Ideal.ofBits_zero_f32, zero_add, coe_sum]

theorem p_at : val_main_v35 (F := Ideal) x0 x1 (ix4 b h i s) = ((W b h).p i s : EReal) := by
  pointwise [val_main_v35, val_main_v34, e_at R T, z_at R T]
  exact div_coe (z_ne _ i)

theorem out_at (d : Fin 64) : val_main_v40 (F := Ideal) x0 x1 x2 (ix4 b i h d) = ((∑ s, (W b h).v s d * (W b h).p i s : ℝ) : EReal) := by
  pointwise [val_main_v40, val_main_v39, p_at R T, R.v]
  rw [coe_sum]
  simp only [EReal.coe_mul]

omit T in
theorem do_at (d : Fin 64) : val_main_v43 (F := Ideal) x3 (ix4 b h d i) = ((W b h).o i d : EReal) := by
  rw [← R.o]
  pointwise [val_main_v43, val_main_v42]
  simp only [mul_comm]

omit T in
theorem dp_at : val_main_v44 (F := Ideal) x2 x3 (ix4 b h i s) = ((W b h).dp i s : EReal) := by
  pointwise [val_main_v44, do_at R, R.v]
  unfold Head.dp
  rw [coe_sum]
  simp only [EReal.coe_mul]

theorem gv_at (d : Fin 64) : val_main_v46 (F := Ideal) x0 x1 x3 (ix4 b s h d) = ((W b h).gv s d : EReal) := by
  pointwise [val_main_v46, val_main_v45, do_at R, p_at R T]
  unfold Head.gv
  rw [coe_sum]
  simp only [EReal.coe_mul, mul_comm]

theorem zz_at (a : Fin 1) : val_main_v38 (F := Ideal) x0 x1 (ix4 b h i a) = ((1 / ((W b h).z i * (W b h).z i) : ℝ) : EReal) := by
  pointwise [val_main_v38, val_main_v37, val_main_v36, z_at R T, val_main_cst_10]
  rw [← EReal.coe_mul, ← EReal.coe_one]
  exact div_coe (mul_ne_zero (z_ne _ i) (z_ne _ i))

theorem row_at (a : Fin 1) : val_main_v51 (F := Ideal) x0 x1 x2 x3 (ix4 b h i a)
    = ((∑ s', (W b h).dp i s' * (1 / ((W b h).z i * (W b h).z i)) * (W b h).e i s' : ℝ) : EReal) := by
  pointwise [val_main_v51, val_main_v50, val_main_v49, val_main_v48, val_main_v47, zz_at R T, e_at R T, dp_at R]
  rw [show (val_main_cst_11 (F := Ideal) (Shape.Idx.first Gen.h_S_) : EReal) = 0 from Ideal.ofBits_zero_f32, zero_add, coe_sum]
  simp only [EReal.coe_mul]

theorem ds_at : val_main_v61 (F := Ideal) x0 x1 x2 x3 (ix4 b h i s) = ((W b h).ds i s : EReal) := by
  pointwise [val_main_v61, val_main_v60, val_main_v59, val_main_v58, val_main_v57, val_main_v56, val_main_v55, val_main_v54, val_main_v53, val_main_v52, row_at R T, z_at R T, e_at R T, dp_at R, scale_at, val_main_v10_1, val_main_v9, val_main_v7, val_main_v8, val_main_v6, val_main_v5, val_main_v4, val_main_v10_2, val_main_call0_cst]
  rw [select_pos i s]
  split
  · rename_i g
    rw [show (val_main_cst_12 (F := Ideal) (Shape.Idx.first Gen.h_S_) : EReal) = 0 from Ideal.ofBits_zero_f32, zero_add,
      Finset.sum_const, Finset.card_univ, Fintype.card_fin, one_smul, div_coe (z_ne _ i), ← EReal.coe_neg, ← EReal.coe_add, ← EReal.coe_mul, ← EReal.coe_mul, ds_eq]
  · rename_i g
    rw [show (val_main_call1_v0 (F := Ideal) (ix4 b h i s) : EReal) = 0 from ?_, ds_of_lt _ i s g, zero_mul]
    · rfl
    · pointwise [val_main_call1_v0]
      exact Ideal.ofBits_zero_f32

theorem gk_at (d : Fin 96) : val_main_v63 (F := Ideal) x0 x1 x2 x3 (ix4 b s h d) = ((W b h).gk s d : EReal) := by
  pointwise [val_main_v63, val_main_v62, ds_at R T, R.q]
  unfold Head.gk
  rw [coe_sum]
  simp only [EReal.coe_mul]

theorem gq_at (d : Fin 96) : val_main_v65 (F := Ideal) x0 x1 x2 x3 (ix4 b i h d) = ((W b h).gq i d : EReal) := by
  pointwise [val_main_v65, val_main_v64, ds_at R T, R.k]
  unfold Head.gq
  rw [coe_sum]
  simp only [EReal.coe_mul]

end Cert.MlaRefIdeal.MlaRef

end
-- ==== Proof.MlaHost.lean ====
/- What the host hands the kernel: padded queries and keys, values, cotangents, and the two rows of numbers per query. -/
module

public import proofs.«01_k».proof.Proof.MlaLaunch
public import proofs.«01_k».proof.Proof.MlaRefGrad
public import Idealize.ShloMosaic.Lib.Claim

@[expose] public section

set_option maxRecDepth 16384

noncomputable section

open Idealize.ShloMosaic Idealize.ShloMosaic.TcCoe Idealize.SL.Sem

namespace Cert.MlaIdeal.Body

open Cert.MlaIdeal Cert.MlaIdeal.Gen MlaSpec
open Cert.MlaRefIdeal.Read (val_main_v10_0 val_main_v11)

/-! The stages of the host's forward pass. -/

section
variable (x0 x1 : FVec Ideal S4x2048x8x96 .f32) (x2 : FVec Ideal S4x2048x8x64 .f32) (x3 : FVec Ideal S4x2048x512 .f32)

def hE : FVec Ideal S4x8x2048x2048 .f32 :=
  Host.exp (subf (val_main_v10_0 (F := Ideal) x0 x1) (broadcastInDim S4x8x2048x2048 ![0, 1, 2, 3] bcast_S4x8x2048x1_S4x8x2048x2048_0_1_2_3
    (broadcastInDim S4x8x2048x1 ![0, 1, 2] bcast_S4x8x2048_S4x8x2048x1_0_1_2 (val_main_v11 (F := Ideal) x0 x1))))
def hZ : FVec Ideal S4x8x2048 .f32 :=
  Host.reduceAdd (hE x0 x1) (constant S_ .f32 0x00000000#32) reducesTo_S4x8x2048x2048_S4x8x2048_d3 h_S_
def hP : FVec Ideal S4x8x2048x2048 .f32 :=
  Host.divf (hE x0 x1) (broadcastInDim S4x8x2048x2048 ![0, 1, 2, 3] bcast_S4x8x2048x1_S4x8x2048x2048_0_1_2_3
    (broadcastInDim S4x8x2048x1 ![0, 1, 2] bcast_S4x8x2048_S4x8x2048x1_0_1_2 (hZ x0 x1)))
def hOut : FVec Ideal S4x2048x8x64 .f32 :=
  transpose S4x2048x8x64 [0, 3, 1, 2] (Host.dotGeneral dot_S4x2048x8x64_S4x8x2048x2048_S4x8x64x2048_1_3_3_2_02_01 none x2 (hP x0 x1)) transposes_S4x8x64x2048_S4x2048x8x64_0_3_1_2
/-- The logarithm of two. -/
def hTwo : FVec Ideal S_ .f32 := Host.log (constant S_ .f32 0x40000000#32)
def hLse : FVec Ideal S4x8x2048x1 .f32 :=
  Host.divf (addf (broadcastInDim S4x8x2048x1 ![0, 1, 2] bcast_S4x8x2048_S4x8x2048x1_0_1_2 (val_main_v11 (F := Ideal) x0 x1))
      (Host.log (broadcastInDim S4x8x2048x1 ![0, 1, 2] bcast_S4x8x2048_S4x8x2048x1_0_1_2 (hZ x0 x1))))
    (broadcastInDim S4x8x2048x1 ![] bcast_S_S4x8x2048x1 hTwo)
def hD : FVec Ideal S4x2048x8 .f32 :=
  Host.reduceAdd (mulf (shapeCast S4x2048x8x64 x3 shapeCasts_S4x2048x512_S4x2048x8x64) (hOut x0 x1 x2)) (constant S_ .f32 0x00000000#32) reducesTo_S4x2048x8x64_S4x2048x8_d3 h_S_

variable {x0 x1 x2 x3} {W : Fin 4 → Fin 8 → Head} (R : MlaRefIdeal.MlaRef.Reads x0 x1 x2 x3 W) (T : MlaRefIdeal.MlaRef.Tops x0 x1 W)
variable (b : Fin 4) (h : Fin 8) (i s : Fin 2048)

theorem log_pos {r : ℝ} (h : 0 < r) : Ideal.log (r : EReal) = (Real.log r : EReal) := by
  rw [Ideal.log_coe, if_neg (not_le.mpr h)]

theorem log_two_ne : Real.log 2 ≠ 0 := (Real.log_pos (by norm_num)).ne'

theorem hTwo_at (j : S_.Idx) : hTwo j = (Real.log 2 : EReal) := by
  show Ideal.log (Ideal.ofBits .f32 0x40000000#32) = _
  rw [MlaRefIdeal.MlaRef.word_two, log_pos two_pos]

include R T

theorem hE_at : hE x0 x1 (ix4 b h i s) = ((W b h).e i s : EReal) := by
  have e1 := MlaRefIdeal.MlaRef.masked_at R b h i s
  have e2 := T b h i
  unfold hE
  generalize val_main_v10_0 (F := Ideal) x0 x1 = y at e1 ⊢
  generalize val_main_v11 (F := Ideal) x0 x1 = z at e2 ⊢
  pointwise [e1, e2]
  exact exp_masked _ i s

theorem hZ_at : hZ x0 x1 (ix3 b h i) = ((W b h).z i : EReal) := by
  unfold hZ Head.z
  pointwise [hE_at R T]
  rw [coe_sum]

theorem hP_at : hP x0 x1 (ix4 b h i s) = ((W b h).p i s : EReal) := by
  unfold hP
  pointwise [hE_at R T, hZ_at R T]
  exact div_coe (z_ne _ i)

theorem hOut_at (d : Fin 64) : hOut x0 x1 x2 (ix4 b i h d) = ((∑ s, (W b h).v s d * (W b h).p i s : ℝ) : EReal) := by
  unfold hOut
  pointwise [hP_at R T, R.v]
  rw [coe_sum]
  simp only [EReal.coe_mul]

theorem hD_at : hD x0 x1 x2 x3 (ix3 b i h) = ((W b h).dsum i : EReal) := by
  unfold hD
  have o : ∀ d : Fin 64, x3 (ix3 b i ⟨h.val * 64 + d.val, by omega⟩) = ((W b h).o i d : EReal) := fun d => by
    have e := R.o b i h d
    simp only [mul_comm 64] at e
    exact e
  pointwise [hOut_at R T, o]
  rw [← dsum_eq, coe_sum]
  simp only [EReal.coe_mul]

end

variable (m : (ℓ : Loc nD τ sig) → Buf (Elt Ideal) ℓ) (c : Dev nD)

abbrev A0 : FVec Ideal S4x2048x8x96 .f32 := m ((c.tc : Thread nD τ).loc main_arg0)
abbrev A1 : FVec Ideal S4x2048x8x96 .f32 := m ((c.tc : Thread nD τ).loc main_arg1)
abbrev A2 : FVec Ideal S4x2048x8x64 .f32 := m ((c.tc : Thread nD τ).loc main_arg2)
abbrev A3 : FVec Ideal S4x2048x512 .f32 := m ((c.tc : Thread nD τ).loc main_arg3)

end Cert.MlaIdeal.Body

end
-- ==== Proof.MlaHost2.lean ====
module

public import proofs.«01_k».proof.Proof.MlaHost

@[expose] public section

set_option maxRecDepth 16384
set_option pp.maxSteps 3000

noncomputable section

open Idealize.ShloMosaic Idealize.ShloMosaic.TcCoe Idealize.SL.Sem

namespace Cert.MlaIdeal.Body

open Cert.MlaIdeal Cert.MlaIdeal.Gen MlaSpec
variable (m : (ℓ : Loc nD τ sig) → Buf (Elt Ideal) ℓ) (c : Dev nD)

theorem entry_lse : V m c main_v42 = shapeCast S1x8x8192 (transpose S8x4x2048 [1, 0, 2] (shapeCast S4x8x2048 (hLse (A0 m c) (A1 m c)) shapeCasts_S4x8x2048x1_S4x8x2048)
      transposes_S4x8x2048_S8x4x2048_1_0_2) shapeCasts_S8x4x2048_S1x8x8192 := by
  unfold V
  simp only [hostOps0, hostOps0_1, hostOps0_2, hostOps0_3, hostOps0_4, hostOps0_5, hostOps0_6, List.flatten_cons, List.flatten_nil, List.cons_append, List.nil_append, List.append_nil]
  entry_read
  rfl

theorem entry_dsum : V m c main_v44 = shapeCast S1x8x8192 (transpose S8x4x2048 [2, 0, 1] (hD (A0 m c) (A1 m c) (A2 m c) (A3 m c))
      transposes_S4x2048x8_S8x4x2048_2_0_1) shapeCasts_S8x4x2048_S1x8x8192 := by
  unfold V
  simp only [hostOps0, hostOps0_1, hostOps0_2, hostOps0_3, hostOps0_4, hostOps0_5, hostOps0_6, List.flatten_cons, List.flatten_nil, List.cons_append, List.nil_append, List.append_nil]
  entry_read
  rfl

/-- The host widens a head's 96 columns to 128 with zeros, and lays rows out batch after batch. -/
def wide (x : FVec Ideal S4x2048x8x96 .f32) : FVec Ideal S8192x1024 .bf16 :=
  truncf .bf16 (shapeCast S8192x1024 (pad S4x2048x8x128 ![0, 0, 0, 0] ![0, 0, 0, 32] ![0, 0, 0, 0] x (sitofp .f32 (constantI S_ 32 0#32)) pads_S4x2048x8x96_S4x2048x8x128_000_000_000_0320 h_S_)
    shapeCasts_S4x2048x8x128_S8192x1024) bitsLt_bf16_f32

theorem entry_q : V m c main_v32 = wide (A0 m c) := by
  unfold V
  simp only [hostOps0, hostOps0_1, hostOps0_2, hostOps0_3, hostOps0_4, hostOps0_5, hostOps0_6, List.flatten_cons, List.flatten_nil, List.cons_append, List.nil_append, List.append_nil]
  entry_read
  rfl

theorem entry_k : V m c main_v35 = wide (A1 m c) := by
  unfold V
  simp only [hostOps0, hostOps0_1, hostOps0_2, hostOps0_3, hostOps0_4, hostOps0_5, hostOps0_6, List.flatten_cons, List.flatten_nil, List.cons_append, List.nil_append, List.append_nil]
  entry_read
  rfl

theorem entry_v : V m c main_v37 = truncf .bf16 (shapeCast S8192x512 (A2 m c) shapeCasts_S4x2048x8x64_S8192x512) bitsLt_bf16_f32 := by
  unfold V
  simp only [hostOps0, hostOps0_1, hostOps0_2, hostOps0_3, hostOps0_4, hostOps0_5, hostOps0_6, List.flatten_cons, List.flatten_nil, List.cons_append, List.nil_append, List.append_nil]
  entry_read
  rfl

theorem entry_o : V m c main_v39 = truncf .bf16 (shapeCast S8192x512 (A3 m c) shapeCasts_S4x2048x512_S8192x512) bitsLt_bf16_f32 := by
  unfold V
  simp only [hostOps0, hostOps0_1, hostOps0_2, hostOps0_3, hostOps0_4, hostOps0_5, hostOps0_6, List.flatten_cons, List.flatten_nil, List.cons_append, List.nil_append, List.append_nil]
  entry_read
  rfl

end Cert.MlaIdeal.Body

end
-- ==== Proof.MlaLse.lean ====
/- What the host hands the kernel: padded queries and keys, values, cotangents, and the two rows of numbers per query. -/
module

public import proofs.«01_k».proof.Proof.MlaHost
public import proofs.«01_k».proof.Proof.MlaRefGrad
public import Idealize.ShloMosaic.Lib.Claim

@[expose] public section

set_option maxRecDepth 16384

noncomputable section

open Idealize.ShloMosaic Idealize.ShloMosaic.TcCoe Idealize.SL.Sem

namespace Cert.MlaIdeal.Body

open Cert.MlaIdeal Cert.MlaIdeal.Gen MlaSpec
open Cert.MlaRefIdeal.Read (val_main_v10_0 val_main_v11)

/-- A sum plus a logarithm, over a number, at one index. -/
theorem lse_read (t z : FVec Ideal S4x8x2048 .f32) (u : FVec Ideal S_ .f32) (b : Fin 4) (h : Fin 8) (i : Fin 2048) (a : Fin 1) :
    Host.divf (addf (broadcastInDim S4x8x2048x1 ![0, 1, 2] bcast_S4x8x2048_S4x8x2048x1_0_1_2 t)
      (Host.log (broadcastInDim S4x8x2048x1 ![0, 1, 2] bcast_S4x8x2048_S4x8x2048x1_0_1_2 z)))
      (broadcastInDim S4x8x2048x1 ![] bcast_S_S4x8x2048x1 u) (ix4 b h i a)
      = Ideal.div (t (ix3 b h i) + Ideal.log (z (ix3 b h i))) (u Idealize.ShloMosaic.ix0) := by
  pointwise

variable {x0 x1 : FVec Ideal S4x2048x8x96 .f32} {x2 : FVec Ideal S4x2048x8x64 .f32} {x3 : FVec Ideal S4x2048x512 .f32} {W : Fin 4 → Fin 8 → Head} (R : MlaRefIdeal.MlaRef.Reads x0 x1 x2 x3 W) (T : MlaRefIdeal.MlaRef.Tops x0 x1 W)
variable (b : Fin 4) (h : Fin 8) (i s : Fin 2048)
include R T

theorem hLse_at (a : Fin 1) : hLse x0 x1 (ix4 b h i a) = ((((W b h).m i + Real.log ((W b h).z i)) / Real.log 2 : ℝ) : EReal) := by
  have e := lse_read (val_main_v11 (F := Ideal) x0 x1) (hZ x0 x1) hTwo b h i a
  rw [T b h i, hZ_at R T b h i, hTwo_at, log_pos (z_pos _ i), ← EReal.coe_add, div_coe log_two_ne] at e
  exact e

end Cert.MlaIdeal.Body

end
-- ==== Proof.MlaHead.lean ====
/- The payloads of one head at one grid point, as sums over rows and columns of the blocks. -/
module

public import proofs.«01_k».proof.Proof.MlaStep
public import Idealize.ShloMosaic.Lib.Pointwise
public import Idealize.ShloMosaic.Lib.VecWindow

@[expose] public section

set_option maxRecDepth 16384
set_option Elab.async false

noncomputable section

namespace Cert.MlaIdeal.Body

open Cert.MlaIdeal Cert.MlaIdeal.Gen
open Idealize.ShloMosaic Idealize.ShloMosaic.TcCoe Idealize.SL.Sem

/-- The constants of the kernel. -/
def cScale : EReal := (((Real.sqrt 96)⁻¹ : ℝ) : EReal)
def cScale2 : EReal := (((Real.sqrt 96)⁻¹ * (Real.log 2)⁻¹ : ℝ) : EReal)
theorem named_scale (b : BitVec 32) : (Named.named κ "scale" (φ := .f32) b : Ideal .f32) = cScale := rfl
theorem named_scale2 (b : BitVec 32) : (Named.named κ "scale_log2e" (φ := .f32) b : Ideal .f32) = cScale2 := rfl
theorem named_mask (b : BitVec 32) : (Named.named κ "mask" (φ := .f32) b : Ideal .f32) = (⊥ : EReal) := rfl

/-- The column of a head in the wide and in the narrow layout. -/
abbrev colK (j : Fin 8) (d : Fin 128) : Fin 1024 := ⟨128 * j.val + d.val, by omega⟩
abbrev colV (j : Fin 8) (d : Fin 64) : Fin 512 := ⟨64 * j.val + d.val, by omega⟩

/-- The probability of a key (row) for a query (column) of a head, between two blocks. `m`: on the diagonal. -/
def bP (m : Bool) (x : Given Ideal) (j : Fin 8) (r b : Fin 512) : EReal :=
  Ideal.exp2 ((if m = true ∧ ¬ r ≤ b then ⊥ else (∑ d : Fin 128, x.x1 (ix2 r (colK j d)) * x.x0 (ix2 b (colK j d))) * cScale2) - x.x4 (ix3 0 j b))
/-- Its scaled score's gradient. -/
def bS (m : Bool) (x : Given Ideal) (j : Fin 8) (r b : Fin 512) : EReal :=
  bP m x j r b * ((∑ d : Fin 64, x.x2 (ix2 r (colV j d)) * x.x3 (ix2 b (colV j d))) - x.x5 (ix3 0 j b)) * cScale
/-- The contributions of the block pair to the gradients of keys, values and queries. -/
def bK (m : Bool) (x : Given Ideal) (j : Fin 8) (r : Fin 512) (d : Fin 128) : EReal := ∑ b : Fin 512, bS m x j r b * x.x0 (ix2 b (colK j d))
def bV (m : Bool) (x : Given Ideal) (j : Fin 8) (r : Fin 512) (d : Fin 64) : EReal := ∑ b : Fin 512, bP m x j r b * x.x3 (ix2 b (colV j d))
def bQ (m : Bool) (x : Given Ideal) (j : Fin 8) (d : Fin 128) (b : Fin 512) : EReal := ∑ r : Fin 512, x.x1 (ix2 r (colK j d)) * bS m x j r b

/-- The mask's comparison of two positions. -/
theorem select_sle {α : Type} (r b : Fin 512) (u v : α) :
    Scalar.select (IntOp.cmpi CmpIPredicate.sle (BitVec.ofNat 32 r.val) (BitVec.ofNat 32 b.val)) u v = if r ≤ b then u else v := by
  have e : ∀ n : Fin 512, (BitVec.ofNat 32 n.val).toInt = (n.val : Int) := fun n => by
    have hn : (BitVec.ofNat 32 n.val).toNat = n.val := by rw [BitVec.toNat_ofNat]; omega
    rw [BitVec.toInt_eq_toNat_of_lt (by omega), hn]
  have h : (BitVec.ofNat 32 r.val).sle (BitVec.ofNat 32 b.val) = decide (r ≤ b) := by
    rw [BitVec.sle, e, e]; exact decide_eq_decide.mpr (by rw [Fin.le_def]; omega)
  show (if BitVec.ofBool ((BitVec.ofNat 32 r.val).sle (BitVec.ofNat 32 b.val)) = 1#1 then u else v) = _
  rw [h]
  by_cases g : r ≤ b <;> simp [g]

section
variable (a : Stages) (x : Given Ideal) (j : Fin 8)

theorem qS_apply (r : Fin 512) (d : Fin 128) : qS a x j (ix2 r d) = x.x0 (ix2 r (colK j d)) := by
  unfold qS
  rw [View.readAt_rep_unit _ _ _ rfl (inbK j)]
  exact congrArg x.x0 (by idx_ext)
theorem kS_apply (r : Fin 512) (d : Fin 128) : kS a x j (ix2 r d) = x.x1 (ix2 r (colK j d)) := by
  unfold kS
  rw [View.readAt_rep_unit _ _ _ rfl (inbK j)]
  exact congrArg x.x1 (by idx_ext)
theorem vS_apply (r : Fin 512) (d : Fin 64) : vS a x j (ix2 r d) = x.x2 (ix2 r (colV j d)) := by
  unfold vS
  rw [View.readAt_rep_unit _ _ _ rfl (inbV j)]
  exact congrArg x.x2 (by idx_ext)
theorem oS_apply (r : Fin 512) (d : Fin 64) : oS a x j (ix2 r d) = x.x3 (ix2 r (colV j d)) := by
  unfold oS
  rw [View.readAt_rep_unit _ _ _ rfl (inbV j)]
  exact congrArg x.x3 (by idx_ext)
theorem lS_apply (b : Fin 512) : lS a x j (ix3 0 0 b) = x.x4 (ix3 0 j b) := by
  unfold lS
  rw [View.readAt_rep_unit _ _ _ rfl (inbL j)]
  exact congrArg x.x4 (by idx_ext)
theorem dS_apply (b : Fin 512) : dS a x j (ix3 0 0 b) = x.x5 (ix3 0 j b) := by
  unfold dS
  rw [View.readAt_rep_unit _ _ _ rfl (inbL j)]
  exact congrArg x.x5 (by idx_ext)

theorem off_P (r b : Fin 512) : k0_pay15 (qS a x j) (kS a x j) (lS a x j) (ix2 r b) = bP false x j r b := by
  unfold bP; rw [if_neg (by simp)]
  pointwise [k0_pay15, k0_pay13, k0_pay12, qS_apply, kS_apply, lS_apply, named_scale2]
  rfl
theorem on_P (r b : Fin 512) : k0_pay86 (qS a x j) (kS a x j) (lS a x j) (ix2 r b) = bP true x j r b := by
  pointwise [k0_pay86, k0_pay84, k0_pay83, k0_pay82, qS_apply, kS_apply, lS_apply, named_scale2, named_mask]
  rw [select_sle]
  unfold bP
  by_cases h : r ≤ b
  · rw [if_pos h, if_neg fun e => e.2 h]; rfl
  · rw [if_neg h, if_pos ⟨rfl, h⟩]; rfl
theorem off_S (r b : Fin 512) : k0_pay17 (qS a x j) (kS a x j) (oS a x j) (lS a x j) (vS a x j) (dS a x j) (ix2 r b) = bS false x j r b := by
  pointwise [k0_pay17, k0_pay14, off_P, vS_apply, oS_apply, dS_apply, named_scale]
  rfl
theorem on_S (r b : Fin 512) : k0_pay90 (k0_pay88 (qS a x j) (kS a x j) (oS a x j) (lS a x j) (vS a x j) (dS a x j)) k0_pay89 (ix2 r b) = bS true x j r b := by
  pointwise [k0_pay90, k0_pay89, k0_pay88, k0_pay85, on_P, vS_apply, oS_apply, dS_apply, named_scale]
  rfl

/-- A head's payloads: the old values and the block pair's contribution. -/
theorem headK_apply (m : Bool) (old : Vec Ideal S512x128 .f32) (r : Fin 512) (d : Fin 128) :
    headK m a x j old (ix2 r d) = old (ix2 r d) + bK m x j r d := by
  cases m
  · show k0_pay18 _ _ _ _ _ = _
    pointwise [k0_pay18, k0_pay12, off_S, qS_apply]
    rfl
  · show k0_pay91 _ _ _ _ _ = _
    pointwise [k0_pay91, k0_pay83, on_S, qS_apply]
    rfl
theorem headV_apply (m : Bool) (old : Vec Ideal S512x64 .f32) (r : Fin 512) (d : Fin 64) :
    headV m a x j old (ix2 r d) = old (ix2 r d) + bV m x j r d := by
  cases m
  · show k0_pay16 _ _ _ _ _ _ = _
    pointwise [k0_pay16, k0_pay14, off_P, oS_apply]
    rfl
  · show k0_pay87 _ _ _ _ _ _ = _
    pointwise [k0_pay87, k0_pay85, on_P, oS_apply]
    rfl
theorem headQ_apply (m : Bool) (old : Vec Ideal S1x128x512 .f32) (d : Fin 128) (b : Fin 512) :
    headQ m a x j old (ix3 0 d b) = old (ix3 0 d b) + bQ m x j d b := by
  cases m
  · show k0_pay19 _ _ _ _ = _
    pointwise [k0_pay19, k0_pay13, off_S, kS_apply]
    rfl
  · show k0_pay92 _ _ _ _ _ = _
    pointwise [k0_pay92, k0_pay84, on_S, kS_apply]
    rfl
end
end Cert.MlaIdeal.Body

end
-- ==== Proof.MlaPair.lean ====
/- One pair of blocks of the attention's backward pass, over the reals. -/
module

public import proofs.«01_k».proof.Proof.MlaSpec
public import proofs.«01_k».proof.Proof.MlaHead

@[expose] public section

set_option maxRecDepth 16384

noncomputable section

namespace Cert.MlaIdeal.Body

open Cert.MlaIdeal Cert.MlaIdeal.Gen MlaSpec
open Idealize.ShloMosaic Idealize.ShloMosaic.TcCoe Idealize.SL.Sem

/-- The row numbered `r` of a block of 512. -/
def rowB (q : Fin 4) (r : Fin 512) : Fin 2048 := ⟨512 * q.val + r.val, by omega⟩
/-- 96 columns widened to 128 with zeros. -/
def widen (f : Fin 96 → ℝ) (d : Fin 128) : ℝ := if h : d.val < 96 then f ⟨d.val, h⟩ else 0

theorem widen_sum (f g : Fin 96 → ℝ) : ∑ d, widen f d * widen g d = ∑ d, f d * g d := by
  refine (Fin.sum_univ_add (a := 96) (b := 32) fun d : Fin (96 + 32) => widen f d * widen g d).trans ?_
  have e : ∑ d : Fin 32, widen f (Fin.natAdd 96 d) * widen g (Fin.natAdd 96 d) = 0 :=
    Finset.sum_eq_zero fun d _ => by
      have h : ¬ (Fin.natAdd 96 d : Fin 128).val < 96 := by show ¬ 96 + d.val < 96; omega
      unfold widen; rw [dif_neg h, zero_mul]
  rw [e, add_zero]
  refine Finset.sum_congr rfl fun d _ => ?_
  have h : (Fin.castAdd 32 d : Fin 128).val < 96 := d.isLt
  unfold widen
  rw [dif_pos h, dif_pos h]
  rfl

/-- A sum over the tokens, block after block. -/
theorem sum_blocks (f : Fin 2048 → ℝ) : ∑ i, f i = ∑ q : Fin 4, ∑ b : Fin 512, f (rowB q b) := by
  refine (Fin.sum_univ_tiles 4 512 (by norm_num : 4 * 512 = 2048) f).trans ?_
  refine Finset.sum_congr rfl fun q _ => Finset.sum_congr rfl fun b _ => congrArg f (Fin.ext ?_)
  show _ = 512 * q.val + b.val
  simp [Nat.mul_comm, Nat.add_comm]

/-- What the body finds where query block `q` meets key block `k`. -/
structure Found (x : Given Ideal) (H : Fin 8 → Head) (q k : Fin 4) : Prop where
  x0 : ∀ b j d, (x.x0 (ix2 b (colK j d)) : EReal) = (widen ((H j).q (rowB q b)) d : EReal)
  x1 : ∀ r j d, (x.x1 (ix2 r (colK j d)) : EReal) = (widen ((H j).k (rowB k r)) d : EReal)
  x2 : ∀ r j d, (x.x2 (ix2 r (colV j d)) : EReal) = ((H j).v (rowB k r) d : EReal)
  x3 : ∀ b j d, (x.x3 (ix2 b (colV j d)) : EReal) = ((H j).o (rowB q b) d : EReal)
  x4 : ∀ j b, (x.x4 (ix3 0 j b) : EReal) = ((((H j).m (rowB q b) + Real.log ((H j).z (rowB q b))) / Real.log 2 : ℝ) : EReal)
  x5 : ∀ j b, (x.x5 (ix3 0 j b) : EReal) = ((H j).dsum (rowB q b) : EReal)

variable {x : Given Ideal} {H : Fin 8 → Head} {q k : Fin 4} (X : Found x H q k) (hk : k ≤ q)
include X

theorem bP_at (hk : k ≤ q) (j r b) : bP (decide (q = k)) x j r b = ((H j).p (rowB q b) (rowB k r) : EReal) := by
  have hc : (decide (q = k) = true ∧ ¬ r ≤ b) ↔ ¬ rowB k r ≤ rowB q b := by
    rw [decide_eq_true_iff, Fin.le_def, Fin.le_def, Fin.ext_iff]
    show _ ↔ ¬ 512 * k.val + r.val ≤ 512 * q.val + b.val
    have := Fin.le_def.mp hk
    omega
  unfold bP
  rw [if_congr hc rfl rfl, X.x4]
  by_cases h : rowB k r ≤ rowB q b
  · rw [if_neg (not_not.mpr h), ← p_of_log (H j) _ _ h]
    have e : ∑ d : Fin 128, x.x1 (ix2 r (colK j d)) * x.x0 (ix2 b (colK j d)) = ((∑ d, (H j).q (rowB q b) d * (H j).k (rowB k r) d : ℝ) : EReal) := by
      rw [← widen_sum, coe_sum]
      exact Finset.sum_congr rfl fun d _ => by rw [X.x0, X.x1, ← EReal.coe_mul, mul_comm]
    rw [e]
    unfold cScale2
    rw [← EReal.coe_mul, ← EReal.coe_sub, Ideal.exp2_coe]
    unfold Head.sc
    rw [mul_assoc]
  · rw [if_pos h, p_of_lt (H j) _ _ h, EReal.bot_sub, Ideal.exp2_bot]
    rfl

theorem bS_at (hk : k ≤ q) (j r b) : bS (decide (q = k)) x j r b = ((H j).ds (rowB q b) (rowB k r) : EReal) := by
  unfold bS
  have e : ∑ d : Fin 64, x.x2 (ix2 r (colV j d)) * x.x3 (ix2 b (colV j d)) = ((H j).dp (rowB q b) (rowB k r) : EReal) := by
    unfold Head.dp
    rw [coe_sum]
    exact Finset.sum_congr rfl fun d _ => by rw [X.x2, X.x3, ← EReal.coe_mul, mul_comm]
  rw [e, bP_at X hk, X.x5]
  unfold cScale
  rw [← EReal.coe_sub, ← EReal.coe_mul, ← EReal.coe_mul]
  rfl

theorem bK_at (hk : k ≤ q) (j r d) : bK (decide (q = k)) x j r d
    = ((∑ b, (H j).ds (rowB q b) (rowB k r) * widen ((H j).q (rowB q b)) d : ℝ) : EReal) := by
  unfold bK
  rw [coe_sum]
  exact Finset.sum_congr rfl fun b _ => by rw [bS_at X hk, X.x0, ← EReal.coe_mul]
theorem bV_at (hk : k ≤ q) (j r d) : bV (decide (q = k)) x j r d
    = ((∑ b, (H j).p (rowB q b) (rowB k r) * (H j).o (rowB q b) d : ℝ) : EReal) := by
  unfold bV
  rw [coe_sum]
  exact Finset.sum_congr rfl fun b _ => by rw [bP_at X hk, X.x3, ← EReal.coe_mul]
theorem bQ_at (hk : k ≤ q) (j d b) : bQ (decide (q = k)) x j d b
    = ((∑ r, (H j).ds (rowB q b) (rowB k r) * widen ((H j).k (rowB k r)) d : ℝ) : EReal) := by
  unfold bQ
  rw [coe_sum]
  exact Finset.sum_congr rfl fun r _ => by rw [bS_at X hk, X.x1, ← EReal.coe_mul, mul_comm]

end Cert.MlaIdeal.Body

end
-- ==== Proof.MlaFlat.lean ====
/- The arrays the host lays out for the kernel, entry by entry. -/
module

public import proofs.«01_k».proof.Proof.MlaHost2
public import proofs.«01_k».proof.Proof.MlaLse
public import proofs.«01_k».proof.Proof.MlaPair
public import proofs.«01_k».proof.Proof.MlaRefGrad
public import Idealize.ShloMosaic.Lib.Claim

@[expose] public section

set_option maxRecDepth 16384

noncomputable section

open Idealize.ShloMosaic Idealize.ShloMosaic.TcCoe Idealize.SL.Sem

namespace Cert.MlaIdeal.Body

open Cert.MlaIdeal Cert.MlaIdeal.Gen MlaSpec
open Cert.MlaRefIdeal.Read (val_main_v10_0 val_main_v11)

/-- The row of token `i` of sequence `b`. -/
def rowD (b : Fin 4) (i : Fin 2048) : Fin 8192 := ⟨2048 * b.val + i.val, by omega⟩

theorem flatK {φ : FTy} (y : FVec Ideal S4x2048x8x128 φ) (hc) (b : Fin 4) (i : Fin 2048) (h : Fin 8) (d : Fin 128) :
    shapeCast S8192x1024 y hc (ix2 (rowD b i) (colK h d)) = y (ix4 b i h d) := by
  refine shapeCast_apply y hc _ _ ?_
  rewrite [Shape.rowMajor_val_four, Shape.rowMajor_val_two]
  show ((b.val * 2048 + i.val) * 8 + h.val) * 128 + d.val = (2048 * b.val + i.val) * 1024 + (128 * h.val + d.val)
  omega
theorem flatV {φ : FTy} (y : FVec Ideal S4x2048x8x64 φ) (hc) (b : Fin 4) (i : Fin 2048) (h : Fin 8) (d : Fin 64) :
    shapeCast S8192x512 y hc (ix2 (rowD b i) (colV h d)) = y (ix4 b i h d) := by
  refine shapeCast_apply y hc _ _ ?_
  rewrite [Shape.rowMajor_val_four, Shape.rowMajor_val_two]
  show ((b.val * 2048 + i.val) * 8 + h.val) * 64 + d.val = (2048 * b.val + i.val) * 512 + (64 * h.val + d.val)
  omega
theorem flatO {φ : FTy} (y : FVec Ideal S4x2048x512 φ) (hc) (b : Fin 4) (i : Fin 2048) (h : Fin 8) (d : Fin 64) :
    shapeCast S8192x512 y hc (ix2 (rowD b i) (colV h d)) = y (ix3 b i ⟨64 * h.val + d.val, by omega⟩) := by
  refine shapeCast_apply y hc _ _ ?_
  rewrite [Shape.rowMajor_val_three, Shape.rowMajor_val_two]
  show (b.val * 2048 + i.val) * 512 + (64 * h.val + d.val) = (2048 * b.val + i.val) * 512 + (64 * h.val + d.val)
  omega
theorem flatN (y : FVec Ideal S8x4x2048 .f32) (hc) (b : Fin 4) (i : Fin 2048) (h : Fin 8) :
    shapeCast S1x8x8192 y hc (ix3 0 h (rowD b i)) = y (ix3 h b i) := by
  refine shapeCast_apply y hc _ _ ?_
  rewrite [Shape.rowMajor_val_three, Shape.rowMajor_val_three]
  show (h.val * 4 + b.val) * 2048 + i.val = (0 * 8 + h.val) * 8192 + (2048 * b.val + i.val)
  omega
theorem flatL (y : FVec Ideal S4x8x2048x1 .f32) (hc) (b : Fin 4) (h : Fin 8) (i : Fin 2048) :
    shapeCast S4x8x2048 y hc (ix3 b h i) = y (ix4 b h i 0) := by
  refine shapeCast_apply y hc _ _ ?_
  rewrite [Shape.rowMajor_val_four, Shape.rowMajor_val_three]
  show ((b.val * 8 + h.val) * 2048 + i.val) * 1 + 0 = (b.val * 8 + h.val) * 2048 + i.val
  omega

/-- The padding of a head's columns, at one index. -/
theorem pad_read (x : FVec Ideal S4x2048x8x96 .f32) (v : FVec Ideal S_ .f32) (hp) (hs) (b : Fin 4) (i : Fin 2048) (h : Fin 8) (d : Fin 128) :
    pad S4x2048x8x128 ![0, 0, 0, 0] ![0, 0, 0, 32] ![0, 0, 0, 0] x v hp hs (ix4 b i h d)
      = if hd : d.val < 96 then x (ix4 b i h ⟨d.val, hd⟩) else v (Shape.Idx.first hs) := by
  pointwise

theorem swapL (y : FVec Ideal S4x8x2048 .f32) (hc) (b : Fin 4) (h : Fin 8) (i : Fin 2048) :
    transpose S8x4x2048 [1, 0, 2] y hc (ix3 h b i) = y (ix3 b h i) := by
  pointwise
theorem swapD (y : FVec Ideal S4x2048x8 .f32) (hc) (b : Fin 4) (h : Fin 8) (i : Fin 2048) :
    transpose S8x4x2048 [2, 0, 1] y hc (ix3 h b i) = y (ix3 b i h) := by
  pointwise

/-- The widened array at one index, where the entries of its row are real numbers. -/
theorem wide_at (x : FVec Ideal S4x2048x8x96 .f32) (b : Fin 4) (i : Fin 2048) (h : Fin 8) (d : Fin 128) (f : Fin 96 → ℝ)
    (e : ∀ d, x (ix4 b i h d) = (f d : EReal)) : wide x (ix2 (rowD b i) (colK h d)) = (widen f d : EReal) := by
  have e1 : wide x (ix2 (rowD b i) (colK h d)) = if hd : d.val < 96 then x (ix4 b i h ⟨d.val, hd⟩) else (sitofp .f32 (constantI S_ 32 0#32) : FVec Ideal S_ .f32) (Shape.Idx.first h_S_) :=
    (flatK _ shapeCasts_S4x2048x8x128_S8192x1024 b i h d).trans (pad_read x _ pads_S4x2048x8x96_S4x2048x8x128_000_000_000_0320 h_S_ b i h d)
  rw [e1]
  unfold widen
  by_cases hd : d.val < 96
  · rw [dif_pos hd, dif_pos hd, e]
  · rw [dif_neg hd, dif_neg hd]
    have e2 : ∀ j, (sitofp .f32 (constantI S_ 32 0#32) : FVec Ideal S_ .f32) j = (0 : EReal) := fun j => by show (((0#32 : BitVec 32).toInt : ℝ) : EReal) = 0; simp
    exact (e2 _).trans EReal.coe_zero.symm

end Cert.MlaIdeal.Body

end
-- ==== Proof.MlaGiven.lean ====
/- What the body finds at a point, in the rows and columns of the host's arrays. -/
module

public import proofs.«01_k».proof.Proof.MlaLaunch
public import proofs.«01_k».proof.Proof.MlaFlat
public import Idealize.ShloMosaic.Lib.Pipeline.ArrRel

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

/-- The batch, the query block and the key block of a point. -/
def bOf (t : Fin cfgA.N) : Fin 4 := ⟨t.val / 10 % 4, Nat.mod_lt _ (by decide)⟩
def qAt (t : Fin cfgA.N) : Fin 4 := ⟨qOf t.val % 4, Nat.mod_lt _ (by decide)⟩
def kAt (t : Fin cfgA.N) : Fin 4 := ⟨kOf t.val % 4, Nat.mod_lt _ (by decide)⟩

/-- The row of the arrays that a point's block row is, under a block number. -/
def rowT (f : Fin cfgA.N → Fin 4) (t : Fin cfgA.N) (r : Fin 512) : Fin 8192 := rowD (bOf t) (rowB (f t) r)
theorem rowT_val (f : Fin cfgA.N → Fin 4) (t : Fin cfgA.N) (r : Fin 512) : (rowT f t r).val = 2048 * (bOf t).val + (512 * (f t).val + r.val) := rfl

theorem idx_0 : ∀ t : Fin cfgA.N, (cfgA.win (0 : Fin 9)).index t = ![4 * (bOf t).val + (qAt t).val, 0] := by decide +kernel
theorem emb_0 (t : Fin cfgA.N) (b : Fin 512) (d : Fin 1024) :
    ((cfgA.win (0 : Fin 9)).blk t).view.emb (ix2 b d) = (ix2 (rowT qAt t b) d : S8192x1024.Idx) := by
  blk_ext [idx_0 t, rowT_val]

theorem idx_1 : ∀ t : Fin cfgA.N, (cfgA.win (1 : Fin 9)).index t = ![4 * (bOf t).val + (kAt t).val, 0] := by decide +kernel
theorem emb_1 (t : Fin cfgA.N) (b : Fin 512) (d : Fin 1024) :
    ((cfgA.win (1 : Fin 9)).blk t).view.emb (ix2 b d) = (ix2 (rowT kAt t b) d : S8192x1024.Idx) := by
  blk_ext [idx_1 t, rowT_val]

theorem idx_2 : ∀ t : Fin cfgA.N, (cfgA.win (2 : Fin 9)).index t = ![4 * (bOf t).val + (kAt t).val, 0] := by decide +kernel
theorem emb_2 (t : Fin cfgA.N) (b : Fin 512) (d : Fin 512) :
    ((cfgA.win (2 : Fin 9)).blk t).view.emb (ix2 b d) = (ix2 (rowT kAt t b) d : S8192x512.Idx) := by
  blk_ext [idx_2 t, rowT_val]

theorem idx_3 : ∀ t : Fin cfgA.N, (cfgA.win (3 : Fin 9)).index t = ![4 * (bOf t).val + (qAt t).val, 0] := by decide +kernel
theorem emb_3 (t : Fin cfgA.N) (b : Fin 512) (d : Fin 512) :
    ((cfgA.win (3 : Fin 9)).blk t).view.emb (ix2 b d) = (ix2 (rowT qAt t b) d : S8192x512.Idx) := by
  blk_ext [idx_3 t, rowT_val]

theorem idx_7 : ∀ t : Fin cfgA.N, (cfgA.win (7 : Fin 9)).index t = ![4 * (bOf t).val + (kAt t).val, 0] := by decide +kernel
theorem emb_7 (t : Fin cfgA.N) (b : Fin 512) (d : Fin 1024) :
    ((cfgA.win (7 : Fin 9)).blk t).view.emb (ix2 b d) = (ix2 (rowT kAt t b) d : S8192x1024.Idx) := by
  blk_ext [idx_7 t, rowT_val]

theorem idx_8 : ∀ t : Fin cfgA.N, (cfgA.win (8 : Fin 9)).index t = ![4 * (bOf t).val + (kAt t).val, 0] := by decide +kernel
theorem emb_8 (t : Fin cfgA.N) (b : Fin 512) (d : Fin 512) :
    ((cfgA.win (8 : Fin 9)).blk t).view.emb (ix2 b d) = (ix2 (rowT kAt t b) d : S8192x512.Idx) := by
  blk_ext [idx_8 t, rowT_val]

theorem idx_4 : ∀ t : Fin cfgA.N, (cfgA.win (4 : Fin 9)).index t = ![0, 0, 4 * (bOf t).val + (qAt t).val] := by decide +kernel
theorem emb_4 (t : Fin cfgA.N) (a : Fin 1) (j : Fin 8) (b : Fin 512) :
    ((cfgA.win (4 : Fin 9)).blk t).view.emb (ix3 a j b) = (ix3 0 j (rowT qAt t b) : S1x8x8192.Idx) := by
  blk_ext [idx_4 t, rowT_val]

theorem idx_5 : ∀ t : Fin cfgA.N, (cfgA.win (5 : Fin 9)).index t = ![0, 0, 4 * (bOf t).val + (qAt t).val] := by decide +kernel
theorem emb_5 (t : Fin cfgA.N) (a : Fin 1) (j : Fin 8) (b : Fin 512) :
    ((cfgA.win (5 : Fin 9)).blk t).view.emb (ix3 a j b) = (ix3 0 j (rowT qAt t b) : S1x8x8192.Idx) := by
  blk_ext [idx_5 t, rowT_val]

theorem idx_6 : ∀ t : Fin cfgA.N, (cfgA.win (6 : Fin 9)).index t = ![(bOf t).val, 0] := by decide +kernel
theorem emb_6 (t : Fin cfgA.N) (i : Fin 2048) (d : Fin 1024) :
    ((cfgA.win (6 : Fin 9)).blk t).view.emb (ix2 i d) = (ix2 (rowD (bOf t) i) d : S8192x1024.Idx) := by
  blk_ext [idx_6 t, rowD]

end Cert.MlaIdeal.Body

end
-- ==== Proof.MlaRead.lean ====
/- What the body finds at a point, in the rows and columns of the host's arrays. -/
module

public import proofs.«01_k».proof.Proof.MlaGiven
public import Idealize.ShloMosaic.Lib.Pipeline.ArrRel

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

theorem read_0 (t : Fin cfgA.N) (b : Fin 512) (d : Fin 1024) : (given m c t).x0 (ix2 b d) = V m c main_v32 (ix2 (rowT qAt t b) d) := by
  rw [← emb_0 t b d]
  unfold given iblk
  dsimp only
  generalize V m c = y
  rfl
theorem read_1 (t : Fin cfgA.N) (b : Fin 512) (d : Fin 1024) : (given m c t).x1 (ix2 b d) = V m c main_v35 (ix2 (rowT kAt t b) d) := by
  rw [← emb_1 t b d]
  unfold given iblk
  dsimp only
  generalize V m c = y
  rfl
theorem read_2 (t : Fin cfgA.N) (b : Fin 512) (d : Fin 512) : (given m c t).x2 (ix2 b d) = V m c main_v37 (ix2 (rowT kAt t b) d) := by
  rw [← emb_2 t b d]
  unfold given iblk
  dsimp only
  generalize V m c = y
  rfl
theorem read_3 (t : Fin cfgA.N) (b : Fin 512) (d : Fin 512) : (given m c t).x3 (ix2 b d) = V m c main_v39 (ix2 (rowT qAt t b) d) := by
  rw [← emb_3 t b d]
  unfold given iblk
  dsimp only
  generalize V m c = y
  rfl
theorem read_4 (t : Fin cfgA.N) (j : Fin 8) (b : Fin 512) : (given m c t).x4 (ix3 0 j b) = V m c main_v42 (ix3 0 j (rowT qAt t b)) := by
  rw [← emb_4 t 0 j b]
  unfold given iblk
  dsimp only
  generalize V m c = y
  rfl
theorem read_5 (t : Fin cfgA.N) (j : Fin 8) (b : Fin 512) : (given m c t).x5 (ix3 0 j b) = V m c main_v44 (ix3 0 j (rowT qAt t b)) := by
  rw [← emb_5 t 0 j b]
  unfold given iblk
  dsimp only
  generalize V m c = y
  rfl

end Cert.MlaIdeal.Body

end
-- ==== Proof.MlaFound.lean ====
/- What the body finds at a point, in the rows and columns of the host's arrays. -/
module

public import proofs.«01_k».proof.Proof.MlaRead
public import Idealize.ShloMosaic.Lib.Pipeline.ArrRel

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

/-! The body finds the blocks of the heads it works on. -/

variable {W : Fin 4 → Fin 8 → MlaSpec.Head} (R : MlaRefIdeal.MlaRef.Reads (A0 m c) (A1 m c) (A2 m c) (A3 m c) W) (T : MlaRefIdeal.MlaRef.Tops (A0 m c) (A1 m c) W)
include R T

theorem found (t : Fin cfgA.N) : Found (given m c t) (W (bOf t)) (qAt t) (kAt t) where
  x0 b j d := by
    rw [read_0, entry_q]
    exact wide_at _ _ _ _ _ _ fun d => R.q _ _ _ d
  x1 r j d := by
    rw [read_1, entry_k]
    exact wide_at _ _ _ _ _ _ fun d => R.k _ _ _ d
  x2 r j d := by
    rw [read_2, entry_v]
    exact (flatV (A2 m c) shapeCasts_S4x2048x8x64_S8192x512 _ _ _ _).trans (R.v _ _ _ _)
  x3 b j d := by
    rw [read_3, entry_o]
    exact (flatO (A3 m c) shapeCasts_S4x2048x512_S8192x512 _ _ _ _).trans (R.o _ _ _ _)
  x4 j b := by
    rw [read_4, entry_lse]
    exact (flatN _ shapeCasts_S8x4x2048_S1x8x8192 _ _ _).trans ((swapL _ transposes_S4x8x2048_S8x4x2048_1_0_2 _ _ _).trans
      ((flatL _ shapeCasts_S4x8x2048x1_S4x8x2048 _ _ _).trans (hLse_at R T _ _ _ 0)))
  x5 j b := by
    rw [read_5, entry_dsum]
    exact (flatN _ shapeCasts_S8x4x2048_S1x8x8192 _ _ _).trans ((swapD _ transposes_S4x2048x8_S8x4x2048_2_0_1 _ _ _).trans (hD_at R T _ _ _))

end Cert.MlaIdeal.Body

end
-- ==== Proof.MlaChain.lean ====
/- What a buffer reads after the writes of one grid point, and the heads' contributions as sums. -/
module

public import proofs.«01_k».proof.Proof.MlaHead
public import Idealize.ShloMosaic.Lib.Pointwise

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.Sem

/-- A rectangle apart from those of the heads written reads what the base left. -/
theorem read_chain_miss {F : FTy → Type} [FloatOps F] {sig : RefSig} {κ : Kind} {sp : Space} {s : Shape} {e : EltTy} (v : View sig κ sp s e) (f : v.ty.Contents (Elt F))
    (R : Fin 8 → Rect s) (W) (base : List (View.Piece (Elt F) s e)) (y : s.Idx) :
    ∀ l : List (Fin 8), (∀ j ∈ l, y ∉ (R j).set) →
      v.read (Elt F) (v.writes (Elt F) f (chain R W base l)) y = v.read (Elt F) (v.writes (Elt F) f base) y
  | [], _ => rfl
  | j :: l, h => (View.read_writes_cons_miss v f ⟨R j, _⟩ _ y (h j List.mem_cons_self)).trans
      (read_chain_miss v f R W base y l fun i hi => h i (List.mem_cons_of_mem _ hi))

/-- The rectangle of a head written reads the head's value, when that does not depend on the heads before it. -/
theorem read_chain_hit {F : FTy → Type} [FloatOps F] {sig : RefSig} {κ : Kind} {sp : Space} {s : Shape} {e : EltTy} (v : View sig κ sp s e) (f : v.ty.Contents (Elt F))
    (R : Fin 8 → Rect s) (W) (base : List (View.Piece (Elt F) s e)) (w : (j : Fin 8) → ((R j).shape.Idx → Elt F e))
    (apart : ∀ i j, i ≠ j → ∀ x, (R j).emb x ∉ (R i).set)
    (hw : ∀ j l, j ∉ l → W j (chain R W base l) = w j) (j : Fin 8) (x : (R j).shape.Idx) :
    ∀ l : List (Fin 8), l.Nodup → j ∈ l → v.read (Elt F) (v.writes (Elt F) f (chain R W base l)) ((R j).emb x) = w j x
  | [], _, h => absurd h List.not_mem_nil
  | i :: l, hl, h => by
    obtain ⟨hi, hl⟩ := List.nodup_cons.mp hl
    by_cases hij : i = j
    · subst hij
      exact (View.read_writes_cons_emb v f (R i) _ _ x).trans (congrFun (hw i l hi) x)
    · exact (View.read_writes_cons_miss v f ⟨R i, _⟩ _ _ (apart i j hij x)).trans
        (read_chain_hit v f R W base w apart hw j x l hl ((List.mem_cons.mp h).resolve_left fun e => hij e.symm))

/-- The rectangles of two heads lie apart. -/
theorem apartK (i j : Fin 8) (h : i ≠ j) (x : (rK j).shape.Idx) : (rK j).emb x ∉ (rK i).set := by
  refine (rK i).not_mem_set_of_axis _ (1 : Fin 2) (128 * i.val) 128 rfl rfl rfl ?_
  have e : ((rK j).emb x (1 : Fin 2)).val = 128 * j.val + 1 * (x (1 : Fin 2)).val := rfl
  have hx : (x (1 : Fin 2)).val < 128 := (x (1 : Fin 2)).isLt
  have : i.val ≠ j.val := fun e => h (Fin.ext e)
  omega
theorem apartV (i j : Fin 8) (h : i ≠ j) (x : (rV j).shape.Idx) : (rV j).emb x ∉ (rV i).set := by
  refine (rV i).not_mem_set_of_axis _ (1 : Fin 2) (64 * i.val) 64 rfl rfl rfl ?_
  have e : ((rV j).emb x (1 : Fin 2)).val = 64 * j.val + 1 * (x (1 : Fin 2)).val := rfl
  have hx : (x (1 : Fin 2)).val < 64 := (x (1 : Fin 2)).isLt
  have : i.val ≠ j.val := fun e => h (Fin.ext e)
  omega
theorem apartQ {n : ℕ} (hn : n < 4) (i j : Fin 8) (h : i ≠ j) (x : (rQ hn j).shape.Idx) : (rQ hn j).emb x ∉ (rQ hn i).set := by
  refine (rQ hn i).not_mem_set_of_axis _ (1 : Fin 3) (128 * i.val) 128 rfl rfl rfl ?_
  have e : ((rQ hn j).emb x (1 : Fin 3)).val = 128 * j.val + 1 * (x (1 : Fin 3)).val := rfl
  have hx : (x (1 : Fin 3)).val < 128 := (x (1 : Fin 3)).isLt
  have : i.val ≠ j.val := fun e => h (Fin.ext e)
  omega
theorem apartQ_block {n n' : ℕ} (hn : n < 4) (hn' : n' < 4) (h : n ≠ n') (i j : Fin 8) (x : (rQ hn' j).shape.Idx) :
    (rQ hn' j).emb x ∉ (rQ hn i).set := by
  refine (rQ hn i).not_mem_set_of_axis _ (0 : Fin 3) n 1 rfl rfl rfl ?_
  have e : ((rQ hn' j).emb x (0 : Fin 3)).val = n' + 1 * (x (0 : Fin 3)).val := rfl
  have hx : (x (0 : Fin 3)).val < 1 := (x (0 : Fin 3)).isLt
  omega

theorem heads_nodup : heads.Nodup := by decide
theorem mem_heads (j : Fin 8) : j ∈ heads := by revert j; decide

theorem embK (j : Fin 8) (r : Fin 512) (d : Fin 128) : (rK j).emb (ix2 r d) = ix2 r (colK j d) := by idx_ext
theorem embV (j : Fin 8) (r : Fin 512) (d : Fin 64) : (rV j).emb (ix2 r d) = ix2 r (colV j d) := by idx_ext
theorem embQ {n : ℕ} (hn : n < 4) (j : Fin 8) (d : Fin 128) (b : Fin 512) : (rQ hn j).emb (ix3 0 d b) = ix3 ⟨n, hn⟩ (colK j d) b := by idx_ext

/-- A buffer just cleared reads zero. -/
theorem read_z0 (f) (y : S512x1024.Idx) : sc0.view.read (Elt Ideal) (sc0.view.writes (Elt Ideal) f z0) y = (0 : EReal) := by
  rw [View.read_writes_full]; pointwise [k0_pay2]
theorem read_z1 (f) (y : S512x512.Idx) : sc1.view.read (Elt Ideal) (sc1.view.writes (Elt Ideal) f z1) y = (0 : EReal) := by
  rw [View.read_writes_full]; pointwise [k0_pay3]
theorem read_z2 (f) (y : S4x1024x512.Idx) : sc2.view.read (Elt Ideal) (sc2.view.writes (Elt Ideal) f z2) y = (0 : EReal) := by
  rw [View.read_writes_full]; pointwise [k0_pay1]

section
variable (m : Bool) (a : Stages) (x : Given Ideal) (j : Fin 8)

theorem read_kOff (f s0) (r : Fin 512) (d : Fin 128) :
    sc0.view.read (Elt Ideal) (sc0.view.writes (Elt Ideal) f (kOff m a x s0)) (ix2 r (colK j d))
      = (sc0.view.read (Elt Ideal) s0 (ix2 r (colK j d)) + bK m x j r d : EReal) := by
  rw [← embK]
  refine (read_chain_hit sc0.view f rK _ [] (fun j => headK m a x j (View.readAt (Elt Ideal) sc0.view (rK j).toLoadRect s0)) apartK
    (fun _ _ _ => rfl) j (ix2 r d) heads heads_nodup (mem_heads j)).trans ?_
  rw [headK_apply]
  rfl

theorem read_kOn (f) (r : Fin 512) (d : Fin 128) :
    sc0.view.read (Elt Ideal) (sc0.view.writes (Elt Ideal) f (kOn m a x)) (ix2 r (colK j d)) = bK m x j r d := by
  rw [← embK]
  refine (read_chain_hit sc0.view f rK _ z0 (fun j => headK m a x j (fun _ => (0 : EReal))) apartK
    (fun j l h => ?_) j (ix2 r d) heads heads_nodup (mem_heads j)).trans ?_
  · refine congrArg (headK m a x j) (funext fun y => ?_)
    exact (read_chain_miss sc0.view _ rK _ z0 _ l fun i hi => apartK i j (fun e => h (e ▸ hi)) y).trans (read_z0 _ _)
  · rw [headK_apply]; exact zero_add _

theorem read_vOff (f s1) (r : Fin 512) (d : Fin 64) :
    sc1.view.read (Elt Ideal) (sc1.view.writes (Elt Ideal) f (vOff m a x s1)) (ix2 r (colV j d))
      = (sc1.view.read (Elt Ideal) s1 (ix2 r (colV j d)) + bV m x j r d : EReal) := by
  rw [← embV]
  refine (read_chain_hit sc1.view f rV _ [] (fun j => headV m a x j (View.readAt (Elt Ideal) sc1.view (rV j).toLoadRect s1)) apartV
    (fun _ _ _ => rfl) j (ix2 r d) heads heads_nodup (mem_heads j)).trans ?_
  rw [headV_apply]
  rfl

theorem read_vOn (f) (r : Fin 512) (d : Fin 64) :
    sc1.view.read (Elt Ideal) (sc1.view.writes (Elt Ideal) f (vOn m a x)) (ix2 r (colV j d)) = bV m x j r d := by
  rw [← embV]
  refine (read_chain_hit sc1.view f rV _ z1 (fun j => headV m a x j (fun _ => (0 : EReal))) apartV
    (fun j l h => ?_) j (ix2 r d) heads heads_nodup (mem_heads j)).trans ?_
  · refine congrArg (headV m a x j) (funext fun y => ?_)
    exact (read_chain_miss sc1.view _ rV _ z1 _ l fun i hi => apartV i j (fun e => h (e ▸ hi)) y).trans (read_z1 _ _)
  · rw [headV_apply]; exact zero_add _

theorem read_qUp {n : ℕ} (hn : n < 4) (s2 z) (n' : Fin 4) (d : Fin 128) (b : Fin 512) :
    sc2.view.read (Elt Ideal) (sc2.view.writes (Elt Ideal) s2 (qUp m a x hn s2 z)) (ix3 n' (colK j d) b)
      = (sc2.view.read (Elt Ideal) (sc2.view.writes (Elt Ideal) s2 z) (ix3 n' (colK j d) b) + (if n' = ⟨n, hn⟩ then bQ m x j d b else 0) : EReal) := by
  by_cases h : n' = ⟨n, hn⟩
  · subst h
    rw [if_pos rfl, ← embQ]
    refine (read_chain_hit sc2.view s2 (rQ hn) _ z (fun j => headQ m a x j
      (fun y => sc2.view.read (Elt Ideal) (sc2.view.writes (Elt Ideal) s2 z) ((rQ hn j).emb y))) (apartQ hn)
      (fun j l h => ?_) j (ix3 0 d b) heads heads_nodup (mem_heads j)).trans ?_
    · refine congrArg (headQ m a x j) (funext fun y => ?_)
      exact read_chain_miss sc2.view s2 (rQ hn) _ z _ l fun i hi => apartQ hn i j (fun e => h (e ▸ hi)) y
    · exact headQ_apply a x j m _ d b
  · rw [if_neg h, add_zero]
    have e : (ix3 n' (colK j d) b : S4x1024x512.Idx) = (rQ n'.isLt j).emb (ix3 0 d b) := (embQ n'.isLt j d b).symm
    rw [e]
    exact read_chain_miss sc2.view s2 (rQ hn) _ z _ heads fun i _ => apartQ_block hn n'.isLt (fun e => h (Fin.ext e.symm)) i j _

/-- What the windows read after a flush. -/
theorem read_kOut (v : View sig .tc .vmem S512x1024 .f32) (f L) : v.read (Elt Ideal) (v.writes (Elt Ideal) f (kOut L)) = sc0.view.read (Elt Ideal) (sc0.view.writes (Elt Ideal) sc0.view.junk L) :=
  (View.read_writes_full v f _ _ []).trans (View.readAt_full _ _ _)
theorem read_vOut (v : View sig .tc .vmem S512x512 .f32) (f L) : v.read (Elt Ideal) (v.writes (Elt Ideal) f (vOut L)) = sc1.view.read (Elt Ideal) (sc1.view.writes (Elt Ideal) sc1.view.junk L) :=
  (View.read_writes_full v f _ _ []).trans (View.readAt_full _ _ _)

theorem pay8_apply (z : Vec Ideal S1x1024x512 .f32) (b : Fin 512) (c : Fin 1024) : k0_pay8 (F := Ideal) z (ix2 b c) = z (ix3 0 c b) := by
  pointwise [k0_pay8]
theorem read_rowsOut (v : View sig .tc .vmem S2048x1024 .f32) (f s2) (n : Fin 4) (b : Fin 512) (c : Fin 1024) :
    v.read (Elt Ideal) (v.writes (Elt Ideal) f (rowsOut s2)) (ix2 ⟨512 * n.val + b.val, by omega⟩ c) = sc2.view.read (Elt Ideal) s2 (ix3 n c b) := by
  have h : ∀ l : List (Fin 4), n ∈ l → v.read (Elt Ideal) (v.writes (Elt Ideal) f (l.map (rowsPiece s2))) (ix2 ⟨512 * n.val + b.val, by omega⟩ c)
      = sc2.view.read (Elt Ideal) s2 (ix3 n c b) := by
    intro l
    induction l with
    | nil => exact fun h => absurd h List.not_mem_nil
    | cons k l ih =>
      intro hk
      by_cases e : k = n
      · subst e
        refine (View.read_writes_cons_hit v f _ _ _ (ix2 b c) _ (by idx_ext)).trans ?_
        refine (pay8_apply _ b c).trans ?_
        exact congrArg (sc2.view.read (Elt Ideal) s2) (by idx_ext)
      · have : k.val ≠ n.val := fun h => e (Fin.ext h)
        refine (View.read_writes_cons_miss_of_axis v f _ _ _ (0 : Fin 2) (512 * k.val) 512 rfl rfl rfl ?_).trans
          (ih ((List.mem_cons.mp hk).resolve_left fun h => e h.symm))
        show 512 * n.val + b.val < _ ∨ _ ≤ 512 * n.val + b.val
        omega
  exact h _ (by clear h; revert n; decide)
end

end Cert.MlaIdeal.Body

end
-- ==== Proof.MlaMove.lean ====
/- What the body leaves of the sums it carries, at each kind of point, as numbers. -/
module

public import proofs.«01_k».proof.Proof.MlaChain

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic Idealize.ShloMosaic.Pointwise
open Idealize.SL Idealize.SL.Sem

section
variable {c : Dev nD} {i : grid0.Coords} {a : Stages} {x : Given Ideal} {h : Held Ideal c a}

/-- What the body leaves at the first pair. -/
theorem stepA (hin : tIn i x) (h0 : tFirst i) (h1 : tDiag i x) (h2 : ¬tOff i x) (h3 : tOn i x) (h4 : ¬tFlush i x) (h5 : ¬tLast i) (hn : (wq i x.T0).toNat < 4) :
    ∃ h' : Held Ideal c a, Takes c i a x h h'
      ∧ (∀ j r d, sc0.view.read (Elt Ideal) h'.s0 (ix2 r (colK j d)) = (bK true x j r d : EReal))
      ∧ (∀ j r d, sc1.view.read (Elt Ideal) h'.s1 (ix2 r (colV j d)) = (bV true x j r d : EReal))
      ∧ (∀ (n : Fin 4) j d b, sc2.view.read (Elt Ideal) h'.s2 (ix3 n (colK j d) b) = (0 + (if n = ⟨(wq i x.T0).toNat, hn⟩ then bQ true x j d b else 0) : EReal)) := by
  refine ⟨_, (runA c i a x h hin h0 h1 h2 h3 h4 h5).2, ?_⟩
  rw [runA_eq hin h0 h1 h2 h3 h4 h5 hn]
  dsimp only
  refine ⟨fun j r d => read_kOn true a x j _ r d, fun j r d => read_vOn true a x j _ r d, fun n j d b => (read_qUp true a x j hn _ z2 n d b).trans (congrArg (· + _) (read_z2 _ _))⟩

/-- What the body leaves at a pair off the diagonal. -/
theorem stepB (hin : tIn i x) (h0 : ¬tFirst i) (h1 : ¬tDiag i x) (h2 : tOff i x) (h3 : ¬tOn i x) (h4 : ¬tFlush i x) (h5 : ¬tLast i) (hn : (wq i x.T0).toNat < 4) :
    ∃ h' : Held Ideal c a, Takes c i a x h h'
      ∧ (∀ j r d, sc0.view.read (Elt Ideal) h'.s0 (ix2 r (colK j d)) = (sc0.view.read (Elt Ideal) h.s0 (ix2 r (colK j d)) + bK false x j r d : EReal))
      ∧ (∀ j r d, sc1.view.read (Elt Ideal) h'.s1 (ix2 r (colV j d)) = (sc1.view.read (Elt Ideal) h.s1 (ix2 r (colV j d)) + bV false x j r d : EReal))
      ∧ (∀ (n : Fin 4) j d b, sc2.view.read (Elt Ideal) h'.s2 (ix3 n (colK j d) b) = (sc2.view.read (Elt Ideal) h.s2 (ix3 n (colK j d) b) + (if n = ⟨(wq i x.T0).toNat, hn⟩ then bQ false x j d b else 0) : EReal)) := by
  refine ⟨_, (runB c i a x h hin h0 h1 h2 h3 h4 h5).2, ?_⟩
  rw [runB_eq hin h0 h1 h2 h3 h4 h5 hn]
  dsimp only
  refine ⟨fun j r d => read_kOff false a x j _ h.s0 r d, fun j r d => read_vOff false a x j _ h.s1 r d, fun n j d b => read_qUp false a x j hn h.s2 [] n d b⟩

/-- What the body leaves at a pair off the diagonal that ends its key block. -/
theorem stepC (hin : tIn i x) (h0 : ¬tFirst i) (h1 : ¬tDiag i x) (h2 : tOff i x) (h3 : ¬tOn i x) (h4 : tFlush i x) (h5 : ¬tLast i) (hn : (wq i x.T0).toNat < 4) :
    ∃ h' : Held Ideal c a, Takes c i a x h h'
      ∧ (∀ j r d, sc0.view.read (Elt Ideal) h'.s0 (ix2 r (colK j d)) = (sc0.view.read (Elt Ideal) h.s0 (ix2 r (colK j d)) + bK false x j r d : EReal))
      ∧ (∀ j r d, sc1.view.read (Elt Ideal) h'.s1 (ix2 r (colV j d)) = (sc1.view.read (Elt Ideal) h.s1 (ix2 r (colV j d)) + bV false x j r d : EReal))
      ∧ (∀ (n : Fin 4) j d b, sc2.view.read (Elt Ideal) h'.s2 (ix3 n (colK j d) b) = (sc2.view.read (Elt Ideal) h.s2 (ix3 n (colK j d) b) + (if n = ⟨(wq i x.T0).toNat, hn⟩ then bQ false x j d b else 0) : EReal))
      ∧ (∀ j r d, a.arg12.view.read (Elt Ideal) h'.g7 (ix2 r (colK j d)) = (sc0.view.read (Elt Ideal) h.s0 (ix2 r (colK j d)) + bK false x j r d : EReal))
      ∧ (∀ j r d, a.arg13.view.read (Elt Ideal) h'.g8 (ix2 r (colV j d)) = (sc1.view.read (Elt Ideal) h.s1 (ix2 r (colV j d)) + bV false x j r d : EReal)) := by
  refine ⟨_, (runC c i a x h hin h0 h1 h2 h3 h4 h5).2, ?_⟩
  rw [runC_eq hin h0 h1 h2 h3 h4 h5 hn]
  dsimp only
  refine ⟨fun j r d => read_kOff false a x j _ h.s0 r d, fun j r d => read_vOff false a x j _ h.s1 r d, fun n j d b => read_qUp false a x j hn h.s2 [] n d b,
    fun j r d => (congrFun (read_kOut a.arg12.view _ _) _).trans (read_kOff false a x j _ h.s0 r d), fun j r d => (congrFun (read_vOut a.arg13.view _ _) _).trans (read_vOff false a x j _ h.s1 r d)⟩

/-- What the body leaves at a pair on the diagonal. -/
theorem stepD (hin : tIn i x) (h0 : ¬tFirst i) (h1 : tDiag i x) (h2 : ¬tOff i x) (h3 : tOn i x) (h4 : ¬tFlush i x) (h5 : ¬tLast i) (hn : (wq i x.T0).toNat < 4) :
    ∃ h' : Held Ideal c a, Takes c i a x h h'
      ∧ (∀ j r d, sc0.view.read (Elt Ideal) h'.s0 (ix2 r (colK j d)) = (bK true x j r d : EReal))
      ∧ (∀ j r d, sc1.view.read (Elt Ideal) h'.s1 (ix2 r (colV j d)) = (bV true x j r d : EReal))
      ∧ (∀ (n : Fin 4) j d b, sc2.view.read (Elt Ideal) h'.s2 (ix3 n (colK j d) b) = (sc2.view.read (Elt Ideal) h.s2 (ix3 n (colK j d) b) + (if n = ⟨(wq i x.T0).toNat, hn⟩ then bQ true x j d b else 0) : EReal)) := by
  refine ⟨_, (runD c i a x h hin h0 h1 h2 h3 h4 h5).2, ?_⟩
  rw [runD_eq hin h0 h1 h2 h3 h4 h5 hn]
  dsimp only
  refine ⟨fun j r d => read_kOn true a x j _ r d, fun j r d => read_vOn true a x j _ r d, fun n j d b => read_qUp true a x j hn h.s2 [] n d b⟩

/-- What the body leaves at the last pair. -/
theorem stepE (hin : tIn i x) (h0 : ¬tFirst i) (h1 : tDiag i x) (h2 : ¬tOff i x) (h3 : tOn i x) (h4 : tFlush i x) (h5 : tLast i) (hn : (wq i x.T0).toNat < 4) :
    ∃ h' : Held Ideal c a, Takes c i a x h h'
      ∧ (∀ j r d, sc0.view.read (Elt Ideal) h'.s0 (ix2 r (colK j d)) = (bK true x j r d : EReal))
      ∧ (∀ j r d, sc1.view.read (Elt Ideal) h'.s1 (ix2 r (colV j d)) = (bV true x j r d : EReal))
      ∧ (∀ (n : Fin 4) j d b, sc2.view.read (Elt Ideal) h'.s2 (ix3 n (colK j d) b) = (sc2.view.read (Elt Ideal) h.s2 (ix3 n (colK j d) b) + (if n = ⟨(wq i x.T0).toNat, hn⟩ then bQ true x j d b else 0) : EReal))
      ∧ (∀ j r d, a.arg12.view.read (Elt Ideal) h'.g7 (ix2 r (colK j d)) = (bK true x j r d : EReal))
      ∧ (∀ j r d, a.arg13.view.read (Elt Ideal) h'.g8 (ix2 r (colV j d)) = (bV true x j r d : EReal))
      ∧ ∀ (n : Fin 4) (b : Fin 512) j d, a.arg11.view.read (Elt Ideal) h'.g6 (ix2 ⟨512 * n.val + b.val, by omega⟩ (colK j d)) = (sc2.view.read (Elt Ideal) h.s2 (ix3 n (colK j d) b) + (if n = ⟨(wq i x.T0).toNat, hn⟩ then bQ true x j d b else 0) : EReal) := by
  refine ⟨_, (runE c i a x h hin h0 h1 h2 h3 h4 h5).2, ?_⟩
  rw [runE_eq hin h0 h1 h2 h3 h4 h5 hn]
  dsimp only
  refine ⟨fun j r d => read_kOn true a x j _ r d, fun j r d => read_vOn true a x j _ r d, fun n j d b => read_qUp true a x j hn h.s2 [] n d b,
    fun j r d => (congrFun (read_kOut a.arg12.view _ _) _).trans (read_kOn true a x j _ r d), fun j r d => (congrFun (read_vOut a.arg13.view _ _) _).trans (read_vOn true a x j _ r d),
    fun n b j d => (read_rowsOut a.arg11.view _ _ n b (colK j d)).trans (read_qUp true a x j hn h.s2 [] n d b)⟩

end

end Cert.MlaIdeal.Body

end
-- ==== Proof.MlaKept.lean ====
/- What the launch carries, as numbers: the partial sums of the key, value and query gradients after every pair of blocks, kept by the
   body at each point, and the blocks it writes back. -/
module

public import proofs.«01_k».proof.Proof.MlaLaunch
public import proofs.«01_k».proof.Proof.MlaMove

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

/-- The point numbered `t`, what the body finds there, and whether the pair is on the diagonal. -/
def pt (t : ℕ) : Fin cfgA.N := ⟨t % 40, Nat.mod_lt _ (by decide)⟩
def givenAt (t : ℕ) : Given Ideal := given m c (pt t)
def onDiag (t : ℕ) : Bool := decide (qOf t = kOf t)

theorem pt_val (t : Fin cfgA.N) : pt t.val = t := Fin.ext (Nat.mod_eq_of_lt (show t.val < 40 from t.isLt))

/-- The key and the value gradients summed over the pairs of the present key block, before point `t`. -/
def accK : ℕ → Fin 8 → Fin 512 → Fin 128 → EReal
  | 0, _, _, _ => 0
  | t + 1, j, r, d => (if qOf t = kOf t then 0 else accK t j r d) + bK (onDiag t) (givenAt m c t) j r d
def accV : ℕ → Fin 8 → Fin 512 → Fin 64 → EReal
  | 0, _, _, _ => 0
  | t + 1, j, r, d => (if qOf t = kOf t then 0 else accV t j r d) + bV (onDiag t) (givenAt m c t) j r d
/-- The query gradients summed over the pairs of the present batch, before point `t`. -/
def accQ : ℕ → ℕ → Fin 8 → Fin 128 → Fin 512 → EReal
  | 0, _, _, _, _ => 0
  | t + 1, n, j, d, b => (if t % 10 = 0 then 0 else accQ t n j d b) + (if n = qOf t then bQ (onDiag t) (givenAt m c t) j d b else 0)

/-- The claims of the launch. -/
def sums : Track where
  inv c t s0 s1 s2 := t = 0 ∨ ((∀ j r d, (s0 (ix2 r (colK j d)) : EReal) = accK m c t j r d) ∧ (∀ j r d, (s1 (ix2 r (colV j d)) : EReal) = accV m c t j r d)
    ∧ ∀ (n : Fin 4) j d b, (s2 (ix3 n (colK j d) b) : EReal) = accQ m c t n.val j d b)
  start _ _ _ _ := Or.inl rfl
  dq c t X := ∀ (n : Fin 4) (b : Fin 512) j d, (X (ix2 ⟨512 * n.val + b.val, by omega⟩ (colK j d)) : EReal) = accQ m c (t.val + 1) n.val j d b
  dk c t X := ∀ j r d, (X (ix2 r (colK j d)) : EReal) = accK m c (t.val + 1) j r d
  dv c t X := ∀ j r d, (X (ix2 r (colV j d)) : EReal) = accV m c (t.val + 1) j r d

theorem accK_next (t : Fin cfgA.N) (j r d) : accK m c (t.val + 1) j r d
    = (if qOf t.val = kOf t.val then 0 else accK m c t.val j r d) + bK (onDiag t.val) (given m c t) j r d := by
  rw [accK, givenAt, pt_val]
theorem accV_next (t : Fin cfgA.N) (j r d) : accV m c (t.val + 1) j r d
    = (if qOf t.val = kOf t.val then 0 else accV m c t.val j r d) + bV (onDiag t.val) (given m c t) j r d := by
  rw [accV, givenAt, pt_val]
theorem accQ_next (t : Fin cfgA.N) (n j d b) : accQ m c (t.val + 1) n j d b
    = (if t.val % 10 = 0 then 0 else accQ m c t.val n j d b) + (if n = qOf t.val then bQ (onDiag t.val) (given m c t) j d b else 0) := by
  rw [accQ, givenAt, pt_val]

theorem qOf_lt (t : ℕ) : qOf t < 4 := by
  have h : t % 10 < 10 := Nat.mod_lt _ (by decide)
  unfold qOf; generalize t % 10 = s at h; clear t; revert s; decide

/-- The five kinds of point. -/
theorem kinds : ∀ t : Fin cfgA.N,
    (t.val % 10 = 0 ∧ qOf t.val = kOf t.val ∧ ¬qOf t.val = 3 ∧ ¬t.val % 10 = 9)
    ∨ (¬t.val % 10 = 0 ∧ ¬qOf t.val = kOf t.val ∧ ¬qOf t.val = 3 ∧ ¬t.val % 10 = 9)
    ∨ (¬t.val % 10 = 0 ∧ ¬qOf t.val = kOf t.val ∧ qOf t.val = 3 ∧ ¬t.val % 10 = 9)
    ∨ (¬t.val % 10 = 0 ∧ qOf t.val = kOf t.val ∧ ¬qOf t.val = 3 ∧ ¬t.val % 10 = 9)
    ∨ (¬t.val % 10 = 0 ∧ qOf t.val = kOf t.val ∧ qOf t.val = 3 ∧ t.val % 10 = 9) := by decide +kernel

theorem fin_eq_iff {n' : Fin 4} {n q : ℕ} (hn : n < 4) (e : n = q) : n' = ⟨n, hn⟩ ↔ n'.val = q := by
  subst e; exact ⟨fun h => congrArg Fin.val h, fun h => Fin.ext h⟩

set_option maxHeartbeats 1000000 in
/-- The body keeps them. -/
theorem sums_kept : (sums m).Kept m := by
  intro c t h hinv
  have W := words t
  rw [show tq = (given m c t).T0 from rfl, show tk = (given m c t).T1 from rfl] at W
  obtain ⟨hq, hk, hin, w0, w1, w2, w3, w4, w5⟩ := W
  have hn : (wq (F := Ideal) (crd t) (given m c t).T0).toNat < 4 := by rw [hq]; exact qOf_lt _
  have eq : ∀ n' : Fin 4, n' = ⟨(wq (F := Ideal) (crd t) (given m c t).T0).toNat, hn⟩ ↔ n'.val = qOf t.val := fun n' => fin_eq_iff hn hq
  obtain ⟨p0, p1, p4, p5⟩ | ⟨p0, p1, p4, p5⟩ | ⟨p0, p1, p4, p5⟩ | ⟨p0, p1, p4, p5⟩ | ⟨p0, p1, p4, p5⟩ := kinds t
  · have ed : onDiag t.val = true := decide_eq_true p1
    obtain ⟨h', H, i0, i1, i2⟩ := stepA (c := c) (i := crd t) (a := stg t) (x := given m c t) (h := h) hin (w0.mpr p0) (w1.mpr p1) (fun e => w2.mp e p1) (w3.mpr p1) (fun e => p4 (w4.mp e)) (fun e => p5 (w5.mp e)) hn
    exact ⟨h', H, Or.inr ⟨fun j r d => (i0 j r d).trans (by rw [accK_next, ed, if_pos p1, zero_add]), fun j r d => (i1 j r d).trans (by rw [accV_next, ed, if_pos p1, zero_add]),
        fun n j d b => (i2 n j d b).trans (by rw [accQ_next, ed, if_pos p0, if_congr (eq n) rfl rfl])⟩,
      fun k => absurd k p5,
      fun k => absurd k p4, fun k => absurd k p4⟩
  · have ed : onDiag t.val = false := decide_eq_false p1
    obtain ⟨q0, q1, q2⟩ := hinv.resolve_left fun e => p0 (by rw [e])
    obtain ⟨h', H, i0, i1, i2⟩ := stepB (c := c) (i := crd t) (a := stg t) (x := given m c t) (h := h) hin (fun e => p0 (w0.mp e)) (fun e => p1 (w1.mp e)) (w2.mpr p1) (fun e => p1 (w3.mp e)) (fun e => p4 (w4.mp e)) (fun e => p5 (w5.mp e)) hn
    exact ⟨h', H, Or.inr ⟨fun j r d => (i0 j r d).trans (by rw [accK_next, ed, if_neg p1, q0 j r d]), fun j r d => (i1 j r d).trans (by rw [accV_next, ed, if_neg p1, q1 j r d]),
        fun n j d b => (i2 n j d b).trans (by rw [accQ_next, ed, if_neg p0, if_congr (eq n) rfl rfl, q2 n j d b])⟩,
      fun k => absurd k p5,
      fun k => absurd k p4, fun k => absurd k p4⟩
  · have ed : onDiag t.val = false := decide_eq_false p1
    obtain ⟨q0, q1, q2⟩ := hinv.resolve_left fun e => p0 (by rw [e])
    obtain ⟨h', H, i0, i1, i2, i3, i4⟩ := stepC (c := c) (i := crd t) (a := stg t) (x := given m c t) (h := h) hin (fun e => p0 (w0.mp e)) (fun e => p1 (w1.mp e)) (w2.mpr p1) (fun e => p1 (w3.mp e)) (w4.mpr p4) (fun e => p5 (w5.mp e)) hn
    exact ⟨h', H, Or.inr ⟨fun j r d => (i0 j r d).trans (by rw [accK_next, ed, if_neg p1, q0 j r d]), fun j r d => (i1 j r d).trans (by rw [accV_next, ed, if_neg p1, q1 j r d]),
        fun n j d b => (i2 n j d b).trans (by rw [accQ_next, ed, if_neg p0, if_congr (eq n) rfl rfl, q2 n j d b])⟩,
      fun k => absurd k p5,
      fun _ => fun j r d => (i3 j r d).trans (by rw [accK_next, ed, if_neg p1, q0 j r d]), fun _ => fun j r d => (i4 j r d).trans (by rw [accV_next, ed, if_neg p1, q1 j r d])⟩
  · have ed : onDiag t.val = true := decide_eq_true p1
    obtain ⟨q0, q1, q2⟩ := hinv.resolve_left fun e => p0 (by rw [e])
    obtain ⟨h', H, i0, i1, i2⟩ := stepD (c := c) (i := crd t) (a := stg t) (x := given m c t) (h := h) hin (fun e => p0 (w0.mp e)) (w1.mpr p1) (fun e => w2.mp e p1) (w3.mpr p1) (fun e => p4 (w4.mp e)) (fun e => p5 (w5.mp e)) hn
    exact ⟨h', H, Or.inr ⟨fun j r d => (i0 j r d).trans (by rw [accK_next, ed, if_pos p1, zero_add]), fun j r d => (i1 j r d).trans (by rw [accV_next, ed, if_pos p1, zero_add]),
        fun n j d b => (i2 n j d b).trans (by rw [accQ_next, ed, if_neg p0, if_congr (eq n) rfl rfl, q2 n j d b])⟩,
      fun k => absurd k p5,
      fun k => absurd k p4, fun k => absurd k p4⟩
  · have ed : onDiag t.val = true := decide_eq_true p1
    obtain ⟨q0, q1, q2⟩ := hinv.resolve_left fun e => p0 (by rw [e])
    obtain ⟨h', H, i0, i1, i2, i3, i4, i5⟩ := stepE (c := c) (i := crd t) (a := stg t) (x := given m c t) (h := h) hin (fun e => p0 (w0.mp e)) (w1.mpr p1) (fun e => w2.mp e p1) (w3.mpr p1) (w4.mpr p4) (w5.mpr p5) hn
    exact ⟨h', H, Or.inr ⟨fun j r d => (i0 j r d).trans (by rw [accK_next, ed, if_pos p1, zero_add]), fun j r d => (i1 j r d).trans (by rw [accV_next, ed, if_pos p1, zero_add]),
        fun n j d b => (i2 n j d b).trans (by rw [accQ_next, ed, if_neg p0, if_congr (eq n) rfl rfl, q2 n j d b])⟩,
      fun _ n b j d => (i5 n b j d).trans (by rw [accQ_next, ed, if_neg p0, if_congr (eq n) rfl rfl, q2 n j d b]),
      fun _ => fun j r d => (i3 j r d).trans (by rw [accK_next, ed, if_pos p1, zero_add]), fun _ => fun j r d => (i4 j r d).trans (by rw [accV_next, ed, if_pos p1, zero_add])⟩

end Cert.MlaIdeal.Body

end
-- ==== Proof.MlaTotal.lean ====
/- Sums carried over the pairs of blocks: down the query blocks of a key block, and along the key blocks of a query block. -/
module

public import proofs.«01_k».proof.Proof.MlaFound
public import proofs.«01_k».proof.Proof.MlaKept
public import Idealize.ShloMosaic.Lib.Pipeline.ArrRel

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

open MlaSpec

/-- The key block of the pair numbered `u` of a batch. -/
def kN (u : ℕ) : Fin 4 := ⟨kOf u % 4, Nat.mod_lt _ (by decide)⟩

theorem diag_iff : ∀ n : Fin 40, (qOf n.val = kOf n.val) ↔ qAt (pt n.val) = kAt (pt n.val) := by decide +kernel
theorem diag_dec : ∀ n : Fin 40, onDiag n.val = decide (qAt (pt n.val) = kAt (pt n.val)) := by decide +kernel
theorem le_q : ∀ t : Fin cfgA.N, kAt t ≤ qAt t := by decide +kernel
theorem next_q : ∀ n : Fin 39, ¬ qAt (pt (n.val + 1)) = kAt (pt (n.val + 1)) →
    bOf (pt n.val) = bOf (pt (n.val + 1)) ∧ kAt (pt n.val) = kAt (pt (n.val + 1)) ∧ (qAt (pt n.val)).val + 1 = (qAt (pt (n.val + 1))).val := by decide +kernel
theorem next_b : ∀ n : Fin 39, ¬ (n.val + 1) % 10 = 0 → bOf (pt n.val) = bOf (pt (n.val + 1)) := by decide +kernel
theorem first_diag : qAt (pt 0) = kAt (pt 0) := by decide +kernel
theorem q_at : ∀ n : Fin 40, (qAt (pt n.val)).val = qOf n.val := by decide +kernel
theorem k_at : ∀ n : Fin 40, kAt (pt n.val) = kN (n.val % 10) := by decide +kernel
theorem q_mod (n : ℕ) : qOf (n % 10) = qOf n := by unfold qOf; rw [Nat.mod_mod]

/-- One more query block. -/
theorem add_block (f : Fin 4 → ℝ) (k q p : Fin 4) (h : p.val + 1 = q.val) (hk : k ≤ q) (hn : ¬ q = k) :
    (∑ x, if k ≤ x ∧ x ≤ p then f x else 0) + f q = ∑ x, if k ≤ x ∧ x ≤ q then f x else 0 := by
  rw [show (∑ x, if k ≤ x ∧ x ≤ q then f x else 0) = ∑ x, ((if k ≤ x ∧ x ≤ p then f x else 0) + if x = q then f x else 0) from
    Finset.sum_congr rfl fun x _ => ?_, Finset.sum_add_distrib, Finset.sum_ite_eq' Finset.univ q f, if_pos (Finset.mem_univ q)]
  have e1 : k.val ≤ q.val := hk
  have e2 : ¬ q.val = k.val := fun e => hn (Fin.ext e)
  by_cases hx : x = q
  · subst hx
    rw [if_pos rfl, if_pos ⟨hk, le_refl _⟩, if_neg fun a => by have := Fin.le_def.mp a.2; omega, zero_add]
  · rw [if_neg hx, add_zero]
    refine if_congr ⟨fun a => ⟨a.1, Fin.le_def.mpr ?_⟩, fun a => ⟨a.1, Fin.le_def.mpr ?_⟩⟩ rfl rfl
    · have := Fin.le_def.mp a.2
      have : ¬ x.val = q.val := fun e => hx (Fin.ext e)
      omega
    · have := Fin.le_def.mp a.2
      omega

theorem one_block (f : Fin 4 → ℝ) (k : Fin 4) : f k = ∑ x, if k ≤ x ∧ x ≤ k then f x else 0 := by
  rw [show (∑ x, if k ≤ x ∧ x ≤ k then f x else 0) = ∑ x, if x = k then f x else 0 from
    Finset.sum_congr rfl fun x _ => if_congr ⟨fun a => le_antisymm a.2 a.1, fun a => by subst a; exact ⟨le_refl _, le_refl _⟩⟩ rfl rfl,
    Finset.sum_ite_eq' Finset.univ k f, if_pos (Finset.mem_univ k)]

/-- A number restarted on the diagonal and added to at every pair. -/
theorem total_col (acc : ℕ → EReal) (g : Fin 4 → Fin 4 → Fin 4 → ℝ)
    (hs : ∀ n < 40, acc (n + 1) = (if qOf n = kOf n then 0 else acc n) + (g (bOf (pt n)) (qAt (pt n)) (kAt (pt n)) : EReal)) :
    ∀ n < 40, acc (n + 1) = ((∑ x, if kAt (pt n) ≤ x ∧ x ≤ qAt (pt n) then g (bOf (pt n)) x (kAt (pt n)) else 0 : ℝ) : EReal) := by
  intro n
  induction n with
  | zero =>
    intro h
    have e : qAt (pt 0) = kAt (pt 0) := first_diag
    rw [hs 0 h, if_pos ((diag_iff ⟨0, h⟩).mpr e), zero_add, e, ← one_block (fun x => g (bOf (pt 0)) x (kAt (pt 0)))]
  | succ n ih =>
    intro h
    rw [hs (n + 1) h]
    by_cases e : qAt (pt (n + 1)) = kAt (pt (n + 1))
    · rw [if_pos ((diag_iff ⟨n + 1, h⟩).mpr e), zero_add, e, ← one_block (fun x => g (bOf (pt (n + 1))) x (kAt (pt (n + 1))))]
    · obtain ⟨b, k, q⟩ := next_q ⟨n, by omega⟩ e
      dsimp only at b k q
      rw [if_neg fun a => e ((diag_iff ⟨n + 1, h⟩).mp a), ih (by omega), b, k, ← EReal.coe_add,
        add_block (fun x => g (bOf (pt (n + 1))) x (kAt (pt (n + 1)))) _ _ _ q (le_q _) e]

/-- A number restarted at every batch and added to at the pairs of one query block. -/
theorem total_row (acc : ℕ → EReal) (N : Fin 4) (g : Fin 4 → Fin 4 → ℝ)
    (hs : ∀ n < 40, acc (n + 1) = (if n % 10 = 0 then 0 else acc n) + (if N.val = qOf n then (g (bOf (pt n)) (kAt (pt n)) : EReal) else 0)) :
    ∀ n < 40, acc (n + 1) = ((∑ u ∈ Finset.range (n % 10 + 1), if N.val = qOf u then g (bOf (pt n)) (kN u) else 0 : ℝ) : EReal) := by
  have hi : ∀ (p : Prop) [Decidable p] (r : ℝ), (if p then (r : EReal) else 0) = ((if p then r else 0 : ℝ) : EReal) := fun p _ r => by
    split
    · rfl
    · exact EReal.coe_zero.symm
  intro n
  induction n with
  | zero =>
    intro h
    rw [hs 0 h, if_pos (Nat.zero_mod 10), zero_add, hi, Nat.zero_mod, zero_add, Finset.sum_range_one, k_at ⟨0, h⟩]
    rfl
  | succ n ih =>
    intro h
    rw [hs (n + 1) h, hi, k_at ⟨n + 1, h⟩]
    dsimp only
    rw [← q_mod (n + 1), Finset.sum_range_succ]
    by_cases e : (n + 1) % 10 = 0
    · rw [if_pos e, e, zero_add, Finset.sum_range_zero, zero_add]
    · rw [if_neg e, ih (by omega), next_b ⟨n, by omega⟩ e, ← EReal.coe_add]
      dsimp only
      rw [show n % 10 + 1 = (n + 1) % 10 by omega]

theorem pairs_row (N : Fin 4) (f : Fin 4 → ℝ) : (∑ u ∈ Finset.range (9 + 1), if N.val = qOf u then f (kN u) else 0) = ∑ k, if k ≤ N then f k else 0 := by
  rw [Fin.sum_univ_four]
  fin_cases N <;> simp [Finset.sum_range_succ, qOf, kOf, kN]

end Cert.MlaIdeal.Body

end
-- ==== Proof.MlaLast.lean ====
/- The gradients that the kernel writes back, over the reals. -/
module

public import proofs.«01_k».proof.Proof.MlaTotal
public import Idealize.ShloMosaic.Lib.Pipeline.ArrRel

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

open MlaSpec

/-! Over the reals, the blocks that the causal mask empties add nothing, and the blocks together are all tokens. -/

theorem widen_total {n : ℕ} (a : Fin n → ℝ) (f : Fin n → Fin 96 → ℝ) (d : Fin 128) : ∑ i, a i * widen (f i) d = widen (fun d => ∑ i, a i * f i d) d := by
  unfold widen
  by_cases h : d.val < 96
  · rw [dif_pos h]; exact Finset.sum_congr rfl fun i _ => by rw [dif_pos h]
  · rw [dif_neg h]; exact Finset.sum_eq_zero fun i _ => by rw [dif_neg h, mul_zero]

theorem not_le_rows {q k : Fin 4} (h : ¬ k ≤ q) (b r : Fin 512) : ¬ rowB k r ≤ rowB q b := by
  rw [Fin.le_def] at h ⊢
  show ¬ 512 * k.val + r.val ≤ 512 * q.val + b.val
  omega

/-- Down a key block: the query blocks from it on give the sum over all queries. -/
theorem col_total (F : Fin 2048 → Fin 2048 → ℝ) (hF : ∀ i s, ¬ s ≤ i → F i s = 0) (q k : Fin 4) (r : Fin 512) (hq : q.val = 3) :
    (∑ x, if k ≤ x ∧ x ≤ q then ∑ b, F (rowB x b) (rowB k r) else 0) = ∑ i, F i (rowB k r) := by
  rw [sum_blocks]
  refine Finset.sum_congr rfl fun x _ => ?_
  by_cases h : k ≤ x
  · rw [if_pos ⟨h, Fin.le_def.mpr (by omega)⟩]
  · rw [if_neg fun a => h a.1]
    exact (Finset.sum_eq_zero fun b _ => hF _ _ (not_le_rows h b r)).symm

/-- Along a query block: the key blocks up to it give the sum over all keys. -/
theorem row_total (F : Fin 2048 → Fin 2048 → ℝ) (hF : ∀ i s, ¬ s ≤ i → F i s = 0) (q : Fin 4) (b : Fin 512) :
    (∑ k, if k ≤ q then ∑ r, F (rowB q b) (rowB k r) else 0) = ∑ s, F (rowB q b) s := by
  rw [sum_blocks]
  refine Finset.sum_congr rfl fun k _ => ?_
  by_cases h : k ≤ q
  · rw [if_pos h]
  · rw [if_neg h]
    exact (Finset.sum_eq_zero fun r _ => hF _ _ (not_le_rows h b r)).symm

variable {W : Fin 4 → Fin 8 → Head} (R : MlaRefIdeal.MlaRef.Reads (A0 m c) (A1 m c) (A2 m c) (A3 m c) W) (T : MlaRefIdeal.MlaRef.Tops (A0 m c) (A1 m c) W)
include R T

/-- The key gradients written back at a point. -/
theorem last_K (t : Fin cfgA.N) (hq : qOf t.val = 3) (j r d) :
    accK m c (t.val + 1) j r d = (widen ((W (bOf t) j).gk (rowB (kAt t) r)) d : EReal) := by
  have h := total_col (fun n => accK m c n j r d) (fun B q k => ∑ b, (W B j).ds (rowB q b) (rowB k r) * widen ((W B j).q (rowB q b)) d)
    (fun n hn => by
      show accK m c (n + 1) j r d = _
      rw [accK, diag_dec ⟨n, hn⟩, givenAt]
      dsimp only
      rw [bK_at (found m c R T (pt n)) (le_q _)]) t.val t.isLt
  rw [pt_val] at h
  refine h.trans (congrArg _ ((col_total (fun i s => (W (bOf t) j).ds i s * widen ((W (bOf t) j).q i) d)
    (fun i s hs => by rw [ds_of_lt _ _ _ hs, zero_mul]) (qAt t) (kAt t) r (by rw [← hq, ← q_at ⟨t.val, t.isLt⟩]; exact congrArg (fun u => (qAt u).val) (pt_val t).symm)).trans ?_))
  exact widen_total (fun i => (W (bOf t) j).ds i (rowB (kAt t) r)) (fun i => (W (bOf t) j).q i) d

/-- The value gradients written back at a point. -/
theorem last_V (t : Fin cfgA.N) (hq : qOf t.val = 3) (j r d) :
    accV m c (t.val + 1) j r d = ((W (bOf t) j).gv (rowB (kAt t) r) d : EReal) := by
  have h := total_col (fun n => accV m c n j r d) (fun B q k => ∑ b, (W B j).p (rowB q b) (rowB k r) * (W B j).o (rowB q b) d)
    (fun n hn => by
      show accV m c (n + 1) j r d = _
      rw [accV, diag_dec ⟨n, hn⟩, givenAt]
      dsimp only
      rw [bV_at (found m c R T (pt n)) (le_q _)]) t.val t.isLt
  rw [pt_val] at h
  exact h.trans (congrArg _ (col_total (fun i s => (W (bOf t) j).p i s * (W (bOf t) j).o i d)
    (fun i s hs => by rw [p_of_lt _ _ _ hs, zero_mul]) (qAt t) (kAt t) r (by rw [← hq, ← q_at ⟨t.val, t.isLt⟩]; exact congrArg (fun u => (qAt u).val) (pt_val t).symm)))

/-- The query gradients written back at a point. -/
theorem last_Q (t : Fin cfgA.N) (h9 : t.val % 10 = 9) (n : Fin 4) (j d b) :
    accQ m c (t.val + 1) n.val j d b = (widen ((W (bOf t) j).gq (rowB n b)) d : EReal) := by
  have h := total_row (fun u => accQ m c u n.val j d b) n (fun B k => ∑ r, (W B j).ds (rowB n b) (rowB k r) * widen ((W B j).k (rowB k r)) d)
    (fun u hu => by
      show accQ m c (u + 1) n.val j d b = _
      rw [accQ, diag_dec ⟨u, hu⟩, givenAt]
      dsimp only
      rw [bQ_at (found m c R T (pt u)) (le_q _)]
      by_cases e : n.val = qOf u
      · rw [if_pos e, if_pos e, show qAt (pt u) = n from Fin.ext ((q_at ⟨u, hu⟩).trans e.symm)]
      · rw [if_neg e, if_neg e]) t.val t.isLt
  rw [pt_val, h9] at h
  refine h.trans (congrArg _ ((pairs_row n fun k => ∑ r, (W (bOf t) j).ds (rowB n b) (rowB k r) * widen ((W (bOf t) j).k (rowB k r)) d).trans
    ((row_total (fun i s => (W (bOf t) j).ds i s * widen ((W (bOf t) j).k s) d) (fun i s hs => by rw [ds_of_lt _ _ _ hs, zero_mul]) n b).trans ?_)))
  exact widen_total (fun s => (W (bOf t) j).ds (rowB n b) s) (fun s => (W (bOf t) j).k s) d

end Cert.MlaIdeal.Body

end
-- ==== Proof.MlaRes.lean ====
/- The reference's gradients as the kernel lays them out. -/
module

public import proofs.«01_k».proof.Proof.MlaFlat
public import proofs.«01_k».proof.Proof.MlaRefGrad
public import Idealize.ShloMosaic.Lib.Claim

@[expose] public section

set_option maxRecDepth 16384

noncomputable section

open Idealize.ShloMosaic Idealize.ShloMosaic.TcCoe Idealize.SL.Sem

namespace Cert.MlaIdeal.Body

open Cert.MlaIdeal Cert.MlaIdeal.Gen MlaSpec

open Cert.MlaRefIdeal.Read (val_main_v67 val_main_v69 val_main_v70 val_main_v65 val_main_v63 val_main_v46)

/-! The reference's three results at one index. -/

variable {x0 x1 : FVec Ideal S4x2048x8x96 .f32} {x2 : FVec Ideal S4x2048x8x64 .f32} {x3 : FVec Ideal S4x2048x512 .f32} {W : Fin 4 → Fin 8 → Head} (R : MlaRefIdeal.MlaRef.Reads x0 x1 x2 x3 W) (T : MlaRefIdeal.MlaRef.Tops x0 x1 W)
variable (b : Fin 4) (h : Fin 8) (i : Fin 2048)

include R T

theorem res_q (d : Fin 128) : val_main_v67 (F := Ideal) x0 x1 x2 x3 (ix2 (rowD b i) (colK h d)) = (widen ((W b h).gq i) d : EReal) := by
  have e : ∀ d, val_main_v65 (F := Ideal) x0 x1 x2 x3 (ix4 b i h d) = ((W b h).gq i d : EReal) := fun d => MlaRefIdeal.MlaRef.gq_at R T b h i d
  unfold val_main_v67 MlaRefIdeal.Read.val_main_v66
  generalize val_main_v65 (F := Ideal) x0 x1 x2 x3 = y at e
  exact wide_at y b i h d _ e
theorem res_k (d : Fin 128) : val_main_v69 (F := Ideal) x0 x1 x2 x3 (ix2 (rowD b i) (colK h d)) = (widen ((W b h).gk i) d : EReal) := by
  have e : ∀ d, val_main_v63 (F := Ideal) x0 x1 x2 x3 (ix4 b i h d) = ((W b h).gk i d : EReal) := fun d => MlaRefIdeal.MlaRef.gk_at R T b h i d
  unfold val_main_v69 MlaRefIdeal.Read.val_main_v68
  generalize val_main_v63 (F := Ideal) x0 x1 x2 x3 = y at e
  exact wide_at y b i h d _ e
theorem res_v (d : Fin 64) : val_main_v70 (F := Ideal) x0 x1 x3 (ix2 (rowD b i) (colV h d)) = ((W b h).gv i d : EReal) := by
  have e : val_main_v46 (F := Ideal) x0 x1 x3 (ix4 b i h d) = ((W b h).gv i d : EReal) := MlaRefIdeal.MlaRef.gv_at R T b h i d
  unfold val_main_v70
  generalize val_main_v46 (F := Ideal) x0 x1 x3 = y at e
  exact (flatV (φ := .f32) y shapeCasts_S4x2048x8x64_S8192x512 b i h d).trans e

end Cert.MlaIdeal.Body

end
-- ==== Proof.MlaOut.lean ====
/- The three result arrays after the run are the reference's gradients. -/
module

public import proofs.«01_k».proof.Proof.MlaLast
public import proofs.«01_k».proof.Proof.MlaRes
public import Idealize.ShloMosaic.Lib.Pipeline.ArrRel

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic Idealize.ShloMosaic.Pointwise
open Idealize.SL Idealize.SL.Sem

variable (m : (ℓ : Loc nD τ sig) → Buf (Elt Ideal) ℓ) (c : Dev nD)

open MlaSpec

open Cert.MlaRefIdeal.Read (val_main_v67 val_main_v69 val_main_v70)

theorem rows (i : Fin 2048) : ∃ n b, i = rowB n b :=
  ⟨⟨i.val / 512, by omega⟩, ⟨i.val % 512, Nat.mod_lt _ (by decide)⟩, Fin.ext (by show i.val = 512 * (i.val / 512) + i.val % 512; omega)⟩
theorem colsK (i : Fin 1024) : ∃ j d, i = colK j d :=
  ⟨⟨i.val / 128, by omega⟩, ⟨i.val % 128, Nat.mod_lt _ (by decide)⟩, Fin.ext (by show i.val = 128 * (i.val / 128) + i.val % 128; omega)⟩
theorem colsV (i : Fin 512) : ∃ j d, i = colV j d :=
  ⟨⟨i.val / 64, by omega⟩, ⟨i.val % 64, Nat.mod_lt _ (by decide)⟩, Fin.ext (by show i.val = 64 * (i.val / 64) + i.val % 64; omega)⟩

variable {W : Fin 4 → Fin 8 → Head} (R : MlaRefIdeal.MlaRef.Reads (A0 m c) (A1 m c) (A2 m c) (A3 m c) W) (T : MlaRefIdeal.MlaRef.Tops (A0 m c) (A1 m c) W)
variable (after : (w : Fin cfgA.W) → Fin cfgA.N → (cfgA.win w).block.Idx → Elt Ideal (cfgA.win w).elt)
variable (hL : ∀ (w : Fin cfgA.W) (u : Fin cfgA.N), (cfgA.win w).flush u = true → (rdat m (sums m) c).Leaves w u (after w u))
include R T hL

theorem out_6 : ((rdat m (sums m) c).withAfter after).arrAt (6 : Fin 9) cfgA.N = val_main_v67 (F := Ideal) (A0 m c) (A1 m c) (A2 m c) (A3 m c) := by
  refine ((rdat m (sums m) c).withAfter after).arrAt_eq_of_covers (6 : Fin 9) _ (by decide +kernel) fun t hf y => ?_
  have h9 : t.val % 10 = 9 := by rw [flush_6] at hf; exact of_decide_eq_true hf
  obtain ⟨Y, -, hX⟩ := hL (6 : Fin 9) t hf
  have e : ∀ (n : Fin 4) (b : Fin 512) j d, (after (6 : Fin 9) t (ix2 ⟨512 * n.val + b.val, by omega⟩ (colK j d)) : EReal) = accQ m c (t.val + 1) n.val j d b := hX h9
  obtain ⟨i, a, rfl⟩ : ∃ (i : Fin 2048) (a : Fin 1024), y = ix2 i a := ⟨y 0, y 1, eq_ix2 y⟩
  obtain ⟨n, b, rfl⟩ := rows i
  obtain ⟨j, d, rfl⟩ := colsK a
  rw [emb_6, res_q R T]
  blk_simp
  exact (e n b j d).trans (last_Q m c R T t h9 n j d b)

theorem out_7 : ((rdat m (sums m) c).withAfter after).arrAt (7 : Fin 9) cfgA.N = val_main_v69 (F := Ideal) (A0 m c) (A1 m c) (A2 m c) (A3 m c) := by
  refine ((rdat m (sums m) c).withAfter after).arrAt_eq_of_covers (7 : Fin 9) _ (by decide +kernel) fun t hf y => ?_
  have h3 : qOf t.val = 3 := by rw [flush_7] at hf; exact of_decide_eq_true hf
  obtain ⟨Y, -, hX⟩ := hL (7 : Fin 9) t hf
  have e : ∀ j (r : Fin 512) d, (after (7 : Fin 9) t (ix2 r (colK j d)) : EReal) = accK m c (t.val + 1) j r d := hX h3
  obtain ⟨r, a, rfl⟩ : ∃ (i : Fin 512) (a : Fin 1024), y = ix2 i a := ⟨y 0, y 1, eq_ix2 y⟩
  obtain ⟨j, d, rfl⟩ := colsK a
  rw [emb_7, rowT, res_k R T]
  blk_simp
  exact (e j r d).trans (last_K m c R T t h3 j r d)

theorem out_8 : ((rdat m (sums m) c).withAfter after).arrAt (8 : Fin 9) cfgA.N = val_main_v70 (F := Ideal) (A0 m c) (A1 m c) (A3 m c) := by
  refine ((rdat m (sums m) c).withAfter after).arrAt_eq_of_covers (8 : Fin 9) _ (by decide +kernel) fun t hf y => ?_
  have h3 : qOf t.val = 3 := by rw [flush_8] at hf; exact of_decide_eq_true hf
  obtain ⟨Y, -, hX⟩ := hL (8 : Fin 9) t hf
  have e : ∀ j (r : Fin 512) d, (after (8 : Fin 9) t (ix2 r (colV j d)) : EReal) = accV m c (t.val + 1) j r d := hX h3
  obtain ⟨r, a, rfl⟩ : ∃ (i : Fin 512) (a : Fin 512), y = ix2 i a := ⟨y 0, y 1, eq_ix2 y⟩
  obtain ⟨j, d, rfl⟩ := colsV a
  rw [emb_8, rowT, res_v R T]
  blk_simp
  exact (e j r d).trans (last_V m c R T t h3 j r d)

end Cert.MlaIdeal.Body

end
-- ==== Proof.MlaArgs.lean ====
/- The arguments of the attention's backward call, untouched by the host and the launch. -/
module

public import proofs.«01_k».proof.Proof.MlaLaunch
public import Idealize.ShloMosaic.Lib.Claim

@[expose] public section

set_option maxRecDepth 16384
set_option Elab.async false

noncomputable section

namespace Cert.MlaIdeal.Body

open Cert.MlaIdeal Cert.MlaIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The host writes none of the arguments. -/
theorem V_arg0 : V m c main_arg0 = m ((c.tc : Thread nD τ).loc main_arg0) := by
  unfold V opss
  simp only [hostOps0, hostOps0_1, hostOps0_2, hostOps0_3, hostOps0_4, hostOps0_5, hostOps0_6, List.flatten_cons, List.flatten_nil, List.cons_append, List.nil_append, List.append_nil]
  entry_read
  rfl
theorem V_arg1 : V m c main_arg1 = m ((c.tc : Thread nD τ).loc main_arg1) := by
  unfold V opss
  simp only [hostOps0, hostOps0_1, hostOps0_2, hostOps0_3, hostOps0_4, hostOps0_5, hostOps0_6, List.flatten_cons, List.flatten_nil, List.cons_append, List.nil_append, List.append_nil]
  entry_read
  rfl
theorem V_arg2 : V m c main_arg2 = m ((c.tc : Thread nD τ).loc main_arg2) := by
  unfold V opss
  simp only [hostOps0, hostOps0_1, hostOps0_2, hostOps0_3, hostOps0_4, hostOps0_5, hostOps0_6, List.flatten_cons, List.flatten_nil, List.cons_append, List.nil_append, List.append_nil]
  entry_read
  rfl
theorem V_arg3 : V m c main_arg3 = m ((c.tc : Thread nD τ).loc main_arg3) := by
  unfold V opss
  simp only [hostOps0, hostOps0_1, hostOps0_2, hostOps0_3, hostOps0_4, hostOps0_5, hostOps0_6, List.flatten_cons, List.flatten_nil, List.cons_append, List.nil_append, List.append_nil]
  entry_read
  rfl

/-- The arguments end as they began. -/
theorem args_kept (T : Track) {r : PUnit × MemSt nD τ sig (Elt Ideal)} (h : Pipeline.RDat.FramePost (Pipeline.pin pcfgs (fun _ => adm) 0) (rdat m T) (V m) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (Pipeline.mem_restRefs_of main_arg0 (by decide) (by decide))).trans (V_arg0 m c),
    ((h c).2 main_arg1 (Pipeline.mem_restRefs_of main_arg1 (by decide) (by decide))).trans (V_arg1 m c),
    ((h c).2 main_arg2 (Pipeline.mem_restRefs_of main_arg2 (by decide) (by decide))).trans (V_arg2 m c),
    ((h c).2 main_arg3 (Pipeline.mem_restRefs_of main_arg3 (by decide) (by decide))).trans (V_arg3 m c)⟩

end Cert.MlaIdeal.Body

end
-- ==== Proof.MlaBitsKept.lean ====
/- The attention's backward call, at words: it runs and leaves its arguments. -/
module

public import proofs.«01_k».proof.Proof.MlaBitsLaunch
public import Idealize.ShloMosaic.Lib.Claim

@[expose] public section

set_option maxRecDepth 16384
set_option Elab.async false

noncomputable section

namespace Cert.Mla.Body

open Cert.Mla Cert.Mla.Gen
open Idealize.ShloMosaic Idealize.ShloMosaic.TcCoe Idealize.ShloMosaic.Tactic
open Idealize.SL Idealize.SL.Sem

variable (m : (ℓ : Loc nD τ sig) → Buf (Elt Bits) ℓ) (c : Dev nD)

/-- The host writes none of the arguments. -/
theorem V_arg0 : V m c main_arg0 = m ((c.tc : Thread nD τ).loc main_arg0) := by
  unfold V opss
  simp only [hostOps0, hostOps0_1, hostOps0_2, hostOps0_3, hostOps0_4, hostOps0_5, hostOps0_6, List.flatten_cons, List.flatten_nil, List.cons_append, List.nil_append, List.append_nil]
  entry_read
  rfl
theorem V_arg1 : V m c main_arg1 = m ((c.tc : Thread nD τ).loc main_arg1) := by
  unfold V opss
  simp only [hostOps0, hostOps0_1, hostOps0_2, hostOps0_3, hostOps0_4, hostOps0_5, hostOps0_6, List.flatten_cons, List.flatten_nil, List.cons_append, List.nil_append, List.append_nil]
  entry_read
  rfl
theorem V_arg2 : V m c main_arg2 = m ((c.tc : Thread nD τ).loc main_arg2) := by
  unfold V opss
  simp only [hostOps0, hostOps0_1, hostOps0_2, hostOps0_3, hostOps0_4, hostOps0_5, hostOps0_6, List.flatten_cons, List.flatten_nil, List.cons_append, List.nil_append, List.append_nil]
  entry_read
  rfl
theorem V_arg3 : V m c main_arg3 = m ((c.tc : Thread nD τ).loc main_arg3) := by
  unfold V opss
  simp only [hostOps0, hostOps0_1, hostOps0_2, hostOps0_3, hostOps0_4, hostOps0_5, hostOps0_6, List.flatten_cons, List.flatten_nil, List.cons_append, List.nil_append, List.append_nil]
  entry_read
  rfl

/-- The arguments end as they began. -/
theorem args_kept (T : Track) {r : PUnit × MemSt nD τ sig (Elt Bits)} (h : Pipeline.RDat.FramePost (Pipeline.pin pcfgs (fun _ => adm) 0) (rdat m T) (V m) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (Pipeline.mem_restRefs_of main_arg0 (by decide) (by decide))).trans (V_arg0 m c),
    ((h c).2 main_arg1 (Pipeline.mem_restRefs_of main_arg1 (by decide) (by decide))).trans (V_arg1 m c),
    ((h c).2 main_arg2 (Pipeline.mem_restRefs_of main_arg2 (by decide) (by decide))).trans (V_arg2 m c),
    ((h c).2 main_arg3 (Pipeline.mem_restRefs_of main_arg3 (by decide) (by decide))).trans (V_arg3 m c)⟩

/-- The claim that carries nothing. -/
def free : Track where
  inv _ _ _ _ _ := True
  start _ _ _ _ := trivial
  dq _ _ _ := True
  dk _ _ _ := True
  dv _ _ _ := True

/-- Each point takes one of the body's five paths. -/
theorem paths : ∀ t : Fin cfgA.N,
    (t.val % 10 = 0 ∧ qOf t.val = kOf t.val ∧ ¬qOf t.val = 3 ∧ ¬t.val % 10 = 9)
    ∨ (¬t.val % 10 = 0 ∧ ¬qOf t.val = kOf t.val ∧ ¬qOf t.val = 3 ∧ ¬t.val % 10 = 9)
    ∨ (¬t.val % 10 = 0 ∧ ¬qOf t.val = kOf t.val ∧ qOf t.val = 3 ∧ ¬t.val % 10 = 9)
    ∨ (¬t.val % 10 = 0 ∧ qOf t.val = kOf t.val ∧ ¬qOf t.val = 3 ∧ ¬t.val % 10 = 9)
    ∨ (¬t.val % 10 = 0 ∧ qOf t.val = kOf t.val ∧ qOf t.val = 3 ∧ t.val % 10 = 9) := by decide +kernel

theorem free_kept : free.Kept m := by
  intro c t h _
  have W := words t
  rw [show tq = (given m c t).T0 from rfl, show tk = (given m c t).T1 from rfl] at W
  obtain ⟨-, -, hin, w0, w1, w2, w3, w4, w5⟩ := W
  have close : (∃ h' : Held FF c (stg t), Takes c (crd t) (stg t) (given m c t) h h') → ∃ h' : Held FF c (stg t), Takes c (crd t) (stg t) (given m c t) h h'
      ∧ True ∧ (t.val % 10 = 9 → True) ∧ (qOf t.val = 3 → True) ∧ (qOf t.val = 3 → True) :=
    fun ⟨h', H⟩ => ⟨h', H, trivial, fun _ => trivial, fun _ => trivial, fun _ => trivial⟩
  refine close ?_
  obtain ⟨p0, p1, p4, p5⟩ | ⟨p0, p1, p4, p5⟩ | ⟨p0, p1, p4, p5⟩ | ⟨p0, p1, p4, p5⟩ | ⟨p0, p1, p4, p5⟩ := paths t
  · exact ⟨_, (runA c (crd t) (stg t) (given m c t) h hin (w0.mpr p0) (w1.mpr p1) (fun e => w2.mp e p1) (w3.mpr p1) (fun e => p4 (w4.mp e)) (fun e => p5 (w5.mp e))).2⟩
  · exact ⟨_, (runB c (crd t) (stg t) (given m c t) h hin (fun e => p0 (w0.mp e)) (fun e => p1 (w1.mp e)) (w2.mpr p1) (fun e => p1 (w3.mp e)) (fun e => p4 (w4.mp e)) (fun e => p5 (w5.mp e))).2⟩
  · exact ⟨_, (runC c (crd t) (stg t) (given m c t) h hin (fun e => p0 (w0.mp e)) (fun e => p1 (w1.mp e)) (w2.mpr p1) (fun e => p1 (w3.mp e)) (w4.mpr p4) (fun e => p5 (w5.mp e))).2⟩
  · exact ⟨_, (runD c (crd t) (stg t) (given m c t) h hin (fun e => p0 (w0.mp e)) (w1.mpr p1) (fun e => w2.mp e p1) (w3.mpr p1) (fun e => p4 (w4.mp e)) (fun e => p5 (w5.mp e))).2⟩
  · exact ⟨_, (runE c (crd t) (stg t) (given m c t) h hin (fun e => p0 (w0.mp e)) (w1.mpr p1) (fun e => w2.mp e p1) (w3.mpr p1) (w4.mpr p4) (w5.mpr p5)).2⟩

/-- The call runs, at words, and leaves its arguments and the counters as they were. -/
theorem frame (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := Bits)) _ _).mono (fun r h => ⟨fun c => args_kept m c free h.1, h.2⟩) (run m free ρ (free_kept m))

end Cert.Mla.Body

end
-- ==== Proof.MlaClaim.lean ====
/- The attention's backward call: its frame, and its results against the reference's. -/
module

public import proofs.«01_k».proof.Defs
public import proofs.«01_k».proof.Proof.MlaOut
public import proofs.«01_k».proof.Proof.MlaKept
public import proofs.«01_k».proof.Proof.MlaArgs
public import proofs.«01_k».proof.Proof.MlaBitsKept
public import proofs.«01_k».proof.Proof.Finite
public import proofs.«01_k».proof.Proof.Gen.MlaRefIdeal.Run
public import proofs.«01_k».proof.Proof.Gen.Pre_mla_finite
public import Idealize.ShloMosaic.Lib.StableHlo.RunHlo

@[expose] public section

set_option maxRecDepth 16384

noncomputable section

open Idealize.ShloMosaic Idealize.ShloMosaic.TcCoe Idealize.SL.Sem

namespace Cert.MlaIdeal.Body

open Cert.MlaIdeal Cert.MlaIdeal.Gen MlaSpec
open Cert.MlaRefIdeal.Read (val_main_v67 val_main_v69 val_main_v70 val_main_v11)

abbrev Real1 {s : Shape} (x : FVec Ideal s .f32) : Prop := ∀ i, x i ≠ (⊤ : EReal) ∧ x i ≠ (⊥ : EReal)

/-- The precondition: every argument is finite. -/
theorem finite_of_pre (x0 x1 : FVec Ideal S4x2048x8x96 .f32) (x2 : FVec Ideal S4x2048x8x64 .f32) (x3 : FVec Ideal S4x2048x512 .f32)
    (h : Cert.Pre_mla_finite.fn (F := Ideal) x0 x1 x2 x3 = fun _ => 1#1) : Real1 x0 ∧ Real1 x1 ∧ Real1 x2 ∧ Real1 x3 := by
  have h := congrFun h Idealize.ShloMosaic.ix0
  dsimp only [Cert.Pre_mla_finite.fn, Cert.Pre_mla_finite.fn_part1] at h
  obtain ⟨h, h3⟩ := Finite.and_one _ _ _ h
  obtain ⟨h, h2⟩ := Finite.and_one _ _ _ h
  obtain ⟨h0, h1⟩ := Finite.and_one _ _ _ h
  exact ⟨Finite.of_all _ _ _ _ _ _ (fun i => Finite.inf_at _ i) h0, Finite.of_all _ _ _ _ _ _ (fun i => Finite.inf_at _ i) h1,
    Finite.of_all _ _ _ _ _ _ (fun i => Finite.inf_at _ i) h2, Finite.of_all _ _ _ _ _ _ (fun i => Finite.inf_at _ i) h3⟩

/-- The heads of finite arguments, each with the greatest of its queries' scores. -/
def headOf (x0 x1 : FVec Ideal S4x2048x8x96 .f32) (x2 : FVec Ideal S4x2048x8x64 .f32) (x3 : FVec Ideal S4x2048x512 .f32) (b : Fin 4) (h : Fin 8) : Head where
  q i d := (x0 (ix4 b i h d) : EReal).toReal
  k i d := (x1 (ix4 b i h d) : EReal).toReal
  v i d := (x2 (ix4 b i h d) : EReal).toReal
  o i d := (x3 (ix3 b i ⟨64 * h.val + d.val, by omega⟩) : EReal).toReal
  m i := (val_main_v11 (F := Ideal) x0 x1 (ix3 b h i) : EReal).toReal

variable {x0 x1 : FVec Ideal S4x2048x8x96 .f32} {x2 : FVec Ideal S4x2048x8x64 .f32} {x3 : FVec Ideal S4x2048x512 .f32}

theorem heads_read (h0 : Real1 x0) (h1 : Real1 x1) (h2 : Real1 x2) (h3 : Real1 x3) : MlaRefIdeal.MlaRef.Reads x0 x1 x2 x3 (headOf x0 x1 x2 x3) where
  q b i h d := (EReal.coe_toReal (h0 _).1 (h0 _).2).symm
  k b i h d := (EReal.coe_toReal (h1 _).1 (h1 _).2).symm
  v b i h d := (EReal.coe_toReal (h2 _).1 (h2 _).2).symm
  o b i h d := (EReal.coe_toReal (h3 _).1 (h3 _).2).symm

theorem toReal_back {x : EReal} {y : ℝ} (t : x ≠ ⊤) (u : x ≠ ⊥) (h : y = x.toReal) : x = (y : EReal) := by
  rw [h]; exact (EReal.coe_toReal t u).symm

theorem heads_top (h0 : Real1 x0) (h1 : Real1 x1) (h2 : Real1 x2) (h3 : Real1 x3) : MlaRefIdeal.MlaRef.Tops x0 x1 (headOf x0 x1 x2 x3) := fun b h i => by
  have e := MlaRefIdeal.MlaRef.top_fold (heads_read h0 h1 h2 h3) b h i
  have n := MlaRefIdeal.MlaRef.fold_ne i (headOf x0 x1 x2 x3 b h)
  rw [← e] at n
  exact toReal_back n.1 n.2 (by dsimp only [headOf])

end Cert.MlaIdeal.Body

namespace Cert.Proof

open Cert.MlaIdeal.Body Cert.MlaRefIdeal.Read

theorem mla_frame : Cert.quiescent_MlaIdeal (hMlaIdeal := Cert.MlaIdeal.Gen.facts) := fun m ρ _ =>
  (θ_run (Cert.MlaIdeal.defs (F := Ideal)) _ _).mono (fun r h => ⟨fun c => args_kept m c (sums m) h.1, h.2⟩) (run m (sums m) ρ (sums_kept m))

theorem mla_ref_frame : Cert.quiescent_MlaRefIdeal (hMlaRefIdeal := Cert.MlaRefIdeal.Gen.facts) :=
  fun m ρ _ => (θ_run Cert.MlaRefIdeal.defs _ _).mono
    (fun r h => ⟨fun c => (h c).2.2.2, sem_eq_zero_of_no_sems (by decide) r.2⟩)
    (Cert.MlaRefIdeal.Value.run (F := Ideal) m ρ)

theorem mla_preserves : Cert.preserves_Mla_MlaIdeal :=
  ⟨IdealRules.named_const.statement _ _ _ _ _ rfl, IdealRules.named_const.statement _ _ _ _ _ rfl, IdealRules.named_const.statement _ _ _ _ _ rfl⟩

set_option maxHeartbeats 4000000 in
theorem mla_algebraic : Cert.algebraic_MlaIdeal_MlaRefIdeal_pre_mla_finite (hMlaIdeal := Cert.MlaIdeal.Gen.facts)
    (hMlaRefIdeal := Cert.MlaRefIdeal.Gen.facts) (hPre_mla_finite := Cert.Pre_mla_finite.Gen.facts) := by
  intro m g m' g' hpre hagree
  refine ⟨fun c => val_main_v67 (F := Ideal) (A0 m c) (A1 m c) (A2 m c) (A3 m c),
    fun c => val_main_v69 (F := Ideal) (A0 m c) (A1 m c) (A2 m c) (A3 m c),
    fun c => val_main_v70 (F := Ideal) (A0 m c) (A1 m c) (A3 m c),
    (θ_run (Cert.MlaIdeal.defs (F := Ideal)) _ _).mono (fun r h c => ?_) (run m (sums m) g (sums_kept m)),
    (θ_run Cert.MlaRefIdeal.defs _ _).mono (fun r h c => ?_) (Cert.MlaRefIdeal.Value.run m' g')⟩
  · obtain ⟨h0, h1, h2, h3⟩ := finite_of_pre _ _ _ _ (hpre c)
    have R := heads_read h0 h1 h2 h3
    have T := heads_top h0 h1 h2 h3
    obtain ⟨after, hL, hA⟩ := Pipeline.RDat.FramePost.exists_exact h.1 c
    exact ⟨(hA (6 : Fin 9)).trans (out_6 m c R T after hL), (hA (7 : Fin 9)).trans (out_7 m c R T after hL),
      (hA (8 : Fin 9)).trans (out_8 m c R T after hL), args_kept m c (sums m) h.1⟩
  · obtain ⟨a0, a1, a2, a3⟩ := hagree c
    obtain ⟨e67, e69, e70, hargs⟩ := h c
    exact ⟨e67.trans ((val_main_v67_eq m' c).trans (Finite.same4 (val_main_v67 (F := Ideal)) a0 a1 a2 a3)),
      e69.trans ((val_main_v69_eq m' c).trans (Finite.same4 (val_main_v69 (F := Ideal)) a0 a1 a2 a3)),
      e70.trans ((val_main_v70_eq m' c).trans (Finite.same3 (val_main_v70 (F := Ideal)) a0 a1 a3)), hargs⟩

end Cert.Proof

end
-- ==== Proof.PleSpec.lean ====
/- The last layer's per-layer embedding, the final norm and the loss of one token, and their gradients, over the reals. -/
module

public import Idealize.ShloMosaic.PureOps.Ideal.Laws
public import Idealize.ShloMosaic.Lib.ValueIdx

@[expose] public section

set_option maxRecDepth 16384

noncomputable section

open Idealize.ShloMosaic

namespace PleSpec

abbrev Row := Fin 1024 → ℝ

/-- The number the programs add to a mean square. -/
def eps : ℝ := 8796093 / 2 ^ 43
def var (f : Row) : ℝ := (∑ k, f k * f k) / 1024 + eps
def rs (f : Row) : ℝ := (Real.sqrt (var f))⁻¹
def nrm (f : Row) : Row := fun j => f j * rs f
/-- The gradient of the norm with weights `g` at `f`, of the cotangent `d`. -/
def back (f d g : Row) : Row := fun j => rs f * (d j * g j - nrm f j * ((∑ k, d k * g k * nrm f k) / 1024))
def sgm (a : ℝ) : ℝ := (1 + Real.exp (-a))⁻¹

/-- The weights. -/
structure Par where
  g : Row
  gf : Row
  wg : Fin 1024 → Row
  wp : Fin 256 → Row

/-- One token: the residual, its per-layer input, its target. -/
structure Tok where
  x : Row
  p : Fin 256 → ℝ
  t : Row

variable (P : Par) (T : Tok)

def gate : Row := fun j => sgm (∑ k, nrm T.x k * P.g k * P.wg k j)
def pp : Row := fun j => ∑ k, T.p k * P.wp k j
def x2 : Row := fun j => T.x j + gate P T j * pp P T j
def err : Row := fun j => nrm (x2 P T) j * P.gf j - T.t j
/-- The cotangent of the normed output. -/
def ct : Row := fun j => err P T j * (1 / 1024)
def d : Row := back (x2 P T) (ct P T) P.gf
def dlog : Row := fun j => d P T j * pp P T j * gate P T j * (1 - gate P T j)
def dh : Row := fun j => ∑ k, dlog P T k * P.wg j k
def dx : Row := fun j => d P T j + back T.x (dh P T) P.g j
def tokLoss : ℝ := (∑ k, err P T k * err P T k) / 1024

theorem var_pos (f : Row) : 0 < var f := by
  have h : 0 ≤ ∑ k, f k * f k := Finset.sum_nonneg fun k _ => mul_self_nonneg _
  unfold var eps
  positivity

/-- The gradient of the norm as the transposed square, sum, division and root give it. -/
theorem back_eq (f d g : Row) (j : Fin 1024) :
    d j * g j * rs f + f j * ((∑ k, f k * (d k * g k)) * (-(1 / 2) * (rs f / var f)) / 1024)
      + (∑ k, f k * (d k * g k)) * (-(1 / 2) * (rs f / var f)) / 1024 * f j = back f d g j := by
  have hv := var_pos f
  have hs : Real.sqrt (var f) ≠ 0 := (Real.sqrt_pos.mpr hv).ne'
  have e : rs f / var f = rs f * (rs f * rs f) := by
    unfold rs
    rw [← mul_inv, Real.mul_self_sqrt hv.le]
    rfl
  have e2 : ∑ k, d k * g k * nrm f k = (∑ k, f k * (d k * g k)) * rs f := by
    rw [Finset.sum_mul]
    exact Finset.sum_congr rfl fun k _ => by unfold nrm; ring
  unfold back
  rw [e, e2]
  unfold nrm
  ring

/-! Reading extended reals. -/

theorem word_eps : Ideal.ofBits .f32 0x358637BD#32 = (eps : EReal) := by
  simp [Ideal.ofBits, Ideal.ieee, eps, -EReal.coe_mul]; norm_num
theorem word_1024 : Ideal.ofBits .f32 0x44800000#32 = ((1024 : ℝ) : EReal) := by
  simp [Ideal.ofBits, Ideal.ieee, -EReal.coe_mul]; norm_num
theorem word_inv : Ideal.ofBits .f32 0x3A800000#32 = ((1 / 1024 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg : Ideal.ofBits .f32 0xBF000000#32 = ((-(1 / 2) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num

/-- A finite sum of reals, among the extended reals. -/
theorem sum_real {ι : Type*} [Fintype ι] (f : ι → EReal) (g : ι → ℝ) (h : ∀ i, f i = (g i : EReal)) :
    ∑ i, f i = ((∑ i, g i : ℝ) : EReal) := by
  rw [Finset.sum_congr rfl fun i _ => h i]
  exact (map_sum (⟨⟨Real.toEReal, EReal.coe_zero⟩, EReal.coe_add⟩ : ℝ →+ EReal) g Finset.univ).symm

theorem div_real (x : ℝ) : Ideal.div (x : EReal) (Ideal.ofBits .f32 0x44800000#32) = ((x / 1024 : ℝ) : EReal) := by
  rw [word_1024, Ideal.div_coe (by norm_num), ← EReal.coe_mul]; congr 1; ring

theorem div_any (x y : ℝ) (h : y ≠ 0) : Ideal.div (x : EReal) (y : EReal) = ((x / y : ℝ) : EReal) := by
  rw [Ideal.div_coe h, ← EReal.coe_mul]; congr 1; ring

theorem rs_real (f : Row) : Ideal.rsqrt ((var f : ℝ) : EReal) = (rs f : EReal) := by
  rw [Ideal.rsqrt_coe, if_neg (not_lt.mpr (var_pos f).le), if_neg (var_pos f).ne']
  rfl

theorem var_real (f : Row) (s : EReal) (h : s = ((∑ k, f k * f k : ℝ) : EReal)) :
    Ideal.div s (Ideal.ofBits .f32 0x44800000#32) + Ideal.ofBits .f32 0x358637BD#32 = (var f : EReal) := by
  rw [h, div_real, word_eps, ← EReal.coe_add]; rfl

end PleSpec

end
-- ==== Proof.PlePay.lean ====
/- The per-layer embedding kernel at extended reals: each value it computes, read at an entry, of real arguments. -/
module

public import proofs.«01_k».proof.Proof.PleSpec
public import proofs.«01_k».proof.Proof.Gen.PleIdeal.Skeleton
public import Idealize.ShloMosaic.Lib.ValueIdx
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.PleIdeal.PlePay

open Cert.PleIdeal Cert.PleIdeal.Gen PleSpec

theorem rs_at (x : FVec Ideal S512x1024 .f32) (X : Fin 512 → Row) (h : ∀ a j, x (ix2 a j) = (X a j : EReal)) (a : Fin 512) :
    k0_pay10 (F := Ideal) x (ix2 a 0) = (rs (X a) : EReal) := by
  pointwise [k0_pay10, h]
  rw [var_real (X a) _ (sum_real _ _ fun k => (EReal.coe_mul _ _).symm), rs_real]

theorem nrm_at (x : FVec Ideal S512x1024 .f32) (X : Fin 512 → Row) (h : ∀ a j, x (ix2 a j) = (X a j : EReal)) (a : Fin 512) (j : Fin 1024) :
    k0_pay11 (F := Ideal) x (ix2 a j) = (nrm (X a) j : EReal) := by
  pointwise [k0_pay11, h, rs_at x X h]
  rw [← EReal.coe_mul]; rfl

theorem pay12_at (x : FVec Ideal S512x1024 .f32) (X : Fin 512 → Row) (h : ∀ a j, x (ix2 a j) = (X a j : EReal))
    (g : FVec Ideal S1x1x1024 .f32) (G : Row) (hg : ∀ j, g (ix3 0 0 j) = (G j : EReal)) (a : Fin 512) (j : Fin 1024) :
    k0_pay12 (F := Ideal) x g (ix2 a j) = ((nrm (X a) j * G j : ℝ) : EReal) := by
  pointwise [k0_pay12, k0_pay8, hg, nrm_at x X h]
  rw [← EReal.coe_mul]

theorem pay13_at (p : FVec Ideal S1x512x256 .f32) (a : Fin 512) (k : Fin 256) :
    k0_pay13 (F := Ideal) p (ix2 a k) = p (ix3 0 a k) := by
  pointwise [k0_pay13]

theorem pay14_at (x : FVec Ideal S512x1024 .f32) (X : Fin 512 → Row) (h : ∀ a j, x (ix2 a j) = (X a j : EReal))
    (g : FVec Ideal S1x1x1024 .f32) (G : Row) (hg : ∀ j, g (ix3 0 0 j) = (G j : EReal))
    (w : FVec Ideal S1x1024x1024 .bf16) (W : Fin 1024 → Row) (hw : ∀ k j, w (ix3 0 k j) = (W k j : EReal)) (a : Fin 512) (j : Fin 1024) :
    k0_pay14 (F := Ideal) x g w (ix2 a j) = (sgm (∑ k, nrm (X a) k * G k * W k j) : EReal) := by
  pointwise [k0_pay14, pay12_at x X h g G hg, hw]
  rw [sum_real _ (fun k => nrm (X a) k * G k * W k j) fun k => by rw [← EReal.coe_mul], Ideal.logistic_coe]
  rfl

theorem pay15_at (p : FVec Ideal S1x512x256 .f32) (Q : Fin 512 → Fin 256 → ℝ) (hp : ∀ a k, p (ix3 0 a k) = (Q a k : EReal))
    (w : FVec Ideal S1x256x1024 .bf16) (W : Fin 256 → Row) (hw : ∀ k j, w (ix3 0 k j) = (W k j : EReal)) (a : Fin 512) (j : Fin 1024) :
    k0_pay15 (F := Ideal) p w (ix2 a j) = ((∑ k, Q a k * W k j : ℝ) : EReal) := by
  pointwise [k0_pay15, pay13_at, hp, hw]
  exact sum_real _ (fun k => Q a k * W k j) fun k => by rw [← EReal.coe_mul]

/-! The embedded token, and the final norm's side. -/

section tail

variable (v7 : FVec Ideal S1x1024 .f32) (GF : Row) (hf : ∀ j, v7 (ix2 0 j) = (GF j : EReal))
  (v32 v33 : FVec Ideal S512x1024 .f32) (Y : Fin 512 → Row) (hy : ∀ a j, v32 (ix2 a j) = (Y a j : EReal))
  (hyy : ∀ a j, v33 (ix2 a j) = ((Y a j * Y a j : ℝ) : EReal))
  (v45 : FVec Ideal S512x1024 .f32) (Z : Fin 512 → Row) (hz : ∀ a j, v45 (ix2 a j) = (Z a j : EReal))

/-- The error of the normed row. -/
abbrev er (GF : Row) (Y Z : Fin 512 → Row) (a : Fin 512) : Row := fun j => nrm (Y a) j * GF j - Z a j
abbrev ec (GF : Row) (Y Z : Fin 512 → Row) (a : Fin 512) : Row := fun j => er GF Y Z a j * (1 / 1024)

include hyy in
theorem pay18_at (a : Fin 512) : k0_pay18 (F := Ideal) v33 (ix2 a 0) = (rs (Y a) : EReal) := by
  pointwise [k0_pay18, hyy]
  rw [var_real (Y a) _ (sum_real _ _ fun k => rfl), rs_real]

include hy hyy in
theorem pay19_at (a : Fin 512) (j : Fin 1024) : k0_pay19 (F := Ideal) v32 v33 (ix2 a j) = (nrm (Y a) j : EReal) := by
  pointwise [k0_pay19, hy, pay18_at v33 Y hyy]
  rw [← EReal.coe_mul]; rfl

include hf hy hyy hz in
theorem pay20_at (a : Fin 512) (j : Fin 1024) : k0_pay20 (F := Ideal) v7 v32 v33 v45 (ix2 a j) = (er GF Y Z a j : EReal) := by
  pointwise [k0_pay20, hf, hz, pay19_at v32 v33 Y hy hyy]
  rw [← EReal.coe_mul, ← EReal.coe_sub]

include hf hy hyy hz in
theorem pay21_at (v47 : FVec Ideal S1x128 .f32) (l : Fin 128) :
    k0_pay21 (F := Ideal) v7 v32 v33 v45 v47 (ix2 0 l)
      = v47 (ix2 0 l) + ((1 / 2 * ∑ a, (∑ j, er GF Y Z a j * er GF Y Z a j) / 1024 : ℝ) : EReal) := by
  pointwise [k0_pay21, pay20_at v7 GF hf v32 v33 Y hy hyy v45 Z hz]
  rw [sum_real _ (fun a => (∑ j, er GF Y Z a j * er GF Y Z a j) / 1024) fun a => by
    rw [sum_real _ (fun j => er GF Y Z a j * er GF Y Z a j) fun j => by rw [← EReal.coe_mul], div_real], word_half, ← EReal.coe_mul]

include hf hy hyy hz in
theorem pay22_at (a : Fin 512) (j : Fin 1024) : k0_pay22 (F := Ideal) v7 v32 v33 v45 (ix2 a j) = (ec GF Y Z a j : EReal) := by
  pointwise [k0_pay22, pay20_at v7 GF hf v32 v33 Y hy hyy v45 Z hz]
  rw [word_inv, ← EReal.coe_mul]

include hf hy hyy hz in
theorem pay23_at (a : Fin 512) (j : Fin 1024) :
    k0_pay23 (F := Ideal) v7 v32 v33 v45 (ix2 a j) = (back (Y a) (ec GF Y Z a) GF j : EReal) := by
  pointwise [k0_pay23, hf, pay18_at v33 Y hyy, pay19_at v32 v33 Y hy hyy, pay22_at v7 GF hf v32 v33 Y hy hyy v45 Z hz]
  rw [sum_real _ (fun k => ec GF Y Z a k * GF k * nrm (Y a) k) fun k => by rw [← EReal.coe_mul, ← EReal.coe_mul], div_real]
  simp only [← EReal.coe_mul, ← EReal.coe_sub]
  rfl

include hf hy hyy hz in
theorem pay24_at (a : Fin 512) (j : Fin 1024) :
    k0_pay24 (F := Ideal) v7 v32 v33 v45 (ix2 a j) = ((ec GF Y Z a j * nrm (Y a) j : ℝ) : EReal) := by
  pointwise [k0_pay24, pay19_at v32 v33 Y hy hyy, pay22_at v7 GF hf v32 v33 Y hy hyy v45 Z hz]
  rw [← EReal.coe_mul]

theorem pay25_at (v75 : FVec Ideal S512x1024 .f32) (H : Fin 512 → Row) (h : ∀ a j, v75 (ix2 a j) = (H a j : EReal))
    (v76 : FVec Ideal S1x1024 .f32) (j : Fin 1024) :
    k0_pay25 (F := Ideal) v75 v76 (ix2 0 j) = v76 (ix2 0 j) + ((∑ a, H a j : ℝ) : EReal) := by
  pointwise [k0_pay25, h]
  rw [sum_real _ (fun a => H a j) fun a => rfl]

end tail

/-! The gate's side. -/

section gates

variable (v27 v30 v74 : FVec Ideal S512x1024 .f32) (Ga Pp D : Fin 512 → Row) (h27 : ∀ a j, v27 (ix2 a j) = (Ga a j : EReal))
  (h30 : ∀ a j, v30 (ix2 a j) = (Pp a j : EReal)) (h74 : ∀ a j, v74 (ix2 a j) = (D a j : EReal))

abbrev dl (Ga Pp D : Fin 512 → Row) (a : Fin 512) : Row := fun j => D a j * Pp a j * Ga a j * (1 - Ga a j)

include h27 h30 h74 in
theorem pay26_at (a : Fin 512) (j : Fin 1024) : k0_pay26 (F := Ideal) v27 v30 v74 (ix2 a j) = (dl Ga Pp D a j : EReal) := by
  pointwise [k0_pay26, h27, h30, h74]
  simp only [← EReal.coe_one, ← EReal.coe_mul, ← EReal.coe_sub]

include h27 h30 h74 in
theorem pay27_at (v20 : FVec Ideal S512x1024 .bf16) (H : Fin 512 → Row) (h20 : ∀ a j, v20 (ix2 a j) = (H a j : EReal))
    (v88 : FVec Ideal S1024x1024 .f32) (k j : Fin 1024) :
    k0_pay27 (F := Ideal) v20 v27 v30 v74 v88 (ix2 k j) = v88 (ix2 k j) + ((∑ a, H a k * dl Ga Pp D a j : ℝ) : EReal) := by
  pointwise [k0_pay27, h20, pay26_at v27 v30 v74 Ga Pp D h27 h30 h74]
  rw [sum_real _ (fun a => H a k * dl Ga Pp D a j) fun a => by rw [← EReal.coe_mul]]

include h27 h74 in
theorem pay28_at (v23 : FVec Ideal S512x256 .bf16) (Q : Fin 512 → Fin 256 → ℝ) (h23 : ∀ a k, v23 (ix2 a k) = (Q a k : EReal))
    (v93 : FVec Ideal S256x1024 .f32) (k : Fin 256) (j : Fin 1024) :
    k0_pay28 (F := Ideal) v23 v27 v74 v93 (ix2 k j) = v93 (ix2 k j) + ((∑ a, Q a k * (D a j * Ga a j) : ℝ) : EReal) := by
  pointwise [k0_pay28, h23, h27, h74]
  rw [sum_real _ (fun a => Q a k * (D a j * Ga a j)) fun a => by rw [← EReal.coe_mul, ← EReal.coe_mul]]

variable (v100 : FVec Ideal S1x1024x1024 .bf16) (W : Fin 1024 → Row) (hw : ∀ k j, v100 (ix3 0 k j) = (W k j : EReal))

abbrev dhr (Ga Pp D : Fin 512 → Row) (W : Fin 1024 → Row) (a : Fin 512) : Row := fun j => ∑ k, dl Ga Pp D a k * W j k

include h27 h30 h74 hw in
theorem pay29_at (a : Fin 512) (j : Fin 1024) :
    k0_pay29 (F := Ideal) v27 v30 v74 v100 (ix2 a j) = (dhr Ga Pp D W a j : EReal) := by
  pointwise [k0_pay29, hw, pay26_at v27 v30 v74 Ga Pp D h27 h30 h74]
  rw [sum_real _ (fun k => dl Ga Pp D a k * W j k) fun k => by rw [← EReal.coe_mul]]

variable (v5 : FVec Ideal S1x1024 .f32) (G : Row) (hg : ∀ j, v5 (ix2 0 j) = (G j : EReal))
  (v15 : FVec Ideal S512x1 .f32) (v17 : FVec Ideal S512x1024 .f32) (X : Fin 512 → Row) (h15 : ∀ a, v15 (ix2 a 0) = (rs (X a) : EReal))
  (h17 : ∀ a j, v17 (ix2 a j) = (nrm (X a) j : EReal))

include h27 h30 h74 hw hg h17 in
theorem pay30_at (a : Fin 512) (j : Fin 1024) :
    k0_pay30 (F := Ideal) v5 v17 v27 v30 v74 v100 (ix2 a j)
      = ((dhr Ga Pp D W a j * G j - nrm (X a) j * ((∑ k, dhr Ga Pp D W a k * G k * nrm (X a) k) / 1024) : ℝ) : EReal) := by
  pointwise [k0_pay30, hg, h17, pay29_at v27 v30 v74 Ga Pp D h27 h30 h74 v100 W hw]
  rw [sum_real _ (fun k => dhr Ga Pp D W a k * G k * nrm (X a) k) fun k => by rw [← EReal.coe_mul, ← EReal.coe_mul], div_real]
  simp only [← EReal.coe_mul, ← EReal.coe_sub]

include h74 h15 in
theorem pay1_at (v112 : FVec Ideal S512x1024 .f32) (U : Fin 512 → Row) (h : ∀ a j, v112 (ix2 a j) = (U a j : EReal)) (a : Fin 512) (j : Fin 1024) :
    k0_pay1 (F := Ideal) v15 v74 v112 (ix2 a j) = ((D a j + rs (X a) * U a j : ℝ) : EReal) := by
  pointwise [k0_pay1, h, h15, h74]
  simp only [← EReal.coe_mul, ← EReal.coe_add]

include h17 in
theorem pay2_at (v102 : FVec Ideal S512x1024 .f32) (H : Fin 512 → Row) (h : ∀ a j, v102 (ix2 a j) = (H a j : EReal))
    (v118 : FVec Ideal S1x1024 .f32) (j : Fin 1024) :
    k0_pay2 (F := Ideal) v17 v102 v118 (ix2 0 j) = v118 (ix2 0 j) + ((∑ a, H a j * nrm (X a) j : ℝ) : EReal) := by
  pointwise [k0_pay2, h, h17]
  rw [sum_real _ (fun a => H a j * nrm (X a) j) fun a => by rw [← EReal.coe_mul]]

end gates

end Cert.PleIdeal.PlePay

end
-- ==== Proof.PleTile.lean ====
/- One grid point of the per-layer embedding kernel, of real blocks: what it writes and what it adds. -/
module

public import proofs.«01_k».proof.Proof.PlePay

@[expose] public section

set_option maxRecDepth 16384

noncomputable section

open Idealize.ShloMosaic Idealize.ShloMosaic.TcCoe Idealize.SL.Sem

namespace Cert.PleIdeal.PlePay

open Cert.PleIdeal Cert.PleIdeal.Gen PleSpec

variable {b0 : FVec Ideal S512x1024 .f32} {b1 : FVec Ideal S1x512x256 .f32} {b2 : FVec Ideal S1x1x1024 .f32}
  {b3 : FVec Ideal S1x1024x1024 .bf16} {b4 : FVec Ideal S1x256x1024 .bf16} {b5 : FVec Ideal S1x1024 .f32} {b6 : FVec Ideal S512x1024 .f32}

/-- The blocks a point loads hold these reals. -/
structure Blk (b0 : FVec Ideal S512x1024 .f32) (b1 : FVec Ideal S1x512x256 .f32) (b2 : FVec Ideal S1x1x1024 .f32)
    (b3 : FVec Ideal S1x1024x1024 .bf16) (b4 : FVec Ideal S1x256x1024 .bf16) (b5 : FVec Ideal S1x1024 .f32) (b6 : FVec Ideal S512x1024 .f32)
    (P : Par) (T : Fin 512 → Tok) : Prop where
  x : ∀ a j, b0 (ix2 a j) = ((T a).x j : EReal)
  p : ∀ a k, b1 (ix3 0 a k) = ((T a).p k : EReal)
  g : ∀ j, b2 (ix3 0 0 j) = (P.g j : EReal)
  wg : ∀ k j, b3 (ix3 0 k j) = (P.wg k j : EReal)
  wp : ∀ k j, b4 (ix3 0 k j) = (P.wp k j : EReal)
  gf : ∀ j, b5 (ix2 0 j) = (P.gf j : EReal)
  t : ∀ a j, b6 (ix2 a j) = ((T a).t j : EReal)

variable {P : Par} {T : Fin 512 → Tok} (h : Blk b0 b1 b2 b3 b4 b5 b6 P T)

include h

theorem Blk.pay8 (j : Fin 1024) : k0_pay8 (F := Ideal) b2 (ix2 0 j) = (P.g j : EReal) := by
  pointwise [k0_pay8, h.g]

theorem Blk.pay9 (j : Fin 1024) : k0_pay9 (F := Ideal) b5 (ix2 0 j) = (P.gf j : EReal) := by
  pointwise [k0_pay9, h.gf]

theorem Blk.gate (a : Fin 512) (j : Fin 1024) : k0_pay14 (F := Ideal) b0 b2 b3 (ix2 a j) = (gate P (T a) j : EReal) :=
  pay14_at b0 (fun a => (T a).x) h.x b2 P.g h.g b3 P.wg h.wg a j

theorem Blk.pp (a : Fin 512) (j : Fin 1024) : k0_pay15 (F := Ideal) b1 b4 (ix2 a j) = (pp P (T a) j : EReal) :=
  pay15_at b1 (fun a => (T a).p) h.p b4 P.wp h.wp a j

theorem Blk.x2 (a : Fin 512) (j : Fin 1024) : k0_pay16 (F := Ideal) b0 b2 b1 b3 b4 (ix2 a j) = (PleSpec.x2 P (T a) j : EReal) := by
  pointwise [k0_pay16, h.gate, h.pp, h.x]
  rw [← EReal.coe_mul, ← EReal.coe_add]; rfl

theorem Blk.sq (a : Fin 512) (j : Fin 1024) :
    k0_pay17 (F := Ideal) b0 b2 b1 b3 b4 (ix2 a j) = ((PleSpec.x2 P (T a) j * PleSpec.x2 P (T a) j : ℝ) : EReal) := by
  pointwise [k0_pay17, h.x2]
  rw [← EReal.coe_mul]

theorem Blk.d (a : Fin 512) (j : Fin 1024) :
    k0_pay23 (F := Ideal) (k0_pay9 b5) (k0_pay16 b0 b2 b1 b3 b4) (k0_pay17 b0 b2 b1 b3 b4) b6 (ix2 a j) = (d P (T a) j : EReal) :=
  pay23_at _ P.gf h.pay9 _ _ (fun a => PleSpec.x2 P (T a)) h.x2 h.sq b6 (fun a => (T a).t) h.t a j

theorem Blk.dh (a : Fin 512) (j : Fin 1024) :
    k0_pay29 (F := Ideal) (k0_pay14 b0 b2 b3) (k0_pay15 b1 b4) (k0_pay23 (k0_pay9 b5) (k0_pay16 b0 b2 b1 b3 b4) (k0_pay17 b0 b2 b1 b3 b4) b6) b3 (ix2 a j)
      = (dh P (T a) j : EReal) :=
  pay29_at _ _ _ (fun a => PleSpec.gate P (T a)) (fun a => PleSpec.pp P (T a)) (fun a => PleSpec.d P (T a)) h.gate h.pp h.d b3 P.wg h.wg a j

theorem Blk.out7 (a : Fin 512) (j : Fin 1024) :
    k0_pay1 (F := Ideal) (k0_pay10 b0) (k0_pay23 (k0_pay9 b5) (k0_pay16 b0 b2 b1 b3 b4) (k0_pay17 b0 b2 b1 b3 b4) b6)
        (k0_pay30 (k0_pay8 b2) (k0_pay11 b0) (k0_pay14 b0 b2 b3) (k0_pay15 b1 b4)
          (k0_pay23 (k0_pay9 b5) (k0_pay16 b0 b2 b1 b3 b4) (k0_pay17 b0 b2 b1 b3 b4) b6) b3) (ix2 a j)
      = (dx P (T a) j : EReal) :=
  pay1_at _ (fun a => PleSpec.d P (T a)) h.d _ (fun a => (T a).x) (rs_at b0 (fun a => (T a).x) h.x) _ _
    (pay30_at _ _ _ (fun a => PleSpec.gate P (T a)) (fun a => PleSpec.pp P (T a)) (fun a => PleSpec.d P (T a)) h.gate h.pp h.d b3 P.wg h.wg
      _ P.g h.pay8 _ (fun a => (T a).x) (nrm_at b0 (fun a => (T a).x) h.x)) a j

theorem Blk.out8 (acc : FVec Ideal S1024x1024 .f32) (k j : Fin 1024) :
    k0_pay27 (F := Ideal) (k0_pay12 b0 b2) (k0_pay14 b0 b2 b3) (k0_pay15 b1 b4)
        (k0_pay23 (k0_pay9 b5) (k0_pay16 b0 b2 b1 b3 b4) (k0_pay17 b0 b2 b1 b3 b4) b6) acc (ix2 k j)
      = acc (ix2 k j) + ((∑ a, nrm (T a).x k * P.g k * dlog P (T a) j : ℝ) : EReal) :=
  pay27_at _ _ _ (fun a => PleSpec.gate P (T a)) (fun a => PleSpec.pp P (T a)) (fun a => PleSpec.d P (T a)) h.gate h.pp h.d _
    (fun a k => nrm (T a).x k * P.g k) (pay12_at b0 (fun a => (T a).x) h.x b2 P.g h.g) acc k j

theorem Blk.out9 (acc : FVec Ideal S256x1024 .f32) (k : Fin 256) (j : Fin 1024) :
    k0_pay28 (F := Ideal) (k0_pay13 b1) (k0_pay14 b0 b2 b3)
        (k0_pay23 (k0_pay9 b5) (k0_pay16 b0 b2 b1 b3 b4) (k0_pay17 b0 b2 b1 b3 b4) b6) acc (ix2 k j)
      = acc (ix2 k j) + ((∑ a, (T a).p k * (PleSpec.d P (T a) j * PleSpec.gate P (T a) j) : ℝ) : EReal) :=
  pay28_at _ _ (fun a => PleSpec.gate P (T a)) (fun a => PleSpec.d P (T a)) h.gate h.d _ (fun a => (T a).p)
    (fun a k => (pay13_at b1 a k).trans (h.p a k)) acc k j

theorem Blk.out10 (acc : FVec Ideal S1x1024 .f32) (j : Fin 1024) :
    k0_pay2 (F := Ideal) (k0_pay11 b0) (k0_pay29 (k0_pay14 b0 b2 b3) (k0_pay15 b1 b4)
        (k0_pay23 (k0_pay9 b5) (k0_pay16 b0 b2 b1 b3 b4) (k0_pay17 b0 b2 b1 b3 b4) b6) b3) acc (ix2 0 j)
      = acc (ix2 0 j) + ((∑ a, PleSpec.dh P (T a) j * nrm (T a).x j : ℝ) : EReal) :=
  pay2_at _ (fun a => (T a).x) (nrm_at b0 (fun a => (T a).x) h.x) _ (fun a => PleSpec.dh P (T a)) h.dh acc j

theorem Blk.out11 (acc : FVec Ideal S1x1024 .f32) (j : Fin 1024) :
    k0_pay25 (F := Ideal) (k0_pay24 (k0_pay9 b5) (k0_pay16 b0 b2 b1 b3 b4) (k0_pay17 b0 b2 b1 b3 b4) b6) acc (ix2 0 j)
      = acc (ix2 0 j) + ((∑ a, ct P (T a) j * nrm (PleSpec.x2 P (T a)) j : ℝ) : EReal) :=
  pay25_at _ (fun a j => ct P (T a) j * nrm (PleSpec.x2 P (T a)) j)
    (pay24_at _ P.gf h.pay9 _ _ (fun a => PleSpec.x2 P (T a)) h.x2 h.sq b6 (fun a => (T a).t) h.t) acc j

theorem Blk.out12 (acc : FVec Ideal S1x128 .f32) (l : Fin 128) :
    k0_pay21 (F := Ideal) (k0_pay9 b5) (k0_pay16 b0 b2 b1 b3 b4) (k0_pay17 b0 b2 b1 b3 b4) b6 acc (ix2 0 l)
      = acc (ix2 0 l) + ((∑ a, 1 / 2 * tokLoss P (T a) : ℝ) : EReal) := by
  rw [← Finset.mul_sum]
  exact pay21_at _ P.gf h.pay9 _ _ (fun a => PleSpec.x2 P (T a)) h.x2 h.sq b6 (fun a => (T a).t) h.t acc l

end Cert.PleIdeal.PlePay

end
-- ==== Proof.PleRef.lean ====
/- The reference of the last layer's loss and gradients: each stage, read at an entry, of real arguments. -/
module

public import proofs.«01_k».proof.Proof.PleSpec
public import proofs.«01_k».proof.Proof.Gen.PleRefIdeal.Read
public import Idealize.ShloMosaic.Lib.Pointwise

@[expose] public section

set_option maxRecDepth 16384

noncomputable section

open Idealize.ShloMosaic Idealize.ShloMosaic.TcCoe Idealize.SL.Sem

namespace Cert.PleRefIdeal.PleRef

open Cert.PleRefIdeal Cert.PleRefIdeal.Read PleSpec

variable {x0 : FVec Ideal S8192x1024 .f32} {x1 : FVec Ideal S8192x256 .f32} {x2 : FVec Ideal S1024 .f32}
  {x3 : FVec Ideal S1024x1024 .f32} {x4 : FVec Ideal S256x1024 .f32} {x5 : FVec Ideal S1024 .f32} {x6 : FVec Ideal S8192x1024 .f32}

/-- The arguments are these reals. -/
structure Given (x0 : FVec Ideal S8192x1024 .f32) (x1 : FVec Ideal S8192x256 .f32) (x2 : FVec Ideal S1024 .f32)
    (x3 : FVec Ideal S1024x1024 .f32) (x4 : FVec Ideal S256x1024 .f32) (x5 : FVec Ideal S1024 .f32) (x6 : FVec Ideal S8192x1024 .f32)
    (P : Par) (T : Fin 8192 → Tok) : Prop where
  x : ∀ r j, x0 (ix2 r j) = ((T r).x j : EReal)
  p : ∀ r k, x1 (ix2 r k) = ((T r).p k : EReal)
  g : ∀ j, x2 (ix1 j) = (P.g j : EReal)
  wg : ∀ k j, x3 (ix2 k j) = (P.wg k j : EReal)
  wp : ∀ k j, x4 (ix2 k j) = (P.wp k j : EReal)
  gf : ∀ j, x5 (ix1 j) = (P.gf j : EReal)
  t : ∀ r j, x6 (ix2 r j) = ((T r).t j : EReal)

variable {P : Par} {T : Fin 8192 → Tok} (h : Given x0 x1 x2 x3 x4 x5 x6 P T)

include h

theorem var_at (r : Fin 8192) : val_main_v6 (F := Ideal) x0 (ix2 r 0) = (var (T r).x : EReal) := by
  pointwise [val_main_v0, val_main_v1, val_main_v2, val_main_v3, val_main_v4, val_main_v5, val_main_v6, val_main_cst, val_main_cst_0, val_main_cst_1, h.x]
  rw [var_real (T r).x _ (sum_real _ _ fun k => (EReal.coe_mul _ _).symm)]

theorem rs_at (r : Fin 8192) : val_main_v7 (F := Ideal) x0 (ix2 r 0) = (rs (T r).x : EReal) := by
  pointwise [val_main_v7, var_at h]
  rw [rs_real]

theorem cube_at (r : Fin 8192) : val_main_v10 (F := Ideal) x0 (ix2 r 0) = ((-(1 / 2) * (rs (T r).x / var (T r).x) : ℝ) : EReal) := by
  pointwise [val_main_v8, val_main_v9, val_main_v10, val_main_cst_2, var_at h, rs_at h]
  rw [div_any _ _ (var_pos _).ne', word_neg, ← EReal.coe_mul]

theorem nrm_at (r : Fin 8192) (j : Fin 1024) : val_main_v12 (F := Ideal) x0 (ix2 r j) = (nrm (T r).x j : EReal) := by
  pointwise [val_main_v11, val_main_v12, rs_at h, h.x]
  rw [← EReal.coe_mul]; rfl

theorem h_at (r : Fin 8192) (j : Fin 1024) : val_main_v15 (F := Ideal) x0 x2 (ix2 r j) = ((nrm (T r).x j * P.g j : ℝ) : EReal) := by
  pointwise [val_main_v13, val_main_v14, val_main_v15, nrm_at h, h.g]
  rw [← EReal.coe_mul]

theorem gate_at (r : Fin 8192) (j : Fin 1024) : val_main_v22 (F := Ideal) x0 x2 x3 (ix2 r j) = (gate P (T r) j : EReal) := by
  pointwise [val_main_v16, val_main_v17, val_main_v18, val_main_v19, val_main_v20, val_main_v21, val_main_v22, val_main_cst_3, val_main_cst_4, h_at h, h.wg]
  rw [sum_real _ (fun k => nrm (T r).x k * P.g k * P.wg k j) fun k => by rw [← EReal.coe_mul]]
  exact Ideal.logistic_coe _

theorem slope_at (r : Fin 8192) (j : Fin 1024) : val_main_v25 (F := Ideal) x0 x2 x3 (ix2 r j) = ((gate P (T r) j * (1 - gate P (T r) j) : ℝ) : EReal) := by
  pointwise [val_main_v23, val_main_v24, val_main_v25, val_main_cst_5, gate_at h]
  simp only [← EReal.coe_one, ← EReal.coe_mul, ← EReal.coe_sub]

theorem pp_at (r : Fin 8192) (j : Fin 1024) : val_main_v26 (F := Ideal) x1 x4 (ix2 r j) = (pp P (T r) j : EReal) := by
  pointwise [val_main_v26, h.p, h.wp]
  exact sum_real _ (fun k => (T r).p k * P.wp k j) fun k => by rw [← EReal.coe_mul]

theorem x2_at (r : Fin 8192) (j : Fin 1024) : val_main_v28 (F := Ideal) x0 x1 x2 x3 x4 (ix2 r j) = (PleSpec.x2 P (T r) j : EReal) := by
  pointwise [val_main_v27, val_main_v28, h.x, gate_at h, pp_at h]
  rw [← EReal.coe_mul, ← EReal.coe_add]; rfl

theorem var2_at (r : Fin 8192) : val_main_v35 (F := Ideal) x0 x1 x2 x3 x4 (ix2 r 0) = (var (PleSpec.x2 P (T r)) : EReal) := by
  pointwise [val_main_v29, val_main_v30, val_main_v31, val_main_v32, val_main_v33, val_main_v34, val_main_v35, val_main_cst_6, val_main_cst_7, val_main_cst_8, x2_at h]
  rw [var_real (PleSpec.x2 P (T r)) _ (sum_real _ _ fun k => (EReal.coe_mul _ _).symm)]

theorem rs2_at (r : Fin 8192) : val_main_v36 (F := Ideal) x0 x1 x2 x3 x4 (ix2 r 0) = (rs (PleSpec.x2 P (T r)) : EReal) := by
  pointwise [val_main_v36, var2_at h]
  rw [rs_real]

theorem cube2_at (r : Fin 8192) : val_main_v39 (F := Ideal) x0 x1 x2 x3 x4 (ix2 r 0) = ((-(1 / 2) * (rs (PleSpec.x2 P (T r)) / var (PleSpec.x2 P (T r))) : ℝ) : EReal) := by
  pointwise [val_main_v37, val_main_v38, val_main_v39, val_main_cst_9, var2_at h, rs2_at h]
  rw [div_any _ _ (var_pos _).ne', word_neg, ← EReal.coe_mul]

theorem nrm2_at (r : Fin 8192) (j : Fin 1024) : val_main_v41 (F := Ideal) x0 x1 x2 x3 x4 (ix2 r j) = (nrm (PleSpec.x2 P (T r)) j : EReal) := by
  pointwise [val_main_v40, val_main_v41, rs2_at h, x2_at h]
  rw [← EReal.coe_mul]; rfl

theorem err_at (r : Fin 8192) (j : Fin 1024) : val_main_v45 (F := Ideal) x0 x1 x2 x3 x4 x5 x6 (ix2 r j) = (err P (T r) j : EReal) := by
  pointwise [val_main_v42, val_main_v43, val_main_v44, val_main_v45, nrm2_at h, h.gf, h.t]
  rw [← EReal.coe_mul, ← EReal.coe_sub]; rfl

theorem ct_at (r : Fin 8192) (j : Fin 1024) : val_main_v59 (F := Ideal) x0 x1 x2 x3 x4 x5 x6 (ix2 r j) = (ct P (T r) j : EReal) := by
  pointwise [val_main_v47, val_main_v48, val_main_v54, val_main_v55, val_main_v56, val_main_v57, val_main_v58, val_main_v59, val_main_cst_10, val_main_cst_15, val_main_cst_16, val_main_cst_17, err_at h]
  rw [word_half, word_1024, word_two, div_any _ _ (by norm_num), ← EReal.coe_mul, ← EReal.coe_mul]
  exact congrArg _ (by unfold ct; ring)

theorem ctg_at (r : Fin 8192) (j : Fin 1024) : val_main_v64 (F := Ideal) x0 x1 x2 x3 x4 x5 x6 (ix2 r j) = ((ct P (T r) j * P.gf j : ℝ) : EReal) := by
  pointwise [val_main_v42, val_main_v63, val_main_v64, ct_at h, h.gf]
  rw [← EReal.coe_mul]

theorem q2_at (r : Fin 8192) : val_main_v74 (F := Ideal) x0 x1 x2 x3 x4 x5 x6 (ix1 r) = (((∑ k, PleSpec.x2 P (T r) k * (ct P (T r) k * P.gf k)) * (-(1 / 2) * (rs (PleSpec.x2 P (T r)) / var (PleSpec.x2 P (T r)))) / 1024 : ℝ) : EReal) := by
  pointwise [val_main_v66, val_main_v67, val_main_v68, val_main_v71, val_main_v72, val_main_v73, val_main_v74, val_main_cst_20, val_main_cst_21, val_main_cst_22, ctg_at h, x2_at h, cube2_at h]
  refine (Fin.sum_univ_one _).trans ?_
  rw [cube2_at h, sum_real _ (fun k => PleSpec.x2 P (T r) k * (ct P (T r) k * P.gf k)) fun k => by rw [← EReal.coe_mul], ← EReal.coe_mul, div_real]

theorem d_at (r : Fin 8192) (j : Fin 1024) : val_main_v79 (F := Ideal) x0 x1 x2 x3 x4 x5 x6 (ix2 r j) = (d P (T r) j : EReal) := by
  pointwise [val_main_v69, val_main_v70, val_main_v75, val_main_v76, val_main_v77, val_main_v78, val_main_v79, ctg_at h, rs2_at h, x2_at h, q2_at h]
  simp only [← EReal.coe_mul, ← EReal.coe_add]
  exact congrArg _ (back_eq (PleSpec.x2 P (T r)) (ct P (T r)) P.gf j)

theorem dlog_at (r : Fin 8192) (j : Fin 1024) : val_main_v84 (F := Ideal) x0 x1 x2 x3 x4 x5 x6 (ix2 r j) = (dlog P (T r) j : EReal) := by
  pointwise [val_main_v81, val_main_v84, d_at h, pp_at h, slope_at h]
  simp only [← EReal.coe_mul, ← EReal.coe_sub]
  exact congrArg _ (by unfold dlog; ring)

theorem dh_at (r : Fin 8192) (j : Fin 1024) : val_main_v87 (F := Ideal) x0 x1 x2 x3 x4 x5 x6 (ix2 r j) = (dh P (T r) j : EReal) := by
  pointwise [val_main_v87, dlog_at h, h.wg]
  exact sum_real _ (fun k => dlog P (T r) k * P.wg j k) fun k => by rw [← EReal.coe_mul]

theorem dhg_at (r : Fin 8192) (j : Fin 1024) : val_main_v92 (F := Ideal) x0 x1 x2 x3 x4 x5 x6 (ix2 r j) = ((dh P (T r) j * P.g j : ℝ) : EReal) := by
  pointwise [val_main_v13, val_main_v91, val_main_v92, dh_at h, h.g]
  rw [← EReal.coe_mul]

theorem q_at (r : Fin 8192) : val_main_v103 (F := Ideal) x0 x1 x2 x3 x4 x5 x6 (ix1 r) = (((∑ k, (T r).x k * (dh P (T r) k * P.g k)) * (-(1 / 2) * (rs (T r).x / var (T r).x)) / 1024 : ℝ) : EReal) := by
  pointwise [val_main_v94, val_main_v95, val_main_v96, val_main_v100, val_main_v101, val_main_v102, val_main_v103, val_main_cst_25, val_main_cst_26, val_main_cst_27, dhg_at h, h.x, cube_at h]
  refine (Fin.sum_univ_one _).trans ?_
  rw [cube_at h, sum_real _ (fun k => (T r).x k * (dh P (T r) k * P.g k)) fun k => by rw [← EReal.coe_mul], ← EReal.coe_mul, div_real]

/-! The results. -/

theorem dx_at (r : Fin 8192) (j : Fin 1024) : val_main_v108 (F := Ideal) x0 x1 x2 x3 x4 x5 x6 (ix2 r j) = (dx P (T r) j : EReal) := by
  pointwise [val_main_v97, val_main_v98, val_main_v99, val_main_v104, val_main_v105, val_main_v106, val_main_v107, val_main_v108, d_at h, dhg_at h, rs_at h, h.x, q_at h]
  simp only [← EReal.coe_mul, ← EReal.coe_add]
  refine congrArg _ ?_
  rw [dx, ← back_eq (T r).x (dh P (T r)) P.g j]
  ring

theorem dwg_at (k j : Fin 1024) : val_main_v86 (F := Ideal) x0 x1 x2 x3 x4 x5 x6 (ix2 k j) = ((∑ r, nrm (T r).x k * P.g k * dlog P (T r) j : ℝ) : EReal) := by
  pointwise [val_main_v85, val_main_v86, dlog_at h, h_at h]
  exact sum_real _ (fun r => nrm (T r).x k * P.g k * dlog P (T r) j) fun r => by rw [← EReal.coe_mul]; congr 1; ring

theorem dwp_at (k : Fin 256) (j : Fin 1024) : val_main_v83 (F := Ideal) x0 x1 x2 x3 x4 x5 x6 (ix2 k j) = ((∑ r, (T r).p k * (d P (T r) j * gate P (T r) j) : ℝ) : EReal) := by
  pointwise [val_main_v80, val_main_v82, val_main_v83, d_at h, gate_at h, h.p]
  exact sum_real _ (fun r => (T r).p k * (d P (T r) j * gate P (T r) j)) fun r => by rw [← EReal.coe_mul, ← EReal.coe_mul]; congr 1; ring

theorem dg_at (j : Fin 1024) : val_main_v109 (F := Ideal) x0 x1 x2 x3 x4 x5 x6 (ix2 0 j) = ((∑ r, dh P (T r) j * nrm (T r).x j : ℝ) : EReal) := by
  pointwise [val_main_v88, val_main_v89, val_main_v90, val_main_v93, val_main_v109, val_main_cst_23, val_main_cst_24, dh_at h, nrm_at h]
  refine (Fin.sum_univ_one _).trans ?_
  exact sum_real _ (fun r => dh P (T r) j * nrm (T r).x j) fun r => by rw [← EReal.coe_mul]; congr 1; ring

theorem dgf_at (j : Fin 1024) : val_main_v110 (F := Ideal) x0 x1 x2 x3 x4 x5 x6 (ix2 0 j) = ((∑ r, ct P (T r) j * nrm (PleSpec.x2 P (T r)) j : ℝ) : EReal) := by
  pointwise [val_main_v60, val_main_v61, val_main_v62, val_main_v65, val_main_v110, val_main_cst_18, val_main_cst_19, ct_at h, nrm2_at h]
  refine (Fin.sum_univ_one _).trans ?_
  exact sum_real _ (fun r => ct P (T r) j * nrm (PleSpec.x2 P (T r)) j) fun r => by rw [← EReal.coe_mul]; congr 1; ring

theorem loss_at (l : Fin 128) : val_main_v111 (F := Ideal) x0 x1 x2 x3 x4 x5 x6 (ix2 0 l) = ((1 / 2 * ∑ r, tokLoss P (T r) : ℝ) : EReal) := by
  pointwise [val_main_v46, val_main_v49, val_main_v50, val_main_v51, val_main_v52, val_main_v53, val_main_v111, val_main_cst_11, val_main_cst_12, val_main_cst_13, val_main_cst_14, err_at h]
  rw [sum_real _ (fun r => tokLoss P (T r)) fun r => by rw [sum_real _ (fun j => err P (T r) j * err P (T r) j) fun j => by rw [← EReal.coe_mul], div_real]; rfl, word_half, ← EReal.coe_mul]

end Cert.PleRefIdeal.PleRef

end
-- ==== Proof.PleValue.lean ====
/- The per-layer embedding kernel at extended reals: its result arrays, of real arguments. -/
module

public import proofs.«01_k».proof.Proof.PleTile
public import proofs.«01_k».proof.Proof.PleRef
public import proofs.«01_k».proof.Proof.Gen.PleIdeal.Value
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PleIdeal.PleValue

open Cert.PleIdeal Cert.PleIdeal.Gen PleSpec Cert.PleIdeal.PlePay
open Cert.PleRefIdeal.PleRef (Given)

variable (m : (ℓ : Loc nD τ sig) → Buf (Elt Ideal) ℓ) (c : Dev nD)

/-- Every window's block index at every grid point. -/
theorem idx : ∀ t : Fin cfg0.N, win0_0.index t = ![t.val, 0] ∧ win0_1.index t = ![0, t.val, 0] ∧ win0_2.index t = ![0, 0, 0]
    ∧ win0_3.index t = ![0, 0, 0] ∧ win0_4.index t = ![0, 0, 0] ∧ win0_5.index t = ![0, 0] ∧ win0_6.index t = ![t.val, 0]
    ∧ win0_7.index t = ![t.val, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, _)

/-- Row `a` of the block of tokens point `t` works on. -/
abbrev row (t : Fin cfg0.N) (a : Fin 512) : Fin 8192 := ⟨t.val * 512 + a.val, by have := lt_of_lt_of_eq t.isLt N_0; omega⟩

abbrev A0 : FVec Ideal S8192x1024 .f32 := m ((c : Thread nD τ).loc main_arg0)
abbrev A1 : FVec Ideal S8192x256 .f32 := m ((c : Thread nD τ).loc main_arg1)
abbrev A2 : FVec Ideal S1024 .f32 := m ((c : Thread nD τ).loc main_arg2)
abbrev A3 : FVec Ideal S1024x1024 .f32 := m ((c : Thread nD τ).loc main_arg3)
abbrev A4 : FVec Ideal S256x1024 .f32 := m ((c : Thread nD τ).loc main_arg4)
abbrev A5 : FVec Ideal S1024 .f32 := m ((c : Thread nD τ).loc main_arg5)
abbrev A6 : FVec Ideal S8192x1024 .f32 := m ((c : Thread nD τ).loc main_arg6)

/-! The arrays the kernel loads, read at an entry. -/

theorem entry_1 (r : Fin 8192) (k : Fin 256) : V m c main_v0 (ix3 0 r k) = A1 m c (ix2 r k) := by
  unfold V
  simp only [hostOps0, List.flatten_cons, List.flatten_nil, List.cons_append, List.nil_append, List.append_nil]
  entry_read
  pointwise

theorem entry_2 (j : Fin 1024) : V m c main_v1 (ix3 0 0 j) = A2 m c (ix1 j) := by
  unfold V
  simp only [hostOps0, List.flatten_cons, List.flatten_nil, List.cons_append, List.nil_append, List.append_nil]
  entry_read
  pointwise

theorem entry_3 (k j : Fin 1024) : V m c main_v3 (ix3 0 k j) = A3 m c (ix2 k j) := by
  unfold V
  simp only [hostOps0, List.flatten_cons, List.flatten_nil, List.cons_append, List.nil_append, List.append_nil]
  entry_read
  pointwise

theorem entry_4 (k : Fin 256) (j : Fin 1024) : V m c main_v5 (ix3 0 k j) = A4 m c (ix2 k j) := by
  unfold V
  simp only [hostOps0, List.flatten_cons, List.flatten_nil, List.cons_append, List.nil_append, List.append_nil]
  entry_read
  pointwise

theorem entry_5 (j : Fin 1024) : V m c main_v6 (ix2 0 j) = A5 m c (ix1 j) := by
  unfold V
  simp only [hostOps0, List.flatten_cons, List.flatten_nil, List.cons_append, List.nil_append, List.append_nil]
  entry_read
  pointwise

variable {m c} {P : Par} {T : Fin 8192 → Tok}
variable (h : Given (A0 m c) (A1 m c) (A2 m c) (A3 m c) (A4 m c) (A5 m c) (A6 m c) P T)

include h

/-- The blocks of point `t` hold the reals of its tokens. -/
theorem blk (t : Fin cfg0.N) :
    Blk (iblk m c 0 t) (iblk m c 1 t) (iblk m c 2 t) (iblk m c 3 t) (iblk m c 4 t) (iblk m c 5 t) (iblk m c 6 t) P (fun a => T (row t a)) where
  x a j := by
    refine Eq.trans ?_ (h.x (row t a) j)
    blk_point [iblk, V, idx t]
  p a k := by
    refine Eq.trans (Eq.trans (congrArg (V m c main_v0) ?_) (entry_1 m c (row t a) k)) (h.p (row t a) k)
    blk_ext [idx t]
  g j := by
    refine Eq.trans (Eq.trans (congrArg (V m c main_v1) ?_) (entry_2 m c j)) (h.g j)
    blk_ext [idx t]
  wg k j := by
    refine Eq.trans (Eq.trans (congrArg (V m c main_v3) ?_) (entry_3 m c k j)) (h.wg k j)
    blk_ext [idx t]
  wp k j := by
    refine Eq.trans (Eq.trans (congrArg (V m c main_v5) ?_) (entry_4 m c k j)) (h.wp k j)
    blk_ext [idx t]
  gf j := by
    refine Eq.trans (Eq.trans (congrArg (V m c main_v6) ?_) (entry_5 m c j)) (h.gf j)
    blk_ext [idx t]
  t a j := by
    refine Eq.trans ?_ (h.t (row t a) j)
    blk_point [iblk, V, idx t]

end Cert.PleIdeal.PleValue

end
-- ==== Proof.PleOut.lean ====
/- The per-layer embedding kernel at extended reals: each result array, written by blocks or added up over the grid. -/
module

public import proofs.«01_k».proof.Proof.PleValue

@[expose] public section

set_option maxRecDepth 16384

noncomputable section

open Idealize.ShloMosaic Idealize.ShloMosaic.TcCoe Idealize.SL.Sem
open Idealize.ShloMosaic.Pipeline (Dat)

namespace Cert.PleIdeal.PleValue

open Cert.PleIdeal Cert.PleIdeal.Gen PleSpec Cert.PleIdeal.PlePay
open Cert.PleRefIdeal.PleRef (Given)

variable {m : (ℓ : Loc nD τ sig) → Buf (Elt Ideal) ℓ} {c : Dev nD} {P : Par} {T : Fin 8192 → Tok}

/-- A sum over the grid points of the sums over each point's tokens is the sum over all tokens. -/
theorem points_sum (f : Fin 8192 → ℝ) : ∑ t : Fin cfg0.N, ((∑ a : Fin 512, f (row t a) : ℝ) : EReal) = ((∑ r, f r : ℝ) : EReal) :=
  (sum_real _ _ fun t => rfl).trans (congrArg _ (Fin.sum_univ_tiles cfg0.N 512 (congrArg (· * 512) N_0) f).symm)

theorem zero_at : (k0_pay3 (F := Ideal) = fun _ => (0 : EReal)) ∧ (k0_pay4 (F := Ideal) = fun _ => (0 : EReal))
    ∧ (k0_pay5 (F := Ideal) = fun _ => (0 : EReal)) ∧ (k0_pay6 (F := Ideal) = fun _ => (0 : EReal))
    ∧ (k0_pay7 (F := Ideal) = fun _ => (0 : EReal)) :=
  ⟨funext fun _ => by pointwise [k0_pay3], funext fun _ => by pointwise [k0_pay4], funext fun _ => by pointwise [k0_pay5],
    funext fun _ => by pointwise [k0_pay6], funext fun _ => by pointwise [k0_pay7]⟩

theorem one_row {k : Nat} (i : (⟨2, ![1, k]⟩ : Shape).Idx) : ∃ b : Fin k, i = ix2 0 b :=
  ⟨i 1, (eq_ix2 i).trans (congrArg (fun z : Fin 1 => ix2 z (i 1)) (Subsingleton.elim (α := Fin 1) (i 0) 0))⟩

theorem emb_7 (t : Fin cfg0.N) (a : Fin 512) (b : Fin 1024) :
    (win0_7.blk t).view.emb (ix2 a b) = (ix2 (row t a) b : S8192x1024.Idx) := by
  blk_ext [idx t]

variable (h : Given (A0 m c) (A1 m c) (A2 m c) (A3 m c) (A4 m c) (A5 m c) (A6 m c) P T)

include h

theorem final_7 : (dats m 0 c).arrAt 7 (cfgs 0).N = fun i : S8192x1024.Idx => (dx P (T (i 0)) (i 1) : EReal) := by
  refine (dats m 0 c).arrAt_eq_of_covers 7 _ (by decide +kernel) fun t hf y => ?_
  blk_simp
  rw [after0_7]
  obtain ⟨a, b, rfl⟩ : ∃ (a : Fin 512) (b : Fin 1024), y = ix2 a b := ⟨y 0, y 1, eq_ix2 y⟩
  rw [emb_7]
  by_cases hz : t.val % 16 = 0
  · rw [outsAt0_A m c t hz]
    dsimp only
    frame_out
    exact (blk h t).out7 a b
  · rw [outsAt0_B m c t hz]
    dsimp only
    frame_out
    exact (blk h t).out7 a b

theorem final_8 : (dats m 0 c).arrAt 8 (cfgs 0).N = fun i : S1024x1024.Idx => ((∑ r, nrm (T r).x (i 0) * P.g (i 0) * dlog P (T r) (i 1) : ℝ) : EReal) := by
  refine (dats m 0 c).arrAt_eq_of_after_last 8 t0_15 (by decide +kernel) _ fun y => ?_
  blk_simp
  rw [after0_8, Pipeline.eq_sum_fin_of_reset_step_apply_last (fun n h => (outsAt0 m c n h).2.1) 16 (fun _ => 0)
    (fun t (i : S1024x1024.Idx) => ((∑ a, nrm (T (row t a)).x (i 0) * P.g (i 0) * dlog P (T (row t a)) (i 1) : ℝ) : EReal))
    (fun t hz i => by
      obtain ⟨a, b, rfl⟩ : ∃ (a : Fin 1024) (b : Fin 1024), i = ix2 a b := ⟨i 0, i 1, eq_ix2 i⟩
      rw [outsAt0_A m c t hz]
      frame_out
      rw [(blk h t).out8, zero_at.1]
      rfl)
    (fun t hz i => by
      obtain ⟨a, b, rfl⟩ : ∃ (a : Fin 1024) (b : Fin 1024), i = ix2 a b := ⟨i 0, i 1, eq_ix2 i⟩
      rw [outsAt0_B m c t hz]
      frame_out
      rw [(blk h t).out8]
      rfl)
    (le_of_eq N_0) t0_15 rfl y, zero_add]
  exact points_sum fun r => nrm (T r).x (y 0) * P.g (y 0) * dlog P (T r) (y 1)

theorem final_9 : (dats m 0 c).arrAt 9 (cfgs 0).N = fun i : S256x1024.Idx => ((∑ r, (T r).p (i 0) * (d P (T r) (i 1) * gate P (T r) (i 1)) : ℝ) : EReal) := by
  refine (dats m 0 c).arrAt_eq_of_after_last 9 t0_15 (by decide +kernel) _ fun y => ?_
  blk_simp
  rw [after0_9, Pipeline.eq_sum_fin_of_reset_step_apply_last (fun n h => (outsAt0 m c n h).2.2.1) 16 (fun _ => 0)
    (fun t (i : S256x1024.Idx) => ((∑ a, (T (row t a)).p (i 0) * (d P (T (row t a)) (i 1) * gate P (T (row t a)) (i 1)) : ℝ) : EReal))
    (fun t hz i => by
      obtain ⟨a, b, rfl⟩ : ∃ (a : Fin 256) (b : Fin 1024), i = ix2 a b := ⟨i 0, i 1, eq_ix2 i⟩
      rw [outsAt0_A m c t hz]
      frame_out
      rw [(blk h t).out9, zero_at.2.1]
      rfl)
    (fun t hz i => by
      obtain ⟨a, b, rfl⟩ : ∃ (a : Fin 256) (b : Fin 1024), i = ix2 a b := ⟨i 0, i 1, eq_ix2 i⟩
      rw [outsAt0_B m c t hz]
      frame_out
      rw [(blk h t).out9]
      rfl)
    (le_of_eq N_0) t0_15 rfl y, zero_add]
  exact points_sum fun r => (T r).p (y 0) * (d P (T r) (y 1) * gate P (T r) (y 1))

theorem final_10 : (dats m 0 c).arrAt 10 (cfgs 0).N = fun i : S1x1024.Idx => ((∑ r, dh P (T r) (i 1) * nrm (T r).x (i 1) : ℝ) : EReal) := by
  refine (dats m 0 c).arrAt_eq_of_after_last 10 t0_15 (by decide +kernel) _ fun y => ?_
  blk_simp
  rw [after0_10, Pipeline.eq_sum_fin_of_reset_step_apply_last (fun n h => (outsAt0 m c n h).2.2.2.1) 16 (fun _ => 0)
    (fun t (i : S1x1024.Idx) => ((∑ a, dh P (T (row t a)) (i 1) * nrm (T (row t a)).x (i 1) : ℝ) : EReal))
    (fun t hz i => by
      obtain ⟨b, rfl⟩ := one_row i
      rw [outsAt0_A m c t hz]
      frame_out
      rw [(blk h t).out10, zero_at.2.2.1]
      rfl)
    (fun t hz i => by
      obtain ⟨b, rfl⟩ := one_row i
      rw [outsAt0_B m c t hz]
      frame_out
      rw [(blk h t).out10]
      rfl)
    (le_of_eq N_0) t0_15 rfl y, zero_add]
  exact points_sum fun r => dh P (T r) (y 1) * nrm (T r).x (y 1)

theorem final_11 : (dats m 0 c).arrAt 11 (cfgs 0).N = fun i : S1x1024.Idx => ((∑ r, ct P (T r) (i 1) * nrm (PleSpec.x2 P (T r)) (i 1) : ℝ) : EReal) := by
  refine (dats m 0 c).arrAt_eq_of_after_last 11 t0_15 (by decide +kernel) _ fun y => ?_
  blk_simp
  rw [after0_11, Pipeline.eq_sum_fin_of_reset_step_apply_last (fun n h => (outsAt0 m c n h).2.2.2.2.1) 16 (fun _ => 0)
    (fun t (i : S1x1024.Idx) => ((∑ a, ct P (T (row t a)) (i 1) * nrm (PleSpec.x2 P (T (row t a))) (i 1) : ℝ) : EReal))
    (fun t hz i => by
      obtain ⟨b, rfl⟩ := one_row i
      rw [outsAt0_A m c t hz]
      frame_out
      rw [(blk h t).out11, zero_at.2.2.2.1]
      rfl)
    (fun t hz i => by
      obtain ⟨b, rfl⟩ := one_row i
      rw [outsAt0_B m c t hz]
      frame_out
      rw [(blk h t).out11]
      rfl)
    (le_of_eq N_0) t0_15 rfl y, zero_add]
  exact points_sum fun r => ct P (T r) (y 1) * nrm (PleSpec.x2 P (T r)) (y 1)

theorem final_12 : (dats m 0 c).arrAt 12 (cfgs 0).N = fun i : S1x128.Idx => ((∑ r, 1 / 2 * tokLoss P (T r) : ℝ) : EReal) := by
  refine (dats m 0 c).arrAt_eq_of_after_last 12 t0_15 (by decide +kernel) _ fun y => ?_
  blk_simp
  rw [after0_12, Pipeline.eq_sum_fin_of_reset_step_apply_last (fun n h => (outsAt0 m c n h).2.2.2.2.2) 16 (fun _ => 0)
    (fun t (i : S1x128.Idx) => ((∑ a, 1 / 2 * tokLoss P (T (row t a)) : ℝ) : EReal))
    (fun t hz i => by
      obtain ⟨b, rfl⟩ := one_row i
      rw [outsAt0_A m c t hz]
      frame_out
      rw [(blk h t).out12, zero_at.2.2.2.2])
    (fun t hz i => by
      obtain ⟨b, rfl⟩ := one_row i
      rw [outsAt0_B m c t hz]
      frame_out
      rw [(blk h t).out12])
    (le_of_eq N_0) t0_15 rfl y, zero_add]
  exact points_sum fun r => 1 / 2 * tokLoss P (T r)

end Cert.PleIdeal.PleValue

end
-- ==== Proof.PleClaim.lean ====
/- The last layer's per-layer embedding, final norm and loss, and their gradients: the kernel's results are the reference's. -/
module

public import proofs.«01_k».proof.Defs
public import proofs.«01_k».proof.Proof.PleOut
public import proofs.«01_k».proof.Proof.Finite
public import proofs.«01_k».proof.Proof.Gen.PleRefIdeal.Run
public import proofs.«01_k».proof.Proof.Gen.PleRefIdeal.Read
public import Idealize.ShloMosaic.Lib.StableHlo.RunHlo
public import proofs.«01_k».proof.Proof.Gen.Pre_ple_finite

@[expose] public section

set_option maxRecDepth 16384

noncomputable section

open Idealize.ShloMosaic Idealize.ShloMosaic.TcCoe Idealize.SL.Sem

namespace Cert.PleIdeal.PleValue

open Cert.PleIdeal Cert.PleIdeal.Gen PleSpec
open Cert.PleRefIdeal.Read
open Cert.PleRefIdeal.PleRef

/-- Every entry is finite. -/
abbrev Fin1 {s : Shape} (x : FVec Ideal s .f32) : Prop := ∀ i, x i ≠ (⊤ : EReal) ∧ x i ≠ (⊥ : EReal)

theorem Fin1.back {s : Shape} {x : FVec Ideal s .f32} (h : Fin1 x) (i : s.Idx) : x i = (((x i : EReal).toReal : ℝ) : EReal) :=
  (EReal.coe_toReal (h i).1 (h i).2).symm

/-- The precondition: every argument is finite, so its entries are the reals they read as. -/
theorem given_of_pre (x0 : FVec Ideal S8192x1024 .f32) (x1 : FVec Ideal S8192x256 .f32) (x2 : FVec Ideal S1024 .f32)
    (x3 : FVec Ideal S1024x1024 .f32) (x4 : FVec Ideal S256x1024 .f32) (x5 : FVec Ideal S1024 .f32) (x6 : FVec Ideal S8192x1024 .f32)
    (h : Cert.Pre_ple_finite.fn (F := Ideal) x0 x1 x2 x3 x4 x5 x6 = fun _ => 1#1) :
    Given x0 x1 x2 x3 x4 x5 x6
      ⟨fun j => (x2 (ix1 j) : EReal).toReal, fun j => (x5 (ix1 j) : EReal).toReal, fun k j => (x3 (ix2 k j) : EReal).toReal, fun k j => (x4 (ix2 k j) : EReal).toReal⟩
      (fun r => ⟨fun j => (x0 (ix2 r j) : EReal).toReal, fun k => (x1 (ix2 r k) : EReal).toReal, fun j => (x6 (ix2 r j) : EReal).toReal⟩) := by
  have h := congrFun h ix0
  dsimp only [Cert.Pre_ple_finite.fn, Cert.Pre_ple_finite.fn_part1] at h
  obtain ⟨h, h6⟩ := Finite.and_one _ _ _ h
  obtain ⟨h, h5⟩ := Finite.and_one _ _ _ h
  obtain ⟨h, h4⟩ := Finite.and_one _ _ _ h
  obtain ⟨h, h3⟩ := Finite.and_one _ _ _ h
  obtain ⟨h, h2⟩ := Finite.and_one _ _ _ h
  obtain ⟨h0, h1⟩ := Finite.and_one _ _ _ h
  have f0 : Fin1 x0 := Finite.of_all _ _ _ _ _ _ (fun i => Finite.inf_at _ i) h0
  have f1 : Fin1 x1 := Finite.of_all _ _ _ _ _ _ (fun i => Finite.inf_at _ i) h1
  have f2 : Fin1 x2 := Finite.of_all _ _ _ _ _ _ (fun i => Finite.inf_at _ i) h2
  have f3 : Fin1 x3 := Finite.of_all _ _ _ _ _ _ (fun i => Finite.inf_at _ i) h3
  have f4 : Fin1 x4 := Finite.of_all _ _ _ _ _ _ (fun i => Finite.inf_at _ i) h4
  have f5 : Fin1 x5 := Finite.of_all _ _ _ _ _ _ (fun i => Finite.inf_at _ i) h5
  have f6 : Fin1 x6 := Finite.of_all _ _ _ _ _ _ (fun i => Finite.inf_at _ i) h6
  exact ⟨fun r j => f0.back _, fun r k => f1.back _, fun j => f2.back _, fun k j => f3.back _, fun k j => f4.back _, fun j => f5.back _,
    fun r j => f6.back _⟩

/-! Each result array of the kernel is the reference's stage. -/

variable {m : (ℓ : Loc nD τ sig) → Buf (Elt Ideal) ℓ} {c : Dev nD} {P : Par} {T : Fin 8192 → Tok}
variable (h : Given (A0 m c) (A1 m c) (A2 m c) (A3 m c) (A4 m c) (A5 m c) (A6 m c) P T)

include h

theorem tie_7 : (dats m 0 c).arrAt 7 cfg0.N = val_main_v108 (F := Ideal) (A0 m c) (A1 m c) (A2 m c) (A3 m c) (A4 m c) (A5 m c) (A6 m c) := by
  refine (final_7 h).trans (funext fun i => ?_)
  obtain ⟨a, b, rfl⟩ : ∃ a b, i = ix2 a b := ⟨i 0, i 1, eq_ix2 i⟩
  exact (dx_at h a b).symm

theorem tie_8 : (dats m 0 c).arrAt 8 cfg0.N = val_main_v86 (F := Ideal) (A0 m c) (A1 m c) (A2 m c) (A3 m c) (A4 m c) (A5 m c) (A6 m c) := by
  refine (final_8 h).trans (funext fun i => ?_)
  obtain ⟨a, b, rfl⟩ : ∃ a b, i = ix2 a b := ⟨i 0, i 1, eq_ix2 i⟩
  exact (dwg_at h a b).symm

theorem tie_9 : (dats m 0 c).arrAt 9 cfg0.N = val_main_v83 (F := Ideal) (A0 m c) (A1 m c) (A2 m c) (A3 m c) (A4 m c) (A5 m c) (A6 m c) := by
  refine (final_9 h).trans (funext fun i => ?_)
  obtain ⟨a, b, rfl⟩ : ∃ a b, i = ix2 a b := ⟨i 0, i 1, eq_ix2 i⟩
  exact (dwp_at h a b).symm

theorem tie_10 : (dats m 0 c).arrAt 10 cfg0.N = val_main_v109 (F := Ideal) (A0 m c) (A1 m c) (A2 m c) (A3 m c) (A4 m c) (A5 m c) (A6 m c) := by
  refine (final_10 h).trans (funext fun i => ?_)
  obtain ⟨b, rfl⟩ := one_row i
  exact (dg_at h b).symm

theorem tie_11 : (dats m 0 c).arrAt 11 cfg0.N = val_main_v110 (F := Ideal) (A0 m c) (A1 m c) (A2 m c) (A3 m c) (A4 m c) (A5 m c) (A6 m c) := by
  refine (final_11 h).trans (funext fun i => ?_)
  obtain ⟨b, rfl⟩ := one_row i
  exact (dgf_at h b).symm

theorem tie_12 : (dats m 0 c).arrAt 12 cfg0.N = val_main_v111 (F := Ideal) (A0 m c) (A1 m c) (A2 m c) (A3 m c) (A4 m c) (A5 m c) (A6 m c) := by
  refine (final_12 h).trans (funext fun i => ?_)
  obtain ⟨b, rfl⟩ := one_row i
  rw [← Finset.mul_sum]
  exact (loss_at h b).symm

end Cert.PleIdeal.PleValue

namespace Cert.Proof

open Cert.PleIdeal.PleValue Cert.PleRefIdeal.Read

theorem ple_ref_frame : Cert.quiescent_PleRefIdeal (hPleRefIdeal := Cert.PleRefIdeal.Gen.facts) :=
  fun m ρ _ => (θ_run Cert.PleRefIdeal.defs _ _).mono
    (fun r h => ⟨fun c => (h c).2.2.2.2.2.2, sem_eq_zero_of_no_sems (by decide) r.2⟩)
    (Cert.PleRefIdeal.Value.run (F := Ideal) m ρ)

set_option maxHeartbeats 4000000 in
theorem ple_algebraic : Cert.algebraic_PleIdeal_PleRefIdeal_pre_ple_finite (hPleIdeal := Cert.PleIdeal.Gen.facts)
    (hPleRefIdeal := Cert.PleRefIdeal.Gen.facts) (hPre_ple_finite := Cert.Pre_ple_finite.Gen.facts) := by
  intro m g m' g' hpre hagree
  refine ⟨fun c => val_main_v108 (F := Ideal) (A0 m c) (A1 m c) (A2 m c) (A3 m c) (A4 m c) (A5 m c) (A6 m c),
    fun c => val_main_v86 (F := Ideal) (A0 m c) (A1 m c) (A2 m c) (A3 m c) (A4 m c) (A5 m c) (A6 m c),
    fun c => val_main_v83 (F := Ideal) (A0 m c) (A1 m c) (A2 m c) (A3 m c) (A4 m c) (A5 m c) (A6 m c),
    fun c => val_main_v109 (F := Ideal) (A0 m c) (A1 m c) (A2 m c) (A3 m c) (A4 m c) (A5 m c) (A6 m c),
    fun c => val_main_v110 (F := Ideal) (A0 m c) (A1 m c) (A2 m c) (A3 m c) (A4 m c) (A5 m c) (A6 m c),
    fun c => val_main_v111 (F := Ideal) (A0 m c) (A1 m c) (A2 m c) (A3 m c) (A4 m c) (A5 m c) (A6 m c),
    (θ_run Cert.PleIdeal.defs _ _).mono (fun r h c => ?_) (Cert.PleIdeal.Value.run_blocks m g),
    (θ_run Cert.PleRefIdeal.defs _ _).mono (fun r h c => ?_) (Cert.PleRefIdeal.Value.run m' g')⟩
  · have G := given_of_pre _ _ _ _ _ _ _ (hpre c)
    obtain ⟨e7, e8, e9, e10, e11, e12, hargs⟩ := h c
    exact ⟨e7.trans (tie_7 G), e8.trans (tie_8 G), e9.trans (tie_9 G), e10.trans (tie_10 G), e11.trans (tie_11 G), e12.trans (tie_12 G), hargs⟩
  · obtain ⟨a0, a1, a2, a3, a4, a5, a6⟩ := hagree c
    obtain ⟨e7, e8, e9, e10, e11, e12, hargs⟩ := h c
    exact ⟨e7.trans ((val_main_v108_eq _).trans (Finite.same7 (val_main_v108 (F := Ideal)) a0 a1 a2 a3 a4 a5 a6)),
      e8.trans ((val_main_v86_eq _).trans (Finite.same7 (val_main_v86 (F := Ideal)) a0 a1 a2 a3 a4 a5 a6)),
      e9.trans ((val_main_v83_eq _).trans (Finite.same7 (val_main_v83 (F := Ideal)) a0 a1 a2 a3 a4 a5 a6)),
      e10.trans ((val_main_v109_eq _).trans (Finite.same7 (val_main_v109 (F := Ideal)) a0 a1 a2 a3 a4 a5 a6)),
      e11.trans ((val_main_v110_eq _).trans (Finite.same7 (val_main_v110 (F := Ideal)) a0 a1 a2 a3 a4 a5 a6)),
      e12.trans ((val_main_v111_eq _).trans (Finite.same7 (val_main_v111 (F := Ideal)) a0 a1 a2 a3 a4 a5 a6)), hargs⟩

end Cert.Proof

end
-- ==== Proof.EmbedSpec.lean ====
/- The per-layer embedding of one token, gone back through, over the reals: `T.t` is the cotangent of what it gives. -/
module

public import proofs.«01_k».proof.Proof.PleSpec

@[expose] public section

noncomputable section

open Idealize.ShloMosaic

namespace PleSpec

variable (P : Par) (T : Tok)

def eLog : Row := fun j => T.t j * pp P T j * gate P T j * (1 - gate P T j)
def eH : Row := fun j => ∑ k, eLog P T k * P.wg j k
def eX : Row := fun j => T.t j + back T.x (eH P T) P.g j

end PleSpec

end
-- ==== Proof.EmbedPay.lean ====
/- One grid point of the embedding's backward kernel at extended reals, of real blocks: what it writes and what it adds. -/
module

public import proofs.«01_k».proof.Proof.EmbedSpec
public import proofs.«01_k».proof.Proof.Gen.EmbedIdeal.Skeleton
public import Idealize.ShloMosaic.Lib.ValueIdx
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.EmbedIdeal.EmbedPay

open Cert.EmbedIdeal Cert.EmbedIdeal.Gen PleSpec

variable {b0 b1 : FVec Ideal S512x1024 .f32} {b2 b3 : FVec Ideal S512x1024 .bf16} {b4 : FVec Ideal S1x512x256 .f32}
  {b5 : FVec Ideal S1x1x1024 .f32} {b6 : FVec Ideal S1x1024x1024 .bf16}

/-- The blocks a point loads hold these reals; the gate and the projected input are the ones saved by the forward pass. -/
structure Blk (b0 b1 : FVec Ideal S512x1024 .f32) (b2 b3 : FVec Ideal S512x1024 .bf16) (b4 : FVec Ideal S1x512x256 .f32)
    (b5 : FVec Ideal S1x1x1024 .f32) (b6 : FVec Ideal S1x1024x1024 .bf16) (P : Par) (T : Fin 512 → Tok) : Prop where
  t : ∀ a j, b0 (ix2 a j) = ((T a).t j : EReal)
  x : ∀ a j, b1 (ix2 a j) = ((T a).x j : EReal)
  gate : ∀ a j, b2 (ix2 a j) = (gate P (T a) j : EReal)
  pp : ∀ a j, b3 (ix2 a j) = (pp P (T a) j : EReal)
  p : ∀ a k, b4 (ix3 0 a k) = ((T a).p k : EReal)
  g : ∀ j, b5 (ix3 0 0 j) = (P.g j : EReal)
  wg : ∀ k j, b6 (ix3 0 k j) = (P.wg k j : EReal)

variable {P : Par} {T : Fin 512 → Tok} (h : Blk b0 b1 b2 b3 b4 b5 b6 P T)

include h

theorem Blk.pay4 (a : Fin 512) (j : Fin 1024) : k0_pay4 (F := Ideal) b2 (ix2 a j) = (PleSpec.gate P (T a) j : EReal) := by
  pointwise [k0_pay4, h.gate]

theorem Blk.pay5 (j : Fin 1024) : k0_pay5 (F := Ideal) b5 (ix2 0 j) = (P.g j : EReal) := by
  pointwise [k0_pay5, h.g]

theorem Blk.pay6 (a : Fin 512) : k0_pay6 (F := Ideal) b1 (ix2 a 0) = (rs (T a).x : EReal) := by
  pointwise [k0_pay6, h.x]
  rw [var_real (T a).x _ (sum_real _ _ fun k => (EReal.coe_mul _ _).symm), rs_real]

theorem Blk.pay7 (a : Fin 512) (j : Fin 1024) : k0_pay7 (F := Ideal) b1 (ix2 a j) = (nrm (T a).x j : EReal) := by
  pointwise [k0_pay7, h.x, h.pay6]
  rw [← EReal.coe_mul]; rfl

theorem Blk.pay8 (a : Fin 512) (j : Fin 1024) : k0_pay8 (F := Ideal) b0 b2 b3 (ix2 a j) = (eLog P (T a) j : EReal) := by
  pointwise [k0_pay8, h.t, h.pp, h.pay4]
  simp only [← EReal.coe_one, ← EReal.coe_mul, ← EReal.coe_sub]; rfl

theorem Blk.pay11 (a : Fin 512) (j : Fin 1024) : k0_pay11 (F := Ideal) (k0_pay8 b0 b2 b3) b6 (ix2 a j) = (eH P (T a) j : EReal) := by
  pointwise [k0_pay11, h.wg, h.pay8]
  exact sum_real _ (fun k => eLog P (T a) k * P.wg j k) fun k => by rw [← EReal.coe_mul]

theorem Blk.out7 (a : Fin 512) (j : Fin 1024) :
    k0_pay12 (F := Ideal) b0 (k0_pay5 b5) (k0_pay6 b1) (k0_pay7 b1) (k0_pay8 b0 b2 b3) b6 (ix2 a j) = (eX P (T a) j : EReal) := by
  pointwise [k0_pay12, h.t, h.pay5, h.pay6, h.pay7, h.pay11]
  rw [sum_real _ (fun k => eH P (T a) k * P.g k * nrm (T a).x k) fun k => by rw [← EReal.coe_mul, ← EReal.coe_mul], div_real]
  simp only [← EReal.coe_mul, ← EReal.coe_sub, ← EReal.coe_add]; rfl

theorem Blk.out8 (acc : FVec Ideal S1024x1024 .f32) (k j : Fin 1024) :
    k0_pay9 (F := Ideal) b0 b1 b2 b5 b3 acc (ix2 k j) = acc (ix2 k j) + ((∑ a, nrm (T a).x k * P.g k * eLog P (T a) j : ℝ) : EReal) := by
  pointwise [k0_pay9, h.pay5, h.pay7, h.pay8]
  rw [sum_real _ (fun a => nrm (T a).x k * P.g k * eLog P (T a) j) fun a => by rw [← EReal.coe_mul, ← EReal.coe_mul]]

theorem Blk.out9 (acc : FVec Ideal S256x1024 .f32) (k : Fin 256) (j : Fin 1024) :
    k0_pay10 (F := Ideal) b0 (k0_pay4 b2) acc b4 (ix2 k j) = acc (ix2 k j) + ((∑ a, (T a).p k * ((T a).t j * PleSpec.gate P (T a) j) : ℝ) : EReal) := by
  pointwise [k0_pay10, h.p, h.t, h.pay4]
  rw [sum_real _ (fun a => (T a).p k * ((T a).t j * PleSpec.gate P (T a) j)) fun a => by rw [← EReal.coe_mul, ← EReal.coe_mul]]

theorem Blk.out10 (acc : FVec Ideal S1x1024 .f32) (j : Fin 1024) :
    k0_pay13 (F := Ideal) (k0_pay7 b1) (k0_pay8 b0 b2 b3) b6 acc (ix2 0 j) = acc (ix2 0 j) + ((∑ a, eH P (T a) j * nrm (T a).x j : ℝ) : EReal) := by
  pointwise [k0_pay13, h.pay7, h.pay11]
  rw [sum_real _ (fun a => eH P (T a) j * nrm (T a).x j) fun a => by rw [← EReal.coe_mul]]

end Cert.EmbedIdeal.EmbedPay

end
-- ==== Proof.EmbedRef.lean ====
/- The reference of the embedding's gradients: each stage, read at an entry, of real arguments. -/
module

public import proofs.«01_k».proof.Proof.EmbedSpec
public import proofs.«01_k».proof.Proof.Gen.EmbedRefIdeal.Read
public import Idealize.ShloMosaic.Lib.Pointwise

@[expose] public section

set_option maxRecDepth 16384

noncomputable section

open Idealize.ShloMosaic Idealize.ShloMosaic.TcCoe Idealize.SL.Sem

namespace Cert.EmbedRefIdeal.EmbedRef

open Cert.EmbedRefIdeal Cert.EmbedRefIdeal.Read PleSpec

variable {x0 x1 : FVec Ideal S8192x1024 .f32} {x2 : FVec Ideal S8192x256 .f32} {x3 : FVec Ideal S1024 .f32}
  {x4 : FVec Ideal S1024x1024 .f32} {x5 : FVec Ideal S256x1024 .f32}

/-- The arguments are these reals. -/
structure Given (x0 x1 : FVec Ideal S8192x1024 .f32) (x2 : FVec Ideal S8192x256 .f32) (x3 : FVec Ideal S1024 .f32)
    (x4 : FVec Ideal S1024x1024 .f32) (x5 : FVec Ideal S256x1024 .f32) (P : Par) (T : Fin 8192 → Tok) : Prop where
  t : ∀ r j, x0 (ix2 r j) = ((T r).t j : EReal)
  x : ∀ r j, x1 (ix2 r j) = ((T r).x j : EReal)
  p : ∀ r k, x2 (ix2 r k) = ((T r).p k : EReal)
  g : ∀ j, x3 (ix1 j) = (P.g j : EReal)
  wg : ∀ k j, x4 (ix2 k j) = (P.wg k j : EReal)
  wp : ∀ k j, x5 (ix2 k j) = (P.wp k j : EReal)

variable {P : Par} {T : Fin 8192 → Tok} (h : Given x0 x1 x2 x3 x4 x5 P T)

include h

theorem var_at (r : Fin 8192) : val_main_v6 (F := Ideal) x1 (ix2 r 0) = (var (T r).x : EReal) := by
  pointwise [val_main_v0, val_main_v1, val_main_v2, val_main_v3, val_main_v4, val_main_v5, val_main_v6, val_main_cst, val_main_cst_0, val_main_cst_1, h.x]
  rw [var_real (T r).x _ (sum_real _ _ fun k => (EReal.coe_mul _ _).symm)]

theorem rs_at (r : Fin 8192) : val_main_v7 (F := Ideal) x1 (ix2 r 0) = (rs (T r).x : EReal) := by
  pointwise [val_main_v7, var_at h]
  rw [rs_real]

theorem cube_at (r : Fin 8192) : val_main_v10 (F := Ideal) x1 (ix2 r 0) = ((-(1 / 2) * (rs (T r).x / var (T r).x) : ℝ) : EReal) := by
  pointwise [val_main_v8, val_main_v9, val_main_v10, val_main_cst_2, var_at h, rs_at h]
  rw [div_any _ _ (var_pos _).ne', word_neg, ← EReal.coe_mul]

theorem nrm_at (r : Fin 8192) (j : Fin 1024) : val_main_v12 (F := Ideal) x1 (ix2 r j) = (nrm (T r).x j : EReal) := by
  pointwise [val_main_v11, val_main_v12, rs_at h, h.x]
  rw [← EReal.coe_mul]; rfl

theorem h_at (r : Fin 8192) (j : Fin 1024) : val_main_v15 (F := Ideal) x1 x3 (ix2 r j) = ((nrm (T r).x j * P.g j : ℝ) : EReal) := by
  pointwise [val_main_v13, val_main_v14, val_main_v15, nrm_at h, h.g]
  rw [← EReal.coe_mul]

theorem gate_at (r : Fin 8192) (j : Fin 1024) : val_main_v22 (F := Ideal) x1 x3 x4 (ix2 r j) = (gate P (T r) j : EReal) := by
  pointwise [val_main_v16, val_main_v17, val_main_v18, val_main_v19, val_main_v20, val_main_v21, val_main_v22, val_main_cst_3, val_main_cst_4, h_at h, h.wg]
  rw [sum_real _ (fun k => nrm (T r).x k * P.g k * P.wg k j) fun k => by rw [← EReal.coe_mul]]
  exact Ideal.logistic_coe _

theorem slope_at (r : Fin 8192) (j : Fin 1024) : val_main_v25 (F := Ideal) x1 x3 x4 (ix2 r j) = ((gate P (T r) j * (1 - gate P (T r) j) : ℝ) : EReal) := by
  pointwise [val_main_v23, val_main_v24, val_main_v25, val_main_cst_5, gate_at h]
  simp only [← EReal.coe_one, ← EReal.coe_mul, ← EReal.coe_sub]

theorem pp_at (r : Fin 8192) (j : Fin 1024) : val_main_v26 (F := Ideal) x2 x5 (ix2 r j) = (pp P (T r) j : EReal) := by
  pointwise [val_main_v26, h.p, h.wp]
  exact sum_real _ (fun k => (T r).p k * P.wp k j) fun k => by rw [← EReal.coe_mul]

theorem d_at (r : Fin 8192) (j : Fin 1024) : val_main_v29 (F := Ideal) x0 (ix2 r j) = ((T r).t j : EReal) := by
  pointwise [val_main_v29, h.t]

theorem eLog_at (r : Fin 8192) (j : Fin 1024) : val_main_v34 (F := Ideal) x0 x1 x2 x3 x4 x5 (ix2 r j) = (eLog P (T r) j : EReal) := by
  pointwise [val_main_v31, val_main_v34, d_at h, pp_at h, slope_at h]
  simp only [← EReal.coe_mul, ← EReal.coe_sub]
  exact congrArg _ (by unfold eLog; ring)

theorem eH_at (r : Fin 8192) (j : Fin 1024) : val_main_v37 (F := Ideal) x0 x1 x2 x3 x4 x5 (ix2 r j) = (eH P (T r) j : EReal) := by
  pointwise [val_main_v37, eLog_at h, h.wg]
  exact sum_real _ (fun k => eLog P (T r) k * P.wg j k) fun k => by rw [← EReal.coe_mul]

theorem eHg_at (r : Fin 8192) (j : Fin 1024) : val_main_v42 (F := Ideal) x0 x1 x2 x3 x4 x5 (ix2 r j) = ((eH P (T r) j * P.g j : ℝ) : EReal) := by
  pointwise [val_main_v13, val_main_v41, val_main_v42, eH_at h, h.g]
  rw [← EReal.coe_mul]

theorem q_at (r : Fin 8192) : val_main_v53 (F := Ideal) x0 x1 x2 x3 x4 x5 (ix1 r) = (((∑ k, (T r).x k * (eH P (T r) k * P.g k)) * (-(1 / 2) * (rs (T r).x / var (T r).x)) / 1024 : ℝ) : EReal) := by
  pointwise [val_main_v44, val_main_v45, val_main_v46, val_main_v50, val_main_v51, val_main_v52, val_main_v53, val_main_cst_8, val_main_cst_9, val_main_cst_10, eHg_at h, h.x, cube_at h]
  refine (Fin.sum_univ_one _).trans ?_
  rw [cube_at h, sum_real _ (fun k => (T r).x k * (eH P (T r) k * P.g k)) fun k => by rw [← EReal.coe_mul], ← EReal.coe_mul, div_real]

/-! The results. -/

theorem eX_at (r : Fin 8192) (j : Fin 1024) : val_main_v58 (F := Ideal) x0 x1 x2 x3 x4 x5 (ix2 r j) = (eX P (T r) j : EReal) := by
  pointwise [val_main_v47, val_main_v48, val_main_v49, val_main_v54, val_main_v55, val_main_v56, val_main_v57, val_main_v58, h.t, eHg_at h, rs_at h, h.x, q_at h]
  simp only [← EReal.coe_mul, ← EReal.coe_add]
  refine congrArg _ ?_
  rw [eX, ← back_eq (T r).x (eH P (T r)) P.g j]
  ring

theorem dwg_at (k j : Fin 1024) : val_main_v36 (F := Ideal) x0 x1 x2 x3 x4 x5 (ix2 k j) = ((∑ r, nrm (T r).x k * P.g k * eLog P (T r) j : ℝ) : EReal) := by
  pointwise [val_main_v35, val_main_v36, eLog_at h, h_at h]
  exact sum_real _ (fun r => nrm (T r).x k * P.g k * eLog P (T r) j) fun r => by rw [← EReal.coe_mul]; congr 1; ring

theorem dwp_at (k : Fin 256) (j : Fin 1024) : val_main_v33 (F := Ideal) x0 x1 x2 x3 x4 (ix2 k j) = ((∑ r, (T r).p k * ((T r).t j * gate P (T r) j) : ℝ) : EReal) := by
  pointwise [val_main_v30, val_main_v32, val_main_v33, d_at h, gate_at h, h.p]
  exact sum_real _ (fun r => (T r).p k * ((T r).t j * gate P (T r) j)) fun r => by rw [← EReal.coe_mul, ← EReal.coe_mul]; congr 1; ring

theorem dg_at (j : Fin 1024) : val_main_v59 (F := Ideal) x0 x1 x2 x3 x4 x5 (ix2 0 j) = ((∑ r, eH P (T r) j * nrm (T r).x j : ℝ) : EReal) := by
  pointwise [val_main_v38, val_main_v39, val_main_v40, val_main_v43, val_main_v59, val_main_cst_6, val_main_cst_7, eH_at h, nrm_at h]
  refine (Fin.sum_univ_one _).trans ?_
  exact sum_real _ (fun r => eH P (T r) j * nrm (T r).x j) fun r => by rw [← EReal.coe_mul]; congr 1; ring

end Cert.EmbedRefIdeal.EmbedRef

end
-- ==== Proof.EmbedValue.lean ====
/- The embedding's backward kernel at extended reals: the arrays it loads, of real arguments. -/
module

public import proofs.«01_k».proof.Proof.EmbedPay
public import proofs.«01_k».proof.Proof.EmbedRef
public import proofs.«01_k».proof.Proof.Gen.EmbedIdeal.Value
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.EmbedIdeal.EmbedValue

open Cert.EmbedIdeal Cert.EmbedIdeal.Gen PleSpec Cert.EmbedIdeal.EmbedPay
open Cert.EmbedRefIdeal.EmbedRef (Given)

variable (m : (ℓ : Loc nD τ sig) → Buf (Elt Ideal) ℓ) (c : Dev nD)

/-- Every window's block index at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![0, 0, 0] ∧ win0_6.index t = ![0, 0, 0]
    ∧ win0_7.index t = ![t.val, 0] ∧ win0_8.index t = ![0, 0] ∧ win0_9.index t = ![0, 0] ∧ win0_10.index t = ![0, 0] :=
  (by decide +kernel : ∀ t : Fin grid0.N, _)

/-- Row `a` of the block of tokens point `t` works on. -/
abbrev row (t : Fin cfg0.N) (a : Fin 512) : Fin 8192 := ⟨t.val * 512 + a.val, by have := lt_of_lt_of_eq t.isLt N_0; omega⟩

abbrev A0 : FVec Ideal S8192x1024 .f32 := m ((c : Thread nD τ).loc main_arg0)
abbrev A1 : FVec Ideal S8192x1024 .f32 := m ((c : Thread nD τ).loc main_arg1)
abbrev A2 : FVec Ideal S8192x256 .f32 := m ((c : Thread nD τ).loc main_arg2)
abbrev A3 : FVec Ideal S1024 .f32 := m ((c : Thread nD τ).loc main_arg3)
abbrev A4 : FVec Ideal S1024x1024 .f32 := m ((c : Thread nD τ).loc main_arg4)
abbrev A5 : FVec Ideal S256x1024 .f32 := m ((c : Thread nD τ).loc main_arg5)

/-! The arrays the kernel loads, read at an entry. -/

theorem entry_4 (r : Fin 8192) (k : Fin 256) : V m c main_v23 (ix3 0 r k) = A2 m c (ix2 r k) := by
  unfold V
  simp only [hostOps0, List.flatten_cons, List.flatten_nil, List.cons_append, List.nil_append, List.append_nil]
  entry_read
  pointwise

theorem entry_5 (j : Fin 1024) : V m c main_v24 (ix3 0 0 j) = A3 m c (ix1 j) := by
  unfold V
  simp only [hostOps0, List.flatten_cons, List.flatten_nil, List.cons_append, List.nil_append, List.append_nil]
  entry_read
  pointwise

theorem entry_6 (k j : Fin 1024) : V m c main_v26 (ix3 0 k j) = A4 m c (ix2 k j) := by
  unfold V
  simp only [hostOps0, List.flatten_cons, List.flatten_nil, List.cons_append, List.nil_append, List.append_nil]
  entry_read
  pointwise

variable {m c} {P : Par} {T : Fin 8192 → Tok}
variable (h : Given (A0 m c) (A1 m c) (A2 m c) (A3 m c) (A4 m c) (A5 m c) P T)

include h

/-- The saved gate. -/
theorem entry_2 (r : Fin 8192) (j : Fin 1024) : V m c main_v20 (ix2 r j) = (gate P (T r) j : EReal) := by
  unfold V
  simp only [hostOps0, List.flatten_cons, List.flatten_nil, List.cons_append, List.nil_append, List.append_nil]
  entry_read
  pointwise [h.x, h.g, h.wg]
  rw [sum_real _ (fun k => nrm (T r).x k * P.g k * P.wg k j) fun k => by
    rw [var_real (T r).x _ (sum_real _ _ fun k => (EReal.coe_mul _ _).symm), rs_real, ← EReal.coe_mul, ← EReal.coe_mul, ← EReal.coe_mul]
    rfl]
  exact Ideal.logistic_coe _

/-- The saved projected input. -/
theorem entry_3 (r : Fin 8192) (j : Fin 1024) : V m c main_v22 (ix2 r j) = (pp P (T r) j : EReal) := by
  unfold V
  simp only [hostOps0, List.flatten_cons, List.flatten_nil, List.cons_append, List.nil_append, List.append_nil]
  entry_read
  pointwise [h.p, h.wp]
  exact sum_real _ (fun k => (T r).p k * P.wp k j) fun k => by rw [← EReal.coe_mul]

set_option maxHeartbeats 2000000 in
/-- The blocks of point `t` hold the reals of its tokens. -/
theorem blk (t : Fin cfg0.N) :
    Blk (iblk m c 0 t) (iblk m c 1 t) (iblk m c 2 t) (iblk m c 3 t) (iblk m c 4 t) (iblk m c 5 t) (iblk m c 6 t) P (fun a => T (row t a)) where
  t a j := by
    refine Eq.trans ?_ (h.t (row t a) j)
    blk_point [iblk, V, idx t]
  x a j := by
    refine Eq.trans ?_ (h.x (row t a) j)
    blk_point [iblk, V, idx t]
  gate a j := by
    refine Eq.trans (congrArg (V m c main_v20) ?_) (entry_2 h (row t a) j)
    blk_ext [idx t]
  pp a j := by
    refine Eq.trans (congrArg (V m c main_v22) ?_) (entry_3 h (row t a) j)
    blk_ext [idx t]
  p a k := by
    refine Eq.trans (Eq.trans (congrArg (V m c main_v23) ?_) (entry_4 m c (row t a) k)) (h.p (row t a) k)
    blk_ext [idx t]
  g j := by
    refine Eq.trans (Eq.trans (congrArg (V m c main_v24) ?_) (entry_5 m c j)) (h.g j)
    blk_ext [idx t]
  wg k j := by
    refine Eq.trans (Eq.trans (congrArg (V m c main_v26) ?_) (entry_6 m c k j)) (h.wg k j)
    blk_ext [idx t]

end Cert.EmbedIdeal.EmbedValue

end
-- ==== Proof.EmbedOut.lean ====
/- The embedding's backward kernel at extended reals: each result array, written by blocks or added up over the grid. -/
module

public import proofs.«01_k».proof.Proof.EmbedValue

@[expose] public section

set_option maxRecDepth 16384

noncomputable section

open Idealize.ShloMosaic Idealize.ShloMosaic.TcCoe Idealize.SL.Sem
open Idealize.ShloMosaic.Pipeline (Dat)

namespace Cert.EmbedIdeal.EmbedValue

open Cert.EmbedIdeal Cert.EmbedIdeal.Gen PleSpec Cert.EmbedIdeal.EmbedPay
open Cert.EmbedRefIdeal.EmbedRef (Given)

variable {m : (ℓ : Loc nD τ sig) → Buf (Elt Ideal) ℓ} {c : Dev nD} {P : Par} {T : Fin 8192 → Tok}

/-- A sum over the grid points of the sums over each point's tokens is the sum over all tokens. -/
theorem points_sum (f : Fin 8192 → ℝ) : ∑ t : Fin cfg0.N, ((∑ a : Fin 512, f (row t a) : ℝ) : EReal) = ((∑ r, f r : ℝ) : EReal) :=
  (sum_real _ _ fun t => rfl).trans (congrArg _ (Fin.sum_univ_tiles cfg0.N 512 (congrArg (· * 512) N_0) f).symm)

theorem zero_at : (k0_pay1 (F := Ideal) = fun _ => (0 : EReal)) ∧ (k0_pay2 (F := Ideal) = fun _ => (0 : EReal))
    ∧ (k0_pay3 (F := Ideal) = fun _ => (0 : EReal)) :=
  ⟨funext fun _ => by pointwise [k0_pay1], funext fun _ => by pointwise [k0_pay2], funext fun _ => by pointwise [k0_pay3]⟩

theorem one_row {k : Nat} (i : (⟨2, ![1, k]⟩ : Shape).Idx) : ∃ b : Fin k, i = ix2 0 b :=
  ⟨i 1, (eq_ix2 i).trans (congrArg (fun z : Fin 1 => ix2 z (i 1)) (Subsingleton.elim (α := Fin 1) (i 0) 0))⟩

theorem emb_7 (t : Fin cfg0.N) (a : Fin 512) (b : Fin 1024) :
    (win0_7.blk t).view.emb (ix2 a b) = (ix2 (row t a) b : S8192x1024.Idx) := by
  blk_ext [idx t]

variable (h : Given (A0 m c) (A1 m c) (A2 m c) (A3 m c) (A4 m c) (A5 m c) P T)

include h

theorem final_7 : (dats m 0 c).arrAt 7 (cfgs 0).N = fun i : S8192x1024.Idx => (eX P (T (i 0)) (i 1) : EReal) := by
  refine (dats m 0 c).arrAt_eq_of_covers 7 _ (by decide +kernel) fun t hf y => ?_
  blk_simp
  rw [after0_7]
  obtain ⟨a, b, rfl⟩ : ∃ (a : Fin 512) (b : Fin 1024), y = ix2 a b := ⟨y 0, y 1, eq_ix2 y⟩
  rw [emb_7]
  by_cases hz : t.val % 16 = 0
  · rw [outsAt0_A m c t hz]
    dsimp only
    frame_out
    exact (blk h t).out7 a b
  · rw [outsAt0_B m c t hz]
    dsimp only
    frame_out
    exact (blk h t).out7 a b

theorem final_8 : (dats m 0 c).arrAt 8 (cfgs 0).N = fun i : S1024x1024.Idx => ((∑ r, nrm (T r).x (i 0) * P.g (i 0) * eLog P (T r) (i 1) : ℝ) : EReal) := by
  refine (dats m 0 c).arrAt_eq_of_after_last 8 t0_15 (by decide +kernel) _ fun y => ?_
  blk_simp
  rw [after0_8, Pipeline.eq_sum_fin_of_reset_step_apply_last (fun n h => (outsAt0 m c n h).2.1) 16 (fun _ => 0)
    (fun t (i : S1024x1024.Idx) => ((∑ a, nrm (T (row t a)).x (i 0) * P.g (i 0) * eLog P (T (row t a)) (i 1) : ℝ) : EReal))
    (fun t hz i => by
      obtain ⟨a, b, rfl⟩ : ∃ (a : Fin 1024) (b : Fin 1024), i = ix2 a b := ⟨i 0, i 1, eq_ix2 i⟩
      rw [outsAt0_A m c t hz]
      frame_out
      rw [(blk h t).out8, zero_at.1]
      rfl)
    (fun t hz i => by
      obtain ⟨a, b, rfl⟩ : ∃ (a : Fin 1024) (b : Fin 1024), i = ix2 a b := ⟨i 0, i 1, eq_ix2 i⟩
      rw [outsAt0_B m c t hz]
      frame_out
      rw [(blk h t).out8]
      rfl)
    (le_of_eq N_0) t0_15 rfl y, zero_add]
  exact points_sum fun r => nrm (T r).x (y 0) * P.g (y 0) * eLog P (T r) (y 1)

theorem final_9 : (dats m 0 c).arrAt 9 (cfgs 0).N = fun i : S256x1024.Idx => ((∑ r, (T r).p (i 0) * ((T r).t (i 1) * gate P (T r) (i 1)) : ℝ) : EReal) := by
  refine (dats m 0 c).arrAt_eq_of_after_last 9 t0_15 (by decide +kernel) _ fun y => ?_
  blk_simp
  rw [after0_9, Pipeline.eq_sum_fin_of_reset_step_apply_last (fun n h => (outsAt0 m c n h).2.2.1) 16 (fun _ => 0)
    (fun t (i : S256x1024.Idx) => ((∑ a, (T (row t a)).p (i 0) * ((T (row t a)).t (i 1) * gate P (T (row t a)) (i 1)) : ℝ) : EReal))
    (fun t hz i => by
      obtain ⟨a, b, rfl⟩ : ∃ (a : Fin 256) (b : Fin 1024), i = ix2 a b := ⟨i 0, i 1, eq_ix2 i⟩
      rw [outsAt0_A m c t hz]
      frame_out
      rw [(blk h t).out9, zero_at.2.1]
      rfl)
    (fun t hz i => by
      obtain ⟨a, b, rfl⟩ : ∃ (a : Fin 256) (b : Fin 1024), i = ix2 a b := ⟨i 0, i 1, eq_ix2 i⟩
      rw [outsAt0_B m c t hz]
      frame_out
      rw [(blk h t).out9]
      rfl)
    (le_of_eq N_0) t0_15 rfl y, zero_add]
  exact points_sum fun r => (T r).p (y 0) * ((T r).t (y 1) * gate P (T r) (y 1))

theorem final_10 : (dats m 0 c).arrAt 10 (cfgs 0).N = fun i : S1x1024.Idx => ((∑ r, eH P (T r) (i 1) * nrm (T r).x (i 1) : ℝ) : EReal) := by
  refine (dats m 0 c).arrAt_eq_of_after_last 10 t0_15 (by decide +kernel) _ fun y => ?_
  blk_simp
  rw [after0_10, Pipeline.eq_sum_fin_of_reset_step_apply_last (fun n h => (outsAt0 m c n h).2.2.2) 16 (fun _ => 0)
    (fun t (i : S1x1024.Idx) => ((∑ a, eH P (T (row t a)) (i 1) * nrm (T (row t a)).x (i 1) : ℝ) : EReal))
    (fun t hz i => by
      obtain ⟨b, rfl⟩ := one_row i
      rw [outsAt0_A m c t hz]
      frame_out
      rw [(blk h t).out10, zero_at.2.2]
      rfl)
    (fun t hz i => by
      obtain ⟨b, rfl⟩ := one_row i
      rw [outsAt0_B m c t hz]
      frame_out
      rw [(blk h t).out10]
      rfl)
    (le_of_eq N_0) t0_15 rfl y, zero_add]
  exact points_sum fun r => eH P (T r) (y 1) * nrm (T r).x (y 1)

end Cert.EmbedIdeal.EmbedValue

end
-- ==== Proof.EmbedClaim.lean ====
/- The embedding's gradients: the kernel's results are the reference's. -/
module

public import proofs.«01_k».proof.Defs
public import proofs.«01_k».proof.Proof.EmbedOut
public import proofs.«01_k».proof.Proof.Finite
public import proofs.«01_k».proof.Proof.Gen.EmbedRefIdeal.Run
public import proofs.«01_k».proof.Proof.Gen.EmbedRefIdeal.Read
public import Idealize.ShloMosaic.Lib.StableHlo.RunHlo
public import proofs.«01_k».proof.Proof.Gen.Pre_embed_finite

@[expose] public section

set_option maxRecDepth 16384

noncomputable section

open Idealize.ShloMosaic Idealize.ShloMosaic.TcCoe Idealize.SL.Sem

namespace Cert.EmbedIdeal.EmbedValue

open Cert.EmbedIdeal Cert.EmbedIdeal.Gen PleSpec
open Cert.EmbedRefIdeal.Read
open Cert.EmbedRefIdeal.EmbedRef

/-- Every entry is finite. -/
abbrev Fin1 {s : Shape} (x : FVec Ideal s .f32) : Prop := ∀ i, x i ≠ (⊤ : EReal) ∧ x i ≠ (⊥ : EReal)

theorem Fin1.back {s : Shape} {x : FVec Ideal s .f32} (h : Fin1 x) (i : s.Idx) : x i = (((x i : EReal).toReal : ℝ) : EReal) :=
  (EReal.coe_toReal (h i).1 (h i).2).symm

/-- The precondition: every argument is finite, so its entries are the reals they read as. -/
theorem given_of_pre (x0 x1 : FVec Ideal S8192x1024 .f32) (x2 : FVec Ideal S8192x256 .f32) (x3 : FVec Ideal S1024 .f32)
    (x4 : FVec Ideal S1024x1024 .f32) (x5 : FVec Ideal S256x1024 .f32)
    (h : Cert.Pre_embed_finite.fn (F := Ideal) x0 x1 x2 x3 x4 x5 = fun _ => 1#1) :
    Given x0 x1 x2 x3 x4 x5
      ⟨fun j => (x3 (ix1 j) : EReal).toReal, fun _ => 0, fun k j => (x4 (ix2 k j) : EReal).toReal, fun k j => (x5 (ix2 k j) : EReal).toReal⟩
      (fun r => ⟨fun j => (x1 (ix2 r j) : EReal).toReal, fun k => (x2 (ix2 r k) : EReal).toReal, fun j => (x0 (ix2 r j) : EReal).toReal⟩) := by
  have h := congrFun h ix0
  dsimp only [Cert.Pre_embed_finite.fn, Cert.Pre_embed_finite.fn_part1] at h
  obtain ⟨h, h5⟩ := Finite.and_one _ _ _ h
  obtain ⟨h, h4⟩ := Finite.and_one _ _ _ h
  obtain ⟨h, h3⟩ := Finite.and_one _ _ _ h
  obtain ⟨h, h2⟩ := Finite.and_one _ _ _ h
  obtain ⟨h0, h1⟩ := Finite.and_one _ _ _ h
  have f0 : Fin1 x0 := Finite.of_all _ _ _ _ _ _ (fun i => Finite.inf_at _ i) h0
  have f1 : Fin1 x1 := Finite.of_all _ _ _ _ _ _ (fun i => Finite.inf_at _ i) h1
  have f2 : Fin1 x2 := Finite.of_all _ _ _ _ _ _ (fun i => Finite.inf_at _ i) h2
  have f3 : Fin1 x3 := Finite.of_all _ _ _ _ _ _ (fun i => Finite.inf_at _ i) h3
  have f4 : Fin1 x4 := Finite.of_all _ _ _ _ _ _ (fun i => Finite.inf_at _ i) h4
  have f5 : Fin1 x5 := Finite.of_all _ _ _ _ _ _ (fun i => Finite.inf_at _ i) h5
  exact ⟨fun r j => f0.back _, fun r j => f1.back _, fun r k => f2.back _, fun j => f3.back _, fun k j => f4.back _, fun k j => f5.back _⟩

/-! Each result array of the kernel is the reference's stage. -/

variable {m : (ℓ : Loc nD τ sig) → Buf (Elt Ideal) ℓ} {c : Dev nD} {P : Par} {T : Fin 8192 → Tok}
variable (h : Given (A0 m c) (A1 m c) (A2 m c) (A3 m c) (A4 m c) (A5 m c) P T)

include h

theorem tie_7 : (dats m 0 c).arrAt 7 cfg0.N = val_main_v58 (F := Ideal) (A0 m c) (A1 m c) (A2 m c) (A3 m c) (A4 m c) (A5 m c) := by
  refine (final_7 h).trans (funext fun i => ?_)
  obtain ⟨a, b, rfl⟩ : ∃ a b, i = ix2 a b := ⟨i 0, i 1, eq_ix2 i⟩
  exact (eX_at h a b).symm

theorem tie_8 : (dats m 0 c).arrAt 8 cfg0.N = val_main_v36 (F := Ideal) (A0 m c) (A1 m c) (A2 m c) (A3 m c) (A4 m c) (A5 m c) := by
  refine (final_8 h).trans (funext fun i => ?_)
  obtain ⟨a, b, rfl⟩ : ∃ a b, i = ix2 a b := ⟨i 0, i 1, eq_ix2 i⟩
  exact (dwg_at h a b).symm

theorem tie_9 : (dats m 0 c).arrAt 9 cfg0.N = val_main_v33 (F := Ideal) (A0 m c) (A1 m c) (A2 m c) (A3 m c) (A4 m c) := by
  refine (final_9 h).trans (funext fun i => ?_)
  obtain ⟨a, b, rfl⟩ : ∃ a b, i = ix2 a b := ⟨i 0, i 1, eq_ix2 i⟩
  exact (dwp_at h a b).symm

theorem tie_10 : (dats m 0 c).arrAt 10 cfg0.N = val_main_v59 (F := Ideal) (A0 m c) (A1 m c) (A2 m c) (A3 m c) (A4 m c) (A5 m c) := by
  refine (final_10 h).trans (funext fun i => ?_)
  obtain ⟨b, rfl⟩ := one_row i
  exact (dg_at h b).symm

end Cert.EmbedIdeal.EmbedValue

namespace Cert.Proof

open Cert.EmbedIdeal.EmbedValue Cert.EmbedRefIdeal.Read

theorem embed_ref_frame : Cert.quiescent_EmbedRefIdeal (hEmbedRefIdeal := Cert.EmbedRefIdeal.Gen.facts) :=
  fun m ρ _ => (θ_run Cert.EmbedRefIdeal.defs _ _).mono
    (fun r h => ⟨fun c => (h c).2.2.2.2, sem_eq_zero_of_no_sems (by decide) r.2⟩)
    (Cert.EmbedRefIdeal.Value.run (F := Ideal) m ρ)

set_option maxHeartbeats 4000000 in
theorem embed_algebraic : Cert.algebraic_EmbedIdeal_EmbedRefIdeal_pre_embed_finite (hEmbedIdeal := Cert.EmbedIdeal.Gen.facts)
    (hEmbedRefIdeal := Cert.EmbedRefIdeal.Gen.facts) (hPre_embed_finite := Cert.Pre_embed_finite.Gen.facts) := by
  intro m g m' g' hpre hagree
  refine ⟨fun c => val_main_v58 (F := Ideal) (A0 m c) (A1 m c) (A2 m c) (A3 m c) (A4 m c) (A5 m c),
    fun c => val_main_v36 (F := Ideal) (A0 m c) (A1 m c) (A2 m c) (A3 m c) (A4 m c) (A5 m c),
    fun c => val_main_v33 (F := Ideal) (A0 m c) (A1 m c) (A2 m c) (A3 m c) (A4 m c),
    fun c => val_main_v59 (F := Ideal) (A0 m c) (A1 m c) (A2 m c) (A3 m c) (A4 m c) (A5 m c),
    (θ_run Cert.EmbedIdeal.defs _ _).mono (fun r h c => ?_) (Cert.EmbedIdeal.Value.run_blocks m g),
    (θ_run Cert.EmbedRefIdeal.defs _ _).mono (fun r h c => ?_) (Cert.EmbedRefIdeal.Value.run m' g')⟩
  · have G := given_of_pre _ _ _ _ _ _ (hpre c)
    obtain ⟨e7, e8, e9, e10, hargs⟩ := h c
    exact ⟨e7.trans (tie_7 G), e8.trans (tie_8 G), e9.trans (tie_9 G), e10.trans (tie_10 G), hargs⟩
  · obtain ⟨a0, a1, a2, a3, a4, a5⟩ := hagree c
    obtain ⟨e7, e8, e9, e10, hargs⟩ := h c
    exact ⟨e7.trans ((val_main_v58_eq _ _).trans (Finite.same6 (val_main_v58 (F := Ideal)) a0 a1 a2 a3 a4 a5)),
      e8.trans ((val_main_v36_eq _ _ _ _ _ _).trans (Finite.same6 (val_main_v36 (F := Ideal)) a0 a1 a2 a3 a4 a5)),
      e9.trans ((val_main_v33_eq _ _ _ _ _).trans (Finite.same5 (val_main_v33 (F := Ideal)) a0 a1 a2 a3 a4)),
      e10.trans ((val_main_v59_eq _ _ _ _ _ _).trans (Finite.same6 (val_main_v59 (F := Ideal)) a0 a1 a2 a3 a4 a5)), hargs⟩

end Cert.Proof

end
-- ==== Proof.EmbedFwd.lean ====
/- The embedding's forward kernel at extended reals: its results are the reference's, of any arguments. -/
module

public import proofs.«01_k».proof.Defs
public import proofs.«01_k».proof.Proof.Finite
public import proofs.«01_k».proof.Proof.Gen.EmbedFwdIdeal.Value
public import proofs.«01_k».proof.Proof.Gen.EmbedFwdRefIdeal.Run
public import proofs.«01_k».proof.Proof.Gen.EmbedFwdRefIdeal.Read
public import Idealize.ShloMosaic.Lib.ValueIdx
public import Idealize.ShloMosaic.Lib.Claim
public import Idealize.ShloMosaic.Lib.Pointwise
public import Idealize.ShloMosaic.Lib.Pipeline.ValueKit
public import Idealize.ShloMosaic.Lib.StableHlo.ReadAt
public import Idealize.ShloMosaic.Lib.StableHlo.RunHlo

@[expose] public section

set_option maxRecDepth 16384

noncomputable section

open Idealize.ShloMosaic Idealize.ShloMosaic.TcCoe Idealize.SL.Sem
open Idealize.ShloMosaic.Pipeline (Dat)

namespace Cert.EmbedFwdIdeal.EmbedFwd

open Cert.EmbedFwdIdeal Cert.EmbedFwdIdeal.Gen
open Cert.EmbedFwdRefIdeal.Read

/-! One entry of a block and the reference's entry of the same row. -/

section entry

variable {b0 : FVec Ideal S1024x1024 .f32} {b1 : FVec Ideal S1x1024x256 .f32} {b2 : FVec Ideal S1x1x1024 .f32}
  {b3 : FVec Ideal S1x1024x1024 .bf16} {b4 : FVec Ideal S1x256x1024 .bf16}
  {x0 : FVec Ideal S8192x1024 .f32} {x1 : FVec Ideal S8192x256 .f32} {x2 : FVec Ideal S1024 .f32}
  {x3 : FVec Ideal S1024x1024 .f32} {x4 : FVec Ideal S256x1024 .f32} {row : Fin 1024 → Fin 8192}

/-- The blocks hold the rows `row` of the arguments. -/
structure Rows (b0 : FVec Ideal S1024x1024 .f32) (b1 : FVec Ideal S1x1024x256 .f32) (b2 : FVec Ideal S1x1x1024 .f32)
    (b3 : FVec Ideal S1x1024x1024 .bf16) (b4 : FVec Ideal S1x256x1024 .bf16) (x0 : FVec Ideal S8192x1024 .f32) (x1 : FVec Ideal S8192x256 .f32)
    (x2 : FVec Ideal S1024 .f32) (x3 : FVec Ideal S1024x1024 .f32) (x4 : FVec Ideal S256x1024 .f32) (row : Fin 1024 → Fin 8192) : Prop where
  x : ∀ a j, b0 (ix2 a j) = x0 (ix2 (row a) j)
  p : ∀ a k, b1 (ix3 0 a k) = x1 (ix2 (row a) k)
  g : ∀ j, b2 (ix3 0 0 j) = x2 (ix1 j)
  wg : ∀ k j, b3 (ix3 0 k j) = x3 (ix2 k j)
  wp : ∀ k j, b4 (ix3 0 k j) = x4 (ix2 k j)

variable (h : Rows b0 b1 b2 b3 b4 x0 x1 x2 x3 x4 row)

include h

theorem Rows.gate (a : Fin 1024) (j : Fin 1024) : k0_pay1 (F := Ideal) b0 b2 b3 (ix2 a j) = val_main_v19 (F := Ideal) x0 x2 x3 (ix2 (row a) j) := by
  pointwise [k0_pay1, val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_v18, val_main_v19,
    val_main_cst, val_main_cst_0, val_main_cst_1, val_main_cst_2, val_main_cst_3, h.x, h.g, h.wg]
  rfl

theorem Rows.pp (a : Fin 1024) (j : Fin 1024) : k0_pay2 (F := Ideal) b1 b4 (ix2 a j) = val_main_v20 (F := Ideal) x1 x4 (ix2 (row a) j) := by
  pointwise [k0_pay2, val_main_v20, h.p, h.wp]

theorem Rows.out5 (a : Fin 1024) (j : Fin 1024) :
    k0_pay5 (F := Ideal) b0 b2 b3 b1 b4 (ix2 a j) = val_main_v22 (F := Ideal) x0 x1 x2 x3 x4 (ix2 (row a) j) := by
  pointwise [k0_pay5, val_main_v21, val_main_v22, h.x, h.gate, h.pp]

theorem Rows.out6 (a : Fin 1024) (j : Fin 1024) : k0_pay3 (F := Ideal) b0 b2 b3 (ix2 a j) = val_main_v43 (F := Ideal) x0 x2 x3 (ix2 (row a) j) :=
  (show k0_pay3 (F := Ideal) b0 b2 b3 (ix2 a j) = k0_pay1 (F := Ideal) b0 b2 b3 (ix2 a j) from rfl).trans (h.gate a j)

theorem Rows.out7 (a : Fin 1024) (j : Fin 1024) : k0_pay4 (F := Ideal) b1 b4 (ix2 a j) = val_main_v45 (F := Ideal) x1 x4 (ix2 (row a) j) :=
  (show k0_pay4 (F := Ideal) b1 b4 (ix2 a j) = k0_pay2 (F := Ideal) b1 b4 (ix2 a j) from rfl).trans (h.pp a j)

end entry

variable (m : (ℓ : Loc nD τ sig) → Buf (Elt Ideal) ℓ) (c : Dev nD)

/-- Every window's block index at every grid point. -/
theorem idx : ∀ t : Fin cfg0.N, win0_0.index t = ![t.val, 0] ∧ win0_1.index t = ![0, t.val, 0] ∧ win0_2.index t = ![0, 0, 0]
    ∧ win0_3.index t = ![0, 0, 0] ∧ win0_4.index t = ![0, 0, 0] ∧ win0_5.index t = ![t.val, 0] ∧ win0_6.index t = ![t.val, 0]
    ∧ win0_7.index t = ![t.val, 0] :=
  (by decide +kernel : ∀ t : Fin grid0.N, _)

/-- Row `a` of the block of tokens point `t` works on. -/
abbrev row (t : Fin cfg0.N) (a : Fin 1024) : Fin 8192 := ⟨t.val * 1024 + a.val, by have := lt_of_lt_of_eq t.isLt N_0; omega⟩

abbrev A0 : FVec Ideal S8192x1024 .f32 := m ((c : Thread nD τ).loc main_arg0)
abbrev A1 : FVec Ideal S8192x256 .f32 := m ((c : Thread nD τ).loc main_arg1)
abbrev A2 : FVec Ideal S1024 .f32 := m ((c : Thread nD τ).loc main_arg2)
abbrev A3 : FVec Ideal S1024x1024 .f32 := m ((c : Thread nD τ).loc main_arg3)
abbrev A4 : FVec Ideal S256x1024 .f32 := m ((c : Thread nD τ).loc main_arg4)

theorem entry_1 (r : Fin 8192) (k : Fin 256) : V m c main_v0 (ix3 0 r k) = A1 m c (ix2 r k) := by
  unfold V
  simp only [hostOps0, List.flatten_cons, List.flatten_nil, List.cons_append, List.nil_append, List.append_nil]
  entry_read
  pointwise

theorem entry_2 (j : Fin 1024) : V m c main_v1 (ix3 0 0 j) = A2 m c (ix1 j) := by
  unfold V
  simp only [hostOps0, List.flatten_cons, List.flatten_nil, List.cons_append, List.nil_append, List.append_nil]
  entry_read
  pointwise

theorem entry_3 (k j : Fin 1024) : V m c main_v3 (ix3 0 k j) = A3 m c (ix2 k j) := by
  unfold V
  simp only [hostOps0, List.flatten_cons, List.flatten_nil, List.cons_append, List.nil_append, List.append_nil]
  entry_read
  pointwise

theorem entry_4 (k : Fin 256) (j : Fin 1024) : V m c main_v5 (ix3 0 k j) = A4 m c (ix2 k j) := by
  unfold V
  simp only [hostOps0, List.flatten_cons, List.flatten_nil, List.cons_append, List.nil_append, List.append_nil]
  entry_read
  pointwise

set_option maxHeartbeats 2000000 in
theorem rows (t : Fin cfg0.N) :
    Rows (iblk m c 0 t) (iblk m c 1 t) (iblk m c 2 t) (iblk m c 3 t) (iblk m c 4 t) (A0 m c) (A1 m c) (A2 m c) (A3 m c) (A4 m c) (row t) where
  x a j := by
    blk_point [iblk, V, idx t]
  p a k := by
    refine Eq.trans (congrArg (V m c main_v0) ?_) (entry_1 m c (row t a) k)
    blk_ext [idx t]
  g j := by
    refine Eq.trans (congrArg (V m c main_v1) ?_) (entry_2 m c j)
    blk_ext [idx t]
  wg k j := by
    refine Eq.trans (congrArg (V m c main_v3) ?_) (entry_3 m c k j)
    blk_ext [idx t]
  wp k j := by
    refine Eq.trans (congrArg (V m c main_v5) ?_) (entry_4 m c k j)
    blk_ext [idx t]

theorem emb_5 (t : Fin cfg0.N) (a : Fin 1024) (b : Fin 1024) : (win0_5.blk t).view.emb (ix2 a b) = (ix2 (row t a) b : S8192x1024.Idx) := by
  blk_ext [idx t]
theorem emb_6 (t : Fin cfg0.N) (a : Fin 1024) (b : Fin 1024) : (win0_6.blk t).view.emb (ix2 a b) = (ix2 (row t a) b : S8192x1024.Idx) := by
  blk_ext [idx t]
theorem emb_7 (t : Fin cfg0.N) (a : Fin 1024) (b : Fin 1024) : (win0_7.blk t).view.emb (ix2 a b) = (ix2 (row t a) b : S8192x1024.Idx) := by
  blk_ext [idx t]

theorem tie_5 : (dats m 0 c).arrAt 5 cfg0.N = val_main_v22 (F := Ideal) (A0 m c) (A1 m c) (A2 m c) (A3 m c) (A4 m c) := by
  refine (dats m 0 c).arrAt_eq_of_covers 5 _ (by decide +kernel) fun t hf y => ?_
  blk_simp
  rw [after0_5]
  obtain ⟨a, b, rfl⟩ : ∃ (a : Fin 1024) (b : Fin 1024), y = ix2 a b := ⟨y 0, y 1, eq_ix2 y⟩
  rw [emb_5]
  frame_out [out0_5]
  exact (rows m c t).out5 a b

theorem tie_6 : (dats m 0 c).arrAt 6 cfg0.N = val_main_v43 (F := Ideal) (A0 m c) (A2 m c) (A3 m c) := by
  refine (dats m 0 c).arrAt_eq_of_covers 6 _ (by decide +kernel) fun t hf y => ?_
  blk_simp
  rw [after0_6]
  obtain ⟨a, b, rfl⟩ : ∃ (a : Fin 1024) (b : Fin 1024), y = ix2 a b := ⟨y 0, y 1, eq_ix2 y⟩
  rw [emb_6]
  frame_out [out0_6]
  exact (rows m c t).out6 a b

theorem tie_7 : (dats m 0 c).arrAt 7 cfg0.N = val_main_v45 (F := Ideal) (A1 m c) (A4 m c) := by
  refine (dats m 0 c).arrAt_eq_of_covers 7 _ (by decide +kernel) fun t hf y => ?_
  blk_simp
  rw [after0_7]
  obtain ⟨a, b, rfl⟩ : ∃ (a : Fin 1024) (b : Fin 1024), y = ix2 a b := ⟨y 0, y 1, eq_ix2 y⟩
  rw [emb_7]
  frame_out [out0_7]
  exact (rows m c t).out7 a b

end Cert.EmbedFwdIdeal.EmbedFwd

namespace Cert.Proof

open Cert.EmbedFwdIdeal.EmbedFwd Cert.EmbedFwdRefIdeal.Read

theorem embed_fwd_ref_frame : Cert.quiescent_EmbedFwdRefIdeal (hEmbedFwdRefIdeal := Cert.EmbedFwdRefIdeal.Gen.facts) :=
  fun m ρ _ => (θ_run Cert.EmbedFwdRefIdeal.defs _ _).mono
    (fun r h => ⟨fun c => (h c).2.2.2, sem_eq_zero_of_no_sems (by decide) r.2⟩)
    (Cert.EmbedFwdRefIdeal.Value.run (F := Ideal) m ρ)

set_option maxHeartbeats 4000000 in
theorem embed_fwd_algebraic : Cert.algebraic_EmbedFwdIdeal_EmbedFwdRefIdeal (hEmbedFwdIdeal := Cert.EmbedFwdIdeal.Gen.facts)
    (hEmbedFwdRefIdeal := Cert.EmbedFwdRefIdeal.Gen.facts) := by
  intro m g m' g' _ hagree
  refine ⟨fun c => val_main_v22 (F := Ideal) (A0 m c) (A1 m c) (A2 m c) (A3 m c) (A4 m c),
    fun c => val_main_v43 (F := Ideal) (A0 m c) (A2 m c) (A3 m c), fun c => val_main_v45 (F := Ideal) (A1 m c) (A4 m c),
    (θ_run Cert.EmbedFwdIdeal.defs _ _).mono (fun r h c => ?_) (Cert.EmbedFwdIdeal.Value.run_blocks m g),
    (θ_run Cert.EmbedFwdRefIdeal.defs _ _).mono (fun r h c => ?_) (Cert.EmbedFwdRefIdeal.Value.run m' g')⟩
  · obtain ⟨e5, e6, e7, hargs⟩ := h c
    exact ⟨e5.trans (tie_5 m c), e6.trans (tie_6 m c), e7.trans (tie_7 m c), hargs⟩
  · obtain ⟨a0, a1, a2, a3, a4⟩ := hagree c
    obtain ⟨e5, e6, e7, hargs⟩ := h c
    exact ⟨e5.trans ((val_main_v22_eq _ _ _ _ _).trans (Finite.same5 (val_main_v22 (F := Ideal)) a0 a1 a2 a3 a4)),
      e6.trans ((val_main_v43_eq _ _ _).trans (Finite.same3 (val_main_v43 (F := Ideal)) a0 a2 a3)),
      e7.trans ((val_main_v45_eq _ _).trans (Finite.same2 (val_main_v45 (F := Ideal)) a1 a4)), hargs⟩

end Cert.Proof

end
-- ==== Proof.InputSpec.lean ====
/- The input projection of one token, gone back through, over the reals: `z` is the cotangent of the projected columns, `r` the
   cotangent that comes along the residual. -/
module

public import proofs.«01_k».proof.Proof.PleSpec

@[expose] public section

noncomputable section

open Idealize.ShloMosaic PleSpec

namespace InputSpec

/-- The weights. -/
structure Par where
  g : Row
  w : Fin 1024 → Fin 4352 → ℝ

/-- One token. -/
structure Tok where
  z : Fin 4352 → ℝ
  x : Row
  r : Row

variable (P : Par) (T : Tok)

/-- The cotangent of the normed token. -/
def dh : Row := fun j => ∑ k, T.z k * P.w j k
def dx : Row := fun j => T.r j + back T.x (dh P T) P.g j

end InputSpec

end
-- ==== Proof.InputPay.lean ====
/- One grid point of the input projection's backward kernel at extended reals, of real blocks: what it writes and what it adds. -/
module

public import proofs.«01_k».proof.Proof.InputSpec
public import proofs.«01_k».proof.Proof.Gen.InputIdeal.Skeleton
public import Idealize.ShloMosaic.Lib.ValueIdx
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.InputIdeal.InputPay

open Cert.InputIdeal Cert.InputIdeal.Gen PleSpec InputSpec

variable {z : FVec Ideal S512x4352 .bf16} {b9 : FVec Ideal S512x1024 .f32} {b10 : FVec Ideal S1x1x1024 .f32}
  {b11 : FVec Ideal S512x1024 .f32} {b12 : FVec Ideal S1x1024x4352 .bf16}

/-- The block's cotangents, put side by side, and the blocks a point loads hold these reals. -/
structure Blk (z : FVec Ideal S512x4352 .bf16) (b9 : FVec Ideal S512x1024 .f32) (b10 : FVec Ideal S1x1x1024 .f32)
    (b11 : FVec Ideal S512x1024 .f32) (b12 : FVec Ideal S1x1024x4352 .bf16) (P : InputSpec.Par) (T : Fin 512 → InputSpec.Tok) : Prop where
  z : ∀ a j, z (ix2 a j) = ((T a).z j : EReal)
  x : ∀ a j, b9 (ix2 a j) = ((T a).x j : EReal)
  g : ∀ j, b10 (ix3 0 0 j) = (P.g j : EReal)
  r : ∀ a j, b11 (ix2 a j) = ((T a).r j : EReal)
  w : ∀ j k, b12 (ix3 0 j k) = (P.w j k : EReal)

variable {P : InputSpec.Par} {T : Fin 512 → InputSpec.Tok} (h : Blk z b9 b10 b11 b12 P T)

include h

theorem Blk.pay13 (a : Fin 512) : k0_pay13 (F := Ideal) b9 (ix2 a 0) = (rs (T a).x : EReal) := by
  pointwise [k0_pay13, h.x]
  rw [var_real (T a).x _ (sum_real _ _ fun k => (EReal.coe_mul _ _).symm), rs_real]

theorem Blk.pay14 (a : Fin 512) (j : Fin 1024) : k0_pay14 (F := Ideal) b9 (ix2 a j) = (nrm (T a).x j : EReal) := by
  pointwise [k0_pay14, h.x, h.pay13]
  rw [← EReal.coe_mul]; rfl

theorem Blk.pay15 (a : Fin 512) (j : Fin 1024) : k0_pay15 (F := Ideal) z b12 (ix2 a j) = (InputSpec.dh P (T a) j : EReal) := by
  pointwise [k0_pay15, h.z, h.w]
  exact sum_real _ (fun k => (T a).z k * P.w j k) fun k => by rw [← EReal.coe_mul]

theorem Blk.pay16 (a : Fin 512) (j : Fin 1024) : k0_pay16 (F := Ideal) b10 z b12 (ix2 a j) = ((InputSpec.dh P (T a) j * P.g j : ℝ) : EReal) := by
  pointwise [k0_pay16, h.g, h.pay15]
  rw [← EReal.coe_mul]

theorem Blk.pay17 (a : Fin 512) :
    k0_pay17 (F := Ideal) b9 b10 z b12 (ix2 a 0) = ((∑ k, InputSpec.dh P (T a) k * P.g k * nrm (T a).x k : ℝ) : EReal) := by
  pointwise [k0_pay17, h.pay14, h.pay16]
  exact sum_real _ (fun k => InputSpec.dh P (T a) k * P.g k * nrm (T a).x k) fun k => by rw [← EReal.coe_mul]

theorem Blk.outX (a : Fin 512) (j : Fin 1024) :
    k0_pay1 (F := Ideal) (k0_pay13 b9) (k0_pay14 b9) (k0_pay16 b10 z b12) (k0_pay17 b9 b10 z b12) k0_pay18 b11 (ix2 a j)
      = (InputSpec.dx P (T a) j : EReal) := by
  pointwise [k0_pay1, k0_pay18, h.r, h.pay13, h.pay14, h.pay16, h.pay17]
  rw [div_real]
  simp only [← EReal.coe_mul, ← EReal.coe_sub, ← EReal.coe_add]; rfl

theorem Blk.outG (acc : FVec Ideal S1x1024 .f32) (j : Fin 1024) :
    k0_pay2 (F := Ideal) (k0_pay14 b9) (k0_pay15 z b12) acc (ix2 0 j)
      = acc (ix2 0 j) + ((∑ a, InputSpec.dh P (T a) j * nrm (T a).x j : ℝ) : EReal) := by
  pointwise [k0_pay2, h.pay14, h.pay15]
  rw [sum_real _ (fun a => InputSpec.dh P (T a) j * nrm (T a).x j) fun a => by rw [← EReal.coe_mul]]

end Cert.InputIdeal.InputPay

end
-- ==== Proof.InputRef.lean ====
/- The reference of the input projection's gradients: each stage, read at an entry, of real arguments. -/
module

public import proofs.«01_k».proof.Proof.InputSpec
public import proofs.«01_k».proof.Proof.Gen.InputRefIdeal.Read
public import Idealize.ShloMosaic.Lib.Pointwise

@[expose] public section

set_option maxRecDepth 16384

noncomputable section

open Idealize.ShloMosaic Idealize.ShloMosaic.TcCoe Idealize.SL.Sem

namespace Cert.InputRefIdeal.InputRef

open Cert.InputRefIdeal Cert.InputRefIdeal.Read PleSpec InputSpec

variable {x0 : FVec Ideal S8192x4352 .f32} {x1 : FVec Ideal S8192x1024 .f32} {x2 : FVec Ideal S1024 .f32}
  {x3 : FVec Ideal S8192x1024 .f32} {x4 : FVec Ideal S1024x4352 .f32}

/-- The arguments are these reals. -/
structure Given (x0 : FVec Ideal S8192x4352 .f32) (x1 : FVec Ideal S8192x1024 .f32) (x2 : FVec Ideal S1024 .f32)
    (x3 : FVec Ideal S8192x1024 .f32) (x4 : FVec Ideal S1024x4352 .f32) (P : InputSpec.Par) (T : Fin 8192 → InputSpec.Tok) : Prop where
  z : ∀ r j, x0 (ix2 r j) = ((T r).z j : EReal)
  x : ∀ r j, x1 (ix2 r j) = ((T r).x j : EReal)
  g : ∀ j, x2 (ix1 j) = (P.g j : EReal)
  r : ∀ r j, x3 (ix2 r j) = ((T r).r j : EReal)
  w : ∀ j k, x4 (ix2 j k) = (P.w j k : EReal)

variable {P : InputSpec.Par} {T : Fin 8192 → InputSpec.Tok} (h : Given x0 x1 x2 x3 x4 P T)

include h

theorem var_at (r : Fin 8192) : val_main_v6 (F := Ideal) x1 (ix2 r 0) = (var (T r).x : EReal) := by
  pointwise [val_main_v0, val_main_v1, val_main_v2, val_main_v3, val_main_v4, val_main_v5, val_main_v6, val_main_cst, val_main_cst_0, val_main_cst_1, h.x]
  rw [var_real (T r).x _ (sum_real _ _ fun k => (EReal.coe_mul _ _).symm)]

theorem rs_at (r : Fin 8192) : val_main_v7 (F := Ideal) x1 (ix2 r 0) = (rs (T r).x : EReal) := by
  pointwise [val_main_v7, var_at h]
  rw [rs_real]

theorem cube_at (r : Fin 8192) : val_main_v10 (F := Ideal) x1 (ix2 r 0) = ((-(1 / 2) * (rs (T r).x / var (T r).x) : ℝ) : EReal) := by
  pointwise [val_main_v8, val_main_v9, val_main_v10, val_main_cst_2, var_at h, rs_at h]
  rw [div_any _ _ (var_pos _).ne', word_neg, ← EReal.coe_mul]

theorem nrm_at (r : Fin 8192) (j : Fin 1024) : val_main_v12 (F := Ideal) x1 (ix2 r j) = (nrm (T r).x j : EReal) := by
  pointwise [val_main_v11, val_main_v12, rs_at h, h.x]
  rw [← EReal.coe_mul]; rfl

theorem dh_at (r : Fin 8192) (j : Fin 1024) : val_main_v17 (F := Ideal) x0 x4 (ix2 r j) = (InputSpec.dh P (T r) j : EReal) := by
  pointwise [val_main_v17, h.z, h.w]
  exact sum_real _ (fun k => (T r).z k * P.w j k) fun k => by rw [← EReal.coe_mul]

theorem dhg_at (r : Fin 8192) (j : Fin 1024) : val_main_v22 (F := Ideal) x0 x2 x4 (ix2 r j) = ((InputSpec.dh P (T r) j * P.g j : ℝ) : EReal) := by
  pointwise [val_main_v13, val_main_v21, val_main_v22, dh_at h, h.g]
  rw [← EReal.coe_mul]

theorem q_at (r : Fin 8192) : val_main_v33 (F := Ideal) x0 x1 x2 x4 (ix1 r)
    = (((∑ k, (T r).x k * (InputSpec.dh P (T r) k * P.g k)) * (-(1 / 2) * (rs (T r).x / var (T r).x)) / 1024 : ℝ) : EReal) := by
  pointwise [val_main_v24, val_main_v25, val_main_v26, val_main_v30, val_main_v31, val_main_v32, val_main_v33, val_main_cst_5, val_main_cst_6,
    val_main_cst_7, dhg_at h, h.x, cube_at h]
  refine (Fin.sum_univ_one _).trans ?_
  rw [cube_at h, sum_real _ (fun k => (T r).x k * (InputSpec.dh P (T r) k * P.g k)) fun k => by rw [← EReal.coe_mul], ← EReal.coe_mul, div_real]

/-! The results. -/

theorem dx_at (r : Fin 8192) (j : Fin 1024) : val_main_v38 (F := Ideal) x0 x1 x2 x3 x4 (ix2 r j) = (InputSpec.dx P (T r) j : EReal) := by
  pointwise [val_main_v27, val_main_v28, val_main_v29, val_main_v34, val_main_v35, val_main_v36, val_main_v37, val_main_v38, h.r, dhg_at h, rs_at h,
    h.x, q_at h]
  simp only [← EReal.coe_mul, ← EReal.coe_add]
  refine congrArg _ ?_
  rw [InputSpec.dx, ← back_eq (T r).x (InputSpec.dh P (T r)) P.g j]
  ring

theorem dg_at (j : Fin 1024) : val_main_v40 (F := Ideal) x0 x1 x4 (ix2 0 j) = ((∑ r, InputSpec.dh P (T r) j * nrm (T r).x j : ℝ) : EReal) := by
  pointwise [val_main_v18, val_main_v19, val_main_v20, val_main_v23, val_main_v40, val_main_cst_3, val_main_cst_4, dh_at h, nrm_at h]
  refine (Fin.sum_univ_one _).trans ?_
  exact sum_real _ (fun r => InputSpec.dh P (T r) j * nrm (T r).x j) fun r => by rw [← EReal.coe_mul]; congr 1; ring

end Cert.InputRefIdeal.InputRef

end
-- ==== Proof.InputValue.lean ====
/- The input projection's backward kernel at extended reals: the arrays it loads, of real arguments. -/
module

public import proofs.«01_k».proof.Proof.InputPay
public import proofs.«01_k».proof.Proof.InputRef
public import proofs.«01_k».proof.Proof.Gen.InputIdeal.Value
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InputIdeal.InputValue

open Cert.InputIdeal Cert.InputIdeal.Gen PleSpec InputSpec Cert.InputIdeal.InputPay
open Cert.InputRefIdeal.InputRef (Given)

variable (m : (ℓ : Loc nD τ sig) → Buf (Elt Ideal) ℓ) (c : Dev nD)

/-- Every window's block index at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0, 0]
    ∧ win0_11.index t = ![t.val, 0] ∧ win0_12.index t = ![0, 0, 0] ∧ win0_13.index t = ![t.val, 0] ∧ win0_14.index t = ![t.val, 0]
    ∧ win0_15.index t = ![0, 0] :=
  (by decide +kernel : ∀ t : Fin grid0.N, _)

/-- Row `a` of the block of tokens point `t` works on. -/
abbrev row (t : Fin cfg0.N) (a : Fin 512) : Fin 8192 := ⟨t.val * 512 + a.val, by have := lt_of_lt_of_eq t.isLt N_0; omega⟩

/-- Column `j` of a piece that starts at column `o`. -/
abbrev col (o : Nat) {w : Nat} (hw : o + w ≤ 4352) (j : Fin w) : Fin 4352 := ⟨o + j.val, by have := j.isLt; omega⟩

abbrev A0 : FVec Ideal S8192x4352 .f32 := m ((c : Thread nD τ).loc main_arg0)
abbrev A1 : FVec Ideal S8192x1024 .f32 := m ((c : Thread nD τ).loc main_arg1)
abbrev A2 : FVec Ideal S1024 .f32 := m ((c : Thread nD τ).loc main_arg2)
abbrev A3 : FVec Ideal S8192x1024 .f32 := m ((c : Thread nD τ).loc main_arg3)
abbrev A4 : FVec Ideal S1024x4352 .f32 := m ((c : Thread nD τ).loc main_arg4)

/-! The arrays the kernel loads, read at an entry. -/

theorem piece_0 (r : Fin 8192) (j : Fin 1024) : V m c main_v9 (ix2 r j) = A0 m c (ix2 r (col 0 (by decide) j)) := by
  unfold V
  simp only [hostOps0, List.flatten_cons, List.flatten_nil, List.cons_append, List.nil_append, List.append_nil]
  entry_read
  pointwise
  exact congrArg (fun k => A0 m c (ix2 r k)) (Fin.ext (Nat.zero_add _).symm)

theorem piece_1 (r : Fin 8192) (j : Fin 1024) : V m c main_v10 (ix2 r j) = A0 m c (ix2 r (col 1024 (by decide) j)) := by
  unfold V
  simp only [hostOps0, List.flatten_cons, List.flatten_nil, List.cons_append, List.nil_append, List.append_nil]
  entry_read
  pointwise

theorem piece_2 (r : Fin 8192) (j : Fin 512) : V m c main_v11 (ix2 r j) = A0 m c (ix2 r (col 2048 (by decide) j)) := by
  unfold V
  simp only [hostOps0, List.flatten_cons, List.flatten_nil, List.cons_append, List.nil_append, List.append_nil]
  entry_read
  pointwise

theorem piece_3 (r : Fin 8192) (j : Fin 512) : V m c main_v12 (ix2 r j) = A0 m c (ix2 r (col 2560 (by decide) j)) := by
  unfold V
  simp only [hostOps0, List.flatten_cons, List.flatten_nil, List.cons_append, List.nil_append, List.append_nil]
  entry_read
  pointwise

theorem piece_4 (r : Fin 8192) (j : Fin 512) : V m c main_v13 (ix2 r j) = A0 m c (ix2 r (col 3072 (by decide) j)) := by
  unfold V
  simp only [hostOps0, List.flatten_cons, List.flatten_nil, List.cons_append, List.nil_append, List.append_nil]
  entry_read
  pointwise

theorem piece_5 (r : Fin 8192) (j : Fin 256) : V m c main_v14 (ix2 r j) = A0 m c (ix2 r (col 3584 (by decide) j)) := by
  unfold V
  simp only [hostOps0, List.flatten_cons, List.flatten_nil, List.cons_append, List.nil_append, List.append_nil]
  entry_read
  pointwise

theorem piece_6 (r : Fin 8192) (j : Fin 256) : V m c main_v6 (ix2 r j) = A0 m c (ix2 r (col 3840 (by decide) j)) := by
  unfold V
  simp only [hostOps0, List.flatten_cons, List.flatten_nil, List.cons_append, List.nil_append, List.append_nil]
  entry_read
  pointwise

theorem piece_7 (r : Fin 8192) (j : Fin 128) : V m c main_v15 (ix2 r j) = A0 m c (ix2 r (col 4096 (by decide) j)) := by
  unfold V
  simp only [hostOps0, List.flatten_cons, List.flatten_nil, List.cons_append, List.nil_append, List.append_nil]
  entry_read
  pointwise

theorem piece_8 (r : Fin 8192) (j : Fin 128) : V m c main_v16 (ix2 r j) = A0 m c (ix2 r (col 4224 (by decide) j)) := by
  unfold V
  simp only [hostOps0, List.flatten_cons, List.flatten_nil, List.cons_append, List.nil_append, List.append_nil]
  entry_read
  pointwise

theorem entry_10 (j : Fin 1024) : V m c main_v17 (ix3 0 0 j) = A2 m c (ix1 j) := by
  unfold V
  simp only [hostOps0, List.flatten_cons, List.flatten_nil, List.cons_append, List.nil_append, List.append_nil]
  entry_read
  pointwise

theorem entry_12 (j : Fin 1024) (k : Fin 4352) : V m c main_v19 (ix3 0 j k) = A4 m c (ix2 j k) := by
  unfold V
  simp only [hostOps0, List.flatten_cons, List.flatten_nil, List.cons_append, List.nil_append, List.append_nil]
  entry_read
  pointwise

/-! Each piece of a block, as the kernel stores it. -/

theorem part_0 (t : Fin cfg0.N) (a : Fin 512) (j : Fin 1024) :
    k0_pay4 (F := Ideal) (iblk m c 0 t) (ix2 a j) = A0 m c (ix2 (row t a) (col 0 (by decide) j)) := by
  pointwise [k0_pay4]
  refine Eq.trans (congrArg (V m c main_v9) ?_) (piece_0 m c (row t a) j)
  blk_ext [idx t]

theorem part_1 (t : Fin cfg0.N) (a : Fin 512) (j : Fin 1024) :
    k0_pay5 (F := Ideal) (iblk m c 1 t) (ix2 a j) = A0 m c (ix2 (row t a) (col 1024 (by decide) j)) := by
  pointwise [k0_pay5]
  refine Eq.trans (congrArg (V m c main_v10) ?_) (piece_1 m c (row t a) j)
  blk_ext [idx t]

theorem part_2 (t : Fin cfg0.N) (a : Fin 512) (j : Fin 512) :
    k0_pay6 (F := Ideal) (iblk m c 2 t) (ix2 a j) = A0 m c (ix2 (row t a) (col 2048 (by decide) j)) := by
  pointwise [k0_pay6]
  refine Eq.trans (congrArg (V m c main_v11) ?_) (piece_2 m c (row t a) j)
  blk_ext [idx t]

theorem part_3 (t : Fin cfg0.N) (a : Fin 512) (j : Fin 512) :
    k0_pay7 (F := Ideal) (iblk m c 3 t) (ix2 a j) = A0 m c (ix2 (row t a) (col 2560 (by decide) j)) := by
  pointwise [k0_pay7]
  refine Eq.trans (congrArg (V m c main_v12) ?_) (piece_3 m c (row t a) j)
  blk_ext [idx t]

theorem part_4 (t : Fin cfg0.N) (a : Fin 512) (j : Fin 512) :
    k0_pay8 (F := Ideal) (iblk m c 4 t) (ix2 a j) = A0 m c (ix2 (row t a) (col 3072 (by decide) j)) := by
  pointwise [k0_pay8]
  refine Eq.trans (congrArg (V m c main_v13) ?_) (piece_4 m c (row t a) j)
  blk_ext [idx t]

theorem part_5 (t : Fin cfg0.N) (a : Fin 512) (j : Fin 256) :
    k0_pay9 (F := Ideal) (iblk m c 5 t) (ix2 a j) = A0 m c (ix2 (row t a) (col 3584 (by decide) j)) := by
  pointwise [k0_pay9]
  refine Eq.trans (congrArg (V m c main_v14) ?_) (piece_5 m c (row t a) j)
  blk_ext [idx t]

theorem part_6 (t : Fin cfg0.N) (a : Fin 512) (j : Fin 256) :
    k0_pay10 (F := Ideal) (iblk m c 6 t) (ix2 a j) = A0 m c (ix2 (row t a) (col 3840 (by decide) j)) := by
  pointwise [k0_pay10]
  refine Eq.trans (congrArg (V m c main_v6) ?_) (piece_6 m c (row t a) j)
  blk_ext [idx t]

theorem part_7 (t : Fin cfg0.N) (a : Fin 512) (j : Fin 128) :
    k0_pay11 (F := Ideal) (iblk m c 7 t) (ix2 a j) = A0 m c (ix2 (row t a) (col 4096 (by decide) j)) := by
  pointwise [k0_pay11]
  refine Eq.trans (congrArg (V m c main_v15) ?_) (piece_7 m c (row t a) j)
  blk_ext [idx t]

theorem part_8 (t : Fin cfg0.N) (a : Fin 512) (j : Fin 128) :
    k0_pay12 (F := Ideal) (iblk m c 8 t) (ix2 a j) = A0 m c (ix2 (row t a) (col 4224 (by decide) j)) := by
  pointwise [k0_pay12]
  refine Eq.trans (congrArg (V m c main_v16) ?_) (piece_8 m c (row t a) j)
  blk_ext [idx t]

/-- The nine stores that put the block's cotangents side by side, the last one first. -/
abbrev stores (t : Fin cfg0.N) : List (View.Piece (Elt Ideal) S512x4352 .bf16) :=
  [⟨Rect.unit ![0, 4224] ![512, 128] inb_S512x4352_S512x128_0_4224, k0_pay12 (iblk m c 8 t)⟩,
    ⟨Rect.unit ![0, 4096] ![512, 128] inb_S512x4352_S512x128_0_4096, k0_pay11 (iblk m c 7 t)⟩,
    ⟨Rect.unit ![0, 3840] ![512, 256] inb_S512x4352_S512x256_0_3840, k0_pay10 (iblk m c 6 t)⟩,
    ⟨Rect.unit ![0, 3584] ![512, 256] inb_S512x4352_S512x256_0_3584, k0_pay9 (iblk m c 5 t)⟩,
    ⟨Rect.unit ![0, 3072] ![512, 512] inb_S512x4352_S512x512_0_3072, k0_pay8 (iblk m c 4 t)⟩,
    ⟨Rect.unit ![0, 2560] ![512, 512] inb_S512x4352_S512x512_0_2560, k0_pay7 (iblk m c 3 t)⟩,
    ⟨Rect.unit ![0, 2048] ![512, 512] inb_S512x4352_S512x512_0_2048, k0_pay6 (iblk m c 2 t)⟩,
    ⟨Rect.unit ![0, 1024] ![512, 1024] inb_S512x4352_S512x1024_0_1024, k0_pay5 (iblk m c 1 t)⟩,
    ⟨Rect.unit ![0, 0] ![512, 1024] inb_S512x4352_S512x1024_0_0, k0_pay4 (iblk m c 0 t)⟩]

theorem same (t : Fin cfg0.N) {a p : Fin 512} {b : Fin 4352} {o w : Nat} (hw : o + w ≤ 4352) {q : Fin w} (ha : a.val = p.val)
    (hb : b.val = o + q.val) : A0 m c (ix2 (row t p) (col o hw q)) = A0 m c (ix2 (row t a) b) := by
  obtain rfl := Fin.ext ha
  rw [show col o hw q = b from Fin.ext hb.symm]

/-- Put side by side they are the block's rows of the cotangent. -/
theorem stored (t : Fin cfg0.N) (a : Fin 512) (b : Fin 4352) : View.canon (stores m c t) (ix2 a b) = A0 m c (ix2 (row t a) b) := by
  canon_tiles x h using View.cover_of_tiledBy _ ![512, 128] (by sl_kernel_rfl) _
  all_goals
    rw [eq_ix2 x]
  · exact (part_8 m c t _ _).trans (same m c t _ h0 (by first | exact h1 | (simpa using h1)))
  · exact (part_7 m c t _ _).trans (same m c t _ h0 (by first | exact h1 | (simpa using h1)))
  · exact (part_6 m c t _ _).trans (same m c t _ h0 (by first | exact h1 | (simpa using h1)))
  · exact (part_5 m c t _ _).trans (same m c t _ h0 (by first | exact h1 | (simpa using h1)))
  · exact (part_4 m c t _ _).trans (same m c t _ h0 (by first | exact h1 | (simpa using h1)))
  · exact (part_3 m c t _ _).trans (same m c t _ h0 (by first | exact h1 | (simpa using h1)))
  · exact (part_2 m c t _ _).trans (same m c t _ h0 (by first | exact h1 | (simpa using h1)))
  · exact (part_1 m c t _ _).trans (same m c t _ h0 (by first | exact h1 | (simpa using h1)))
  · exact (part_0 m c t _ _).trans (same m c t _ h0 (by first | exact h1 | (simpa using h1)))

/-- What the point reads back after the nine stores. -/
abbrev joined (t : Fin cfg0.N) (v : View sig .tc .vmem S512x4352 .bf16) : FVec Ideal S512x4352 .bf16 :=
  v.readCov (stores m c t) (Rect.unit (s := S512x4352) ![0, 0] ![512, 4352] inb_S512x4352_S512x4352_0_0).toLoadRect

theorem loaded (t : Fin cfg0.N) (v : View sig .tc .vmem S512x4352 .bf16) (a : Fin 512) (b : Fin 4352) :
    joined m c t v (ix2 a b) = A0 m c (ix2 (row t a) b) := by
  unfold joined
  rw [View.readCov_eq_canon']
  refine Eq.trans ?_ (stored m c t a b)
  refine congrArg (View.canon (stores m c t)) ?_
  funext i
  match i with
  | ⟨0, _⟩ => exact Fin.ext (by show 0 + 1 * a.val = a.val; omega)
  | ⟨1, _⟩ => exact Fin.ext (by show 0 + 1 * b.val = b.val; omega)

variable {m c} {P : InputSpec.Par} {T : Fin 8192 → InputSpec.Tok}
variable (h : Given (A0 m c) (A1 m c) (A2 m c) (A3 m c) (A4 m c) P T)

include h

set_option maxHeartbeats 2000000 in
/-- The blocks of point `t` hold the reals of its tokens. -/
theorem blk (t : Fin cfg0.N) (v : View sig .tc .vmem S512x4352 .bf16) :
    Blk (joined m c t v) (iblk m c 9 t) (iblk m c 10 t) (iblk m c 11 t) (iblk m c 12 t) P (fun a => T (row t a)) where
  z a j := (loaded m c t v a j).trans (h.z (row t a) j)
  x a j := by
    refine Eq.trans ?_ (h.x (row t a) j)
    blk_point [iblk, V, idx t]
  g j := by
    refine Eq.trans (Eq.trans (congrArg (V m c main_v17) ?_) (entry_10 m c j)) (h.g j)
    blk_ext [idx t]
  r a j := by
    refine Eq.trans ?_ (h.r (row t a) j)
    blk_point [iblk, V, idx t]
  w j k := by
    refine Eq.trans (Eq.trans (congrArg (V m c main_v19) ?_) (entry_12 m c j k)) (h.w j k)
    blk_ext [idx t]

end Cert.InputIdeal.InputValue

end
-- ==== Proof.InputClaim.lean ====
/- The input projection's gradients: each result array of the kernel, and that it is the reference's. -/
module

public import proofs.«01_k».proof.Defs
public import proofs.«01_k».proof.Proof.InputValue
public import proofs.«01_k».proof.Proof.Finite
public import proofs.«01_k».proof.Proof.Gen.InputRefIdeal.Run
public import proofs.«01_k».proof.Proof.Gen.InputRefIdeal.Read
public import Idealize.ShloMosaic.Lib.StableHlo.RunHlo
public import proofs.«01_k».proof.Proof.Gen.Pre_input_finite

@[expose] public section

set_option maxRecDepth 16384

noncomputable section

open Idealize.ShloMosaic Idealize.ShloMosaic.TcCoe Idealize.SL.Sem
open Idealize.ShloMosaic.Pipeline (Dat)

namespace Cert.InputIdeal.InputValue

open Cert.InputIdeal Cert.InputIdeal.Gen PleSpec InputSpec
open Cert.InputRefIdeal.Read
open Cert.InputRefIdeal.InputRef

/-- Every entry is finite. -/
abbrev Fin1 {s : Shape} (x : FVec Ideal s .f32) : Prop := ∀ i, x i ≠ (⊤ : EReal) ∧ x i ≠ (⊥ : EReal)

theorem Fin1.back {s : Shape} {x : FVec Ideal s .f32} (h : Fin1 x) (i : s.Idx) : x i = (((x i : EReal).toReal : ℝ) : EReal) :=
  (EReal.coe_toReal (h i).1 (h i).2).symm

/-- The precondition: every argument is finite, so its entries are the reals they read as. -/
theorem given_of_pre (x0 : FVec Ideal S8192x4352 .f32) (x1 : FVec Ideal S8192x1024 .f32) (x2 : FVec Ideal S1024 .f32)
    (x3 : FVec Ideal S8192x1024 .f32) (x4 : FVec Ideal S1024x4352 .f32)
    (h : Cert.Pre_input_finite.fn (F := Ideal) x0 x1 x2 x3 x4 = fun _ => 1#1) :
    Given x0 x1 x2 x3 x4 ⟨fun j => (x2 (ix1 j) : EReal).toReal, fun j k => (x4 (ix2 j k) : EReal).toReal⟩
      (fun r => ⟨fun j => (x0 (ix2 r j) : EReal).toReal, fun j => (x1 (ix2 r j) : EReal).toReal, fun j => (x3 (ix2 r j) : EReal).toReal⟩) := by
  have h := congrFun h ix0
  dsimp only [Cert.Pre_input_finite.fn, Cert.Pre_input_finite.fn_part1] at h
  obtain ⟨h, h4⟩ := Finite.and_one _ _ _ h
  obtain ⟨h, h3⟩ := Finite.and_one _ _ _ h
  obtain ⟨h, h2⟩ := Finite.and_one _ _ _ h
  obtain ⟨h0, h1⟩ := Finite.and_one _ _ _ h
  have f0 : Fin1 x0 := Finite.of_all _ _ _ _ _ _ (fun i => Finite.inf_at _ i) h0
  have f1 : Fin1 x1 := Finite.of_all _ _ _ _ _ _ (fun i => Finite.inf_at _ i) h1
  have f2 : Fin1 x2 := Finite.of_all _ _ _ _ _ _ (fun i => Finite.inf_at _ i) h2
  have f3 : Fin1 x3 := Finite.of_all _ _ _ _ _ _ (fun i => Finite.inf_at _ i) h3
  have f4 : Fin1 x4 := Finite.of_all _ _ _ _ _ _ (fun i => Finite.inf_at _ i) h4
  exact ⟨fun r j => f0.back _, fun r j => f1.back _, fun j => f2.back _, fun r j => f3.back _, fun j k => f4.back _⟩

variable {m : (ℓ : Loc nD τ sig) → Buf (Elt Ideal) ℓ} {c : Dev nD} {P : InputSpec.Par} {T : Fin 8192 → InputSpec.Tok}

/-- A sum over the grid points of the sums over each point's tokens is the sum over all tokens. -/
theorem points_sum (f : Fin 8192 → ℝ) : ∑ t : Fin cfg0.N, ((∑ a : Fin 512, f (row t a) : ℝ) : EReal) = ((∑ r, f r : ℝ) : EReal) :=
  (sum_real _ _ fun t => rfl).trans (congrArg _ (Fin.sum_univ_tiles cfg0.N 512 (congrArg (· * 512) N_0) f).symm)

theorem zero_at : k0_pay3 (F := Ideal) = fun _ => (0 : EReal) := funext fun _ => by pointwise [k0_pay3]

theorem one_row {k : Nat} (i : (⟨2, ![1, k]⟩ : Shape).Idx) : ∃ b : Fin k, i = ix2 0 b :=
  ⟨i 1, (eq_ix2 i).trans (congrArg (fun z : Fin 1 => ix2 z (i 1)) (Subsingleton.elim (α := Fin 1) (i 0) 0))⟩

theorem emb_13 (t : Fin cfg0.N) (a : Fin 512) (b : Fin 1024) : (win0_13.blk t).view.emb (ix2 a b) = (ix2 (row t a) b : S8192x1024.Idx) := by
  blk_ext [idx t]
theorem emb_14 (t : Fin cfg0.N) (a : Fin 512) (b : Fin 4352) : (win0_14.blk t).view.emb (ix2 a b) = (ix2 (row t a) b : S8192x4352.Idx) := by
  blk_ext [idx t]

/-! Each result array of the kernel is the reference's stage. -/

theorem tie_14 : (dats m 0 c).arrAt 14 cfg0.N = val_main_v39 (F := Ideal) (A0 m c) := by
  refine (dats m 0 c).arrAt_eq_of_covers 14 _ (by decide +kernel) fun t hf y => ?_
  blk_simp
  rw [after0_14]
  obtain ⟨a, b, rfl⟩ : ∃ (a : Fin 512) (b : Fin 4352), y = ix2 a b := ⟨y 0, y 1, eq_ix2 y⟩
  rw [emb_14]
  by_cases hz : t.val % 16 = 0
  · rw [outsAt0_A m c t hz]
    dsimp only
    frame_out
    exact stored m c t a b
  · rw [outsAt0_B m c t hz]
    dsimp only
    frame_out
    exact stored m c t a b

variable (h : Given (A0 m c) (A1 m c) (A2 m c) (A3 m c) (A4 m c) P T)

include h

theorem tie_13 : (dats m 0 c).arrAt 13 cfg0.N = val_main_v38 (F := Ideal) (A0 m c) (A1 m c) (A2 m c) (A3 m c) (A4 m c) := by
  refine (dats m 0 c).arrAt_eq_of_covers 13 _ (by decide +kernel) fun t hf y => ?_
  blk_simp
  rw [after0_13]
  obtain ⟨a, b, rfl⟩ : ∃ (a : Fin 512) (b : Fin 1024), y = ix2 a b := ⟨y 0, y 1, eq_ix2 y⟩
  rw [emb_13]
  refine Eq.trans ?_ (dx_at h (row t a) b).symm
  by_cases hz : t.val % 16 = 0
  · rw [outsAt0_A m c t hz]
    dsimp only
    frame_out
    exact (blk h t (ms0_14 t).view).outX a b
  · rw [outsAt0_B m c t hz]
    dsimp only
    frame_out
    exact (blk h t (ms0_14 t).view).outX a b

theorem final_15 : (dats m 0 c).arrAt 15 (cfgs 0).N = fun i : S1x1024.Idx => ((∑ r, InputSpec.dh P (T r) (i 1) * nrm (T r).x (i 1) : ℝ) : EReal) := by
  refine (dats m 0 c).arrAt_eq_of_after_last 15 t0_15 (by decide +kernel) _ fun y => ?_
  blk_simp
  rw [after0_15, Pipeline.eq_sum_fin_of_reset_step_apply_last (fun n h => (outsAt0 m c n h).2.2) 16 (fun _ => 0)
    (fun t (i : S1x1024.Idx) => ((∑ a, InputSpec.dh P (T (row t a)) (i 1) * nrm (T (row t a)).x (i 1) : ℝ) : EReal))
    (fun t hz i => by
      obtain ⟨b, rfl⟩ := one_row i
      rw [outsAt0_A m c t hz]
      frame_out
      refine ((blk h t (ms0_14 t).view).outG _ b).trans ?_
      rw [zero_at]
      rfl)
    (fun t hz i => by
      obtain ⟨b, rfl⟩ := one_row i
      rw [outsAt0_B m c t hz]
      frame_out
      exact (blk h t (ms0_14 t).view).outG _ b)
    (le_of_eq N_0) t0_15 rfl y, zero_add]
  exact points_sum fun r => InputSpec.dh P (T r) (y 1) * nrm (T r).x (y 1)

theorem tie_15 : (dats m 0 c).arrAt 15 cfg0.N = val_main_v40 (F := Ideal) (A0 m c) (A1 m c) (A4 m c) := by
  refine (final_15 h).trans (funext fun i => ?_)
  obtain ⟨b, rfl⟩ := one_row i
  exact (dg_at h b).symm

end Cert.InputIdeal.InputValue

namespace Cert.Proof

open Cert.InputIdeal.InputValue Cert.InputRefIdeal.Read

theorem input_ref_frame : Cert.quiescent_InputRefIdeal (hInputRefIdeal := Cert.InputRefIdeal.Gen.facts) :=
  fun m ρ _ => (θ_run Cert.InputRefIdeal.defs _ _).mono
    (fun r h => ⟨fun c => (h c).2.2.2, sem_eq_zero_of_no_sems (by decide) r.2⟩)
    (Cert.InputRefIdeal.Value.run (F := Ideal) m ρ)

set_option maxHeartbeats 4000000 in
theorem input_algebraic : Cert.algebraic_InputIdeal_InputRefIdeal_pre_input_finite (hInputIdeal := Cert.InputIdeal.Gen.facts)
    (hInputRefIdeal := Cert.InputRefIdeal.Gen.facts) (hPre_input_finite := Cert.Pre_input_finite.Gen.facts) := by
  intro m g m' g' hpre hagree
  refine ⟨fun c => val_main_v38 (F := Ideal) (A0 m c) (A1 m c) (A2 m c) (A3 m c) (A4 m c), fun c => val_main_v39 (F := Ideal) (A0 m c),
    fun c => val_main_v40 (F := Ideal) (A0 m c) (A1 m c) (A4 m c),
    (θ_run Cert.InputIdeal.defs _ _).mono (fun r h c => ?_) (Cert.InputIdeal.Value.run_blocks m g),
    (θ_run Cert.InputRefIdeal.defs _ _).mono (fun r h c => ?_) (Cert.InputRefIdeal.Value.run m' g')⟩
  · have G := given_of_pre _ _ _ _ _ (hpre c)
    obtain ⟨e13, e14, e15, hargs⟩ := h c
    exact ⟨e13.trans (tie_13 G), e14.trans tie_14, e15.trans (tie_15 G), hargs⟩
  · obtain ⟨a0, a1, a2, a3, a4⟩ := hagree c
    obtain ⟨e13, e14, e15, hargs⟩ := h c
    exact ⟨e13.trans ((val_main_v38_eq _ _).trans (Finite.same5 (val_main_v38 (F := Ideal)) a0 a1 a2 a3 a4)),
      e14.trans ((val_main_v39_eq _).trans (congrArg (val_main_v39 (F := Ideal)) a0)),
      e15.trans ((val_main_v40_eq _ _ _).trans (Finite.same3 (val_main_v40 (F := Ideal)) a0 a1 a4)), hargs⟩

end Cert.Proof

end
-- ==== Proof.InputFwdClaim.lean ====
/- The input projection's forward kernel at extended reals: its results are the reference's, of any arguments. -/
module

public import proofs.«01_k».proof.Defs
public import proofs.«01_k».proof.Proof.Finite
public import proofs.«01_k».proof.Proof.Gen.InputFwdIdeal.Value
public import proofs.«01_k».proof.Proof.Gen.InputFwdRefIdeal.Run
public import proofs.«01_k».proof.Proof.Gen.InputFwdRefIdeal.Read
public import Idealize.ShloMosaic.Lib.ValueIdx
public import Idealize.ShloMosaic.Lib.Claim
public import Idealize.ShloMosaic.Lib.Pointwise
public import Idealize.ShloMosaic.Lib.Pipeline.ValueKit
public import Idealize.ShloMosaic.Lib.StableHlo.ReadAt
public import Idealize.ShloMosaic.Lib.StableHlo.RunHlo

@[expose] public section

set_option maxRecDepth 16384

noncomputable section

open Idealize.ShloMosaic Idealize.ShloMosaic.TcCoe Idealize.SL.Sem
open Idealize.ShloMosaic.Pipeline (Dat)

namespace Cert.InputFwdIdeal.InputFwd

open Cert.InputFwdIdeal Cert.InputFwdIdeal.Gen
open Cert.InputFwdRefIdeal.Read

/-! One entry of a block and the reference's entry of the same row. -/

section entry

variable {b0 : FVec Ideal S512x1024 .f32} {b1 : FVec Ideal S1x1x1024 .f32} {b2 : FVec Ideal S1x1024x4352 .bf16}
  {x0 : FVec Ideal S8192x1024 .f32} {x1 : FVec Ideal S1024 .f32} {x2 : FVec Ideal S1024x4352 .f32} {row : Fin 512 → Fin 8192}

/-- The blocks hold the rows `row` of the tokens, and the weights. -/
structure Rows (b0 : FVec Ideal S512x1024 .f32) (b1 : FVec Ideal S1x1x1024 .f32) (b2 : FVec Ideal S1x1024x4352 .bf16)
    (x0 : FVec Ideal S8192x1024 .f32) (x1 : FVec Ideal S1024 .f32) (x2 : FVec Ideal S1024x4352 .f32) (row : Fin 512 → Fin 8192) : Prop where
  x : ∀ a j, b0 (ix2 a j) = x0 (ix2 (row a) j)
  g : ∀ j, b1 (ix3 0 0 j) = x1 (ix1 j)
  w : ∀ k j, b2 (ix3 0 k j) = x2 (ix2 k j)

variable (h : Rows b0 b1 b2 x0 x1 x2 row)

include h

theorem Rows.normed (a : Fin 512) (j : Fin 1024) : k0_pay1 (F := Ideal) b0 b1 (ix2 a j) = val_main_v12 (F := Ideal) x0 x1 (ix2 (row a) j) := by
  pointwise [k0_pay1, val_main_v0, val_main_v1, val_main_v2, val_main_v3, val_main_v4, val_main_v5, val_main_v6, val_main_v7, val_main_v8, val_main_v9,
    val_main_v10, val_main_v11, val_main_v12, val_main_cst, val_main_cst_0, val_main_cst_1, h.x, h.g]

theorem Rows.outH (a : Fin 512) (j : Fin 1024) : k0_pay1 (F := Ideal) b0 b1 (ix2 a j) = val_main_v28 (F := Ideal) x0 x1 (ix2 (row a) j) :=
  (h.normed a j).trans rfl

theorem Rows.outZ (a : Fin 512) (j : Fin 4352) :
    k0_pay2 (F := Ideal) b0 b1 b2 (ix2 a j) = val_main_v14 (F := Ideal) x0 x1 x2 (ix2 (row a) j) := by
  pointwise [k0_pay2, val_main_v13, val_main_v14, h.normed, h.w]

end entry

variable (m : (ℓ : Loc nD τ sig) → Buf (Elt Ideal) ℓ) (c : Dev nD)

/-- Every window's block index at every grid point. -/
theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] :=
  (by decide +kernel : ∀ t : Fin grid0.N, _)

/-- Row `a` of the block of tokens point `t` works on. -/
abbrev row (t : Fin cfg0.N) (a : Fin 512) : Fin 8192 := ⟨t.val * 512 + a.val, by have := lt_of_lt_of_eq t.isLt N_0; omega⟩

abbrev A0 : FVec Ideal S8192x1024 .f32 := m ((c : Thread nD τ).loc main_arg0)
abbrev A1 : FVec Ideal S1024 .f32 := m ((c : Thread nD τ).loc main_arg1)
abbrev A2 : FVec Ideal S1024x4352 .f32 := m ((c : Thread nD τ).loc main_arg2)

theorem entry_1 (j : Fin 1024) : V m c main_v0 (ix3 0 0 j) = A1 m c (ix1 j) := by
  unfold V
  simp only [hostOps0, List.flatten_cons, List.flatten_nil, List.cons_append, List.nil_append, List.append_nil]
  entry_read
  pointwise

theorem entry_2 (k : Fin 1024) (j : Fin 4352) : V m c main_v2 (ix3 0 k j) = A2 m c (ix2 k j) := by
  unfold V
  simp only [hostOps0, List.flatten_cons, List.flatten_nil, List.cons_append, List.nil_append, List.append_nil]
  entry_read
  pointwise

set_option maxHeartbeats 2000000 in
theorem rows (t : Fin cfg0.N) : Rows (iblk m c 0 t) (iblk m c 1 t) (iblk m c 2 t) (A0 m c) (A1 m c) (A2 m c) (row t) where
  x a j := by
    blk_point [iblk, V, idx t]
  g j := by
    refine Eq.trans (congrArg (V m c main_v0) ?_) (entry_1 m c j)
    blk_ext [idx t]
  w k j := by
    refine Eq.trans (congrArg (V m c main_v2) ?_) (entry_2 m c k j)
    blk_ext [idx t]

theorem emb_3 (t : Fin cfg0.N) (a : Fin 512) (b : Fin 4352) : (win0_3.blk t).view.emb (ix2 a b) = (ix2 (row t a) b : S8192x4352.Idx) := by
  blk_ext [idx t]
theorem emb_4 (t : Fin cfg0.N) (a : Fin 512) (b : Fin 1024) : (win0_4.blk t).view.emb (ix2 a b) = (ix2 (row t a) b : S8192x1024.Idx) := by
  blk_ext [idx t]

theorem tie_3 : (dats m 0 c).arrAt 3 cfg0.N = val_main_v14 (F := Ideal) (A0 m c) (A1 m c) (A2 m c) := by
  refine (dats m 0 c).arrAt_eq_of_covers 3 _ (by decide +kernel) fun t hf y => ?_
  blk_simp
  rw [after0_3]
  obtain ⟨a, b, rfl⟩ : ∃ (a : Fin 512) (b : Fin 4352), y = ix2 a b := ⟨y 0, y 1, eq_ix2 y⟩
  rw [emb_3]
  frame_out [out0_3]
  exact (rows m c t).outZ a b

theorem tie_4 : (dats m 0 c).arrAt 4 cfg0.N = val_main_v28 (F := Ideal) (A0 m c) (A1 m c) := by
  refine (dats m 0 c).arrAt_eq_of_covers 4 _ (by decide +kernel) fun t hf y => ?_
  blk_simp
  rw [after0_4]
  obtain ⟨a, b, rfl⟩ : ∃ (a : Fin 512) (b : Fin 1024), y = ix2 a b := ⟨y 0, y 1, eq_ix2 y⟩
  rw [emb_4]
  frame_out [out0_4]
  exact (rows m c t).outH a b

end Cert.InputFwdIdeal.InputFwd

namespace Cert.Proof

open Cert.InputFwdIdeal.InputFwd Cert.InputFwdRefIdeal.Read

theorem input_fwd_ref_frame : Cert.quiescent_InputFwdRefIdeal (hInputFwdRefIdeal := Cert.InputFwdRefIdeal.Gen.facts) :=
  fun m ρ _ => (θ_run Cert.InputFwdRefIdeal.defs _ _).mono
    (fun r h => ⟨fun c => (h c).2.2, sem_eq_zero_of_no_sems (by decide) r.2⟩)
    (Cert.InputFwdRefIdeal.Value.run (F := Ideal) m ρ)

set_option maxHeartbeats 4000000 in
theorem input_fwd_algebraic : Cert.algebraic_InputFwdIdeal_InputFwdRefIdeal (hInputFwdIdeal := Cert.InputFwdIdeal.Gen.facts)
    (hInputFwdRefIdeal := Cert.InputFwdRefIdeal.Gen.facts) := by
  intro m g m' g' _ hagree
  refine ⟨fun c => val_main_v14 (F := Ideal) (A0 m c) (A1 m c) (A2 m c), fun c => val_main_v28 (F := Ideal) (A0 m c) (A1 m c),
    (θ_run Cert.InputFwdIdeal.defs _ _).mono (fun r h c => ?_) (Cert.InputFwdIdeal.Value.run_blocks m g),
    (θ_run Cert.InputFwdRefIdeal.defs _ _).mono (fun r h c => ?_) (Cert.InputFwdRefIdeal.Value.run m' g')⟩
  · obtain ⟨e3, e4, hargs⟩ := h c
    exact ⟨e3.trans (tie_3 m c), e4.trans (tie_4 m c), hargs⟩
  · obtain ⟨a0, a1, a2⟩ := hagree c
    obtain ⟨e3, e4, hargs⟩ := h c
    exact ⟨e3.trans ((val_main_v14_eq _ _ _).trans (Finite.same3 (val_main_v14 (F := Ideal)) a0 a1 a2)),
      e4.trans ((val_main_v28_eq _ _).trans (Finite.same2 (val_main_v28 (F := Ideal)) a0 a1)), hargs⟩

end Cert.Proof

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.MergeRefIdeal
public import proofs.«01_k».proof.Proof.Gen.Pre_merge_finite
public import proofs.«01_k».proof.Proof.MergeClaim
public import proofs.«01_k».proof.Proof.Gen.Mla
public import proofs.«01_k».proof.Proof.Gen.Mla.Skeleton
public import proofs.«01_k».proof.Proof.Gen.Mla.Launch
public import proofs.«01_k».proof.Proof.Gen.Mla.Flash
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Flash
public import proofs.«01_k».proof.Proof.Gen.MlaRefIdeal
public import proofs.«01_k».proof.Proof.Gen.Pre_mla_finite
public import proofs.«01_k».proof.Proof.MlaClaim
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal.Run
public import proofs.«01_k».proof.Proof.Gen.PleRefIdeal.Read
public import proofs.«01_k».proof.Proof.Gen.PleRefIdeal
public import proofs.«01_k».proof.Proof.Gen.Pre_ple_finite
public import proofs.«01_k».proof.Proof.PleClaim
public import proofs.«01_k».proof.Proof.Gen.Embed
public import proofs.«01_k».proof.Proof.Gen.Embed.Skeleton
public import proofs.«01_k».proof.Proof.Gen.Embed.Launch
public import proofs.«01_k».proof.Proof.Gen.Embed.Points
public import proofs.«01_k».proof.Proof.Gen.Embed.Frame
public import proofs.«01_k».proof.Proof.Gen.EmbedIdeal
public import proofs.«01_k».proof.Proof.Gen.EmbedIdeal.Skeleton
public import proofs.«01_k».proof.Proof.Gen.EmbedIdeal.Launch
public import proofs.«01_k».proof.Proof.Gen.EmbedIdeal.Points
public import proofs.«01_k».proof.Proof.Gen.EmbedIdeal.Frame
public import proofs.«01_k».proof.Proof.Gen.EmbedIdeal.Value
public import proofs.«01_k».proof.Proof.Gen.EmbedRefIdeal.Run
public import proofs.«01_k».proof.Proof.Gen.EmbedRefIdeal.Read
public import proofs.«01_k».proof.Proof.Gen.EmbedRefIdeal
public import proofs.«01_k».proof.Proof.Gen.Pre_embed_finite
public import proofs.«01_k».proof.Proof.EmbedClaim
public import proofs.«01_k».proof.Proof.Gen.EmbedFwd
public import proofs.«01_k».proof.Proof.Gen.EmbedFwd.Skeleton
public import proofs.«01_k».proof.Proof.Gen.EmbedFwd.Launch
public import proofs.«01_k».proof.Proof.Gen.EmbedFwd.Points
public import proofs.«01_k».proof.Proof.Gen.EmbedFwd.Frame
public import proofs.«01_k».proof.Proof.Gen.EmbedFwdIdeal
public import proofs.«01_k».proof.Proof.Gen.EmbedFwdIdeal.Skeleton
public import proofs.«01_k».proof.Proof.Gen.EmbedFwdIdeal.Launch
public import proofs.«01_k».proof.Proof.Gen.EmbedFwdIdeal.Points
public import proofs.«01_k».proof.Proof.Gen.EmbedFwdIdeal.Frame
public import proofs.«01_k».proof.Proof.Gen.EmbedFwdIdeal.Value
public import proofs.«01_k».proof.Proof.Gen.EmbedFwdRefIdeal.Run
public import proofs.«01_k».proof.Proof.Gen.EmbedFwdRefIdeal.Read
public import proofs.«01_k».proof.Proof.Gen.EmbedFwdRefIdeal
public import proofs.«01_k».proof.Proof.EmbedFwd
public import proofs.«01_k».proof.Proof.Gen.Input
public import proofs.«01_k».proof.Proof.Gen.Input.Skeleton
public import proofs.«01_k».proof.Proof.Gen.Input.Launch
public import proofs.«01_k».proof.Proof.Gen.Input.Points
public import proofs.«01_k».proof.Proof.Gen.Input.Frame
public import proofs.«01_k».proof.Proof.Gen.InputIdeal
public import proofs.«01_k».proof.Proof.Gen.InputIdeal.Skeleton
public import proofs.«01_k».proof.Proof.Gen.InputIdeal.Launch
public import proofs.«01_k».proof.Proof.Gen.InputIdeal.Points
public import proofs.«01_k».proof.Proof.Gen.InputIdeal.Frame
public import proofs.«01_k».proof.Proof.Gen.InputIdeal.Value
public import proofs.«01_k».proof.Proof.Gen.InputRefIdeal.Run
public import proofs.«01_k».proof.Proof.Gen.InputRefIdeal.Read
public import proofs.«01_k».proof.Proof.Gen.InputRefIdeal
public import proofs.«01_k».proof.Proof.Gen.Pre_input_finite
public import proofs.«01_k».proof.Proof.InputClaim
public import proofs.«01_k».proof.Proof.Gen.InputFwd
public import proofs.«01_k».proof.Proof.Gen.InputFwd.Skeleton
public import proofs.«01_k».proof.Proof.Gen.InputFwd.Launch
public import proofs.«01_k».proof.Proof.Gen.InputFwd.Points
public import proofs.«01_k».proof.Proof.Gen.InputFwd.Frame
public import proofs.«01_k».proof.Proof.Gen.InputFwdIdeal
public import proofs.«01_k».proof.Proof.Gen.InputFwdIdeal.Skeleton
public import proofs.«01_k».proof.Proof.Gen.InputFwdIdeal.Launch
public import proofs.«01_k».proof.Proof.Gen.InputFwdIdeal.Points
public import proofs.«01_k».proof.Proof.Gen.InputFwdIdeal.Frame
public import proofs.«01_k».proof.Proof.Gen.InputFwdIdeal.Value
public import proofs.«01_k».proof.Proof.Gen.InputFwdRefIdeal.Run
public import proofs.«01_k».proof.Proof.Gen.InputFwdRefIdeal.Read
public import proofs.«01_k».proof.Proof.Gen.InputFwdRefIdeal
public import proofs.«01_k».proof.Proof.InputFwdClaim
public import Idealize.ShloMosaic.Adequacy
public import Idealize.ShloMosaic.Init

@[expose] public section

noncomputable section

namespace Cert.Proof

open Idealize.ShloMosaic Idealize.SL.Sem Cert.Merge

theorem claim : Cert.Claim := ⟨Cert.Merge.Gen.facts, Cert.MergeIdeal.Gen.facts, Cert.MergeRefIdeal.Gen.facts,
  Cert.Mla.Gen.facts, Cert.MlaIdeal.Gen.facts, Cert.MlaRefIdeal.Gen.facts,
  Cert.Ple.Gen.facts, Cert.PleIdeal.Gen.facts, Cert.PleRefIdeal.Gen.facts,
  Cert.Embed.Gen.facts, Cert.EmbedIdeal.Gen.facts, Cert.EmbedRefIdeal.Gen.facts,
  Cert.EmbedFwd.Gen.facts, Cert.EmbedFwdIdeal.Gen.facts, Cert.EmbedFwdRefIdeal.Gen.facts,
  Cert.Input.Gen.facts, Cert.InputIdeal.Gen.facts, Cert.InputRefIdeal.Gen.facts,
  Cert.InputFwd.Gen.facts, Cert.InputFwdIdeal.Gen.facts, Cert.InputFwdRefIdeal.Gen.facts,
  Cert.Pre_merge_finite.Gen.facts, Cert.Pre_mla_finite.Gen.facts, Cert.Pre_ple_finite.Gen.facts,
  Cert.Pre_embed_finite.Gen.facts, Cert.Pre_input_finite.Gen.facts,
  fun m ρ _ => Cert.Merge.Gen.frame m ρ,
  fun m ρ _ => Cert.MergeIdeal.Gen.frame m ρ,
  fun m ρ _ => Cert.MergeIdeal.Gen.frame m ρ,
  fun m ρ _ => merge_ref_frame m ρ trivial,
  fun m ρ _ => merge_ref_frame m ρ trivial,
  fun m ρ _ => Cert.Mla.Body.frame m ρ,
  mla_frame,
  fun m ρ _ => mla_frame m ρ trivial,
  mla_ref_frame,
  fun m ρ _ => mla_ref_frame m ρ trivial,
  fun m ρ _ => Cert.Ple.Gen.frame m ρ,
  fun m ρ _ => Cert.PleIdeal.Gen.frame m ρ,
  fun m ρ _ => Cert.PleIdeal.Gen.frame m ρ,
  ple_ref_frame,
  fun m ρ _ => ple_ref_frame m ρ trivial,
  fun m ρ _ => Cert.Embed.Gen.frame m ρ,
  fun m ρ _ => Cert.EmbedIdeal.Gen.frame m ρ,
  fun m ρ _ => Cert.EmbedIdeal.Gen.frame m ρ,
  embed_ref_frame,
  fun m ρ _ => embed_ref_frame m ρ trivial,
  fun m ρ _ => Cert.EmbedFwd.Gen.frame m ρ,
  fun m ρ _ => Cert.EmbedFwdIdeal.Gen.frame m ρ,
  embed_fwd_ref_frame,
  fun m ρ _ => Cert.Input.Gen.frame m ρ,
  fun m ρ _ => Cert.InputIdeal.Gen.frame m ρ,
  fun m ρ _ => Cert.InputIdeal.Gen.frame m ρ,
  input_ref_frame,
  fun m ρ _ => input_ref_frame m ρ trivial,
  fun m ρ _ => Cert.InputFwd.Gen.frame m ρ,
  fun m ρ _ => Cert.InputFwdIdeal.Gen.frame m ρ,
  input_fwd_ref_frame,
  trivial,
  merge_algebraic,
  mla_preserves,
  mla_algebraic,
  trivial,
  ple_algebraic,
  trivial,
  embed_algebraic,
  trivial,
  embed_fwd_algebraic,
  trivial,
  input_algebraic,
  trivial,
  input_fwd_algebraic⟩

end Cert.Proof

end
